-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x64 : Shape := ⟨3, ![2, 2048, 64]⟩
abbrev S32x4 : Shape := ⟨2, ![32, 4]⟩
abbrev S2x10x2048 : Shape := ⟨3, ![2, 10, 2048]⟩
abbrev S64x4 : Shape := ⟨2, ![64, 4]⟩
abbrev S1x2048x64 : Shape := ⟨3, ![1, 2048, 64]⟩
abbrev S2048x64 : Shape := ⟨2, ![2048, 64]⟩
abbrev S2048x32 : Shape := ⟨2, ![2048, 32]⟩
abbrev S2048x4 : Shape := ⟨2, ![2048, 4]⟩
abbrev S2048x12 : Shape := ⟨2, ![2048, 12]⟩
abbrev S12x2048 : Shape := ⟨2, ![12, 2048]⟩
abbrev S8x2048 : Shape := ⟨2, ![8, 2048]⟩
abbrev S4x2048 : Shape := ⟨2, ![4, 2048]⟩
abbrev S1x2048 : Shape := ⟨2, ![1, 2048]⟩
abbrev S10x2048 : Shape := ⟨2, ![10, 2048]⟩
abbrev S1x10x2048 : Shape := ⟨3, ![1, 10, 2048]⟩
abbrev S32768 : Shape := ⟨1, ![32768]⟩
abbrev S16384 : Shape := ⟨1, ![16384]⟩
abbrev S2x2048 : Shape := ⟨2, ![2, 2048]⟩
abbrev S10x128 : Shape := ⟨2, ![10, 128]⟩
abbrev S8x128 : Shape := ⟨2, ![8, 128]⟩
abbrev S1x64 : Shape := ⟨2, ![1, 64]⟩
abbrev S64x64 : Shape := ⟨2, ![64, 64]⟩
abbrev S64 : Shape := ⟨1, ![64]⟩
abbrev S_ : Shape := ⟨0, ![]⟩
abbrev S16 : Shape := ⟨1, ![16]⟩
abbrev S1x2x2048 : Shape := ⟨3, ![1, 2, 2048]⟩
abbrev S1x10x128 : Shape := ⟨3, ![1, 10, 128]⟩
abbrev S1x16 : Shape := ⟨2, ![1, 16]⟩
abbrev S1 : Shape := ⟨1, ![1]⟩
abbrev S1x8x128 : Shape := ⟨3, ![1, 8, 128]⟩
abbrev S1x1x64 : Shape := ⟨3, ![1, 1, 64]⟩
abbrev S1x64x64 : Shape := ⟨3, ![1, 64, 64]⟩

abbrev nBuf : Table → Nat
  | .hbm => 7
  | .local .tc .vmem => 6
  | .local .scVector .vmem => 13
  | _ => 0

abbrev bufTy : (tb : Table) → Fin (nBuf tb) → BufTy
  | .hbm, ⟨0, _⟩ => ⟨S2x2048x64, .f32⟩
  | .hbm, ⟨1, _⟩ => ⟨S2x2048x64, .f32⟩
  | .hbm, ⟨2, _⟩ => ⟨S32x4, .f32⟩
  | .hbm, ⟨3, _⟩ => ⟨S32x4, .f32⟩
  | .hbm, ⟨4, _⟩ => ⟨S2x10x2048, .i32⟩
  | .hbm, ⟨5, _⟩ => ⟨S2x10x2048, .i32⟩
  | .hbm, ⟨6, _⟩ => ⟨S2x2048x64, .i32⟩
  | .local .tc .vmem, ⟨0, _⟩ => ⟨S2x2048x64, .f32⟩
  | .local .tc .vmem, ⟨1, _⟩ => ⟨S2x2048x64, .f32⟩
  | .local .tc .vmem, ⟨2, _⟩ => ⟨S32x4, .f32⟩
  | .local .tc .vmem, ⟨3, _⟩ => ⟨S32x4, .f32⟩
  | .local .tc .vmem, ⟨4, _⟩ => ⟨S2x10x2048, .i32⟩
  | .local .tc .vmem, ⟨5, _⟩ => ⟨S2x10x2048, .i32⟩
  | .local .scVector .vmem, ⟨0, _⟩ => ⟨S32768, .i32⟩
  | .local .scVector .vmem, ⟨1, _⟩ => ⟨S16384, .i32⟩
  | .local .scVector .vmem, ⟨2, _⟩ => ⟨S2x2048, .i32⟩
  | .local .scVector .vmem, ⟨3, _⟩ => ⟨S10x128, .i32⟩
  | .local .scVector .vmem, ⟨4, _⟩ => ⟨S10x128, .i32⟩
  | .local .scVector .vmem, ⟨5, _⟩ => ⟨S8x128, .i32⟩
  | .local .scVector .vmem, ⟨6, _⟩ => ⟨S1x64, .f32⟩
  | .local .scVector .vmem, ⟨7, _⟩ => ⟨S1x64, .f32⟩
  | .local .scVector .vmem, ⟨8, _⟩ => ⟨S64x64, .f32⟩
  | .local .scVector .vmem, ⟨9, _⟩ => ⟨S64x64, .f32⟩
  | .local .scVector .vmem, ⟨10, _⟩ => ⟨S64x64, .i32⟩
  | .local .scVector .vmem, ⟨11, _⟩ => ⟨S64x64, .i32⟩
  | .local .scVector .vmem, ⟨12, _⟩ => ⟨S64, .i32⟩
  | _, _ => ⟨S2x2048x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v0_0_scv : Ref sig .scVector := ⟨.hbm, 4, rfl⟩
abbrev main_v0_1_scv : Ref sig .scVector := ⟨.hbm, 5, rfl⟩
abbrev main_arg0_scv : Ref sig .scVector := ⟨.hbm, 0, rfl⟩
abbrev main_arg1_scv : Ref sig .scVector := ⟨.hbm, 1, rfl⟩
abbrev main_v1_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x10x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x10x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let c0_i32_18 : BitVec 32 := 0#32
  let c0_i32_19 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2_i32_0 : BitVec 32 := 2#32
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v1 c2_i32_0
  let c0_i32_4 : BitVec 32 := 0#32
  let v16 : BitVec 1 := Scalar.cmpi .ne v15 c0_i32_4
  let v17 : BitVec 1 := Scalar.andi v14 v16
  let v3 : BitVec 32 := Scalar.divsi v1 c2_i32_0
  let c1_i32 : BitVec 32 := 1#32
  let v18 : BitVec 32 := Scalar.subi v3 c1_i32
  let v19 : BitVec 32 := Scalar.select v17 v18 v3
  let c128_i32 : BitVec 32 := 128#32
  let v20 : BitVec 32 := Scalar.muli v19 c128_i32
  ![0, 0, v20.toNat]
def k1_off2 (i : grid1.Coords) : Fin 3 → Nat :=
  let c1_i32_21 : BitVec 32 := 1#32
  let c0_i32_22 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c2_i32_0 : BitVec 32 := 2#32
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi v1 c2_i32_0
  let c0_i32_4 : BitVec 32 := 0#32
  let v16 : BitVec 1 := Scalar.cmpi .ne v15 c0_i32_4
  let v17 : BitVec 1 := Scalar.andi v14 v16
  let v3 : BitVec 32 := Scalar.divsi v1 c2_i32_0
  let c1_i32 : BitVec 32 := 1#32
  let v18 : BitVec 32 := Scalar.subi v3 c1_i32
  let v19 : BitVec 32 := Scalar.select v17 v18 v3
  let c128_i32 : BitVec 32 := 128#32
  let v20 : BitVec 32 := Scalar.muli v19 c128_i32
  ![1, 0, v20.toNat]
@[reducible] def k1_t1_loop : Scf.Loop 32 :=
  let c0_i32_24 : BitVec 32 := 0#32
  let c2048_i32 : BitVec 32 := 2048#32
  let v48 : BitVec 32 := Scalar.addi c0_i32_24 c2048_i32
  let c1_i32_25 : BitVec 32 := 1#32
  ⟨c0_i32_24, v48, c1_i32_25⟩
def k1_off3 (k1_t1 : Fin k1_t1_loop.trips) : Fin 1 → Nat :=
  let c0_i32_85 : BitVec 32 := 0#32
  let c0_i32_24 : BitVec 32 := 0#32
  let c1_i32_25 : BitVec 32 := 1#32
  let arg23 : BitVec 32 := Scf.iv c0_i32_24 c1_i32_25 k1_t1
  let c16_i32 : BitVec 32 := 16#32
  let v102 : BitVec 32 := Scalar.muli arg23 c16_i32
  let v103 : BitVec 32 := Scalar.addi c0_i32_85 v102
  let v104 : Index := Scalar.indexCast v103
  ![v104.toNat]
@[reducible] def k1_t2_loop : Scf.Loop 32 :=
  let c0_i32_27 : BitVec 32 := 0#32
  let c1024_i32 : BitVec 32 := 1024#32
  let v49 : BitVec 32 := Scalar.addi c0_i32_27 c1024_i32
  let c1_i32_28 : BitVec 32 := 1#32
  ⟨c0_i32_27, v49, c1_i32_28⟩
def k1_off4 (k1_t2 : Fin k1_t2_loop.trips) : Fin 1 → Nat :=
  let c0_i32_85 : BitVec 32 := 0#32
  let c0_i32_27 : BitVec 32 := 0#32
  let c1_i32_28 : BitVec 32 := 1#32
  let arg23 : BitVec 32 := Scf.iv c0_i32_27 c1_i32_28 k1_t2
  let c16_i32 : BitVec 32 := 16#32
  let v102 : BitVec 32 := Scalar.muli arg23 c16_i32
  let v103 : BitVec 32 := Scalar.addi c0_i32_85 v102
  let v104 : Index := Scalar.indexCast v103
  ![v104.toNat]
@[reducible] def k1_t3_loop : Scf.Loop 32 :=
  let c0_i32_42 : BitVec 32 := 0#32
  let c2_i32_43 : BitVec 32 := 2#32
  let v66 : BitVec 32 := Scalar.addi c0_i32_42 c2_i32_43
  let c1_i32_44 : BitVec 32 := 1#32
  ⟨c0_i32_42, v66, c1_i32_44⟩
@[reducible] def k1_t4_loop : Scf.Loop 32 :=
  let c0_i32_86 : BitVec 32 := 0#32
  let c128_i32_87 : BitVec 32 := 128#32
  let v104 : BitVec 32 := Scalar.addi c0_i32_86 c128_i32_87
  let c1_i32_88 : BitVec 32 := 1#32
  ⟨c0_i32_86, v104, c1_i32_88⟩
def k1_off5 (k1_t3 : Fin k1_t3_loop.trips) (k1_t4 : Fin k1_t4_loop.trips) : Fin 2 → Nat :=
  let c0_i32_42 : BitVec 32 := 0#32
  let c1_i32_44 : BitVec 32 := 1#32
  let arg23 : BitVec 32 := Scf.iv c0_i32_42 c1_i32_44 k1_t3
  let v109 : Index := Scalar.indexCast arg23
  let c0_i32_95 : BitVec 32 := 0#32
  let c0_i32_86 : BitVec 32 := 0#32
  let c1_i32_88 : BitVec 32 := 1#32
  let arg25 : BitVec 32 := Scf.iv c0_i32_86 c1_i32_88 k1_t4
  let c16_i32 : BitVec 32 := 16#32
  let v107 : BitVec 32 := Scalar.muli arg25 c16_i32
  let v108 : BitVec 32 := Scalar.addi c0_i32_95 v107
  let v110 : Index := Scalar.indexCast v108
  ![v109.toNat, v110.toNat]

def k1_chk1 (v113 : IVec S16 32) : Prop :=
  (∀ a x, ((![v113] : Fin 1 → IVec S16 32) a x).toNat < S32768.size a)
theorem k1_idx1_inb : ∀ (v113 : IVec S16 32) (k1_hw1 : k1_chk1 v113), ∀ a x, ((![v113] : Fin 1 → IVec S16 32) a x).toNat < S32768.size a := fun v113 k1_hw1 => k1_hw1

def k1_chk2 (v117 : IVec S16 32) : Prop :=
  (∀ a x, ((![v117] : Fin 1 → IVec S16 32) a x).toNat < S16384.size a)
theorem k1_idx2_inb : ∀ (v117 : IVec S16 32) (k1_hw2 : k1_chk2 v117), ∀ a x, ((![v117] : Fin 1 → IVec S16 32) a x).toNat < S16384.size a := fun v117 k1_hw2 => k1_hw2
@[reducible] def k1_t5_loop : Scf.Loop 32 :=
  let c0_i32_91 : BitVec 32 := 0#32
  let c4_i32 : BitVec 32 := 4#32
  let v105 : BitVec 32 := Scalar.addi c0_i32_91 c4_i32
  let c1_i32_92 : BitVec 32 := 1#32
  ⟨c0_i32_91, v105, c1_i32_92⟩
def k1_off6 (i : grid1.Coords) (k1_t3 : Fin k1_t3_loop.trips) (k1_t5 : Fin k1_t5_loop.trips) : Fin 2 → Nat :=
  let c8_i32_95 : BitVec 32 := 8#32
  let c0_i32_42 : BitVec 32 := 0#32
  let c1_i32_44 : BitVec 32 := 1#32
  let arg23 : BitVec 32 := Scf.iv c0_i32_42 c1_i32_44 k1_t3
  let v107 : BitVec 32 := Scalar.addi c8_i32_95 arg23
  let v110 : Index := Scalar.indexCast v107
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c64_i32_11 : BitVec 32 := 64#32
  let v31 : BitVec 32 := Scalar.muli v30 c64_i32_11
  let c0_i32_91 : BitVec 32 := 0#32
  let c1_i32_92 : BitVec 32 := 1#32
  let arg25 : BitVec 32 := Scf.iv c0_i32_91 c1_i32_92 k1_t5
  let c16_i32 : BitVec 32 := 16#32
  let v108 : BitVec 32 := Scalar.muli arg25 c16_i32
  let v109 : BitVec 32 := Scalar.addi v31 v108
  let v111 : Index := Scalar.indexCast v109
  ![v110.toNat, v111.toNat]

def k1_chk3 (v114 : IVec S16 32) : Prop :=
  (∀ a x, ((![v114] : Fin 1 → IVec S16 32) a x).toNat < S32768.size a)
theorem k1_idx3_inb : ∀ (v114 : IVec S16 32) (k1_hw3 : k1_chk3 v114), ∀ a x, ((![v114] : Fin 1 → IVec S16 32) a x).toNat < S32768.size a := fun v114 k1_hw3 => k1_hw3

def k1_chk4 (v119 : IVec S16 32) : Prop :=
  (∀ a x, ((![v119] : Fin 1 → IVec S16 32) a x).toNat < S16384.size a)
theorem k1_idx4_inb : ∀ (v119 : IVec S16 32) (k1_hw4 : k1_chk4 v119), ∀ a x, ((![v119] : Fin 1 → IVec S16 32) a x).toNat < S16384.size a := fun v119 k1_hw4 => k1_hw4
@[reducible] def k1_t6_loop : Scf.Loop 32 :=
  let c0_i32_102 : BitVec 32 := 0#32
  let c16_i32_103 : BitVec 32 := 16#32
  let v136 : BitVec 32 := Scalar.addi c0_i32_102 c16_i32_103
  let c1_i32_104 : BitVec 32 := 1#32
  ⟨c0_i32_102, v136, c1_i32_104⟩
def k1_cond1 (v132 : BitVec 32) : BitVec 1 :=
  let c0_i32_98 : BitVec 32 := 0#32
  let v133 : BitVec 1 := Scalar.cmpi .sgt v132 c0_i32_98
  let v134 : BitVec 32 := Scalar.extui v133
  let c0_i32_99 : BitVec 32 := 0#32
  let v135 : BitVec 1 := Scalar.cmpi .ne v134 c0_i32_99
  v135

def k1_chk5 (v132 : BitVec 32) (v142 : IVec S16 32) (v143 : IVec S16 32) : Prop :=
  (∀ (k1_h1 : k1_cond1 v132 = 1#1), ∀ a x, ((![v142, v143] : Fin 2 → IVec S16 32) a x).toNat < S10x128.size a)
theorem k1_idx5_inb : ∀ (v132 : BitVec 32) (v142 : IVec S16 32) (v143 : IVec S16 32) (k1_hw5 : k1_chk5 v132 v142 v143), ∀ (k1_h1 : k1_cond1 v132 = 1#1), ∀ a x, ((![v142, v143] : Fin 2 → IVec S16 32) a x).toNat < S10x128.size a := fun v132 v142 v143 k1_hw5 k1_h1 => k1_hw5 k1_h1

def k1_chk6 (v132 : BitVec 32) (v148 : IVec S16 32) : Prop :=
  (∀ (k1_h1 : k1_cond1 v132 = 1#1), ∀ a x, ((![v148] : Fin 1 → IVec S16 32) a x).toNat < S32768.size a)
theorem k1_idx6_inb : ∀ (v132 : BitVec 32) (v148 : IVec S16 32) (k1_hw6 : k1_chk6 v132 v148), ∀ (k1_h1 : k1_cond1 v132 = 1#1), ∀ a x, ((![v148] : Fin 1 → IVec S16 32) a x).toNat < S32768.size a := fun v132 v148 k1_hw6 k1_h1 => k1_hw6 k1_h1

def k1_chk7 (v132 : BitVec 32) (v157 : IVec S16 32) : Prop :=
  (∀ (k1_h1 : k1_cond1 v132 = 1#1), ∀ a x, ((![v157] : Fin 1 → IVec S16 32) a x).toNat < S16384.size a)
theorem k1_idx7_inb : ∀ (v132 : BitVec 32) (v157 : IVec S16 32) (k1_hw7 : k1_chk7 v132 v157), ∀ (k1_h1 : k1_cond1 v132 = 1#1), ∀ a x, ((![v157] : Fin 1 → IVec S16 32) a x).toNat < S16384.size a := fun v132 v157 k1_hw7 k1_h1 => k1_hw7 k1_h1
def k1_cond2 (v151 : BitVec 32) (v153 : BitVec 32) (v160 : BitVec 32) (v162 : BitVec 32) : BitVec 1 :=
  let v154 : BitVec 1 := Scalar.cmpi .eq v151 v153
  let v163 : BitVec 1 := Scalar.cmpi .eq v160 v162
  let v164 : BitVec 1 := Scalar.andi v154 v163
  let v165 : BitVec 32 := Scalar.extui v164
  let c0_i32_111 : BitVec 32 := 0#32
  let v166 : BitVec 1 := Scalar.cmpi .ne v165 c0_i32_111
  v166

def k1_chk8 (v132 : BitVec 32) (v151 : BitVec 32) (v153 : BitVec 32) (v160 : BitVec 32) (v162 : BitVec 32) (v171 : IVec S16 32) (v172 : IVec S16 32) : Prop :=
  (∀ (k1_h1 : k1_cond1 v132 = 1#1), ∀ (k1_h2 : k1_cond2 v151 v153 v160 v162 = 1#1), ∀ a x, ((![v171, v172] : Fin 2 → IVec S16 32) a x).toNat < S10x128.size a)
theorem k1_idx8_inb : ∀ (v132 : BitVec 32) (v151 : BitVec 32) (v153 : BitVec 32) (v160 : BitVec 32) (v162 : BitVec 32) (v171 : IVec S16 32) (v172 : IVec S16 32) (k1_hw8 : k1_chk8 v132 v151 v153 v160 v162 v171 v172), ∀ (k1_h1 : k1_cond1 v132 = 1#1), ∀ (k1_h2 : k1_cond2 v151 v153 v160 v162 = 1#1), ∀ a x, ((![v171, v172] : Fin 2 → IVec S16 32) a x).toNat < S10x128.size a := fun v132 v151 v153 v160 v162 v171 v172 k1_hw8 k1_h1 k1_h2 => k1_hw8 k1_h1 k1_h2

def k1_chk9 (v132 : BitVec 32) (v151 : BitVec 32) (v153 : BitVec 32) (v160 : BitVec 32) (v162 : BitVec 32) (v180 : IVec S16 32) (v181 : IVec S16 32) : Prop :=
  (∀ (k1_h1 : k1_cond1 v132 = 1#1), ∀ (k1_h2 : k1_cond2 v151 v153 v160 v162 = 1#1), ∀ a x, ((![v180, v181] : Fin 2 → IVec S16 32) a x).toNat < S10x128.size a)
theorem k1_idx9_inb : ∀ (v132 : BitVec 32) (v151 : BitVec 32) (v153 : BitVec 32) (v160 : BitVec 32) (v162 : BitVec 32) (v180 : IVec S16 32) (v181 : IVec S16 32) (k1_hw9 : k1_chk9 v132 v151 v153 v160 v162 v180 v181), ∀ (k1_h1 : k1_cond1 v132 = 1#1), ∀ (k1_h2 : k1_cond2 v151 v153 v160 v162 = 1#1), ∀ a x, ((![v180, v181] : Fin 2 → IVec S16 32) a x).toNat < S10x128.size a := fun v132 v151 v153 v160 v162 v180 v181 k1_hw9 k1_h1 k1_h2 => k1_hw9 k1_h1 k1_h2

def k1_chk10 (v132 : BitVec 32) (v151 : BitVec 32) (v153 : BitVec 32) (v160 : BitVec 32) (v162 : BitVec 32) (v189 : IVec S16 32) (v190 : IVec S16 32) : Prop :=
  (∀ (k1_h1 : k1_cond1 v132 = 1#1), ∀ (k1_h2 : k1_cond2 v151 v153 v160 v162 = 1#1), ∀ a x, ((![v189, v190] : Fin 2 → IVec S16 32) a x).toNat < S10x128.size a)
theorem k1_idx10_inb : ∀ (v132 : BitVec 32) (v151 : BitVec 32) (v153 : BitVec 32) (v160 : BitVec 32) (v162 : BitVec 32) (v189 : IVec S16 32) (v190 : IVec S16 32) (k1_hw10 : k1_chk10 v132 v151 v153 v160 v162 v189 v190), ∀ (k1_h1 : k1_cond1 v132 = 1#1), ∀ (k1_h2 : k1_cond2 v151 v153 v160 v162 = 1#1), ∀ a x, ((![v189, v190] : Fin 2 → IVec S16 32) a x).toNat < S10x128.size a := fun v132 v151 v153 v160 v162 v189 v190 k1_hw10 k1_h1 k1_h2 => k1_hw10 k1_h1 k1_h2

def k1_chk11 (v132 : BitVec 32) (v151 : BitVec 32) (v153 : BitVec 32) (v160 : BitVec 32) (v162 : BitVec 32) (v198 : IVec S16 32) (v199 : IVec S16 32) : Prop :=
  (∀ (k1_h1 : k1_cond1 v132 = 1#1), ∀ (k1_h2 : k1_cond2 v151 v153 v160 v162 = 1#1), ∀ a x, ((![v198, v199] : Fin 2 → IVec S16 32) a x).toNat < S10x128.size a)
theorem k1_idx11_inb : ∀ (v132 : BitVec 32) (v151 : BitVec 32) (v153 : BitVec 32) (v160 : BitVec 32) (v162 : BitVec 32) (v198 : IVec S16 32) (v199 : IVec S16 32) (k1_hw11 : k1_chk11 v132 v151 v153 v160 v162 v198 v199), ∀ (k1_h1 : k1_cond1 v132 = 1#1), ∀ (k1_h2 : k1_cond2 v151 v153 v160 v162 = 1#1), ∀ a x, ((![v198, v199] : Fin 2 → IVec S16 32) a x).toNat < S10x128.size a := fun v132 v151 v153 v160 v162 v198 v199 k1_hw11 k1_h1 k1_h2 => k1_hw11 k1_h1 k1_h2
@[reducible] def k1_t7_loop : Scf.Loop 32 :=
  let c0_i32_121 : BitVec 32 := 0#32
  let c128_i32_122 : BitVec 32 := 128#32
  let v204 : BitVec 32 := Scalar.addi c0_i32_121 c128_i32_122
  let c1_i32_123 : BitVec 32 := 1#32
  ⟨c0_i32_121, v204, c1_i32_123⟩
@[reducible] def k1_t8_loop (arg30 : BitVec 32) : Scf.Loop 32 :=
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let c1_i32_128 : BitVec 32 := 1#32
  ⟨arg30, v210, c1_i32_128⟩

def k1_off7 (k1_t3 : Fin k1_t3_loop.trips) (arg30 : BitVec 32) (k1_t8 : Fin (k1_t8_loop arg30).trips) : Fin 2 → Nat :=
  let c0_i32_42 : BitVec 32 := 0#32
  let c1_i32_44 : BitVec 32 := 1#32
  let arg23 : BitVec 32 := Scf.iv c0_i32_42 c1_i32_44 k1_t3
  let v220 : Index := Scalar.indexCast arg23
  let c1_i32_128 : BitVec 32 := 1#32
  let arg31 : BitVec 32 := Scf.iv arg30 c1_i32_128 k1_t8
  let c16_i32_135 : BitVec 32 := 16#32
  let v219 : BitVec 32 := Scalar.muli arg31 c16_i32_135
  let v221 : Index := Scalar.indexCast v219
  ![v220.toNat, v221.toNat]
@[reducible] def k1_t9_loop (arg30 : BitVec 32) : Scf.Loop 32 :=
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let v207 : BitVec 32 := Scalar.addi arg30 v206
  let c1_i32_129 : BitVec 32 := 1#32
  ⟨v210, v207, c1_i32_129⟩
def k1_off8 (k1_t3 : Fin k1_t3_loop.trips) (arg30 : BitVec 32) (k1_t9 : Fin (k1_t9_loop arg30).trips) : Fin 2 → Nat :=
  let c0_i32_42 : BitVec 32 := 0#32
  let c1_i32_44 : BitVec 32 := 1#32
  let arg23 : BitVec 32 := Scf.iv c0_i32_42 c1_i32_44 k1_t3
  let v220 : Index := Scalar.indexCast arg23
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let c1_i32_129 : BitVec 32 := 1#32
  let arg31 : BitVec 32 := Scf.iv v210 c1_i32_129 k1_t9
  let c16_i32_135 : BitVec 32 := 16#32
  let v219 : BitVec 32 := Scalar.muli arg31 c16_i32_135
  let v221 : Index := Scalar.indexCast v219
  ![v220.toNat, v221.toNat]

def k1_chk12 (k1_t3 : Fin k1_t3_loop.trips) (v132 : BitVec 32) (v151 : BitVec 32) (v153 : BitVec 32) (v160 : BitVec 32) (v162 : BitVec 32) (arg30 : BitVec 32) : Prop :=
  (∀ (k1_h1 : k1_cond1 v132 = 1#1), ∀ (k1_h2 : k1_cond2 v151 v153 v160 v162 = 1#1), (k1_t8_loop arg30).OK) ∧
  (∀ k1_t8 : Fin (k1_t8_loop arg30).trips, ∀ (k1_h1 : k1_cond1 v132 = 1#1), ∀ (k1_h2 : k1_cond2 v151 v153 v160 v162 = 1#1), ∀ a, (k1_off7 k1_t3 arg30 k1_t8) a + S1x16.size a ≤ S2x2048.size a) ∧
  (∀ (k1_h1 : k1_cond1 v132 = 1#1), ∀ (k1_h2 : k1_cond2 v151 v153 v160 v162 = 1#1), (k1_t9_loop arg30).OK) ∧
  (∀ k1_t9 : Fin (k1_t9_loop arg30).trips, ∀ (k1_h1 : k1_cond1 v132 = 1#1), ∀ (k1_h2 : k1_cond2 v151 v153 v160 v162 = 1#1), ∀ a, (k1_off8 k1_t3 arg30 k1_t9) a + S1x16.size a ≤ S2x2048.size a)
theorem k1_t8_ok : ∀ (k1_t3 : Fin k1_t3_loop.trips) (v132 : BitVec 32) (v151 : BitVec 32) (v153 : BitVec 32) (v160 : BitVec 32) (v162 : BitVec 32) (arg30 : BitVec 32) (k1_hw12 : k1_chk12 k1_t3 v132 v151 v153 v160 v162 arg30), ∀ (k1_h1 : k1_cond1 v132 = 1#1), ∀ (k1_h2 : k1_cond2 v151 v153 v160 v162 = 1#1), (k1_t8_loop arg30).OK := fun k1_t3 v132 v151 v153 v160 v162 arg30 k1_hw12 k1_h1 k1_h2 => k1_hw12.1 k1_h1 k1_h2
theorem k1_off7_inb : ∀ (k1_t3 : Fin k1_t3_loop.trips) (v132 : BitVec 32) (v151 : BitVec 32) (v153 : BitVec 32) (v160 : BitVec 32) (v162 : BitVec 32) (arg30 : BitVec 32) (k1_hw12 : k1_chk12 k1_t3 v132 v151 v153 v160 v162 arg30) (k1_t8 : Fin (k1_t8_loop arg30).trips), ∀ (k1_h1 : k1_cond1 v132 = 1#1), ∀ (k1_h2 : k1_cond2 v151 v153 v160 v162 = 1#1), ∀ a, (k1_off7 k1_t3 arg30 k1_t8) a + S1x16.size a ≤ S2x2048.size a := fun k1_t3 v132 v151 v153 v160 v162 arg30 k1_hw12 k1_t8 k1_h1 k1_h2 => k1_hw12.2.1 k1_t8 k1_h1 k1_h2
theorem k1_t9_ok : ∀ (k1_t3 : Fin k1_t3_loop.trips) (v132 : BitVec 32) (v151 : BitVec 32) (v153 : BitVec 32) (v160 : BitVec 32) (v162 : BitVec 32) (arg30 : BitVec 32) (k1_hw12 : k1_chk12 k1_t3 v132 v151 v153 v160 v162 arg30), ∀ (k1_h1 : k1_cond1 v132 = 1#1), ∀ (k1_h2 : k1_cond2 v151 v153 v160 v162 = 1#1), (k1_t9_loop arg30).OK := fun k1_t3 v132 v151 v153 v160 v162 arg30 k1_hw12 k1_h1 k1_h2 => k1_hw12.2.2.1 k1_h1 k1_h2
theorem k1_off8_inb : ∀ (k1_t3 : Fin k1_t3_loop.trips) (v132 : BitVec 32) (v151 : BitVec 32) (v153 : BitVec 32) (v160 : BitVec 32) (v162 : BitVec 32) (arg30 : BitVec 32) (k1_hw12 : k1_chk12 k1_t3 v132 v151 v153 v160 v162 arg30) (k1_t9 : Fin (k1_t9_loop arg30).trips), ∀ (k1_h1 : k1_cond1 v132 = 1#1), ∀ (k1_h2 : k1_cond2 v151 v153 v160 v162 = 1#1), ∀ a, (k1_off8 k1_t3 arg30 k1_t9) a + S1x16.size a ≤ S2x2048.size a := fun k1_t3 v132 v151 v153 v160 v162 arg30 k1_hw12 k1_t9 k1_h1 k1_h2 => k1_hw12.2.2.2 k1_t9 k1_h1 k1_h2

def k1_mult1 (v212 : BitVec 32) : BitVec 32 :=
  let c0_i32_137 : BitVec 32 := 0#32
  let v221 : BitVec 1 := Scalar.cmpi .sgt v212 c0_i32_137
  let v222 : BitVec 32 := Scalar.extui v221
  let c0_i32_138 : BitVec 32 := 0#32
  let v223 : BitVec 1 := Scalar.cmpi .slt v212 c0_i32_138
  let v224 : BitVec 32 := Scalar.extui v223
  let v225 : BitVec 32 := Scalar.subi v222 v224
  let c8_i32_136 : BitVec 32 := 8#32
  let c0_i32_139 : BitVec 32 := 0#32
  let v226 : BitVec 1 := Scalar.cmpi .sgt c8_i32_136 c0_i32_139
  let v227 : BitVec 32 := Scalar.extui v226
  let c0_i32_140 : BitVec 32 := 0#32
  let v228 : BitVec 1 := Scalar.cmpi .slt c8_i32_136 c0_i32_140
  let v229 : BitVec 32 := Scalar.extui v228
  let v230 : BitVec 32 := Scalar.subi v227 v229
  let v231 : BitVec 1 := Scalar.cmpi .ne v225 v230
  let v232 : BitVec 32 := Scalar.remsi v212 c8_i32_136
  let c0_i32_141 : BitVec 32 := 0#32
  let v233 : BitVec 1 := Scalar.cmpi .ne v232 c0_i32_141
  let v234 : BitVec 1 := Scalar.andi v231 v233
  let v220 : BitVec 32 := Scalar.divsi v212 c8_i32_136
  let c1_i32_142 : BitVec 32 := 1#32
  let v235 : BitVec 32 := Scalar.subi v220 c1_i32_142
  let v236 : BitVec 32 := Scalar.select v234 v235 v220
  let c128_i32_143 : BitVec 32 := 128#32
  let v237 : BitVec 32 := Scalar.muli v236 c128_i32_143
  v237
def k1_cond3 (v212 : BitVec 32) : BitVec 1 :=
  let c128_i32_130 : BitVec 32 := 128#32
  let v213 : BitVec 1 := Scalar.cmpi .slt v212 c128_i32_130
  let v214 : BitVec 32 := Scalar.extui v213
  let c0_i32_131 : BitVec 32 := 0#32
  let v215 : BitVec 1 := Scalar.cmpi .ne v214 c0_i32_131
  v215

def k1_off9 (v212 : BitVec 32) : Fin 3 → Nat :=
  let c0_i32_151 : BitVec 32 := 0#32
  let c0_i32_165_r0 : BitVec 32 := 0#32
  let c0_i32_137 : BitVec 32 := 0#32
  let v221 : BitVec 1 := Scalar.cmpi .sgt v212 c0_i32_137
  let v222 : BitVec 32 := Scalar.extui v221
  let c0_i32_138 : BitVec 32 := 0#32
  let v223 : BitVec 1 := Scalar.cmpi .slt v212 c0_i32_138
  let v224 : BitVec 32 := Scalar.extui v223
  let v225 : BitVec 32 := Scalar.subi v222 v224
  let c8_i32_136 : BitVec 32 := 8#32
  let c0_i32_139 : BitVec 32 := 0#32
  let v226 : BitVec 1 := Scalar.cmpi .sgt c8_i32_136 c0_i32_139
  let v227 : BitVec 32 := Scalar.extui v226
  let c0_i32_140 : BitVec 32 := 0#32
  let v228 : BitVec 1 := Scalar.cmpi .slt c8_i32_136 c0_i32_140
  let v229 : BitVec 32 := Scalar.extui v228
  let v230 : BitVec 32 := Scalar.subi v227 v229
  let v231 : BitVec 1 := Scalar.cmpi .ne v225 v230
  let v232 : BitVec 32 := Scalar.remsi v212 c8_i32_136
  let c0_i32_141 : BitVec 32 := 0#32
  let v233 : BitVec 1 := Scalar.cmpi .ne v232 c0_i32_141
  let v234 : BitVec 1 := Scalar.andi v231 v233
  let v220 : BitVec 32 := Scalar.divsi v212 c8_i32_136
  let c1_i32_142 : BitVec 32 := 1#32
  let v235 : BitVec 32 := Scalar.subi v220 c1_i32_142
  let v236 : BitVec 32 := Scalar.select v234 v235 v220
  let c128_i32_143 : BitVec 32 := 128#32
  let v237 : BitVec 32 := Scalar.muli v236 c128_i32_143
  let v238 : BitVec 32 := v237
  ![0, 0, v238.toNat]
def k1_off10 (k1_t3 : Fin k1_t3_loop.trips) (v212 : BitVec 32) : Fin 2 → Nat :=
  let c0_i32_42 : BitVec 32 := 0#32
  let c1_i32_44 : BitVec 32 := 1#32
  let arg23 : BitVec 32 := Scf.iv c0_i32_42 c1_i32_44 k1_t3
  let v250 : Index := Scalar.indexCast arg23
  let c16_i32_135 : BitVec 32 := 16#32
  let v219 : BitVec 32 := Scalar.muli v212 c16_i32_135
  let v251 : Index := Scalar.indexCast v219
  ![v250.toNat, v251.toNat]
def k1_off11 (k1_t3 : Fin k1_t3_loop.trips) (v212 : BitVec 32) : Fin 2 → Nat :=
  let c4_i32_152 : BitVec 32 := 4#32
  let c0_i32_42 : BitVec 32 := 0#32
  let c1_i32_44 : BitVec 32 := 1#32
  let arg23 : BitVec 32 := Scf.iv c0_i32_42 c1_i32_44 k1_t3
  let v254 : BitVec 32 := Scalar.muli c4_i32_152 arg23
  let v255 : Index := Scalar.indexCast v254
  let c8_i32_144 : BitVec 32 := 8#32
  let c0_i32_145 : BitVec 32 := 0#32
  let v239 : BitVec 1 := Scalar.cmpi .eq c8_i32_144 c0_i32_145
  let c1_i32_146 : BitVec 32 := 1#32
  let v240 : BitVec 32 := Scalar.select v239 c1_i32_146 c8_i32_144
  let v241 : BitVec 32 := Scalar.remsi v212 v240
  let c0_i32_148 : BitVec 32 := 0#32
  let v243 : BitVec 1 := Scalar.cmpi .slt v241 c0_i32_148
  let c0_i32_149 : BitVec 32 := 0#32
  let v244 : BitVec 1 := Scalar.cmpi .slt v240 c0_i32_149
  let v245 : BitVec 1 := Scalar.xori v243 v244
  let c0_i32_147 : BitVec 32 := 0#32
  let v242 : BitVec 1 := Scalar.cmpi .ne v241 c0_i32_147
  let v246 : BitVec 1 := Scalar.andi v245 v242
  let v247 : BitVec 32 := Scalar.addi v241 v240
  let v248 : BitVec 32 := Scalar.select v246 v247 v241
  let c16_i32_150 : BitVec 32 := 16#32
  let v249 : BitVec 32 := Scalar.muli v248 c16_i32_150
  let v256 : Index := Scalar.indexCast v249
  ![v255.toNat, v256.toNat]
def k1_off12 (k1_t3 : Fin k1_t3_loop.trips) (v212 : BitVec 32) (c1_i32_154 : BitVec 32) : Fin 2 → Nat :=
  let c4_i32_153 : BitVec 32 := 4#32
  let c0_i32_42 : BitVec 32 := 0#32
  let c1_i32_44 : BitVec 32 := 1#32
  let arg23 : BitVec 32 := Scf.iv c0_i32_42 c1_i32_44 k1_t3
  let v259 : BitVec 32 := Scalar.muli c4_i32_153 arg23
  let v260 : BitVec 32 := Scalar.addi v259 c1_i32_154
  let v261 : Index := Scalar.indexCast v260
  let c8_i32_144 : BitVec 32 := 8#32
  let c0_i32_145 : BitVec 32 := 0#32
  let v239 : BitVec 1 := Scalar.cmpi .eq c8_i32_144 c0_i32_145
  let c1_i32_146 : BitVec 32 := 1#32
  let v240 : BitVec 32 := Scalar.select v239 c1_i32_146 c8_i32_144
  let v241 : BitVec 32 := Scalar.remsi v212 v240
  let c0_i32_148 : BitVec 32 := 0#32
  let v243 : BitVec 1 := Scalar.cmpi .slt v241 c0_i32_148
  let c0_i32_149 : BitVec 32 := 0#32
  let v244 : BitVec 1 := Scalar.cmpi .slt v240 c0_i32_149
  let v245 : BitVec 1 := Scalar.xori v243 v244
  let c0_i32_147 : BitVec 32 := 0#32
  let v242 : BitVec 1 := Scalar.cmpi .ne v241 c0_i32_147
  let v246 : BitVec 1 := Scalar.andi v245 v242
  let v247 : BitVec 32 := Scalar.addi v241 v240
  let v248 : BitVec 32 := Scalar.select v246 v247 v241
  let c16_i32_150 : BitVec 32 := 16#32
  let v249 : BitVec 32 := Scalar.muli v248 c16_i32_150
  let v262 : Index := Scalar.indexCast v249
  ![v261.toNat, v262.toNat]

def k1_chk13 (k1_t3 : Fin k1_t3_loop.trips) (v132 : BitVec 32) (v151 : BitVec 32) (v153 : BitVec 32) (v160 : BitVec 32) (v162 : BitVec 32) (v212 : BitVec 32) : Prop :=
  (∀ (k1_h1 : k1_cond1 v132 = 1#1), ∀ (k1_h2 : k1_cond2 v151 v153 v160 v162 = 1#1), ∀ (k1_h3 : k1_cond3 v212 = 1#1), 128 ∣ (k1_mult1 v212).toNat) ∧
  (∀ (k1_h1 : k1_cond1 v132 = 1#1), ∀ (k1_h2 : k1_cond2 v151 v153 v160 v162 = 1#1), ∀ (k1_h3 : k1_cond3 v212 = 1#1), ∀ a, (k1_off9 v212) a + S1x8x128.size a ≤ S2x10x2048.size a) ∧
  (∀ (k1_h1 : k1_cond1 v132 = 1#1), ∀ (k1_h2 : k1_cond2 v151 v153 v160 v162 = 1#1), ∀ (k1_h3 : k1_cond3 v212 = 1#1), ∀ a, (k1_off10 k1_t3 v212) a + S1x16.size a ≤ S2x2048.size a) ∧
  (∀ (k1_h1 : k1_cond1 v132 = 1#1), ∀ (k1_h2 : k1_cond2 v151 v153 v160 v162 = 1#1), ∀ (k1_h3 : k1_cond3 v212 = 1#1), ∀ a, (k1_off11 k1_t3 v212) a + S1x16.size a ≤ S8x128.size a) ∧
  (∀ (k1_h1 : k1_cond1 v132 = 1#1), ∀ (k1_h2 : k1_cond2 v151 v153 v160 v162 = 1#1), ∀ (k1_h3 : k1_cond3 v212 = 1#1), ∀ (r : Fin 3), ∀ a, (k1_off12 k1_t3 v212 (BitVec.ofNat 32 (1 + r.val))) a + S1x16.size a ≤ S8x128.size a)
theorem k1_mult1_dvd : ∀ (k1_t3 : Fin k1_t3_loop.trips) (v132 : BitVec 32) (v151 : BitVec 32) (v153 : BitVec 32) (v160 : BitVec 32) (v162 : BitVec 32) (v212 : BitVec 32) (k1_hw13 : k1_chk13 k1_t3 v132 v151 v153 v160 v162 v212), ∀ (k1_h1 : k1_cond1 v132 = 1#1), ∀ (k1_h2 : k1_cond2 v151 v153 v160 v162 = 1#1), ∀ (k1_h3 : k1_cond3 v212 = 1#1), 128 ∣ (k1_mult1 v212).toNat := fun k1_t3 v132 v151 v153 v160 v162 v212 k1_hw13 k1_h1 k1_h2 k1_h3 => k1_hw13.1 k1_h1 k1_h2 k1_h3
theorem k1_off9_inb : ∀ (k1_t3 : Fin k1_t3_loop.trips) (v132 : BitVec 32) (v151 : BitVec 32) (v153 : BitVec 32) (v160 : BitVec 32) (v162 : BitVec 32) (v212 : BitVec 32) (k1_hw13 : k1_chk13 k1_t3 v132 v151 v153 v160 v162 v212), ∀ (k1_h1 : k1_cond1 v132 = 1#1), ∀ (k1_h2 : k1_cond2 v151 v153 v160 v162 = 1#1), ∀ (k1_h3 : k1_cond3 v212 = 1#1), ∀ a, (k1_off9 v212) a + S1x8x128.size a ≤ S2x10x2048.size a := fun k1_t3 v132 v151 v153 v160 v162 v212 k1_hw13 k1_h1 k1_h2 k1_h3 => k1_hw13.2.1 k1_h1 k1_h2 k1_h3
theorem k1_off10_inb : ∀ (k1_t3 : Fin k1_t3_loop.trips) (v132 : BitVec 32) (v151 : BitVec 32) (v153 : BitVec 32) (v160 : BitVec 32) (v162 : BitVec 32) (v212 : BitVec 32) (k1_hw13 : k1_chk13 k1_t3 v132 v151 v153 v160 v162 v212), ∀ (k1_h1 : k1_cond1 v132 = 1#1), ∀ (k1_h2 : k1_cond2 v151 v153 v160 v162 = 1#1), ∀ (k1_h3 : k1_cond3 v212 = 1#1), ∀ a, (k1_off10 k1_t3 v212) a + S1x16.size a ≤ S2x2048.size a := fun k1_t3 v132 v151 v153 v160 v162 v212 k1_hw13 k1_h1 k1_h2 k1_h3 => k1_hw13.2.2.1 k1_h1 k1_h2 k1_h3
theorem k1_off11_inb : ∀ (k1_t3 : Fin k1_t3_loop.trips) (v132 : BitVec 32) (v151 : BitVec 32) (v153 : BitVec 32) (v160 : BitVec 32) (v162 : BitVec 32) (v212 : BitVec 32) (k1_hw13 : k1_chk13 k1_t3 v132 v151 v153 v160 v162 v212), ∀ (k1_h1 : k1_cond1 v132 = 1#1), ∀ (k1_h2 : k1_cond2 v151 v153 v160 v162 = 1#1), ∀ (k1_h3 : k1_cond3 v212 = 1#1), ∀ a, (k1_off11 k1_t3 v212) a + S1x16.size a ≤ S8x128.size a := fun k1_t3 v132 v151 v153 v160 v162 v212 k1_hw13 k1_h1 k1_h2 k1_h3 => k1_hw13.2.2.2.1 k1_h1 k1_h2 k1_h3
theorem k1_off12_inb : ∀ (k1_t3 : Fin k1_t3_loop.trips) (v132 : BitVec 32) (v151 : BitVec 32) (v153 : BitVec 32) (v160 : BitVec 32) (v162 : BitVec 32) (v212 : BitVec 32) (k1_hw13 : k1_chk13 k1_t3 v132 v151 v153 v160 v162 v212), ∀ (k1_h1 : k1_cond1 v132 = 1#1), ∀ (k1_h2 : k1_cond2 v151 v153 v160 v162 = 1#1), ∀ (k1_h3 : k1_cond3 v212 = 1#1), ∀ (r : Fin 3), ∀ a, (k1_off12 k1_t3 v212 (BitVec.ofNat 32 (1 + r.val))) a + S1x16.size a ≤ S8x128.size a := fun k1_t3 v132 v151 v153 v160 v162 v212 k1_hw13 k1_h1 k1_h2 k1_h3 r => k1_hw13.2.2.2.2 k1_h1 k1_h2 k1_h3 r

@[reducible] def k1_t10_loop : Scf.Loop 32 :=
  let c0_i32_166 : BitVec 32 := 0#32
  let c16_i32_167 : BitVec 32 := 16#32
  let v293 : BitVec 32 := Scalar.addi c0_i32_166 c16_i32_167
  let c1_i32_168 : BitVec 32 := 1#32
  ⟨c0_i32_166, v293, c1_i32_168⟩
def k1_cond4 (v289 : BitVec 32) : BitVec 1 :=
  let c0_i32_163 : BitVec 32 := 0#32
  let v290 : BitVec 1 := Scalar.cmpi .sgt v289 c0_i32_163
  let v291 : BitVec 32 := Scalar.extui v290
  let c0_i32_164 : BitVec 32 := 0#32
  let v292 : BitVec 1 := Scalar.cmpi .ne v291 c0_i32_164
  v292

def k1_chk14 (v132 : BitVec 32) (v151 : BitVec 32) (v153 : BitVec 32) (v160 : BitVec 32) (v162 : BitVec 32) (v212 : BitVec 32) (v289 : BitVec 32) (v296 : IVec S16 32) (v297 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v296, v297] : Fin 2 → IVec S16 32) a x).toNat < S2x2048.size a)
theorem k1_idx12_inb : ∀ (v132 : BitVec 32) (v151 : BitVec 32) (v153 : BitVec 32) (v160 : BitVec 32) (v162 : BitVec 32) (v212 : BitVec 32) (v289 : BitVec 32) (v296 : IVec S16 32) (v297 : IVec S16 32) (k1_hw14 : k1_chk14 v132 v151 v153 v160 v162 v212 v289 v296 v297), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v296, v297] : Fin 2 → IVec S16 32) a x).toNat < S2x2048.size a := fun v132 v151 v153 v160 v162 v212 v289 v296 v297 k1_hw14 k1_h1 k1_h2 k1_h3 k1_h4 => k1_hw14 k1_h1 k1_h2 k1_h3 k1_h4

def k1_chk15 (v132 : BitVec 32) (v151 : BitVec 32) (v153 : BitVec 32) (v160 : BitVec 32) (v162 : BitVec 32) (v212 : BitVec 32) (v289 : BitVec 32) (v304 : IVec S16 32) (v305 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v304, v305] : Fin 2 → IVec S16 32) a x).toNat < S8x128.size a)
theorem k1_idx13_inb : ∀ (v132 : BitVec 32) (v151 : BitVec 32) (v153 : BitVec 32) (v160 : BitVec 32) (v162 : BitVec 32) (v212 : BitVec 32) (v289 : BitVec 32) (v304 : IVec S16 32) (v305 : IVec S16 32) (k1_hw15 : k1_chk15 v132 v151 v153 v160 v162 v212 v289 v304 v305), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v304, v305] : Fin 2 → IVec S16 32) a x).toNat < S8x128.size a := fun v132 v151 v153 v160 v162 v212 v289 v304 v305 k1_hw15 k1_h1 k1_h2 k1_h3 k1_h4 => k1_hw15 k1_h1 k1_h2 k1_h3 k1_h4

def k1_chk16 (v132 : BitVec 32) (v151 : BitVec 32) (v153 : BitVec 32) (v160 : BitVec 32) (v162 : BitVec 32) (v212 : BitVec 32) (v289 : BitVec 32) (v315 : IVec S16 32) (v316 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v315, v316] : Fin 2 → IVec S16 32) a x).toNat < S8x128.size a)
theorem k1_idx14_inb : ∀ (v132 : BitVec 32) (v151 : BitVec 32) (v153 : BitVec 32) (v160 : BitVec 32) (v162 : BitVec 32) (v212 : BitVec 32) (v289 : BitVec 32) (v315 : IVec S16 32) (v316 : IVec S16 32) (k1_hw16 : k1_chk16 v132 v151 v153 v160 v162 v212 v289 v315 v316), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v315, v316] : Fin 2 → IVec S16 32) a x).toNat < S8x128.size a := fun v132 v151 v153 v160 v162 v212 v289 v315 v316 k1_hw16 k1_h1 k1_h2 k1_h3 k1_h4 => k1_hw16 k1_h1 k1_h2 k1_h3 k1_h4

def k1_chk17 (v132 : BitVec 32) (v151 : BitVec 32) (v153 : BitVec 32) (v160 : BitVec 32) (v162 : BitVec 32) (v212 : BitVec 32) (v289 : BitVec 32) (v327 : IVec S16 32) (v328 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v327, v328] : Fin 2 → IVec S16 32) a x).toNat < S8x128.size a)
theorem k1_idx15_inb : ∀ (v132 : BitVec 32) (v151 : BitVec 32) (v153 : BitVec 32) (v160 : BitVec 32) (v162 : BitVec 32) (v212 : BitVec 32) (v289 : BitVec 32) (v327 : IVec S16 32) (v328 : IVec S16 32) (k1_hw17 : k1_chk17 v132 v151 v153 v160 v162 v212 v289 v327 v328), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v327, v328] : Fin 2 → IVec S16 32) a x).toNat < S8x128.size a := fun v132 v151 v153 v160 v162 v212 v289 v327 v328 k1_hw17 k1_h1 k1_h2 k1_h3 k1_h4 => k1_hw17 k1_h1 k1_h2 k1_h3 k1_h4

def k1_chk18 (v132 : BitVec 32) (v151 : BitVec 32) (v153 : BitVec 32) (v160 : BitVec 32) (v162 : BitVec 32) (v212 : BitVec 32) (v289 : BitVec 32) (v339 : IVec S16 32) (v340 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v339, v340] : Fin 2 → IVec S16 32) a x).toNat < S8x128.size a)
theorem k1_idx16_inb : ∀ (v132 : BitVec 32) (v151 : BitVec 32) (v153 : BitVec 32) (v160 : BitVec 32) (v162 : BitVec 32) (v212 : BitVec 32) (v289 : BitVec 32) (v339 : IVec S16 32) (v340 : IVec S16 32) (k1_hw18 : k1_chk18 v132 v151 v153 v160 v162 v212 v289 v339 v340), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ a x, ((![v339, v340] : Fin 2 → IVec S16 32) a x).toNat < S8x128.size a := fun v132 v151 v153 v160 v162 v212 v289 v339 v340 k1_hw18 k1_h1 k1_h2 k1_h3 k1_h4 => k1_hw18 k1_h1 k1_h2 k1_h3 k1_h4
def k1_cond5 (v146 : BitVec 32) (v300 : BitVec 32) (v308 : BitVec 32) (v310 : BitVec 32) (v319 : BitVec 32) (v321 : BitVec 32) (v331 : BitVec 32) (v333 : BitVec 32) (v343 : BitVec 32) (v345 : BitVec 32) : BitVec 1 :=
  let v301 : BitVec 1 := Scalar.cmpi .eq v300 v146
  let v311 : BitVec 1 := Scalar.cmpi .eq v308 v310
  let v322 : BitVec 1 := Scalar.cmpi .eq v319 v321
  let v323 : BitVec 1 := Scalar.ori v311 v322
  let v334 : BitVec 1 := Scalar.cmpi .eq v331 v333
  let v335 : BitVec 1 := Scalar.ori v323 v334
  let v346 : BitVec 1 := Scalar.cmpi .eq v343 v345
  let v347 : BitVec 1 := Scalar.ori v335 v346
  let v348 : BitVec 1 := Scalar.andi v301 v347
  let v349 : BitVec 32 := Scalar.extui v348
  let c0_i32_177 : BitVec 32 := 0#32
  let v350 : BitVec 1 := Scalar.cmpi .ne v349 c0_i32_177
  v350

def k1_chk19 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v351 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ a x, ((![v351] : Fin 1 → IVec S16 32) a x).toNat < S64.size a)
theorem k1_idx17_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v351 : IVec S16 32) (k1_hw19 : k1_chk19 v132 v146 v151 v153 v160 v162 v212 v289 v300 v308 v310 v319 v321 v331 v333 v343 v345 v351), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ a x, ((![v351] : Fin 1 → IVec S16 32) a x).toNat < S64.size a := fun v132 v146 v151 v153 v160 v162 v212 v289 v300 v308 v310 v319 v321 v331 v333 v343 v345 v351 k1_hw19 k1_h1 k1_h2 k1_h3 k1_h4 k1_h5 => k1_hw19 k1_h1 k1_h2 k1_h3 k1_h4 k1_h5
def k1_off13 (k1_t5 : Fin k1_t5_loop.trips) (k1_t6 : Fin k1_t6_loop.trips) : Fin 2 → Nat :=
  let c0_i32_91 : BitVec 32 := 0#32
  let c1_i32_92 : BitVec 32 := 1#32
  let arg25 : BitVec 32 := Scf.iv c0_i32_91 c1_i32_92 k1_t5
  let c16_i32_106 : BitVec 32 := 16#32
  let v138 : BitVec 32 := Scalar.muli arg25 c16_i32_106
  let c0_i32_102 : BitVec 32 := 0#32
  let c1_i32_104 : BitVec 32 := 1#32
  let arg27 : BitVec 32 := Scf.iv c0_i32_102 c1_i32_104 k1_t6
  let v139 : BitVec 32 := Scalar.addi v138 arg27
  let v356 : Index := Scalar.indexCast v139
  let c0_179 : Index := 0#32
  ![v356.toNat, 0]
def k1_off14 (k1_t5 : Fin k1_t5_loop.trips) (k1_t6 : Fin k1_t6_loop.trips) : Fin 2 → Nat :=
  let c0_i32_91 : BitVec 32 := 0#32
  let c1_i32_92 : BitVec 32 := 1#32
  let arg25 : BitVec 32 := Scf.iv c0_i32_91 c1_i32_92 k1_t5
  let c16_i32_106 : BitVec 32 := 16#32
  let v138 : BitVec 32 := Scalar.muli arg25 c16_i32_106
  let c0_i32_102 : BitVec 32 := 0#32
  let c1_i32_104 : BitVec 32 := 1#32
  let arg27 : BitVec 32 := Scf.iv c0_i32_102 c1_i32_104 k1_t6
  let v139 : BitVec 32 := Scalar.addi v138 arg27
  let v375 : Index := Scalar.indexCast v139
  let c16_186 : Index := 16#32
  ![v375.toNat, 16]
def k1_off15 (k1_t5 : Fin k1_t5_loop.trips) (k1_t6 : Fin k1_t6_loop.trips) : Fin 2 → Nat :=
  let c0_i32_91 : BitVec 32 := 0#32
  let c1_i32_92 : BitVec 32 := 1#32
  let arg25 : BitVec 32 := Scf.iv c0_i32_91 c1_i32_92 k1_t5
  let c16_i32_106 : BitVec 32 := 16#32
  let v138 : BitVec 32 := Scalar.muli arg25 c16_i32_106
  let c0_i32_102 : BitVec 32 := 0#32
  let c1_i32_104 : BitVec 32 := 1#32
  let arg27 : BitVec 32 := Scf.iv c0_i32_102 c1_i32_104 k1_t6
  let v139 : BitVec 32 := Scalar.addi v138 arg27
  let v394 : Index := Scalar.indexCast v139
  let c32_192 : Index := 32#32
  ![v394.toNat, 32]
def k1_off16 (k1_t5 : Fin k1_t5_loop.trips) (k1_t6 : Fin k1_t6_loop.trips) : Fin 2 → Nat :=
  let c0_i32_91 : BitVec 32 := 0#32
  let c1_i32_92 : BitVec 32 := 1#32
  let arg25 : BitVec 32 := Scf.iv c0_i32_91 c1_i32_92 k1_t5
  let c16_i32_106 : BitVec 32 := 16#32
  let v138 : BitVec 32 := Scalar.muli arg25 c16_i32_106
  let c0_i32_102 : BitVec 32 := 0#32
  let c1_i32_104 : BitVec 32 := 1#32
  let arg27 : BitVec 32 := Scf.iv c0_i32_102 c1_i32_104 k1_t6
  let v139 : BitVec 32 := Scalar.addi v138 arg27
  let v413 : Index := Scalar.indexCast v139
  let c48_197 : Index := 48#32
  ![v413.toNat, 48]
def k1_off17 (v212 : BitVec 32) (k1_t10 : Fin k1_t10_loop.trips) : Fin 3 → Nat :=
  let c0_i32_204 : BitVec 32 := 0#32
  let c16_i32_135 : BitVec 32 := 16#32
  let v219 : BitVec 32 := Scalar.muli v212 c16_i32_135
  let c0_i32_166 : BitVec 32 := 0#32
  let c1_i32_168 : BitVec 32 := 1#32
  let arg31 : BitVec 32 := Scf.iv c0_i32_166 c1_i32_168 k1_t10
  let v295 : BitVec 32 := Scalar.addi v219 arg31
  let c0_i32_229_r1 : BitVec 32 := 0#32
  ![0, v295.toNat, 0]
def k1_cond6 (v373 : BitVec 32) (v392 : BitVec 32) (v411 : BitVec 32) (v430 : BitVec 32) : BitVec 1 :=
  let c0_i32_185 : BitVec 32 := 0#32
  let v374 : BitVec 32 := Scalar.ori c0_i32_185 v373
  let v393 : BitVec 32 := Scalar.ori v374 v392
  let v412 : BitVec 32 := Scalar.ori v393 v411
  let v431 : BitVec 32 := Scalar.ori v412 v430
  let c0_i32_202 : BitVec 32 := 0#32
  let v432 : BitVec 1 := Scalar.cmpi .eq v431 c0_i32_202
  let v433 : BitVec 32 := Scalar.extui v432
  let c0_i32_203 : BitVec 32 := 0#32
  let v434 : BitVec 1 := Scalar.cmpi .ne v433 c0_i32_203
  v434

def k1_chk20 (v132 : BitVec 32) (v146 : BitVec 32) (v151 : BitVec 32) (v153 : BitVec 32) (v160 : BitVec 32) (v162 : BitVec 32) (v212 : BitVec 32) (v289 : BitVec 32) (k1_t10 : Fin k1_t10_loop.trips) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a, (k1_off17 v212 k1_t10) a + S1x1x64.size a ≤ S2x2048x64.size a)
theorem k1_off17_inb : ∀ (v132 : BitVec 32) (v146 : BitVec 32) (v151 : BitVec 32) (v153 : BitVec 32) (v160 : BitVec 32) (v162 : BitVec 32) (v212 : BitVec 32) (v289 : BitVec 32) (k1_t10 : Fin k1_t10_loop.trips) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (k1_hw20 : k1_chk20 v132 v146 v151 v153 v160 v162 v212 v289 k1_t10 v300 v308 v310 v319 v321 v331 v333 v343 v345 v373 v392 v411 v430), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a, (k1_off17 v212 k1_t10) a + S1x1x64.size a ≤ S2x2048x64.size a := fun v132 v146 v151 v153 v160 v162 v212 v289 k1_t10 v300 v308 v310 v319 v321 v331 v333 v343 v345 v373 v392 v411 v430 k1_hw20 k1_h1 k1_h2 k1_h3 k1_h4 k1_h5 k1_h6 => k1_hw20 k1_h1 k1_h2 k1_h3 k1_h4 k1_h5 k1_h6

def k1_off18 (i : grid1.Coords) (k1_t5 : Fin k1_t5_loop.trips) (k1_t6 : Fin k1_t6_loop.trips) : Fin 3 → Nat :=
  let c0_i32_205 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_91 : BitVec 32 := 0#32
  let c1_i32_92 : BitVec 32 := 1#32
  let arg25 : BitVec 32 := Scf.iv c0_i32_91 c1_i32_92 k1_t5
  let c16_i32_106 : BitVec 32 := 16#32
  let v138 : BitVec 32 := Scalar.muli arg25 c16_i32_106
  let c0_i32_102 : BitVec 32 := 0#32
  let c1_i32_104 : BitVec 32 := 1#32
  let arg27 : BitVec 32 := Scf.iv c0_i32_102 c1_i32_104 k1_t6
  let v139 : BitVec 32 := Scalar.addi v138 arg27
  let v435 : BitVec 32 := Scalar.addi v2 v139
  let c0_i32_229_r2 : BitVec 32 := 0#32
  ![0, v435.toNat, 0]
@[reducible] def k1_t11_loop : Scf.Loop 32 :=
  let c0_i32_223 : BitVec 32 := 0#32
  let c64_i32_224 : BitVec 32 := 64#32
  let v648 : BitVec 32 := Scalar.addi c0_i32_223 c64_i32_224
  let c1_i32_225 : BitVec 32 := 1#32
  ⟨c0_i32_223, v648, c1_i32_225⟩

def k1_chk21 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v654 : IVec S16 32) (v655 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a x, ((![v654, v655] : Fin 2 → IVec S16 32) a x).toNat < S64x64.size a)
theorem k1_idx18_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v654 : IVec S16 32) (v655 : IVec S16 32) (k1_hw21 : k1_chk21 v132 v146 v151 v153 v160 v162 v212 v289 v300 v308 v310 v319 v321 v331 v333 v343 v345 v373 v392 v411 v430 v654 v655), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a x, ((![v654, v655] : Fin 2 → IVec S16 32) a x).toNat < S64x64.size a := fun v132 v146 v151 v153 v160 v162 v212 v289 v300 v308 v310 v319 v321 v331 v333 v343 v345 v373 v392 v411 v430 v654 v655 k1_hw21 k1_h1 k1_h2 k1_h3 k1_h4 k1_h5 k1_h6 => k1_hw21 k1_h1 k1_h2 k1_h3 k1_h4 k1_h5 k1_h6

def k1_chk22 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v659 : IVec S16 32) (v660 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a x, ((![v659, v660] : Fin 2 → IVec S16 32) a x).toNat < S64x64.size a)
theorem k1_idx19_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v659 : IVec S16 32) (v660 : IVec S16 32) (k1_hw22 : k1_chk22 v132 v146 v151 v153 v160 v162 v212 v289 v300 v308 v310 v319 v321 v331 v333 v343 v345 v373 v392 v411 v430 v659 v660), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ a x, ((![v659, v660] : Fin 2 → IVec S16 32) a x).toNat < S64x64.size a := fun v132 v146 v151 v153 v160 v162 v212 v289 v300 v308 v310 v319 v321 v331 v333 v343 v345 v373 v392 v411 v430 v659 v660 k1_hw22 k1_h1 k1_h2 k1_h3 k1_h4 k1_h5 k1_h6 => k1_hw22 k1_h1 k1_h2 k1_h3 k1_h4 k1_h5 k1_h6
@[reducible] def k1_t12_loop (v354 : BitVec 32) (v649 : BitVec 32) : Scf.Loop 32 :=
  let c0_i32_229 : BitVec 32 := 0#32
  let c63_i32 : BitVec 32 := 63#32
  let v653 : BitVec 32 := Scalar.minsi v354 c63_i32
  let v654 : BitVec 32 := Scalar.subi v653 v649
  let v655 : BitVec 32 := Scalar.subi v654 c0_i32_229
  let c1_i32_230 : BitVec 32 := 1#32
  let v657 : BitVec 32 := Scalar.divsi v655 c1_i32_230
  let v658 : BitVec 32 := Scalar.muli v657 c1_i32_230
  let v659 : BitVec 32 := Scalar.addi c0_i32_229 v658
  let c1_i32_231 : BitVec 32 := 1#32
  ⟨c0_i32_229, v659, c1_i32_231⟩
def k1_cond7 (v649 : BitVec 32) : BitVec 1 :=
  let c64_i32_227 : BitVec 32 := 64#32
  let v650 : BitVec 1 := Scalar.cmpi .slt v649 c64_i32_227
  let v651 : BitVec 32 := Scalar.extui v650
  let c0_i32_228 : BitVec 32 := 0#32
  let v652 : BitVec 1 := Scalar.cmpi .ne v651 c0_i32_228
  v652

def k1_chk24 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v673, v674] : Fin 2 → IVec S16 32) a x).toNat < S64x64.size a)
theorem k1_idx20_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) (k1_hw24 : k1_chk24 v132 v146 v151 v153 v160 v162 v212 v289 v300 v308 v310 v319 v321 v331 v333 v343 v345 v373 v392 v411 v430 v649 v673 v674), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v673, v674] : Fin 2 → IVec S16 32) a x).toNat < S64x64.size a := fun v132 v146 v151 v153 v160 v162 v212 v289 v300 v308 v310 v319 v321 v331 v333 v343 v345 v373 v392 v411 v430 v649 v673 v674 k1_hw24 k1_h1 k1_h2 k1_h3 k1_h4 k1_h5 k1_h6 k1_h7 => k1_hw24 k1_h1 k1_h2 k1_h3 k1_h4 k1_h5 k1_h6 k1_h7

def k1_chk25 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v678, v679] : Fin 2 → IVec S16 32) a x).toNat < S64x64.size a)
theorem k1_idx21_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) (k1_hw25 : k1_chk25 v132 v146 v151 v153 v160 v162 v212 v289 v300 v308 v310 v319 v321 v331 v333 v343 v345 v373 v392 v411 v430 v649 v678 v679), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v678, v679] : Fin 2 → IVec S16 32) a x).toNat < S64x64.size a := fun v132 v146 v151 v153 v160 v162 v212 v289 v300 v308 v310 v319 v321 v331 v333 v343 v345 v373 v392 v411 v430 v649 v678 v679 k1_hw25 k1_h1 k1_h2 k1_h3 k1_h4 k1_h5 k1_h6 k1_h7 => k1_hw25 k1_h1 k1_h2 k1_h3 k1_h4 k1_h5 k1_h6 k1_h7

def k1_chk26 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v682, v683] : Fin 2 → IVec S16 32) a x).toNat < S64x64.size a)
theorem k1_idx22_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) (k1_hw26 : k1_chk26 v132 v146 v151 v153 v160 v162 v212 v289 v300 v308 v310 v319 v321 v331 v333 v343 v345 v373 v392 v411 v430 v649 v682 v683), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v682, v683] : Fin 2 → IVec S16 32) a x).toNat < S64x64.size a := fun v132 v146 v151 v153 v160 v162 v212 v289 v300 v308 v310 v319 v321 v331 v333 v343 v345 v373 v392 v411 v430 v649 v682 v683 k1_hw26 k1_h1 k1_h2 k1_h3 k1_h4 k1_h5 k1_h6 k1_h7 => k1_hw26 k1_h1 k1_h2 k1_h3 k1_h4 k1_h5 k1_h6 k1_h7

def k1_chk27 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v687, v688] : Fin 2 → IVec S16 32) a x).toNat < S64x64.size a)
theorem k1_idx23_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) (k1_hw27 : k1_chk27 v132 v146 v151 v153 v160 v162 v212 v289 v300 v308 v310 v319 v321 v331 v333 v343 v345 v373 v392 v411 v430 v649 v687 v688), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v687, v688] : Fin 2 → IVec S16 32) a x).toNat < S64x64.size a := fun v132 v146 v151 v153 v160 v162 v212 v289 v300 v308 v310 v319 v321 v331 v333 v343 v345 v373 v392 v411 v430 v649 v687 v688 k1_hw27 k1_h1 k1_h2 k1_h3 k1_h4 k1_h5 k1_h6 k1_h7 => k1_hw27 k1_h1 k1_h2 k1_h3 k1_h4 k1_h5 k1_h6 k1_h7
@[reducible] def k1_t13_loop (v354 : BitVec 32) (v649 : BitVec 32) : Scf.Loop 32 :=
  let c0_i32_229 : BitVec 32 := 0#32
  let c63_i32 : BitVec 32 := 63#32
  let v653 : BitVec 32 := Scalar.minsi v354 c63_i32
  let v654 : BitVec 32 := Scalar.subi v653 v649
  let v655 : BitVec 32 := Scalar.subi v654 c0_i32_229
  let c1_i32_230 : BitVec 32 := 1#32
  let v657 : BitVec 32 := Scalar.divsi v655 c1_i32_230
  let v658 : BitVec 32 := Scalar.muli v657 c1_i32_230
  let v659 : BitVec 32 := Scalar.addi c0_i32_229 v658
  let v656 : BitVec 32 := Scalar.addi c0_i32_229 v655
  let c1_i32_232 : BitVec 32 := 1#32
  ⟨v659, v656, c1_i32_232⟩

def k1_chk23 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), (k1_t12_loop v354 v649).OK) ∧
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), (k1_t13_loop v354 v649).OK)
theorem k1_t12_ok : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) (k1_hw23 : k1_chk23 v132 v146 v151 v153 v160 v162 v212 v289 v300 v308 v310 v319 v321 v331 v333 v343 v345 v354 v373 v392 v411 v430 v649), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), (k1_t12_loop v354 v649).OK := fun v132 v146 v151 v153 v160 v162 v212 v289 v300 v308 v310 v319 v321 v331 v333 v343 v345 v354 v373 v392 v411 v430 v649 k1_hw23 k1_h1 k1_h2 k1_h3 k1_h4 k1_h5 k1_h6 k1_h7 => k1_hw23.1 k1_h1 k1_h2 k1_h3 k1_h4 k1_h5 k1_h6 k1_h7
theorem k1_t13_ok : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) (k1_hw23 : k1_chk23 v132 v146 v151 v153 v160 v162 v212 v289 v300 v308 v310 v319 v321 v331 v333 v343 v345 v354 v373 v392 v411 v430 v649), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), (k1_t13_loop v354 v649).OK := fun v132 v146 v151 v153 v160 v162 v212 v289 v300 v308 v310 v319 v321 v331 v333 v343 v345 v354 v373 v392 v411 v430 v649 k1_hw23 k1_h1 k1_h2 k1_h3 k1_h4 k1_h5 k1_h6 k1_h7 => k1_hw23.2 k1_h1 k1_h2 k1_h3 k1_h4 k1_h5 k1_h6 k1_h7

def k1_chk28 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v673, v674] : Fin 2 → IVec S16 32) a x).toNat < S64x64.size a)
theorem k1_idx24_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) (k1_hw28 : k1_chk28 v132 v146 v151 v153 v160 v162 v212 v289 v300 v308 v310 v319 v321 v331 v333 v343 v345 v373 v392 v411 v430 v649 v673 v674), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v673, v674] : Fin 2 → IVec S16 32) a x).toNat < S64x64.size a := fun v132 v146 v151 v153 v160 v162 v212 v289 v300 v308 v310 v319 v321 v331 v333 v343 v345 v373 v392 v411 v430 v649 v673 v674 k1_hw28 k1_h1 k1_h2 k1_h3 k1_h4 k1_h5 k1_h6 k1_h7 => k1_hw28 k1_h1 k1_h2 k1_h3 k1_h4 k1_h5 k1_h6 k1_h7

def k1_chk29 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v678, v679] : Fin 2 → IVec S16 32) a x).toNat < S64x64.size a)
theorem k1_idx25_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) (k1_hw29 : k1_chk29 v132 v146 v151 v153 v160 v162 v212 v289 v300 v308 v310 v319 v321 v331 v333 v343 v345 v373 v392 v411 v430 v649 v678 v679), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v678, v679] : Fin 2 → IVec S16 32) a x).toNat < S64x64.size a := fun v132 v146 v151 v153 v160 v162 v212 v289 v300 v308 v310 v319 v321 v331 v333 v343 v345 v373 v392 v411 v430 v649 v678 v679 k1_hw29 k1_h1 k1_h2 k1_h3 k1_h4 k1_h5 k1_h6 k1_h7 => k1_hw29 k1_h1 k1_h2 k1_h3 k1_h4 k1_h5 k1_h6 k1_h7

def k1_chk30 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v682, v683] : Fin 2 → IVec S16 32) a x).toNat < S64x64.size a)
theorem k1_idx26_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) (k1_hw30 : k1_chk30 v132 v146 v151 v153 v160 v162 v212 v289 v300 v308 v310 v319 v321 v331 v333 v343 v345 v373 v392 v411 v430 v649 v682 v683), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v682, v683] : Fin 2 → IVec S16 32) a x).toNat < S64x64.size a := fun v132 v146 v151 v153 v160 v162 v212 v289 v300 v308 v310 v319 v321 v331 v333 v343 v345 v373 v392 v411 v430 v649 v682 v683 k1_hw30 k1_h1 k1_h2 k1_h3 k1_h4 k1_h5 k1_h6 k1_h7 => k1_hw30 k1_h1 k1_h2 k1_h3 k1_h4 k1_h5 k1_h6 k1_h7

def k1_chk31 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v687, v688] : Fin 2 → IVec S16 32) a x).toNat < S64x64.size a)
theorem k1_idx27_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) (k1_hw31 : k1_chk31 v132 v146 v151 v153 v160 v162 v212 v289 v300 v308 v310 v319 v321 v331 v333 v343 v345 v373 v392 v411 v430 v649 v687 v688), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v687, v688] : Fin 2 → IVec S16 32) a x).toNat < S64x64.size a := fun v132 v146 v151 v153 v160 v162 v212 v289 v300 v308 v310 v319 v321 v331 v333 v343 v345 v373 v392 v411 v430 v649 v687 v688 k1_hw31 k1_h1 k1_h2 k1_h3 k1_h4 k1_h5 k1_h6 k1_h7 => k1_hw31 k1_h1 k1_h2 k1_h3 k1_h4 k1_h5 k1_h6 k1_h7

def k1_chk32 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v662 : IVec S16 32) (v663 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v662, v663] : Fin 2 → IVec S16 32) a x).toNat < S64x64.size a)
theorem k1_idx28_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v662 : IVec S16 32) (v663 : IVec S16 32) (k1_hw32 : k1_chk32 v132 v146 v151 v153 v160 v162 v212 v289 v300 v308 v310 v319 v321 v331 v333 v343 v345 v373 v392 v411 v430 v649 v662 v663), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v662, v663] : Fin 2 → IVec S16 32) a x).toNat < S64x64.size a := fun v132 v146 v151 v153 v160 v162 v212 v289 v300 v308 v310 v319 v321 v331 v333 v343 v345 v373 v392 v411 v430 v649 v662 v663 k1_hw32 k1_h1 k1_h2 k1_h3 k1_h4 k1_h5 k1_h6 k1_h7 => k1_hw32 k1_h1 k1_h2 k1_h3 k1_h4 k1_h5 k1_h6 k1_h7

def k1_chk33 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v665 : IVec S16 32) (v666 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v665, v666] : Fin 2 → IVec S16 32) a x).toNat < S64x64.size a)
theorem k1_idx29_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v665 : IVec S16 32) (v666 : IVec S16 32) (k1_hw33 : k1_chk33 v132 v146 v151 v153 v160 v162 v212 v289 v300 v308 v310 v319 v321 v331 v333 v343 v345 v373 v392 v411 v430 v649 v665 v666), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v665, v666] : Fin 2 → IVec S16 32) a x).toNat < S64x64.size a := fun v132 v146 v151 v153 v160 v162 v212 v289 v300 v308 v310 v319 v321 v331 v333 v343 v345 v373 v392 v411 v430 v649 v665 v666 k1_hw33 k1_h1 k1_h2 k1_h3 k1_h4 k1_h5 k1_h6 k1_h7 => k1_hw33 k1_h1 k1_h2 k1_h3 k1_h4 k1_h5 k1_h6 k1_h7

def k1_chk34 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v670 : IVec S16 32) : Prop :=
  (∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v670] : Fin 1 → IVec S16 32) a x).toNat < S64.size a)
theorem k1_idx30_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v670 : IVec S16 32) (k1_hw34 : k1_chk34 v132 v146 v151 v153 v160 v162 v212 v289 v300 v308 v310 v319 v321 v331 v333 v343 v345 v373 v392 v411 v430 v649 v670), ∀ (k1_h1 : k1_cond1 v132 = 1#1), ∀ (k1_h2 : k1_cond2 v151 v153 v160 v162 = 1#1), ∀ (k1_h3 : k1_cond3 v212 = 1#1), ∀ (k1_h4 : k1_cond4 v289 = 1#1), ∀ (k1_h5 : k1_cond5 v146 v300 v308 v310 v319 v321 v331 v333 v343 v345 = 1#1), ∀ (k1_h6 : k1_cond6 v373 v392 v411 v430 = 1#1), ∀ (k1_h7 : k1_cond7 v649 = 1#1), ∀ a x, ((![v670] : Fin 1 → IVec S16 32) a x).toNat < S64.size a := fun v132 v146 v151 v153 v160 v162 v212 v289 v300 v308 v310 v319 v321 v331 v333 v343 v345 v373 v392 v411 v430 v649 v670 k1_hw34 k1_h1 k1_h2 k1_h3 k1_h4 k1_h5 k1_h6 k1_h7 => k1_hw34 k1_h1 k1_h2 k1_h3 k1_h4 k1_h5 k1_h6 k1_h7
@[reducible] def k1_t14_loop : Scf.Loop 32 :=
  let c0_i32_51 : BitVec 32 := 0#32
  let c64_i32_52 : BitVec 32 := 64#32
  let v73 : BitVec 32 := Scalar.addi c0_i32_51 c64_i32_52
  let c1_i32_53 : BitVec 32 := 1#32
  ⟨c0_i32_51, v73, c1_i32_53⟩

def k1_chk35 (v104 : IVec S16 32) : Prop :=
  (∀ a x, ((![v104] : Fin 1 → IVec S16 32) a x).toNat < S64.size a)
theorem k1_idx31_inb : ∀ (v104 : IVec S16 32) (k1_hw35 : k1_chk35 v104), ∀ a x, ((![v104] : Fin 1 → IVec S16 32) a x).toNat < S64.size a := fun v104 k1_hw35 => k1_hw35
def k1_off19 (k1_t14 : Fin k1_t14_loop.trips) : Fin 2 → Nat :=
  let c0_i32_86 : BitVec 32 := 0#32
  let c0_i32_51 : BitVec 32 := 0#32
  let c1_i32_53 : BitVec 32 := 1#32
  let arg23 : BitVec 32 := Scf.iv c0_i32_51 c1_i32_53 k1_t14
  let c1_i32_85 : BitVec 32 := 1#32
  let v102 : BitVec 32 := Scalar.muli arg23 c1_i32_85
  let v103 : BitVec 32 := Scalar.addi c0_i32_86 v102
  let v109 : Index := Scalar.indexCast v103
  let c0_87 : Index := 0#32
  ![v109.toNat, 0]
def k1_off20 (k1_t14 : Fin k1_t14_loop.trips) : Fin 2 → Nat :=
  let c0_i32_86 : BitVec 32 := 0#32
  let c0_i32_51 : BitVec 32 := 0#32
  let c1_i32_53 : BitVec 32 := 1#32
  let arg23 : BitVec 32 := Scf.iv c0_i32_51 c1_i32_53 k1_t14
  let c1_i32_85 : BitVec 32 := 1#32
  let v102 : BitVec 32 := Scalar.muli arg23 c1_i32_85
  let v103 : BitVec 32 := Scalar.addi c0_i32_86 v102
  let v123 : Index := Scalar.indexCast v103
  let c16_91 : Index := 16#32
  ![v123.toNat, 16]
def k1_off21 (k1_t14 : Fin k1_t14_loop.trips) : Fin 2 → Nat :=
  let c0_i32_86 : BitVec 32 := 0#32
  let c0_i32_51 : BitVec 32 := 0#32
  let c1_i32_53 : BitVec 32 := 1#32
  let arg23 : BitVec 32 := Scf.iv c0_i32_51 c1_i32_53 k1_t14
  let c1_i32_85 : BitVec 32 := 1#32
  let v102 : BitVec 32 := Scalar.muli arg23 c1_i32_85
  let v103 : BitVec 32 := Scalar.addi c0_i32_86 v102
  let v137 : Index := Scalar.indexCast v103
  let c32_96 : Index := 32#32
  ![v137.toNat, 32]
def k1_off22 (k1_t14 : Fin k1_t14_loop.trips) : Fin 2 → Nat :=
  let c0_i32_86 : BitVec 32 := 0#32
  let c0_i32_51 : BitVec 32 := 0#32
  let c1_i32_53 : BitVec 32 := 1#32
  let arg23 : BitVec 32 := Scf.iv c0_i32_51 c1_i32_53 k1_t14
  let c1_i32_85 : BitVec 32 := 1#32
  let v102 : BitVec 32 := Scalar.muli arg23 c1_i32_85
  let v103 : BitVec 32 := Scalar.addi c0_i32_86 v102
  let v151 : Index := Scalar.indexCast v103
  let c48_101 : Index := 48#32
  ![v151.toNat, 48]
def k1_off23 (i : grid1.Coords) : Fin 3 → Nat :=
  let c0_i32_55 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_56 : BitVec 32 := 0#32
  ![0, v2.toNat, 0]
@[reducible] def k1_t15_loop : Scf.Loop 32 :=
  let c0_i32_68 : BitVec 32 := 0#32
  let c2_i32_69 : BitVec 32 := 2#32
  let v86 : BitVec 32 := Scalar.addi c0_i32_68 c2_i32_69
  let c1_i32_70 : BitVec 32 := 1#32
  ⟨c0_i32_68, v86, c1_i32_70⟩
@[reducible] def k1_t16_loop : Scf.Loop 32 :=
  let c0_i32_85 : BitVec 32 := 0#32
  let c128_i32_86 : BitVec 32 := 128#32
  let v104 : BitVec 32 := Scalar.addi c0_i32_85 c128_i32_86
  let c1_i32_87 : BitVec 32 := 1#32
  ⟨c0_i32_85, v104, c1_i32_87⟩
def k1_off24 (k1_t15 : Fin k1_t15_loop.trips) (k1_t16 : Fin k1_t16_loop.trips) : Fin 2 → Nat :=
  let c0_i32_68 : BitVec 32 := 0#32
  let c1_i32_70 : BitVec 32 := 1#32
  let arg23 : BitVec 32 := Scf.iv c0_i32_68 c1_i32_70 k1_t15
  let v109 : Index := Scalar.indexCast arg23
  let c0_i32_94 : BitVec 32 := 0#32
  let c0_i32_85 : BitVec 32 := 0#32
  let c1_i32_87 : BitVec 32 := 1#32
  let arg25 : BitVec 32 := Scf.iv c0_i32_85 c1_i32_87 k1_t16
  let c16_i32 : BitVec 32 := 16#32
  let v107 : BitVec 32 := Scalar.muli arg25 c16_i32
  let v108 : BitVec 32 := Scalar.addi c0_i32_94 v107
  let v110 : Index := Scalar.indexCast v108
  ![v109.toNat, v110.toNat]

def k1_chk36 (v113 : IVec S16 32) : Prop :=
  (∀ a x, ((![v113] : Fin 1 → IVec S16 32) a x).toNat < S32768.size a)
theorem k1_idx32_inb : ∀ (v113 : IVec S16 32) (k1_hw36 : k1_chk36 v113), ∀ a x, ((![v113] : Fin 1 → IVec S16 32) a x).toNat < S32768.size a := fun v113 k1_hw36 => k1_hw36

def k1_chk37 (v117 : IVec S16 32) : Prop :=
  (∀ a x, ((![v117] : Fin 1 → IVec S16 32) a x).toNat < S16384.size a)
theorem k1_idx33_inb : ∀ (v117 : IVec S16 32) (k1_hw37 : k1_chk37 v117), ∀ a x, ((![v117] : Fin 1 → IVec S16 32) a x).toNat < S16384.size a := fun v117 k1_hw37 => k1_hw37
@[reducible] def k1_t17_loop : Scf.Loop 32 :=
  let c0_i32_90 : BitVec 32 := 0#32
  let c4_i32 : BitVec 32 := 4#32
  let v105 : BitVec 32 := Scalar.addi c0_i32_90 c4_i32
  let c1_i32_91 : BitVec 32 := 1#32
  ⟨c0_i32_90, v105, c1_i32_91⟩
def k1_off25 (i : grid1.Coords) (k1_t15 : Fin k1_t15_loop.trips) (k1_t17 : Fin k1_t17_loop.trips) : Fin 2 → Nat :=
  let c8_i32_94 : BitVec 32 := 8#32
  let c0_i32_68 : BitVec 32 := 0#32
  let c1_i32_70 : BitVec 32 := 1#32
  let arg23 : BitVec 32 := Scf.iv c0_i32_68 c1_i32_70 k1_t15
  let v107 : BitVec 32 := Scalar.addi c8_i32_94 arg23
  let v110 : Index := Scalar.indexCast v107
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c64_i32_11 : BitVec 32 := 64#32
  let v31 : BitVec 32 := Scalar.muli v30 c64_i32_11
  let c0_i32_90 : BitVec 32 := 0#32
  let c1_i32_91 : BitVec 32 := 1#32
  let arg25 : BitVec 32 := Scf.iv c0_i32_90 c1_i32_91 k1_t17
  let c16_i32 : BitVec 32 := 16#32
  let v108 : BitVec 32 := Scalar.muli arg25 c16_i32
  let v109 : BitVec 32 := Scalar.addi v31 v108
  let v111 : Index := Scalar.indexCast v109
  ![v110.toNat, v111.toNat]

def k1_chk38 (v114 : IVec S16 32) : Prop :=
  (∀ a x, ((![v114] : Fin 1 → IVec S16 32) a x).toNat < S32768.size a)
theorem k1_idx34_inb : ∀ (v114 : IVec S16 32) (k1_hw38 : k1_chk38 v114), ∀ a x, ((![v114] : Fin 1 → IVec S16 32) a x).toNat < S32768.size a := fun v114 k1_hw38 => k1_hw38

def k1_chk39 (v119 : IVec S16 32) : Prop :=
  (∀ a x, ((![v119] : Fin 1 → IVec S16 32) a x).toNat < S16384.size a)
theorem k1_idx35_inb : ∀ (v119 : IVec S16 32) (k1_hw39 : k1_chk39 v119), ∀ a x, ((![v119] : Fin 1 → IVec S16 32) a x).toNat < S16384.size a := fun v119 k1_hw39 => k1_hw39
@[reducible] def k1_t18_loop : Scf.Loop 32 :=
  let c0_i32_101 : BitVec 32 := 0#32
  let c16_i32_102 : BitVec 32 := 16#32
  let v136 : BitVec 32 := Scalar.addi c0_i32_101 c16_i32_102
  let c1_i32_103 : BitVec 32 := 1#32
  ⟨c0_i32_101, v136, c1_i32_103⟩
def k1_cond8 (v132 : BitVec 32) : BitVec 1 :=
  let c0_i32_97 : BitVec 32 := 0#32
  let v133 : BitVec 1 := Scalar.cmpi .sgt v132 c0_i32_97
  let v134 : BitVec 32 := Scalar.extui v133
  let c0_i32_98 : BitVec 32 := 0#32
  let v135 : BitVec 1 := Scalar.cmpi .ne v134 c0_i32_98
  v135

def k1_chk40 (v132 : BitVec 32) (v142 : IVec S16 32) (v143 : IVec S16 32) : Prop :=
  (∀ (k1_h8 : k1_cond8 v132 = 1#1), ∀ a x, ((![v142, v143] : Fin 2 → IVec S16 32) a x).toNat < S10x128.size a)
theorem k1_idx36_inb : ∀ (v132 : BitVec 32) (v142 : IVec S16 32) (v143 : IVec S16 32) (k1_hw40 : k1_chk40 v132 v142 v143), ∀ (k1_h8 : k1_cond8 v132 = 1#1), ∀ a x, ((![v142, v143] : Fin 2 → IVec S16 32) a x).toNat < S10x128.size a := fun v132 v142 v143 k1_hw40 k1_h8 => k1_hw40 k1_h8

def k1_chk41 (v132 : BitVec 32) (v148 : IVec S16 32) : Prop :=
  (∀ (k1_h8 : k1_cond8 v132 = 1#1), ∀ a x, ((![v148] : Fin 1 → IVec S16 32) a x).toNat < S32768.size a)
theorem k1_idx37_inb : ∀ (v132 : BitVec 32) (v148 : IVec S16 32) (k1_hw41 : k1_chk41 v132 v148), ∀ (k1_h8 : k1_cond8 v132 = 1#1), ∀ a x, ((![v148] : Fin 1 → IVec S16 32) a x).toNat < S32768.size a := fun v132 v148 k1_hw41 k1_h8 => k1_hw41 k1_h8

def k1_chk42 (v132 : BitVec 32) (v157 : IVec S16 32) : Prop :=
  (∀ (k1_h8 : k1_cond8 v132 = 1#1), ∀ a x, ((![v157] : Fin 1 → IVec S16 32) a x).toNat < S16384.size a)
theorem k1_idx38_inb : ∀ (v132 : BitVec 32) (v157 : IVec S16 32) (k1_hw42 : k1_chk42 v132 v157), ∀ (k1_h8 : k1_cond8 v132 = 1#1), ∀ a x, ((![v157] : Fin 1 → IVec S16 32) a x).toNat < S16384.size a := fun v132 v157 k1_hw42 k1_h8 => k1_hw42 k1_h8
def k1_cond9 (v151 : BitVec 32) (v153 : BitVec 32) (v160 : BitVec 32) (v162 : BitVec 32) : BitVec 1 :=
  let v154 : BitVec 1 := Scalar.cmpi .eq v151 v153
  let v163 : BitVec 1 := Scalar.cmpi .eq v160 v162
  let v164 : BitVec 1 := Scalar.andi v154 v163
  let v165 : BitVec 32 := Scalar.extui v164
  let c0_i32_110 : BitVec 32 := 0#32
  let v166 : BitVec 1 := Scalar.cmpi .ne v165 c0_i32_110
  v166

def k1_chk43 (v132 : BitVec 32) (v151 : BitVec 32) (v153 : BitVec 32) (v160 : BitVec 32) (v162 : BitVec 32) (v171 : IVec S16 32) (v172 : IVec S16 32) : Prop :=
  (∀ (k1_h8 : k1_cond8 v132 = 1#1), ∀ (k1_h9 : k1_cond9 v151 v153 v160 v162 = 1#1), ∀ a x, ((![v171, v172] : Fin 2 → IVec S16 32) a x).toNat < S10x128.size a)
theorem k1_idx39_inb : ∀ (v132 : BitVec 32) (v151 : BitVec 32) (v153 : BitVec 32) (v160 : BitVec 32) (v162 : BitVec 32) (v171 : IVec S16 32) (v172 : IVec S16 32) (k1_hw43 : k1_chk43 v132 v151 v153 v160 v162 v171 v172), ∀ (k1_h8 : k1_cond8 v132 = 1#1), ∀ (k1_h9 : k1_cond9 v151 v153 v160 v162 = 1#1), ∀ a x, ((![v171, v172] : Fin 2 → IVec S16 32) a x).toNat < S10x128.size a := fun v132 v151 v153 v160 v162 v171 v172 k1_hw43 k1_h8 k1_h9 => k1_hw43 k1_h8 k1_h9

def k1_chk44 (v132 : BitVec 32) (v151 : BitVec 32) (v153 : BitVec 32) (v160 : BitVec 32) (v162 : BitVec 32) (v180 : IVec S16 32) (v181 : IVec S16 32) : Prop :=
  (∀ (k1_h8 : k1_cond8 v132 = 1#1), ∀ (k1_h9 : k1_cond9 v151 v153 v160 v162 = 1#1), ∀ a x, ((![v180, v181] : Fin 2 → IVec S16 32) a x).toNat < S10x128.size a)
theorem k1_idx40_inb : ∀ (v132 : BitVec 32) (v151 : BitVec 32) (v153 : BitVec 32) (v160 : BitVec 32) (v162 : BitVec 32) (v180 : IVec S16 32) (v181 : IVec S16 32) (k1_hw44 : k1_chk44 v132 v151 v153 v160 v162 v180 v181), ∀ (k1_h8 : k1_cond8 v132 = 1#1), ∀ (k1_h9 : k1_cond9 v151 v153 v160 v162 = 1#1), ∀ a x, ((![v180, v181] : Fin 2 → IVec S16 32) a x).toNat < S10x128.size a := fun v132 v151 v153 v160 v162 v180 v181 k1_hw44 k1_h8 k1_h9 => k1_hw44 k1_h8 k1_h9

def k1_chk45 (v132 : BitVec 32) (v151 : BitVec 32) (v153 : BitVec 32) (v160 : BitVec 32) (v162 : BitVec 32) (v189 : IVec S16 32) (v190 : IVec S16 32) : Prop :=
  (∀ (k1_h8 : k1_cond8 v132 = 1#1), ∀ (k1_h9 : k1_cond9 v151 v153 v160 v162 = 1#1), ∀ a x, ((![v189, v190] : Fin 2 → IVec S16 32) a x).toNat < S10x128.size a)
theorem k1_idx41_inb : ∀ (v132 : BitVec 32) (v151 : BitVec 32) (v153 : BitVec 32) (v160 : BitVec 32) (v162 : BitVec 32) (v189 : IVec S16 32) (v190 : IVec S16 32) (k1_hw45 : k1_chk45 v132 v151 v153 v160 v162 v189 v190), ∀ (k1_h8 : k1_cond8 v132 = 1#1), ∀ (k1_h9 : k1_cond9 v151 v153 v160 v162 = 1#1), ∀ a x, ((![v189, v190] : Fin 2 → IVec S16 32) a x).toNat < S10x128.size a := fun v132 v151 v153 v160 v162 v189 v190 k1_hw45 k1_h8 k1_h9 => k1_hw45 k1_h8 k1_h9

def k1_chk46 (v132 : BitVec 32) (v151 : BitVec 32) (v153 : BitVec 32) (v160 : BitVec 32) (v162 : BitVec 32) (v198 : IVec S16 32) (v199 : IVec S16 32) : Prop :=
  (∀ (k1_h8 : k1_cond8 v132 = 1#1), ∀ (k1_h9 : k1_cond9 v151 v153 v160 v162 = 1#1), ∀ a x, ((![v198, v199] : Fin 2 → IVec S16 32) a x).toNat < S10x128.size a)
theorem k1_idx42_inb : ∀ (v132 : BitVec 32) (v151 : BitVec 32) (v153 : BitVec 32) (v160 : BitVec 32) (v162 : BitVec 32) (v198 : IVec S16 32) (v199 : IVec S16 32) (k1_hw46 : k1_chk46 v132 v151 v153 v160 v162 v198 v199), ∀ (k1_h8 : k1_cond8 v132 = 1#1), ∀ (k1_h9 : k1_cond9 v151 v153 v160 v162 = 1#1), ∀ a x, ((![v198, v199] : Fin 2 → IVec S16 32) a x).toNat < S10x128.size a := fun v132 v151 v153 v160 v162 v198 v199 k1_hw46 k1_h8 k1_h9 => k1_hw46 k1_h8 k1_h9
@[reducible] def k1_t19_loop : Scf.Loop 32 :=
  let c0_i32_121 : BitVec 32 := 0#32
  let c128_i32_122 : BitVec 32 := 128#32
  let v204 : BitVec 32 := Scalar.addi c0_i32_121 c128_i32_122
  let c1_i32_123 : BitVec 32 := 1#32
  ⟨c0_i32_121, v204, c1_i32_123⟩
@[reducible] def k1_t20_loop (arg30 : BitVec 32) : Scf.Loop 32 :=
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let c1_i32_128 : BitVec 32 := 1#32
  ⟨arg30, v210, c1_i32_128⟩

def k1_off26 (k1_t15 : Fin k1_t15_loop.trips) (arg30 : BitVec 32) (k1_t20 : Fin (k1_t20_loop arg30).trips) : Fin 2 → Nat :=
  let c0_i32_68 : BitVec 32 := 0#32
  let c1_i32_70 : BitVec 32 := 1#32
  let arg23 : BitVec 32 := Scf.iv c0_i32_68 c1_i32_70 k1_t15
  let v220 : Index := Scalar.indexCast arg23
  let c1_i32_128 : BitVec 32 := 1#32
  let arg31 : BitVec 32 := Scf.iv arg30 c1_i32_128 k1_t20
  let c16_i32_135 : BitVec 32 := 16#32
  let v219 : BitVec 32 := Scalar.muli arg31 c16_i32_135
  let v221 : Index := Scalar.indexCast v219
  ![v220.toNat, v221.toNat]
@[reducible] def k1_t21_loop (arg30 : BitVec 32) : Scf.Loop 32 :=
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let v207 : BitVec 32 := Scalar.addi arg30 v206
  let c1_i32_129 : BitVec 32 := 1#32
  ⟨v210, v207, c1_i32_129⟩
def k1_off27 (k1_t15 : Fin k1_t15_loop.trips) (arg30 : BitVec 32) (k1_t21 : Fin (k1_t21_loop arg30).trips) : Fin 2 → Nat :=
  let c0_i32_68 : BitVec 32 := 0#32
  let c1_i32_70 : BitVec 32 := 1#32
  let arg23 : BitVec 32 := Scf.iv c0_i32_68 c1_i32_70 k1_t15
  let v220 : Index := Scalar.indexCast arg23
  let c128_i32_125 : BitVec 32 := 128#32
  let v206 : BitVec 32 := Scalar.subi c128_i32_125 arg30
  let c1_i32_127 : BitVec 32 := 1#32
  let v208 : BitVec 32 := Scalar.divsi v206 c1_i32_127
  let v209 : BitVec 32 := Scalar.muli v208 c1_i32_127
  let v210 : BitVec 32 := Scalar.addi arg30 v209
  let c1_i32_129 : BitVec 32 := 1#32
  let arg31 : BitVec 32 := Scf.iv v210 c1_i32_129 k1_t21
  let c16_i32_135 : BitVec 32 := 16#32
  let v219 : BitVec 32 := Scalar.muli arg31 c16_i32_135
  let v221 : Index := Scalar.indexCast v219
  ![v220.toNat, v221.toNat]

def k1_chk47 (k1_t15 : Fin k1_t15_loop.trips) (v132 : BitVec 32) (v151 : BitVec 32) (v153 : BitVec 32) (v160 : BitVec 32) (v162 : BitVec 32) (arg30 : BitVec 32) : Prop :=
  (∀ (k1_h8 : k1_cond8 v132 = 1#1), ∀ (k1_h9 : k1_cond9 v151 v153 v160 v162 = 1#1), (k1_t20_loop arg30).OK) ∧
  (∀ k1_t20 : Fin (k1_t20_loop arg30).trips, ∀ (k1_h8 : k1_cond8 v132 = 1#1), ∀ (k1_h9 : k1_cond9 v151 v153 v160 v162 = 1#1), ∀ a, (k1_off26 k1_t15 arg30 k1_t20) a + S1x16.size a ≤ S2x2048.size a) ∧
  (∀ (k1_h8 : k1_cond8 v132 = 1#1), ∀ (k1_h9 : k1_cond9 v151 v153 v160 v162 = 1#1), (k1_t21_loop arg30).OK) ∧
  (∀ k1_t21 : Fin (k1_t21_loop arg30).trips, ∀ (k1_h8 : k1_cond8 v132 = 1#1), ∀ (k1_h9 : k1_cond9 v151 v153 v160 v162 = 1#1), ∀ a, (k1_off27 k1_t15 arg30 k1_t21) a + S1x16.size a ≤ S2x2048.size a)
theorem k1_t20_ok : ∀ (k1_t15 : Fin k1_t15_loop.trips) (v132 : BitVec 32) (v151 : BitVec 32) (v153 : BitVec 32) (v160 : BitVec 32) (v162 : BitVec 32) (arg30 : BitVec 32) (k1_hw47 : k1_chk47 k1_t15 v132 v151 v153 v160 v162 arg30), ∀ (k1_h8 : k1_cond8 v132 = 1#1), ∀ (k1_h9 : k1_cond9 v151 v153 v160 v162 = 1#1), (k1_t20_loop arg30).OK := fun k1_t15 v132 v151 v153 v160 v162 arg30 k1_hw47 k1_h8 k1_h9 => k1_hw47.1 k1_h8 k1_h9
theorem k1_off26_inb : ∀ (k1_t15 : Fin k1_t15_loop.trips) (v132 : BitVec 32) (v151 : BitVec 32) (v153 : BitVec 32) (v160 : BitVec 32) (v162 : BitVec 32) (arg30 : BitVec 32) (k1_hw47 : k1_chk47 k1_t15 v132 v151 v153 v160 v162 arg30) (k1_t20 : Fin (k1_t20_loop arg30).trips), ∀ (k1_h8 : k1_cond8 v132 = 1#1), ∀ (k1_h9 : k1_cond9 v151 v153 v160 v162 = 1#1), ∀ a, (k1_off26 k1_t15 arg30 k1_t20) a + S1x16.size a ≤ S2x2048.size a := fun k1_t15 v132 v151 v153 v160 v162 arg30 k1_hw47 k1_t20 k1_h8 k1_h9 => k1_hw47.2.1 k1_t20 k1_h8 k1_h9
theorem k1_t21_ok : ∀ (k1_t15 : Fin k1_t15_loop.trips) (v132 : BitVec 32) (v151 : BitVec 32) (v153 : BitVec 32) (v160 : BitVec 32) (v162 : BitVec 32) (arg30 : BitVec 32) (k1_hw47 : k1_chk47 k1_t15 v132 v151 v153 v160 v162 arg30), ∀ (k1_h8 : k1_cond8 v132 = 1#1), ∀ (k1_h9 : k1_cond9 v151 v153 v160 v162 = 1#1), (k1_t21_loop arg30).OK := fun k1_t15 v132 v151 v153 v160 v162 arg30 k1_hw47 k1_h8 k1_h9 => k1_hw47.2.2.1 k1_h8 k1_h9
theorem k1_off27_inb : ∀ (k1_t15 : Fin k1_t15_loop.trips) (v132 : BitVec 32) (v151 : BitVec 32) (v153 : BitVec 32) (v160 : BitVec 32) (v162 : BitVec 32) (arg30 : BitVec 32) (k1_hw47 : k1_chk47 k1_t15 v132 v151 v153 v160 v162 arg30) (k1_t21 : Fin (k1_t21_loop arg30).trips), ∀ (k1_h8 : k1_cond8 v132 = 1#1), ∀ (k1_h9 : k1_cond9 v151 v153 v160 v162 = 1#1), ∀ a, (k1_off27 k1_t15 arg30 k1_t21) a + S1x16.size a ≤ S2x2048.size a := fun k1_t15 v132 v151 v153 v160 v162 arg30 k1_hw47 k1_t21 k1_h8 k1_h9 => k1_hw47.2.2.2 k1_t21 k1_h8 k1_h9

def k1_mult2 (v212 : BitVec 32) : BitVec 32 :=
  let c0_i32_137 : BitVec 32 := 0#32
  let v221 : BitVec 1 := Scalar.cmpi .sgt v212 c0_i32_137
  let v222 : BitVec 32 := Scalar.extui v221
  let c0_i32_138 : BitVec 32 := 0#32
  let v223 : BitVec 1 := Scalar.cmpi .slt v212 c0_i32_138
  let v224 : BitVec 32 := Scalar.extui v223
  let v225 : BitVec 32 := Scalar.subi v222 v224
  let c8_i32_136 : BitVec 32 := 8#32
  let c0_i32_139 : BitVec 32 := 0#32
  let v226 : BitVec 1 := Scalar.cmpi .sgt c8_i32_136 c0_i32_139
  let v227 : BitVec 32 := Scalar.extui v226
  let c0_i32_140 : BitVec 32 := 0#32
  let v228 : BitVec 1 := Scalar.cmpi .slt c8_i32_136 c0_i32_140
  let v229 : BitVec 32 := Scalar.extui v228
  let v230 : BitVec 32 := Scalar.subi v227 v229
  let v231 : BitVec 1 := Scalar.cmpi .ne v225 v230
  let v232 : BitVec 32 := Scalar.remsi v212 c8_i32_136
  let c0_i32_141 : BitVec 32 := 0#32
  let v233 : BitVec 1 := Scalar.cmpi .ne v232 c0_i32_141
  let v234 : BitVec 1 := Scalar.andi v231 v233
  let v220 : BitVec 32 := Scalar.divsi v212 c8_i32_136
  let c1_i32_142 : BitVec 32 := 1#32
  let v235 : BitVec 32 := Scalar.subi v220 c1_i32_142
  let v236 : BitVec 32 := Scalar.select v234 v235 v220
  let c128_i32_143 : BitVec 32 := 128#32
  let v237 : BitVec 32 := Scalar.muli v236 c128_i32_143
  v237
def k1_cond10 (v212 : BitVec 32) : BitVec 1 :=
  let c128_i32_130 : BitVec 32 := 128#32
  let v213 : BitVec 1 := Scalar.cmpi .slt v212 c128_i32_130
  let v214 : BitVec 32 := Scalar.extui v213
  let c0_i32_131 : BitVec 32 := 0#32
  let v215 : BitVec 1 := Scalar.cmpi .ne v214 c0_i32_131
  v215

def k1_off28 (v212 : BitVec 32) : Fin 3 → Nat :=
  let c1_i32_151 : BitVec 32 := 1#32
  let c0_i32_165_r3 : BitVec 32 := 0#32
  let c0_i32_137 : BitVec 32 := 0#32
  let v221 : BitVec 1 := Scalar.cmpi .sgt v212 c0_i32_137
  let v222 : BitVec 32 := Scalar.extui v221
  let c0_i32_138 : BitVec 32 := 0#32
  let v223 : BitVec 1 := Scalar.cmpi .slt v212 c0_i32_138
  let v224 : BitVec 32 := Scalar.extui v223
  let v225 : BitVec 32 := Scalar.subi v222 v224
  let c8_i32_136 : BitVec 32 := 8#32
  let c0_i32_139 : BitVec 32 := 0#32
  let v226 : BitVec 1 := Scalar.cmpi .sgt c8_i32_136 c0_i32_139
  let v227 : BitVec 32 := Scalar.extui v226
  let c0_i32_140 : BitVec 32 := 0#32
  let v228 : BitVec 1 := Scalar.cmpi .slt c8_i32_136 c0_i32_140
  let v229 : BitVec 32 := Scalar.extui v228
  let v230 : BitVec 32 := Scalar.subi v227 v229
  let v231 : BitVec 1 := Scalar.cmpi .ne v225 v230
  let v232 : BitVec 32 := Scalar.remsi v212 c8_i32_136
  let c0_i32_141 : BitVec 32 := 0#32
  let v233 : BitVec 1 := Scalar.cmpi .ne v232 c0_i32_141
  let v234 : BitVec 1 := Scalar.andi v231 v233
  let v220 : BitVec 32 := Scalar.divsi v212 c8_i32_136
  let c1_i32_142 : BitVec 32 := 1#32
  let v235 : BitVec 32 := Scalar.subi v220 c1_i32_142
  let v236 : BitVec 32 := Scalar.select v234 v235 v220
  let c128_i32_143 : BitVec 32 := 128#32
  let v237 : BitVec 32 := Scalar.muli v236 c128_i32_143
  let v238 : BitVec 32 := v237
  ![1, 0, v238.toNat]
def k1_off29 (k1_t15 : Fin k1_t15_loop.trips) (v212 : BitVec 32) : Fin 2 → Nat :=
  let c0_i32_68 : BitVec 32 := 0#32
  let c1_i32_70 : BitVec 32 := 1#32
  let arg23 : BitVec 32 := Scf.iv c0_i32_68 c1_i32_70 k1_t15
  let v250 : Index := Scalar.indexCast arg23
  let c16_i32_135 : BitVec 32 := 16#32
  let v219 : BitVec 32 := Scalar.muli v212 c16_i32_135
  let v251 : Index := Scalar.indexCast v219
  ![v250.toNat, v251.toNat]
def k1_off30 (k1_t15 : Fin k1_t15_loop.trips) (v212 : BitVec 32) : Fin 2 → Nat :=
  let c4_i32_152 : BitVec 32 := 4#32
  let c0_i32_68 : BitVec 32 := 0#32
  let c1_i32_70 : BitVec 32 := 1#32
  let arg23 : BitVec 32 := Scf.iv c0_i32_68 c1_i32_70 k1_t15
  let v254 : BitVec 32 := Scalar.muli c4_i32_152 arg23
  let v255 : Index := Scalar.indexCast v254
  let c8_i32_144 : BitVec 32 := 8#32
  let c0_i32_145 : BitVec 32 := 0#32
  let v239 : BitVec 1 := Scalar.cmpi .eq c8_i32_144 c0_i32_145
  let c1_i32_146 : BitVec 32 := 1#32
  let v240 : BitVec 32 := Scalar.select v239 c1_i32_146 c8_i32_144
  let v241 : BitVec 32 := Scalar.remsi v212 v240
  let c0_i32_148 : BitVec 32 := 0#32
  let v243 : BitVec 1 := Scalar.cmpi .slt v241 c0_i32_148
  let c0_i32_149 : BitVec 32 := 0#32
  let v244 : BitVec 1 := Scalar.cmpi .slt v240 c0_i32_149
  let v245 : BitVec 1 := Scalar.xori v243 v244
  let c0_i32_147 : BitVec 32 := 0#32
  let v242 : BitVec 1 := Scalar.cmpi .ne v241 c0_i32_147
  let v246 : BitVec 1 := Scalar.andi v245 v242
  let v247 : BitVec 32 := Scalar.addi v241 v240
  let v248 : BitVec 32 := Scalar.select v246 v247 v241
  let c16_i32_150 : BitVec 32 := 16#32
  let v249 : BitVec 32 := Scalar.muli v248 c16_i32_150
  let v256 : Index := Scalar.indexCast v249
  ![v255.toNat, v256.toNat]
def k1_off31 (k1_t15 : Fin k1_t15_loop.trips) (v212 : BitVec 32) (c1_i32_154 : BitVec 32) : Fin 2 → Nat :=
  let c4_i32_153 : BitVec 32 := 4#32
  let c0_i32_68 : BitVec 32 := 0#32
  let c1_i32_70 : BitVec 32 := 1#32
  let arg23 : BitVec 32 := Scf.iv c0_i32_68 c1_i32_70 k1_t15
  let v259 : BitVec 32 := Scalar.muli c4_i32_153 arg23
  let v260 : BitVec 32 := Scalar.addi v259 c1_i32_154
  let v261 : Index := Scalar.indexCast v260
  let c8_i32_144 : BitVec 32 := 8#32
  let c0_i32_145 : BitVec 32 := 0#32
  let v239 : BitVec 1 := Scalar.cmpi .eq c8_i32_144 c0_i32_145
  let c1_i32_146 : BitVec 32 := 1#32
  let v240 : BitVec 32 := Scalar.select v239 c1_i32_146 c8_i32_144
  let v241 : BitVec 32 := Scalar.remsi v212 v240
  let c0_i32_148 : BitVec 32 := 0#32
  let v243 : BitVec 1 := Scalar.cmpi .slt v241 c0_i32_148
  let c0_i32_149 : BitVec 32 := 0#32
  let v244 : BitVec 1 := Scalar.cmpi .slt v240 c0_i32_149
  let v245 : BitVec 1 := Scalar.xori v243 v244
  let c0_i32_147 : BitVec 32 := 0#32
  let v242 : BitVec 1 := Scalar.cmpi .ne v241 c0_i32_147
  let v246 : BitVec 1 := Scalar.andi v245 v242
  let v247 : BitVec 32 := Scalar.addi v241 v240
  let v248 : BitVec 32 := Scalar.select v246 v247 v241
  let c16_i32_150 : BitVec 32 := 16#32
  let v249 : BitVec 32 := Scalar.muli v248 c16_i32_150
  let v262 : Index := Scalar.indexCast v249
  ![v261.toNat, v262.toNat]

def k1_chk48 (k1_t15 : Fin k1_t15_loop.trips) (v132 : BitVec 32) (v151 : BitVec 32) (v153 : BitVec 32) (v160 : BitVec 32) (v162 : BitVec 32) (v212 : BitVec 32) : Prop :=
  (∀ (k1_h8 : k1_cond8 v132 = 1#1), ∀ (k1_h9 : k1_cond9 v151 v153 v160 v162 = 1#1), ∀ (k1_h10 : k1_cond10 v212 = 1#1), 128 ∣ (k1_mult2 v212).toNat) ∧
  (∀ (k1_h8 : k1_cond8 v132 = 1#1), ∀ (k1_h9 : k1_cond9 v151 v153 v160 v162 = 1#1), ∀ (k1_h10 : k1_cond10 v212 = 1#1), ∀ a, (k1_off28 v212) a + S1x8x128.size a ≤ S2x10x2048.size a) ∧
  (∀ (k1_h8 : k1_cond8 v132 = 1#1), ∀ (k1_h9 : k1_cond9 v151 v153 v160 v162 = 1#1), ∀ (k1_h10 : k1_cond10 v212 = 1#1), ∀ a, (k1_off29 k1_t15 v212) a + S1x16.size a ≤ S2x2048.size a) ∧
  (∀ (k1_h8 : k1_cond8 v132 = 1#1), ∀ (k1_h9 : k1_cond9 v151 v153 v160 v162 = 1#1), ∀ (k1_h10 : k1_cond10 v212 = 1#1), ∀ a, (k1_off30 k1_t15 v212) a + S1x16.size a ≤ S8x128.size a) ∧
  (∀ (k1_h8 : k1_cond8 v132 = 1#1), ∀ (k1_h9 : k1_cond9 v151 v153 v160 v162 = 1#1), ∀ (k1_h10 : k1_cond10 v212 = 1#1), ∀ (r : Fin 3), ∀ a, (k1_off31 k1_t15 v212 (BitVec.ofNat 32 (1 + r.val))) a + S1x16.size a ≤ S8x128.size a)
theorem k1_mult2_dvd : ∀ (k1_t15 : Fin k1_t15_loop.trips) (v132 : BitVec 32) (v151 : BitVec 32) (v153 : BitVec 32) (v160 : BitVec 32) (v162 : BitVec 32) (v212 : BitVec 32) (k1_hw48 : k1_chk48 k1_t15 v132 v151 v153 v160 v162 v212), ∀ (k1_h8 : k1_cond8 v132 = 1#1), ∀ (k1_h9 : k1_cond9 v151 v153 v160 v162 = 1#1), ∀ (k1_h10 : k1_cond10 v212 = 1#1), 128 ∣ (k1_mult2 v212).toNat := fun k1_t15 v132 v151 v153 v160 v162 v212 k1_hw48 k1_h8 k1_h9 k1_h10 => k1_hw48.1 k1_h8 k1_h9 k1_h10
theorem k1_off28_inb : ∀ (k1_t15 : Fin k1_t15_loop.trips) (v132 : BitVec 32) (v151 : BitVec 32) (v153 : BitVec 32) (v160 : BitVec 32) (v162 : BitVec 32) (v212 : BitVec 32) (k1_hw48 : k1_chk48 k1_t15 v132 v151 v153 v160 v162 v212), ∀ (k1_h8 : k1_cond8 v132 = 1#1), ∀ (k1_h9 : k1_cond9 v151 v153 v160 v162 = 1#1), ∀ (k1_h10 : k1_cond10 v212 = 1#1), ∀ a, (k1_off28 v212) a + S1x8x128.size a ≤ S2x10x2048.size a := fun k1_t15 v132 v151 v153 v160 v162 v212 k1_hw48 k1_h8 k1_h9 k1_h10 => k1_hw48.2.1 k1_h8 k1_h9 k1_h10
theorem k1_off29_inb : ∀ (k1_t15 : Fin k1_t15_loop.trips) (v132 : BitVec 32) (v151 : BitVec 32) (v153 : BitVec 32) (v160 : BitVec 32) (v162 : BitVec 32) (v212 : BitVec 32) (k1_hw48 : k1_chk48 k1_t15 v132 v151 v153 v160 v162 v212), ∀ (k1_h8 : k1_cond8 v132 = 1#1), ∀ (k1_h9 : k1_cond9 v151 v153 v160 v162 = 1#1), ∀ (k1_h10 : k1_cond10 v212 = 1#1), ∀ a, (k1_off29 k1_t15 v212) a + S1x16.size a ≤ S2x2048.size a := fun k1_t15 v132 v151 v153 v160 v162 v212 k1_hw48 k1_h8 k1_h9 k1_h10 => k1_hw48.2.2.1 k1_h8 k1_h9 k1_h10
theorem k1_off30_inb : ∀ (k1_t15 : Fin k1_t15_loop.trips) (v132 : BitVec 32) (v151 : BitVec 32) (v153 : BitVec 32) (v160 : BitVec 32) (v162 : BitVec 32) (v212 : BitVec 32) (k1_hw48 : k1_chk48 k1_t15 v132 v151 v153 v160 v162 v212), ∀ (k1_h8 : k1_cond8 v132 = 1#1), ∀ (k1_h9 : k1_cond9 v151 v153 v160 v162 = 1#1), ∀ (k1_h10 : k1_cond10 v212 = 1#1), ∀ a, (k1_off30 k1_t15 v212) a + S1x16.size a ≤ S8x128.size a := fun k1_t15 v132 v151 v153 v160 v162 v212 k1_hw48 k1_h8 k1_h9 k1_h10 => k1_hw48.2.2.2.1 k1_h8 k1_h9 k1_h10
theorem k1_off31_inb : ∀ (k1_t15 : Fin k1_t15_loop.trips) (v132 : BitVec 32) (v151 : BitVec 32) (v153 : BitVec 32) (v160 : BitVec 32) (v162 : BitVec 32) (v212 : BitVec 32) (k1_hw48 : k1_chk48 k1_t15 v132 v151 v153 v160 v162 v212), ∀ (k1_h8 : k1_cond8 v132 = 1#1), ∀ (k1_h9 : k1_cond9 v151 v153 v160 v162 = 1#1), ∀ (k1_h10 : k1_cond10 v212 = 1#1), ∀ (r : Fin 3), ∀ a, (k1_off31 k1_t15 v212 (BitVec.ofNat 32 (1 + r.val))) a + S1x16.size a ≤ S8x128.size a := fun k1_t15 v132 v151 v153 v160 v162 v212 k1_hw48 k1_h8 k1_h9 k1_h10 r => k1_hw48.2.2.2.2 k1_h8 k1_h9 k1_h10 r

@[reducible] def k1_t22_loop : Scf.Loop 32 :=
  let c0_i32_166 : BitVec 32 := 0#32
  let c16_i32_167 : BitVec 32 := 16#32
  let v293 : BitVec 32 := Scalar.addi c0_i32_166 c16_i32_167
  let c1_i32_168 : BitVec 32 := 1#32
  ⟨c0_i32_166, v293, c1_i32_168⟩
def k1_cond11 (v289 : BitVec 32) : BitVec 1 :=
  let c0_i32_163 : BitVec 32 := 0#32
  let v290 : BitVec 1 := Scalar.cmpi .sgt v289 c0_i32_163
  let v291 : BitVec 32 := Scalar.extui v290
  let c0_i32_164 : BitVec 32 := 0#32
  let v292 : BitVec 1 := Scalar.cmpi .ne v291 c0_i32_164
  v292

def k1_chk49 (v132 : BitVec 32) (v151 : BitVec 32) (v153 : BitVec 32) (v160 : BitVec 32) (v162 : BitVec 32) (v212 : BitVec 32) (v289 : BitVec 32) (v296 : IVec S16 32) (v297 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v296, v297] : Fin 2 → IVec S16 32) a x).toNat < S2x2048.size a)
theorem k1_idx43_inb : ∀ (v132 : BitVec 32) (v151 : BitVec 32) (v153 : BitVec 32) (v160 : BitVec 32) (v162 : BitVec 32) (v212 : BitVec 32) (v289 : BitVec 32) (v296 : IVec S16 32) (v297 : IVec S16 32) (k1_hw49 : k1_chk49 v132 v151 v153 v160 v162 v212 v289 v296 v297), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v296, v297] : Fin 2 → IVec S16 32) a x).toNat < S2x2048.size a := fun v132 v151 v153 v160 v162 v212 v289 v296 v297 k1_hw49 k1_h8 k1_h9 k1_h10 k1_h11 => k1_hw49 k1_h8 k1_h9 k1_h10 k1_h11

def k1_chk50 (v132 : BitVec 32) (v151 : BitVec 32) (v153 : BitVec 32) (v160 : BitVec 32) (v162 : BitVec 32) (v212 : BitVec 32) (v289 : BitVec 32) (v304 : IVec S16 32) (v305 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v304, v305] : Fin 2 → IVec S16 32) a x).toNat < S8x128.size a)
theorem k1_idx44_inb : ∀ (v132 : BitVec 32) (v151 : BitVec 32) (v153 : BitVec 32) (v160 : BitVec 32) (v162 : BitVec 32) (v212 : BitVec 32) (v289 : BitVec 32) (v304 : IVec S16 32) (v305 : IVec S16 32) (k1_hw50 : k1_chk50 v132 v151 v153 v160 v162 v212 v289 v304 v305), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v304, v305] : Fin 2 → IVec S16 32) a x).toNat < S8x128.size a := fun v132 v151 v153 v160 v162 v212 v289 v304 v305 k1_hw50 k1_h8 k1_h9 k1_h10 k1_h11 => k1_hw50 k1_h8 k1_h9 k1_h10 k1_h11

def k1_chk51 (v132 : BitVec 32) (v151 : BitVec 32) (v153 : BitVec 32) (v160 : BitVec 32) (v162 : BitVec 32) (v212 : BitVec 32) (v289 : BitVec 32) (v315 : IVec S16 32) (v316 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v315, v316] : Fin 2 → IVec S16 32) a x).toNat < S8x128.size a)
theorem k1_idx45_inb : ∀ (v132 : BitVec 32) (v151 : BitVec 32) (v153 : BitVec 32) (v160 : BitVec 32) (v162 : BitVec 32) (v212 : BitVec 32) (v289 : BitVec 32) (v315 : IVec S16 32) (v316 : IVec S16 32) (k1_hw51 : k1_chk51 v132 v151 v153 v160 v162 v212 v289 v315 v316), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v315, v316] : Fin 2 → IVec S16 32) a x).toNat < S8x128.size a := fun v132 v151 v153 v160 v162 v212 v289 v315 v316 k1_hw51 k1_h8 k1_h9 k1_h10 k1_h11 => k1_hw51 k1_h8 k1_h9 k1_h10 k1_h11

def k1_chk52 (v132 : BitVec 32) (v151 : BitVec 32) (v153 : BitVec 32) (v160 : BitVec 32) (v162 : BitVec 32) (v212 : BitVec 32) (v289 : BitVec 32) (v327 : IVec S16 32) (v328 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v327, v328] : Fin 2 → IVec S16 32) a x).toNat < S8x128.size a)
theorem k1_idx46_inb : ∀ (v132 : BitVec 32) (v151 : BitVec 32) (v153 : BitVec 32) (v160 : BitVec 32) (v162 : BitVec 32) (v212 : BitVec 32) (v289 : BitVec 32) (v327 : IVec S16 32) (v328 : IVec S16 32) (k1_hw52 : k1_chk52 v132 v151 v153 v160 v162 v212 v289 v327 v328), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v327, v328] : Fin 2 → IVec S16 32) a x).toNat < S8x128.size a := fun v132 v151 v153 v160 v162 v212 v289 v327 v328 k1_hw52 k1_h8 k1_h9 k1_h10 k1_h11 => k1_hw52 k1_h8 k1_h9 k1_h10 k1_h11

def k1_chk53 (v132 : BitVec 32) (v151 : BitVec 32) (v153 : BitVec 32) (v160 : BitVec 32) (v162 : BitVec 32) (v212 : BitVec 32) (v289 : BitVec 32) (v339 : IVec S16 32) (v340 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v339, v340] : Fin 2 → IVec S16 32) a x).toNat < S8x128.size a)
theorem k1_idx47_inb : ∀ (v132 : BitVec 32) (v151 : BitVec 32) (v153 : BitVec 32) (v160 : BitVec 32) (v162 : BitVec 32) (v212 : BitVec 32) (v289 : BitVec 32) (v339 : IVec S16 32) (v340 : IVec S16 32) (k1_hw53 : k1_chk53 v132 v151 v153 v160 v162 v212 v289 v339 v340), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ a x, ((![v339, v340] : Fin 2 → IVec S16 32) a x).toNat < S8x128.size a := fun v132 v151 v153 v160 v162 v212 v289 v339 v340 k1_hw53 k1_h8 k1_h9 k1_h10 k1_h11 => k1_hw53 k1_h8 k1_h9 k1_h10 k1_h11
def k1_cond12 (v146 : BitVec 32) (v300 : BitVec 32) (v308 : BitVec 32) (v310 : BitVec 32) (v319 : BitVec 32) (v321 : BitVec 32) (v331 : BitVec 32) (v333 : BitVec 32) (v343 : BitVec 32) (v345 : BitVec 32) : BitVec 1 :=
  let v301 : BitVec 1 := Scalar.cmpi .eq v300 v146
  let v311 : BitVec 1 := Scalar.cmpi .eq v308 v310
  let v322 : BitVec 1 := Scalar.cmpi .eq v319 v321
  let v323 : BitVec 1 := Scalar.ori v311 v322
  let v334 : BitVec 1 := Scalar.cmpi .eq v331 v333
  let v335 : BitVec 1 := Scalar.ori v323 v334
  let v346 : BitVec 1 := Scalar.cmpi .eq v343 v345
  let v347 : BitVec 1 := Scalar.ori v335 v346
  let v348 : BitVec 1 := Scalar.andi v301 v347
  let v349 : BitVec 32 := Scalar.extui v348
  let c0_i32_177 : BitVec 32 := 0#32
  let v350 : BitVec 1 := Scalar.cmpi .ne v349 c0_i32_177
  v350

def k1_chk54 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v351 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ a x, ((![v351] : Fin 1 → IVec S16 32) a x).toNat < S64.size a)
theorem k1_idx48_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v351 : IVec S16 32) (k1_hw54 : k1_chk54 v132 v146 v151 v153 v160 v162 v212 v289 v300 v308 v310 v319 v321 v331 v333 v343 v345 v351), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ a x, ((![v351] : Fin 1 → IVec S16 32) a x).toNat < S64.size a := fun v132 v146 v151 v153 v160 v162 v212 v289 v300 v308 v310 v319 v321 v331 v333 v343 v345 v351 k1_hw54 k1_h8 k1_h9 k1_h10 k1_h11 k1_h12 => k1_hw54 k1_h8 k1_h9 k1_h10 k1_h11 k1_h12
def k1_off32 (k1_t17 : Fin k1_t17_loop.trips) (k1_t18 : Fin k1_t18_loop.trips) : Fin 2 → Nat :=
  let c0_i32_90 : BitVec 32 := 0#32
  let c1_i32_91 : BitVec 32 := 1#32
  let arg25 : BitVec 32 := Scf.iv c0_i32_90 c1_i32_91 k1_t17
  let c16_i32_105 : BitVec 32 := 16#32
  let v138 : BitVec 32 := Scalar.muli arg25 c16_i32_105
  let c0_i32_101 : BitVec 32 := 0#32
  let c1_i32_103 : BitVec 32 := 1#32
  let arg27 : BitVec 32 := Scf.iv c0_i32_101 c1_i32_103 k1_t18
  let v139 : BitVec 32 := Scalar.addi v138 arg27
  let v356 : Index := Scalar.indexCast v139
  let c0_179 : Index := 0#32
  ![v356.toNat, 0]
def k1_off33 (k1_t17 : Fin k1_t17_loop.trips) (k1_t18 : Fin k1_t18_loop.trips) : Fin 2 → Nat :=
  let c0_i32_90 : BitVec 32 := 0#32
  let c1_i32_91 : BitVec 32 := 1#32
  let arg25 : BitVec 32 := Scf.iv c0_i32_90 c1_i32_91 k1_t17
  let c16_i32_105 : BitVec 32 := 16#32
  let v138 : BitVec 32 := Scalar.muli arg25 c16_i32_105
  let c0_i32_101 : BitVec 32 := 0#32
  let c1_i32_103 : BitVec 32 := 1#32
  let arg27 : BitVec 32 := Scf.iv c0_i32_101 c1_i32_103 k1_t18
  let v139 : BitVec 32 := Scalar.addi v138 arg27
  let v375 : Index := Scalar.indexCast v139
  let c16_186 : Index := 16#32
  ![v375.toNat, 16]
def k1_off34 (k1_t17 : Fin k1_t17_loop.trips) (k1_t18 : Fin k1_t18_loop.trips) : Fin 2 → Nat :=
  let c0_i32_90 : BitVec 32 := 0#32
  let c1_i32_91 : BitVec 32 := 1#32
  let arg25 : BitVec 32 := Scf.iv c0_i32_90 c1_i32_91 k1_t17
  let c16_i32_105 : BitVec 32 := 16#32
  let v138 : BitVec 32 := Scalar.muli arg25 c16_i32_105
  let c0_i32_101 : BitVec 32 := 0#32
  let c1_i32_103 : BitVec 32 := 1#32
  let arg27 : BitVec 32 := Scf.iv c0_i32_101 c1_i32_103 k1_t18
  let v139 : BitVec 32 := Scalar.addi v138 arg27
  let v394 : Index := Scalar.indexCast v139
  let c32_192 : Index := 32#32
  ![v394.toNat, 32]
def k1_off35 (k1_t17 : Fin k1_t17_loop.trips) (k1_t18 : Fin k1_t18_loop.trips) : Fin 2 → Nat :=
  let c0_i32_90 : BitVec 32 := 0#32
  let c1_i32_91 : BitVec 32 := 1#32
  let arg25 : BitVec 32 := Scf.iv c0_i32_90 c1_i32_91 k1_t17
  let c16_i32_105 : BitVec 32 := 16#32
  let v138 : BitVec 32 := Scalar.muli arg25 c16_i32_105
  let c0_i32_101 : BitVec 32 := 0#32
  let c1_i32_103 : BitVec 32 := 1#32
  let arg27 : BitVec 32 := Scf.iv c0_i32_101 c1_i32_103 k1_t18
  let v139 : BitVec 32 := Scalar.addi v138 arg27
  let v413 : Index := Scalar.indexCast v139
  let c48_197 : Index := 48#32
  ![v413.toNat, 48]
def k1_off36 (v212 : BitVec 32) (k1_t22 : Fin k1_t22_loop.trips) : Fin 3 → Nat :=
  let c1_i32_204 : BitVec 32 := 1#32
  let c16_i32_135 : BitVec 32 := 16#32
  let v219 : BitVec 32 := Scalar.muli v212 c16_i32_135
  let c0_i32_166 : BitVec 32 := 0#32
  let c1_i32_168 : BitVec 32 := 1#32
  let arg31 : BitVec 32 := Scf.iv c0_i32_166 c1_i32_168 k1_t22
  let v295 : BitVec 32 := Scalar.addi v219 arg31
  let c0_i32_229_r4 : BitVec 32 := 0#32
  ![1, v295.toNat, 0]
def k1_cond13 (v373 : BitVec 32) (v392 : BitVec 32) (v411 : BitVec 32) (v430 : BitVec 32) : BitVec 1 :=
  let c0_i32_185 : BitVec 32 := 0#32
  let v374 : BitVec 32 := Scalar.ori c0_i32_185 v373
  let v393 : BitVec 32 := Scalar.ori v374 v392
  let v412 : BitVec 32 := Scalar.ori v393 v411
  let v431 : BitVec 32 := Scalar.ori v412 v430
  let c0_i32_202 : BitVec 32 := 0#32
  let v432 : BitVec 1 := Scalar.cmpi .eq v431 c0_i32_202
  let v433 : BitVec 32 := Scalar.extui v432
  let c0_i32_203 : BitVec 32 := 0#32
  let v434 : BitVec 1 := Scalar.cmpi .ne v433 c0_i32_203
  v434

def k1_chk55 (v132 : BitVec 32) (v146 : BitVec 32) (v151 : BitVec 32) (v153 : BitVec 32) (v160 : BitVec 32) (v162 : BitVec 32) (v212 : BitVec 32) (v289 : BitVec 32) (k1_t22 : Fin k1_t22_loop.trips) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a, (k1_off36 v212 k1_t22) a + S1x1x64.size a ≤ S2x2048x64.size a)
theorem k1_off36_inb : ∀ (v132 : BitVec 32) (v146 : BitVec 32) (v151 : BitVec 32) (v153 : BitVec 32) (v160 : BitVec 32) (v162 : BitVec 32) (v212 : BitVec 32) (v289 : BitVec 32) (k1_t22 : Fin k1_t22_loop.trips) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (k1_hw55 : k1_chk55 v132 v146 v151 v153 v160 v162 v212 v289 k1_t22 v300 v308 v310 v319 v321 v331 v333 v343 v345 v373 v392 v411 v430), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a, (k1_off36 v212 k1_t22) a + S1x1x64.size a ≤ S2x2048x64.size a := fun v132 v146 v151 v153 v160 v162 v212 v289 k1_t22 v300 v308 v310 v319 v321 v331 v333 v343 v345 v373 v392 v411 v430 k1_hw55 k1_h8 k1_h9 k1_h10 k1_h11 k1_h12 k1_h13 => k1_hw55 k1_h8 k1_h9 k1_h10 k1_h11 k1_h12 k1_h13

def k1_off37 (i : grid1.Coords) (k1_t17 : Fin k1_t17_loop.trips) (k1_t18 : Fin k1_t18_loop.trips) : Fin 3 → Nat :=
  let c1_i32_205 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_90 : BitVec 32 := 0#32
  let c1_i32_91 : BitVec 32 := 1#32
  let arg25 : BitVec 32 := Scf.iv c0_i32_90 c1_i32_91 k1_t17
  let c16_i32_105 : BitVec 32 := 16#32
  let v138 : BitVec 32 := Scalar.muli arg25 c16_i32_105
  let c0_i32_101 : BitVec 32 := 0#32
  let c1_i32_103 : BitVec 32 := 1#32
  let arg27 : BitVec 32 := Scf.iv c0_i32_101 c1_i32_103 k1_t18
  let v139 : BitVec 32 := Scalar.addi v138 arg27
  let v435 : BitVec 32 := Scalar.addi v2 v139
  let c0_i32_229_r5 : BitVec 32 := 0#32
  ![1, v435.toNat, 0]
@[reducible] def k1_t23_loop : Scf.Loop 32 :=
  let c0_i32_223 : BitVec 32 := 0#32
  let c64_i32_224 : BitVec 32 := 64#32
  let v648 : BitVec 32 := Scalar.addi c0_i32_223 c64_i32_224
  let c1_i32_225 : BitVec 32 := 1#32
  ⟨c0_i32_223, v648, c1_i32_225⟩

def k1_chk56 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v654 : IVec S16 32) (v655 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a x, ((![v654, v655] : Fin 2 → IVec S16 32) a x).toNat < S64x64.size a)
theorem k1_idx49_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v654 : IVec S16 32) (v655 : IVec S16 32) (k1_hw56 : k1_chk56 v132 v146 v151 v153 v160 v162 v212 v289 v300 v308 v310 v319 v321 v331 v333 v343 v345 v373 v392 v411 v430 v654 v655), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a x, ((![v654, v655] : Fin 2 → IVec S16 32) a x).toNat < S64x64.size a := fun v132 v146 v151 v153 v160 v162 v212 v289 v300 v308 v310 v319 v321 v331 v333 v343 v345 v373 v392 v411 v430 v654 v655 k1_hw56 k1_h8 k1_h9 k1_h10 k1_h11 k1_h12 k1_h13 => k1_hw56 k1_h8 k1_h9 k1_h10 k1_h11 k1_h12 k1_h13

def k1_chk57 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v659 : IVec S16 32) (v660 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a x, ((![v659, v660] : Fin 2 → IVec S16 32) a x).toNat < S64x64.size a)
theorem k1_idx50_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v659 : IVec S16 32) (v660 : IVec S16 32) (k1_hw57 : k1_chk57 v132 v146 v151 v153 v160 v162 v212 v289 v300 v308 v310 v319 v321 v331 v333 v343 v345 v373 v392 v411 v430 v659 v660), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ a x, ((![v659, v660] : Fin 2 → IVec S16 32) a x).toNat < S64x64.size a := fun v132 v146 v151 v153 v160 v162 v212 v289 v300 v308 v310 v319 v321 v331 v333 v343 v345 v373 v392 v411 v430 v659 v660 k1_hw57 k1_h8 k1_h9 k1_h10 k1_h11 k1_h12 k1_h13 => k1_hw57 k1_h8 k1_h9 k1_h10 k1_h11 k1_h12 k1_h13
@[reducible] def k1_t24_loop (v354 : BitVec 32) (v649 : BitVec 32) : Scf.Loop 32 :=
  let c0_i32_229 : BitVec 32 := 0#32
  let c63_i32 : BitVec 32 := 63#32
  let v653 : BitVec 32 := Scalar.minsi v354 c63_i32
  let v654 : BitVec 32 := Scalar.subi v653 v649
  let v655 : BitVec 32 := Scalar.subi v654 c0_i32_229
  let c1_i32_230 : BitVec 32 := 1#32
  let v657 : BitVec 32 := Scalar.divsi v655 c1_i32_230
  let v658 : BitVec 32 := Scalar.muli v657 c1_i32_230
  let v659 : BitVec 32 := Scalar.addi c0_i32_229 v658
  let c1_i32_231 : BitVec 32 := 1#32
  ⟨c0_i32_229, v659, c1_i32_231⟩
def k1_cond14 (v649 : BitVec 32) : BitVec 1 :=
  let c64_i32_227 : BitVec 32 := 64#32
  let v650 : BitVec 1 := Scalar.cmpi .slt v649 c64_i32_227
  let v651 : BitVec 32 := Scalar.extui v650
  let c0_i32_228 : BitVec 32 := 0#32
  let v652 : BitVec 1 := Scalar.cmpi .ne v651 c0_i32_228
  v652

def k1_chk59 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v673, v674] : Fin 2 → IVec S16 32) a x).toNat < S64x64.size a)
theorem k1_idx51_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) (k1_hw59 : k1_chk59 v132 v146 v151 v153 v160 v162 v212 v289 v300 v308 v310 v319 v321 v331 v333 v343 v345 v373 v392 v411 v430 v649 v673 v674), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v673, v674] : Fin 2 → IVec S16 32) a x).toNat < S64x64.size a := fun v132 v146 v151 v153 v160 v162 v212 v289 v300 v308 v310 v319 v321 v331 v333 v343 v345 v373 v392 v411 v430 v649 v673 v674 k1_hw59 k1_h8 k1_h9 k1_h10 k1_h11 k1_h12 k1_h13 k1_h14 => k1_hw59 k1_h8 k1_h9 k1_h10 k1_h11 k1_h12 k1_h13 k1_h14

def k1_chk60 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v678, v679] : Fin 2 → IVec S16 32) a x).toNat < S64x64.size a)
theorem k1_idx52_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) (k1_hw60 : k1_chk60 v132 v146 v151 v153 v160 v162 v212 v289 v300 v308 v310 v319 v321 v331 v333 v343 v345 v373 v392 v411 v430 v649 v678 v679), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v678, v679] : Fin 2 → IVec S16 32) a x).toNat < S64x64.size a := fun v132 v146 v151 v153 v160 v162 v212 v289 v300 v308 v310 v319 v321 v331 v333 v343 v345 v373 v392 v411 v430 v649 v678 v679 k1_hw60 k1_h8 k1_h9 k1_h10 k1_h11 k1_h12 k1_h13 k1_h14 => k1_hw60 k1_h8 k1_h9 k1_h10 k1_h11 k1_h12 k1_h13 k1_h14

def k1_chk61 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v682, v683] : Fin 2 → IVec S16 32) a x).toNat < S64x64.size a)
theorem k1_idx53_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) (k1_hw61 : k1_chk61 v132 v146 v151 v153 v160 v162 v212 v289 v300 v308 v310 v319 v321 v331 v333 v343 v345 v373 v392 v411 v430 v649 v682 v683), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v682, v683] : Fin 2 → IVec S16 32) a x).toNat < S64x64.size a := fun v132 v146 v151 v153 v160 v162 v212 v289 v300 v308 v310 v319 v321 v331 v333 v343 v345 v373 v392 v411 v430 v649 v682 v683 k1_hw61 k1_h8 k1_h9 k1_h10 k1_h11 k1_h12 k1_h13 k1_h14 => k1_hw61 k1_h8 k1_h9 k1_h10 k1_h11 k1_h12 k1_h13 k1_h14

def k1_chk62 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v687, v688] : Fin 2 → IVec S16 32) a x).toNat < S64x64.size a)
theorem k1_idx54_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) (k1_hw62 : k1_chk62 v132 v146 v151 v153 v160 v162 v212 v289 v300 v308 v310 v319 v321 v331 v333 v343 v345 v373 v392 v411 v430 v649 v687 v688), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v687, v688] : Fin 2 → IVec S16 32) a x).toNat < S64x64.size a := fun v132 v146 v151 v153 v160 v162 v212 v289 v300 v308 v310 v319 v321 v331 v333 v343 v345 v373 v392 v411 v430 v649 v687 v688 k1_hw62 k1_h8 k1_h9 k1_h10 k1_h11 k1_h12 k1_h13 k1_h14 => k1_hw62 k1_h8 k1_h9 k1_h10 k1_h11 k1_h12 k1_h13 k1_h14
@[reducible] def k1_t25_loop (v354 : BitVec 32) (v649 : BitVec 32) : Scf.Loop 32 :=
  let c0_i32_229 : BitVec 32 := 0#32
  let c63_i32 : BitVec 32 := 63#32
  let v653 : BitVec 32 := Scalar.minsi v354 c63_i32
  let v654 : BitVec 32 := Scalar.subi v653 v649
  let v655 : BitVec 32 := Scalar.subi v654 c0_i32_229
  let c1_i32_230 : BitVec 32 := 1#32
  let v657 : BitVec 32 := Scalar.divsi v655 c1_i32_230
  let v658 : BitVec 32 := Scalar.muli v657 c1_i32_230
  let v659 : BitVec 32 := Scalar.addi c0_i32_229 v658
  let v656 : BitVec 32 := Scalar.addi c0_i32_229 v655
  let c1_i32_232 : BitVec 32 := 1#32
  ⟨v659, v656, c1_i32_232⟩

def k1_chk58 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), (k1_t24_loop v354 v649).OK) ∧
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), (k1_t25_loop v354 v649).OK)
theorem k1_t24_ok : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) (k1_hw58 : k1_chk58 v132 v146 v151 v153 v160 v162 v212 v289 v300 v308 v310 v319 v321 v331 v333 v343 v345 v354 v373 v392 v411 v430 v649), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), (k1_t24_loop v354 v649).OK := fun v132 v146 v151 v153 v160 v162 v212 v289 v300 v308 v310 v319 v321 v331 v333 v343 v345 v354 v373 v392 v411 v430 v649 k1_hw58 k1_h8 k1_h9 k1_h10 k1_h11 k1_h12 k1_h13 k1_h14 => k1_hw58.1 k1_h8 k1_h9 k1_h10 k1_h11 k1_h12 k1_h13 k1_h14
theorem k1_t25_ok : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v354 : BitVec 32) (v373 : BitVec 32) (v392 : BitVec 32) (v411 : BitVec 32) (v430 : BitVec 32) (v649 : BitVec 32) (k1_hw58 : k1_chk58 v132 v146 v151 v153 v160 v162 v212 v289 v300 v308 v310 v319 v321 v331 v333 v343 v345 v354 v373 v392 v411 v430 v649), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), (k1_t25_loop v354 v649).OK := fun v132 v146 v151 v153 v160 v162 v212 v289 v300 v308 v310 v319 v321 v331 v333 v343 v345 v354 v373 v392 v411 v430 v649 k1_hw58 k1_h8 k1_h9 k1_h10 k1_h11 k1_h12 k1_h13 k1_h14 => k1_hw58.2 k1_h8 k1_h9 k1_h10 k1_h11 k1_h12 k1_h13 k1_h14

def k1_chk63 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v673, v674] : Fin 2 → IVec S16 32) a x).toNat < S64x64.size a)
theorem k1_idx55_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v673 : IVec S16 32) (v674 : IVec S16 32) (k1_hw63 : k1_chk63 v132 v146 v151 v153 v160 v162 v212 v289 v300 v308 v310 v319 v321 v331 v333 v343 v345 v373 v392 v411 v430 v649 v673 v674), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v673, v674] : Fin 2 → IVec S16 32) a x).toNat < S64x64.size a := fun v132 v146 v151 v153 v160 v162 v212 v289 v300 v308 v310 v319 v321 v331 v333 v343 v345 v373 v392 v411 v430 v649 v673 v674 k1_hw63 k1_h8 k1_h9 k1_h10 k1_h11 k1_h12 k1_h13 k1_h14 => k1_hw63 k1_h8 k1_h9 k1_h10 k1_h11 k1_h12 k1_h13 k1_h14

def k1_chk64 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v678, v679] : Fin 2 → IVec S16 32) a x).toNat < S64x64.size a)
theorem k1_idx56_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v678 : IVec S16 32) (v679 : IVec S16 32) (k1_hw64 : k1_chk64 v132 v146 v151 v153 v160 v162 v212 v289 v300 v308 v310 v319 v321 v331 v333 v343 v345 v373 v392 v411 v430 v649 v678 v679), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v678, v679] : Fin 2 → IVec S16 32) a x).toNat < S64x64.size a := fun v132 v146 v151 v153 v160 v162 v212 v289 v300 v308 v310 v319 v321 v331 v333 v343 v345 v373 v392 v411 v430 v649 v678 v679 k1_hw64 k1_h8 k1_h9 k1_h10 k1_h11 k1_h12 k1_h13 k1_h14 => k1_hw64 k1_h8 k1_h9 k1_h10 k1_h11 k1_h12 k1_h13 k1_h14

def k1_chk65 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v682, v683] : Fin 2 → IVec S16 32) a x).toNat < S64x64.size a)
theorem k1_idx57_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v682 : IVec S16 32) (v683 : IVec S16 32) (k1_hw65 : k1_chk65 v132 v146 v151 v153 v160 v162 v212 v289 v300 v308 v310 v319 v321 v331 v333 v343 v345 v373 v392 v411 v430 v649 v682 v683), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v682, v683] : Fin 2 → IVec S16 32) a x).toNat < S64x64.size a := fun v132 v146 v151 v153 v160 v162 v212 v289 v300 v308 v310 v319 v321 v331 v333 v343 v345 v373 v392 v411 v430 v649 v682 v683 k1_hw65 k1_h8 k1_h9 k1_h10 k1_h11 k1_h12 k1_h13 k1_h14 => k1_hw65 k1_h8 k1_h9 k1_h10 k1_h11 k1_h12 k1_h13 k1_h14

def k1_chk66 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v687, v688] : Fin 2 → IVec S16 32) a x).toNat < S64x64.size a)
theorem k1_idx58_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v687 : IVec S16 32) (v688 : IVec S16 32) (k1_hw66 : k1_chk66 v132 v146 v151 v153 v160 v162 v212 v289 v300 v308 v310 v319 v321 v331 v333 v343 v345 v373 v392 v411 v430 v649 v687 v688), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v687, v688] : Fin 2 → IVec S16 32) a x).toNat < S64x64.size a := fun v132 v146 v151 v153 v160 v162 v212 v289 v300 v308 v310 v319 v321 v331 v333 v343 v345 v373 v392 v411 v430 v649 v687 v688 k1_hw66 k1_h8 k1_h9 k1_h10 k1_h11 k1_h12 k1_h13 k1_h14 => k1_hw66 k1_h8 k1_h9 k1_h10 k1_h11 k1_h12 k1_h13 k1_h14

def k1_chk67 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v662 : IVec S16 32) (v663 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v662, v663] : Fin 2 → IVec S16 32) a x).toNat < S64x64.size a)
theorem k1_idx59_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v662 : IVec S16 32) (v663 : IVec S16 32) (k1_hw67 : k1_chk67 v132 v146 v151 v153 v160 v162 v212 v289 v300 v308 v310 v319 v321 v331 v333 v343 v345 v373 v392 v411 v430 v649 v662 v663), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v662, v663] : Fin 2 → IVec S16 32) a x).toNat < S64x64.size a := fun v132 v146 v151 v153 v160 v162 v212 v289 v300 v308 v310 v319 v321 v331 v333 v343 v345 v373 v392 v411 v430 v649 v662 v663 k1_hw67 k1_h8 k1_h9 k1_h10 k1_h11 k1_h12 k1_h13 k1_h14 => k1_hw67 k1_h8 k1_h9 k1_h10 k1_h11 k1_h12 k1_h13 k1_h14

def k1_chk68 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v665 : IVec S16 32) (v666 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v665, v666] : Fin 2 → IVec S16 32) a x).toNat < S64x64.size a)
theorem k1_idx60_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v665 : IVec S16 32) (v666 : IVec S16 32) (k1_hw68 : k1_chk68 v132 v146 v151 v153 v160 v162 v212 v289 v300 v308 v310 v319 v321 v331 v333 v343 v345 v373 v392 v411 v430 v649 v665 v666), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v665, v666] : Fin 2 → IVec S16 32) a x).toNat < S64x64.size a := fun v132 v146 v151 v153 v160 v162 v212 v289 v300 v308 v310 v319 v321 v331 v333 v343 v345 v373 v392 v411 v430 v649 v665 v666 k1_hw68 k1_h8 k1_h9 k1_h10 k1_h11 k1_h12 k1_h13 k1_h14 => k1_hw68 k1_h8 k1_h9 k1_h10 k1_h11 k1_h12 k1_h13 k1_h14

def k1_chk69 (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v670 : IVec S16 32) : Prop :=
  (∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v670] : Fin 1 → IVec S16 32) a x).toNat < S64.size a)
theorem k1_idx61_inb : ∀ (v132 : BitVec 32) (v146 : BitVec 32) (v151 : BitVec 32) (v153 : BitVec 32) (v160 : BitVec 32) (v162 : BitVec 32) (v212 : BitVec 32) (v289 : BitVec 32) (v300 : BitVec 32) (v308 : BitVec 32) (v310 : BitVec 32) (v319 : BitVec 32) (v321 : BitVec 32) (v331 : BitVec 32) (v333 : BitVec 32) (v343 : BitVec 32) (v345 : BitVec 32) (v373 : BitVec 32) (v392 : BitVec 32) (v411 : BitVec 32) (v430 : BitVec 32) (v649 : BitVec 32) (v670 : IVec S16 32) (k1_hw69 : k1_chk69 v132 v146 v151 v153 v160 v162 v212 v289 v300 v308 v310 v319 v321 v331 v333 v343 v345 v373 v392 v411 v430 v649 v670), ∀ (k1_h8 : k1_cond8 v132 = 1#1), ∀ (k1_h9 : k1_cond9 v151 v153 v160 v162 = 1#1), ∀ (k1_h10 : k1_cond10 v212 = 1#1), ∀ (k1_h11 : k1_cond11 v289 = 1#1), ∀ (k1_h12 : k1_cond12 v146 v300 v308 v310 v319 v321 v331 v333 v343 v345 = 1#1), ∀ (k1_h13 : k1_cond13 v373 v392 v411 v430 = 1#1), ∀ (k1_h14 : k1_cond14 v649 = 1#1), ∀ a x, ((![v670] : Fin 1 → IVec S16 32) a x).toNat < S64.size a := fun v132 v146 v151 v153 v160 v162 v212 v289 v300 v308 v310 v319 v321 v331 v333 v343 v345 v373 v392 v411 v430 v649 v670 k1_hw69 k1_h8 k1_h9 k1_h10 k1_h11 k1_h12 k1_h13 k1_h14 => k1_hw69 k1_h8 k1_h9 k1_h10 k1_h11 k1_h12 k1_h13 k1_h14
@[reducible] def k1_t26_loop : Scf.Loop 32 :=
  let c0_i32_72 : BitVec 32 := 0#32
  let c64_i32_73 : BitVec 32 := 64#32
  let v89 : BitVec 32 := Scalar.addi c0_i32_72 c64_i32_73
  let c1_i32_74 : BitVec 32 := 1#32
  ⟨c0_i32_72, v89, c1_i32_74⟩

def k1_chk70 (v104 : IVec S16 32) : Prop :=
  (∀ a x, ((![v104] : Fin 1 → IVec S16 32) a x).toNat < S64.size a)
theorem k1_idx62_inb : ∀ (v104 : IVec S16 32) (k1_hw70 : k1_chk70 v104), ∀ a x, ((![v104] : Fin 1 → IVec S16 32) a x).toNat < S64.size a := fun v104 k1_hw70 => k1_hw70
def k1_off38 (k1_t26 : Fin k1_t26_loop.trips) : Fin 2 → Nat :=
  let c0_i32_86 : BitVec 32 := 0#32
  let c0_i32_72 : BitVec 32 := 0#32
  let c1_i32_74 : BitVec 32 := 1#32
  let arg23 : BitVec 32 := Scf.iv c0_i32_72 c1_i32_74 k1_t26
  let c1_i32_85 : BitVec 32 := 1#32
  let v102 : BitVec 32 := Scalar.muli arg23 c1_i32_85
  let v103 : BitVec 32 := Scalar.addi c0_i32_86 v102
  let v109 : Index := Scalar.indexCast v103
  let c0_87 : Index := 0#32
  ![v109.toNat, 0]
def k1_off39 (k1_t26 : Fin k1_t26_loop.trips) : Fin 2 → Nat :=
  let c0_i32_86 : BitVec 32 := 0#32
  let c0_i32_72 : BitVec 32 := 0#32
  let c1_i32_74 : BitVec 32 := 1#32
  let arg23 : BitVec 32 := Scf.iv c0_i32_72 c1_i32_74 k1_t26
  let c1_i32_85 : BitVec 32 := 1#32
  let v102 : BitVec 32 := Scalar.muli arg23 c1_i32_85
  let v103 : BitVec 32 := Scalar.addi c0_i32_86 v102
  let v123 : Index := Scalar.indexCast v103
  let c16_91 : Index := 16#32
  ![v123.toNat, 16]
def k1_off40 (k1_t26 : Fin k1_t26_loop.trips) : Fin 2 → Nat :=
  let c0_i32_86 : BitVec 32 := 0#32
  let c0_i32_72 : BitVec 32 := 0#32
  let c1_i32_74 : BitVec 32 := 1#32
  let arg23 : BitVec 32 := Scf.iv c0_i32_72 c1_i32_74 k1_t26
  let c1_i32_85 : BitVec 32 := 1#32
  let v102 : BitVec 32 := Scalar.muli arg23 c1_i32_85
  let v103 : BitVec 32 := Scalar.addi c0_i32_86 v102
  let v137 : Index := Scalar.indexCast v103
  let c32_96 : Index := 32#32
  ![v137.toNat, 32]
def k1_off41 (k1_t26 : Fin k1_t26_loop.trips) : Fin 2 → Nat :=
  let c0_i32_86 : BitVec 32 := 0#32
  let c0_i32_72 : BitVec 32 := 0#32
  let c1_i32_74 : BitVec 32 := 1#32
  let arg23 : BitVec 32 := Scf.iv c0_i32_72 c1_i32_74 k1_t26
  let c1_i32_85 : BitVec 32 := 1#32
  let v102 : BitVec 32 := Scalar.muli arg23 c1_i32_85
  let v103 : BitVec 32 := Scalar.addi c0_i32_86 v102
  let v151 : Index := Scalar.indexCast v103
  let c48_101 : Index := 48#32
  ![v151.toNat, 48]
def k1_off42 (i : grid1.Coords) : Fin 3 → Nat :=
  let c1_i32_76 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_77 : BitVec 32 := 0#32
  ![1, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x64 : Shape := ⟨3, ![2, 2048, 64]⟩
abbrev S32x4 : Shape := ⟨2, ![32, 4]⟩
abbrev S_ : Shape := ⟨0, ![]⟩
abbrev S2x2048x2048 : Shape := ⟨3, ![2, 2048, 2048]⟩
abbrev S2x2048x32 : Shape := ⟨3, ![2, 2048, 32]⟩
abbrev S2x2048x4 : Shape := ⟨3, ![2, 2048, 4]⟩
abbrev S2x2048x1x4 : Shape := ⟨4, ![2, 2048, 1, 4]⟩
abbrev S2x1x2048x4 : Shape := ⟨4, ![2, 1, 2048, 4]⟩
abbrev S2x2048x2048x4 : Shape := ⟨4, ![2, 2048, 2048, 4]⟩
abbrev S2x2048x3 : Shape := ⟨3, ![2, 2048, 3]⟩
abbrev S3 : Shape := ⟨1, ![3]⟩
abbrev S1x1x3 : Shape := ⟨3, ![1, 1, 3]⟩
abbrev S2x2048 : Shape := ⟨2, ![2, 2048]⟩
abbrev S2x2048x1 : Shape := ⟨3, ![2, 2048, 1]⟩
abbrev S2x1x2048 : Shape := ⟨3, ![2, 1, 2048]⟩
abbrev S2x2048x16 : Shape := ⟨3, ![2, 2048, 16]⟩
abbrev S16 : Shape := ⟨1, ![16]⟩
abbrev S1x1x16 : Shape := ⟨3, ![1, 1, 16]⟩

abbrev nBuf : Space → Nat
  | .hbm => 315
  | .vmem => 0
  | .smem => 0
  | _ => 0

abbrev hbmTy0_0 (i : Nat) : BufTy := match i % 128 with
  | 0 => ⟨S2x2048x64, .f32⟩
  | 1 => ⟨S2x2048x64, .f32⟩
  | 2 => ⟨S32x4, .f32⟩
  | 3 => ⟨S32x4, .f32⟩
  | 4 => ⟨S_, .i1⟩
  | 5 => ⟨S2x2048x2048, .i1⟩
  | 6 => ⟨S2x2048x32, .f32⟩
  | 7 => ⟨S2x2048x32, .f32⟩
  | 8 => ⟨S2x2048x4, .f32⟩
  | 9 => ⟨S_, .f32⟩
  | 10 => ⟨S2x2048x4, .f32⟩
  | 11 => ⟨S2x2048x4, .f32⟩
  | 12 => ⟨S2x2048x4, .f32⟩
  | 13 => ⟨S_, .i32⟩
  | 14 => ⟨S_, .f32⟩
  | 15 => ⟨S2x2048x4, .f32⟩
  | 16 => ⟨S2x2048x4, .f32⟩
  | 17 => ⟨S_, .f32⟩
  | 18 => ⟨S2x2048x4, .f32⟩
  | 19 => ⟨S2x2048x4, .i1⟩
  | 20 => ⟨S_, .f32⟩
  | 21 => ⟨S2x2048x4, .f32⟩
  | 22 => ⟨S2x2048x4, .i1⟩
  | 23 => ⟨S_, .f32⟩
  | 24 => ⟨S_, .i1⟩
  | 25 => ⟨S2x2048x4, .i1⟩
  | 26 => ⟨S2x2048x4, .i1⟩
  | 27 => ⟨S2x2048x4, .i1⟩
  | 28 => ⟨S2x2048x4, .f32⟩
  | 29 => ⟨S2x2048x4, .f32⟩
  | 30 => ⟨S2x2048x4, .f32⟩
  | 31 => ⟨S2x2048x4, .i32⟩
  | 32 => ⟨S2x2048x4, .f32⟩
  | 33 => ⟨S_, .f32⟩
  | 34 => ⟨S2x2048x4, .f32⟩
  | 35 => ⟨S2x2048x4, .f32⟩
  | 36 => ⟨S2x2048x4, .f32⟩
  | 37 => ⟨S_, .i32⟩
  | 38 => ⟨S_, .f32⟩
  | 39 => ⟨S2x2048x4, .f32⟩
  | 40 => ⟨S2x2048x4, .f32⟩
  | 41 => ⟨S_, .f32⟩
  | 42 => ⟨S2x2048x4, .f32⟩
  | 43 => ⟨S2x2048x4, .i1⟩
  | 44 => ⟨S_, .f32⟩
  | 45 => ⟨S2x2048x4, .f32⟩
  | 46 => ⟨S2x2048x4, .i1⟩
  | 47 => ⟨S_, .f32⟩
  | 48 => ⟨S_, .i1⟩
  | 49 => ⟨S2x2048x4, .i1⟩
  | 50 => ⟨S2x2048x4, .i1⟩
  | 51 => ⟨S2x2048x4, .i1⟩
  | 52 => ⟨S2x2048x4, .f32⟩
  | 53 => ⟨S2x2048x4, .f32⟩
  | 54 => ⟨S2x2048x4, .f32⟩
  | 55 => ⟨S2x2048x4, .i32⟩
  | 56 => ⟨S2x2048x1x4, .i32⟩
  | 57 => ⟨S2x1x2048x4, .i32⟩
  | 58 => ⟨S2x2048x2048x4, .i32⟩
  | 59 => ⟨S2x2048x2048x4, .i32⟩
  | 60 => ⟨S2x2048x2048x4, .i1⟩
  | 61 => ⟨S_, .i1⟩
  | 62 => ⟨S2x2048x2048, .i1⟩
  | 63 => ⟨S_, .f32⟩
  | 64 => ⟨S2x2048x32, .f32⟩
  | 65 => ⟨S2x2048x32, .i1⟩
  | 66 => ⟨S_, .f32⟩
  | 67 => ⟨S2x2048x32, .f32⟩
  | 68 => ⟨S2x2048x32, .i1⟩
  | 69 => ⟨S2x2048x3, .i1⟩
  | 70 => ⟨S3, .i32⟩
  | 71 => ⟨S_, .i32⟩
  | 72 => ⟨S3, .i32⟩
  | 73 => ⟨S3, .i32⟩
  | 74 => ⟨S2x2048x3, .i32⟩
  | 75 => ⟨S1x1x3, .i32⟩
  | 76 => ⟨S2x2048x3, .i32⟩
  | 77 => ⟨S2x2048x3, .i32⟩
  | 78 => ⟨S_, .i32⟩
  | 79 => ⟨S2x2048, .i32⟩
  | 80 => ⟨S2x2048x3, .i1⟩
  | 81 => ⟨S3, .i32⟩
  | 82 => ⟨S_, .i32⟩
  | 83 => ⟨S3, .i32⟩
  | 84 => ⟨S3, .i32⟩
  | 85 => ⟨S2x2048x3, .i32⟩
  | 86 => ⟨S1x1x3, .i32⟩
  | 87 => ⟨S2x2048x3, .i32⟩
  | 88 => ⟨S2x2048x3, .i32⟩
  | 89 => ⟨S_, .i32⟩
  | 90 => ⟨S2x2048, .i32⟩
  | 91 => ⟨S2x2048x1, .i32⟩
  | 92 => ⟨S2x1x2048, .i32⟩
  | 93 => ⟨S2x2048x2048, .i32⟩
  | 94 => ⟨S2x2048x2048, .i32⟩
  | 95 => ⟨S2x2048x2048, .i1⟩
  | 96 => ⟨S2x2048x16, .i1⟩
  | 97 => ⟨S16, .i32⟩
  | 98 => ⟨S_, .i32⟩
  | 99 => ⟨S16, .i32⟩
  | 100 => ⟨S16, .i32⟩
  | 101 => ⟨S2x2048x16, .i32⟩
  | 102 => ⟨S1x1x16, .i32⟩
  | 103 => ⟨S2x2048x16, .i32⟩
  | 104 => ⟨S2x2048x16, .i32⟩
  | 105 => ⟨S_, .i32⟩
  | 106 => ⟨S2x2048, .i32⟩
  | 107 => ⟨S2x2048x16, .i1⟩
  | 108 => ⟨S16, .i32⟩
  | 109 => ⟨S_, .i32⟩
  | 110 => ⟨S16, .i32⟩
  | 111 => ⟨S16, .i32⟩
  | 112 => ⟨S2x2048x16, .i32⟩
  | 113 => ⟨S1x1x16, .i32⟩
  | 114 => ⟨S2x2048x16, .i32⟩
  | 115 => ⟨S2x2048x16, .i32⟩
  | 116 => ⟨S_, .i32⟩
  | 117 => ⟨S2x2048, .i32⟩
  | 118 => ⟨S2x2048x16, .i1⟩
  | 119 => ⟨S16, .i32⟩
  | 120 => ⟨S_, .i32⟩
  | 121 => ⟨S16, .i32⟩
  | 122 => ⟨S16, .i32⟩
  | 123 => ⟨S2x2048x16, .i32⟩
  | 124 => ⟨S1x1x16, .i32⟩
  | 125 => ⟨S2x2048x16, .i32⟩
  | 126 => ⟨S2x2048x16, .i32⟩
  | 127 => ⟨S_, .i32⟩
  | _ => ⟨S2x2048x64, .f32⟩

abbrev hbmTy0_1 (i : Nat) : BufTy := match i % 128 with
  | 0 => ⟨S2x2048, .i32⟩
  | 1 => ⟨S2x2048x16, .i1⟩
  | 2 => ⟨S16, .i32⟩
  | 3 => ⟨S_, .i32⟩
  | 4 => ⟨S16, .i32⟩
  | 5 => ⟨S16, .i32⟩
  | 6 => ⟨S2x2048x16, .i32⟩
  | 7 => ⟨S1x1x16, .i32⟩
  | 8 => ⟨S2x2048x16, .i32⟩
  | 9 => ⟨S2x2048x16, .i32⟩
  | 10 => ⟨S_, .i32⟩
  | 11 => ⟨S2x2048, .i32⟩
  | 12 => ⟨S2x2048x1, .i32⟩
  | 13 => ⟨S2x1x2048, .i32⟩
  | 14 => ⟨S2x2048x2048, .i32⟩
  | 15 => ⟨S2x2048x2048, .i32⟩
  | 16 => ⟨S2x2048x2048, .i1⟩
  | 17 => ⟨S2x2048x1, .i32⟩
  | 18 => ⟨S2x1x2048, .i32⟩
  | 19 => ⟨S2x2048x2048, .i32⟩
  | 20 => ⟨S2x2048x2048, .i32⟩
  | 21 => ⟨S2x2048x2048, .i1⟩
  | 22 => ⟨S2x2048x2048, .i1⟩
  | 23 => ⟨S2x2048x2048, .i1⟩
  | 24 => ⟨S2x2048x2048, .i1⟩
  | 25 => ⟨S2x2048x2048, .i1⟩
  | 26 => ⟨S2x2048x32, .f32⟩
  | 27 => ⟨S2x2048x32, .f32⟩
  | 28 => ⟨S2x2048x4, .f32⟩
  | 29 => ⟨S_, .f32⟩
  | 30 => ⟨S2x2048x4, .f32⟩
  | 31 => ⟨S2x2048x4, .f32⟩
  | 32 => ⟨S2x2048x4, .f32⟩
  | 33 => ⟨S_, .i32⟩
  | 34 => ⟨S_, .f32⟩
  | 35 => ⟨S2x2048x4, .f32⟩
  | 36 => ⟨S2x2048x4, .f32⟩
  | 37 => ⟨S_, .f32⟩
  | 38 => ⟨S2x2048x4, .f32⟩
  | 39 => ⟨S2x2048x4, .i1⟩
  | 40 => ⟨S_, .f32⟩
  | 41 => ⟨S2x2048x4, .f32⟩
  | 42 => ⟨S2x2048x4, .i1⟩
  | 43 => ⟨S_, .f32⟩
  | 44 => ⟨S_, .i1⟩
  | 45 => ⟨S2x2048x4, .i1⟩
  | 46 => ⟨S2x2048x4, .i1⟩
  | 47 => ⟨S2x2048x4, .i1⟩
  | 48 => ⟨S2x2048x4, .f32⟩
  | 49 => ⟨S2x2048x4, .f32⟩
  | 50 => ⟨S2x2048x4, .f32⟩
  | 51 => ⟨S2x2048x4, .i32⟩
  | 52 => ⟨S2x2048x4, .f32⟩
  | 53 => ⟨S_, .f32⟩
  | 54 => ⟨S2x2048x4, .f32⟩
  | 55 => ⟨S2x2048x4, .f32⟩
  | 56 => ⟨S2x2048x4, .f32⟩
  | 57 => ⟨S_, .i32⟩
  | 58 => ⟨S_, .f32⟩
  | 59 => ⟨S2x2048x4, .f32⟩
  | 60 => ⟨S2x2048x4, .f32⟩
  | 61 => ⟨S_, .f32⟩
  | 62 => ⟨S2x2048x4, .f32⟩
  | 63 => ⟨S2x2048x4, .i1⟩
  | 64 => ⟨S_, .f32⟩
  | 65 => ⟨S2x2048x4, .f32⟩
  | 66 => ⟨S2x2048x4, .i1⟩
  | 67 => ⟨S_, .f32⟩
  | 68 => ⟨S_, .i1⟩
  | 69 => ⟨S2x2048x4, .i1⟩
  | 70 => ⟨S2x2048x4, .i1⟩
  | 71 => ⟨S2x2048x4, .i1⟩
  | 72 => ⟨S2x2048x4, .f32⟩
  | 73 => ⟨S2x2048x4, .f32⟩
  | 74 => ⟨S2x2048x4, .f32⟩
  | 75 => ⟨S2x2048x4, .i32⟩
  | 76 => ⟨S2x2048x1x4, .i32⟩
  | 77 => ⟨S2x1x2048x4, .i32⟩
  | 78 => ⟨S2x2048x2048x4, .i32⟩
  | 79 => ⟨S2x2048x2048x4, .i32⟩
  | 80 => ⟨S2x2048x2048x4, .i1⟩
  | 81 => ⟨S_, .i1⟩
  | 82 => ⟨S2x2048x2048, .i1⟩
  | 83 => ⟨S_, .f32⟩
  | 84 => ⟨S2x2048x32, .f32⟩
  | 85 => ⟨S2x2048x32, .i1⟩
  | 86 => ⟨S_, .f32⟩
  | 87 => ⟨S2x2048x32, .f32⟩
  | 88 => ⟨S2x2048x32, .i1⟩
  | 89 => ⟨S2x2048x3, .i1⟩
  | 90 => ⟨S3, .i32⟩
  | 91 => ⟨S_, .i32⟩
  | 92 => ⟨S3, .i32⟩
  | 93 => ⟨S3, .i32⟩
  | 94 => ⟨S2x2048x3, .i32⟩
  | 95 => ⟨S1x1x3, .i32⟩
  | 96 => ⟨S2x2048x3, .i32⟩
  | 97 => ⟨S2x2048x3, .i32⟩
  | 98 => ⟨S_, .i32⟩
  | 99 => ⟨S2x2048, .i32⟩
  | 100 => ⟨S2x2048x3, .i1⟩
  | 101 => ⟨S3, .i32⟩
  | 102 => ⟨S_, .i32⟩
  | 103 => ⟨S3, .i32⟩
  | 104 => ⟨S3, .i32⟩
  | 105 => ⟨S2x2048x3, .i32⟩
  | 106 => ⟨S1x1x3, .i32⟩
  | 107 => ⟨S2x2048x3, .i32⟩
  | 108 => ⟨S2x2048x3, .i32⟩
  | 109 => ⟨S_, .i32⟩
  | 110 => ⟨S2x2048, .i32⟩
  | 111 => ⟨S2x2048x1, .i32⟩
  | 112 => ⟨S2x1x2048, .i32⟩
  | 113 => ⟨S2x2048x2048, .i32⟩
  | 114 => ⟨S2x2048x2048, .i32⟩
  | 115 => ⟨S2x2048x2048, .i1⟩
  | 116 => ⟨S2x2048x16, .i1⟩
  | 117 => ⟨S16, .i32⟩
  | 118 => ⟨S_, .i32⟩
  | 119 => ⟨S16, .i32⟩
  | 120 => ⟨S16, .i32⟩
  | 121 => ⟨S2x2048x16, .i32⟩
  | 122 => ⟨S1x1x16, .i32⟩
  | 123 => ⟨S2x2048x16, .i32⟩
  | 124 => ⟨S2x2048x16, .i32⟩
  | 125 => ⟨S_, .i32⟩
  | 126 => ⟨S2x2048, .i32⟩
  | 127 => ⟨S2x2048x16, .i1⟩
  | _ => ⟨S2x2048x64, .f32⟩

abbrev hbmTy0_2 (i : Nat) : BufTy := match i % 128 with
  | 0 => ⟨S16, .i32⟩
  | 1 => ⟨S_, .i32⟩
  | 2 => ⟨S16, .i32⟩
  | 3 => ⟨S16, .i32⟩
  | 4 => ⟨S2x2048x16, .i32⟩
  | 5 => ⟨S1x1x16, .i32⟩
  | 6 => ⟨S2x2048x16, .i32⟩
  | 7 => ⟨S2x2048x16, .i32⟩
  | 8 => ⟨S_, .i32⟩
  | 9 => ⟨S2x2048, .i32⟩
  | 10 => ⟨S2x2048x16, .i1⟩
  | 11 => ⟨S16, .i32⟩
  | 12 => ⟨S_, .i32⟩
  | 13 => ⟨S16, .i32⟩
  | 14 => ⟨S16, .i32⟩
  | 15 => ⟨S2x2048x16, .i32⟩
  | 16 => ⟨S1x1x16, .i32⟩
  | 17 => ⟨S2x2048x16, .i32⟩
  | 18 => ⟨S2x2048x16, .i32⟩
  | 19 => ⟨S_, .i32⟩
  | 20 => ⟨S2x2048, .i32⟩
  | 21 => ⟨S2x2048x16, .i1⟩
  | 22 => ⟨S16, .i32⟩
  | 23 => ⟨S_, .i32⟩
  | 24 => ⟨S16, .i32⟩
  | 25 => ⟨S16, .i32⟩
  | 26 => ⟨S2x2048x16, .i32⟩
  | 27 => ⟨S1x1x16, .i32⟩
  | 28 => ⟨S2x2048x16, .i32⟩
  | 29 => ⟨S2x2048x16, .i32⟩
  | 30 => ⟨S_, .i32⟩
  | 31 => ⟨S2x2048, .i32⟩
  | 32 => ⟨S2x2048x1, .i32⟩
  | 33 => ⟨S2x1x2048, .i32⟩
  | 34 => ⟨S2x2048x2048, .i32⟩
  | 35 => ⟨S2x2048x2048, .i32⟩
  | 36 => ⟨S2x2048x2048, .i1⟩
  | 37 => ⟨S2x2048x1, .i32⟩
  | 38 => ⟨S2x1x2048, .i32⟩
  | 39 => ⟨S2x2048x2048, .i32⟩
  | 40 => ⟨S2x2048x2048, .i32⟩
  | 41 => ⟨S2x2048x2048, .i1⟩
  | 42 => ⟨S2x2048x2048, .i1⟩
  | 43 => ⟨S2x2048x2048, .i1⟩
  | 44 => ⟨S2x2048x2048, .i1⟩
  | 45 => ⟨S2x2048x2048, .i1⟩
  | 46 => ⟨S2x2048x2048, .f32⟩
  | 47 => ⟨S_, .f32⟩
  | 48 => ⟨S2x2048x2048, .f32⟩
  | 49 => ⟨S2x2048x2048, .f32⟩
  | 50 => ⟨S2x2048x64, .f32⟩
  | 51 => ⟨S2x2048x64, .i32⟩
  | 52 => ⟨S_, .f32⟩
  | 53 => ⟨S2x2048x64, .f32⟩
  | 54 => ⟨S2x2048x64, .i1⟩
  | 55 => ⟨S_, .i32⟩
  | 56 => ⟨S_, .i32⟩
  | 57 => ⟨S2x2048x64, .i32⟩
  | 58 => ⟨S2x2048x64, .i32⟩
  | _ => ⟨S2x2048x64, .f32⟩

abbrev hbmTy (i : Nat) : BufTy := match i / 128 with
  | 0 => hbmTy0_0 i
  | 1 => hbmTy0_1 i
  | 2 => hbmTy0_2 i
  | _ => ⟨S2x2048x64, .f32⟩

abbrev bufTy : (tb : Table) → Fin (tcTables nBuf tb) → BufTy
  | .hbm, ⟨i, _⟩ => hbmTy i
  | _, _ => ⟨S2x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c_3 : Ref sig .tc := ⟨.hbm, 61, rfl⟩
abbrev main_v20 : Ref sig .tc := ⟨.hbm, 62, rfl⟩
abbrev main_cst_4 : Ref sig .tc := ⟨.hbm, 63, rfl⟩
abbrev main_v21 : Ref sig .tc := ⟨.hbm, 64, rfl⟩
abbrev main_v22 : Ref sig .tc := ⟨.hbm, 65, rfl⟩
abbrev main_cst_5 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_6 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_7 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_8 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_9 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_10 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_11 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_12 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_13 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_14 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_15 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_16 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_17 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_18 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_19 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_call2_cst : Ref sig .tc := ⟨.hbm, 165, rfl⟩
abbrev main_call2_v3 : Ref sig .tc := ⟨.hbm, 166, rfl⟩
abbrev main_call2_v4 : Ref sig .tc := ⟨.hbm, 167, rfl⟩
abbrev main_call2_cst_0 : Ref sig .tc := ⟨.hbm, 168, rfl⟩
abbrev main_call2_v5 : Ref sig .tc := ⟨.hbm, 169, rfl⟩
abbrev main_call2_v6 : Ref sig .tc := ⟨.hbm, 170, rfl⟩
abbrev main_call2_cst_1 : Ref sig .tc := ⟨.hbm, 171, rfl⟩
abbrev main_call2_v7 : Ref sig .tc := ⟨.hbm, 172, rfl⟩
abbrev main_call2_v8 : Ref sig .tc := ⟨.hbm, 173, rfl⟩
abbrev main_call2_v9 : Ref sig .tc := ⟨.hbm, 174, rfl⟩
abbrev main_call2_v10 : Ref sig .tc := ⟨.hbm, 175, rfl⟩
abbrev main_call2_v11 : Ref sig .tc := ⟨.hbm, 176, rfl⟩
abbrev main_call2_v12 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_cst_20 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_c_21 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_call3_cst : Ref sig .tc := ⟨.hbm, 189, rfl⟩
abbrev main_call3_v3 : Ref sig .tc := ⟨.hbm, 190, rfl⟩
abbrev main_call3_v4 : Ref sig .tc := ⟨.hbm, 191, rfl⟩
abbrev main_call3_cst_0 : Ref sig .tc := ⟨.hbm, 192, rfl⟩
abbrev main_call3_v5 : Ref sig .tc := ⟨.hbm, 193, rfl⟩
abbrev main_call3_v6 : Ref sig .tc := ⟨.hbm, 194, rfl⟩
abbrev main_call3_cst_1 : Ref sig .tc := ⟨.hbm, 195, rfl⟩
abbrev main_call3_v7 : Ref sig .tc := ⟨.hbm, 196, rfl⟩
abbrev main_call3_v8 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_v12 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_c_22 : Ref sig .tc := ⟨.hbm, 209, rfl⟩
abbrev main_v117 : Ref sig .tc := ⟨.hbm, 210, rfl⟩
abbrev main_cst_23 : Ref sig .tc := ⟨.hbm, 211, rfl⟩
abbrev main_v118 : Ref sig .tc := ⟨.hbm, 212, rfl⟩
abbrev main_v119 : Ref sig .tc := ⟨.hbm, 213, rfl⟩
abbrev main_cst_24 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_c_25 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_c_26 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_c_27 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_c_28 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_c_29 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_c_30 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_c_31 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_c_32 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_c_33 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_c_34 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_c_35 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_c_36 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_cst_37 : Ref sig .tc := ⟨.hbm, 303, rfl⟩
abbrev main_call4_v0 : Ref sig .tc := ⟨.hbm, 304, rfl⟩
abbrev main_v196 : Ref sig .tc := ⟨.hbm, 305, rfl⟩
abbrev main_values : Ref sig .tc := ⟨.hbm, 306, rfl⟩
abbrev main_indices : Ref sig .tc := ⟨.hbm, 307, rfl⟩
abbrev main_cst_38 : Ref sig .tc := ⟨.hbm, 308, rfl⟩
abbrev main_v197 : Ref sig .tc := ⟨.hbm, 309, rfl⟩
abbrev main_v198 : Ref sig .tc := ⟨.hbm, 310, rfl⟩
abbrev main_c_39 : Ref sig .tc := ⟨.hbm, 311, rfl⟩
abbrev main_call5_v0 : Ref sig .tc := ⟨.hbm, 312, rfl⟩
abbrev main_call5_v1 : Ref sig .tc := ⟨.hbm, 313, rfl⟩
abbrev main_v199 : Ref sig .tc := ⟨.hbm, 314, rfl⟩

abbrev nD : Nat := 1
abbrev τ : Topo := Topo.v7x

variable {F : FTy → Type} [FloatOps F]
-- ==== Proof.Hoare.lean ====
/-
  A small program logic for one tile of the join kernel.  A tile's scratch buffers are read and written by that tile
  alone, so what the tile holds is described by a record of their contents (`Mem`), and a stretch of the kernel is
  described by a relation between the record before it and its result and the record after it (`T`).  Every rule below
  is one operation of the kernel: a load, a store, an indexed load or store, a copy with its wait, a check, a loop.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.WordExact
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Join

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × (UR sig nD τ × Counters)

local notation "𝕄" => MT nD τ sig (HIx 1) (Elt F) ℕ UU ℕ

abbrev 𝒱₀ : Variants := Variants.none

/-- The counters the copies of a tile are tracked by. -/
abbrev EC : UEmb Counters (MT nD τ sig (HIx 1) (Elt F) ℕ UU ℕ) := countersEmb

/-- A unit-stride rectangle written over contents `f`. -/
def put {α : Type} {s : Shape} (f : s.Idx → α) (r : Rect s) (w : r.shape.Idx → α) : s.Idx → α := fun y =>
  match preimage? r.emb y with
  | some x => w x
  | none => f y

theorem put_emb {α : Type} {s : Shape} (f : s.Idx → α) (r : Rect s) (w : r.shape.Idx → α) (x : r.shape.Idx) :
    put f r w (r.emb x) = w x := by
  unfold put; rw [preimage?_emb]

theorem put_of_ne {α : Type} {s : Shape} (f : s.Idx → α) (r : Rect s) (w : r.shape.Idx → α) (y : s.Idx)
    (h : ∀ x, r.emb x ≠ y) : put f r w y = f y := by
  unfold put; rw [preimage?_eq_none h]

/-- The contents of the buffers one batch's pass reads and writes. -/
structure Mem (F : FTy → Type) where
  pres : Vec F S32768 .i32
  pres2 : Vec F S16384 .i32
  kv : Vec F S2x2048 .i32
  qv : Vec F S10x128 .i32
  khw : Vec F S8x128 .i32
  qrow : Vec F S1x64 .f32
  krow : Vec F S1x64 .f32
  lsc : Vec F S64x64 .f32
  lidx : Vec F S64x64 .i32
  lcnt : Vec F S64 .i32

/-- The buffers themselves, and the copies' counters. -/
structure Regs where
  a3 : Memref sig .scVector .hbm S2x10x2048 .i32
  a4 : Memref sig .scVector .hbm S2x2048x64 .f32
  a5 : Memref sig .scVector .hbm S2x2048x64 .f32
  pres : Memref sig .scVector .vmem S32768 .i32
  pres2 : Memref sig .scVector .vmem S16384 .i32
  kv : Memref sig .scVector .vmem S2x2048 .i32
  qv : Memref sig .scVector .vmem S10x128 .i32
  khw : Memref sig .scVector .vmem S8x128 .i32
  qrow : Memref sig .scVector .vmem S1x64 .f32
  krow : Memref sig .scVector .vmem S1x64 .f32
  lsc : Memref sig .scVector .vmem S64x64 .f32
  lidx : Memref sig .scVector .vmem S64x64 .i32
  lcnt : Memref sig .scVector .vmem S64 .i32
  s0 : DmaSem sig
  s1 : DmaSem sig
  s2 : DmaSem sig

section

variable (d : Dev nD) (c : Fin τ.nSC) (j : Fin τ.nSub)

/-- The tile holds buffer `m` at the contents `f`. -/
def holds {sp : Space} {s : Shape} {e : EltTy} (m : Memref sig .scVector sp s e) (f : Vec F s e) : sProp 𝕄 :=
  iprop(∃ raw : Buf (Elt F) (m.view.loc (V d c j)), ⌜m.view.read (Elt F) raw = f⌝ ∗ m.view.loc (V d c j) ↦[m.view.set]{fullShare} raw)

/-- The tile holds a read share of buffer `m` at the contents `f`. -/
def shares {sp : Space} {s : Shape} {e : EltTy} (m : Memref sig .scVector sp s e) (q : PosShare TreeShare) (raw : Buf (Elt F) (m.view.loc (V d c j))) : sProp 𝕄 :=
  iprop(m.view.loc (V d c j) ↦[m.view.set]{q} raw)

/-- What a tile owes and has waited for, as its waits need it. -/
def owing (O : CellTallies nD τ sig (HIx 1)) (W : Waits sig (HIx 1)) : sProp 𝕄 :=
  iprop(Transfers.MayWaits (V d c j) (none : HIx 1) O ∗ ∃ W', ⌜∀ p ∈ W', p ∈ W ∨ p.2 = none⌝ ∗ owes (V d c j) O W')

/-- A tile's fixed surroundings: its buffers, the arrays it reads with the shares it reads them by, what it owes. -/
structure Env (F : FTy → Type) (d : Dev nD) (c : Fin τ.nSC) (j : Fin τ.nSub) (A : Regs) where
  q3 : PosShare TreeShare
  q4 : PosShare TreeShare
  q5 : PosShare TreeShare
  r3 : Buf (Elt F) (A.a3.view.loc (V d c j))
  r4 : Buf (Elt F) (A.a4.view.loc (V d c j))
  r5 : Buf (Elt F) (A.a5.view.loc (V d c j))
  O : CellTallies nD τ sig (HIx 1)
  W : Waits sig (HIx 1)
  /-- The tile holds the two buffers of signatures, no copy into them being under way. -/
  on : Bool

variable {d c j} {A : Regs}

class Env.On (E : Env F d c j A) : Prop where
  on : E.on = true

/-- The arrays as read. -/
def Env.KS (E : Env F d c j A) : Vec F S2x10x2048 .i32 := A.a3.view.read (Elt F) E.r3
def Env.QT (E : Env F d c j A) : Vec F S2x2048x64 .f32 := A.a4.view.read (Elt F) E.r4
def Env.KT (E : Env F d c j A) : Vec F S2x2048x64 .f32 := A.a5.view.read (Elt F) E.r5

/-- The tile's resources at the record `σ`. -/
def St (E : Env F d c j A) (σ : Mem F) : sProp 𝕄 :=
  iprop(shares d c j A.a3 E.q3 E.r3 ∗ shares d c j A.a4 E.q4 E.r4 ∗ shares d c j A.a5 E.q5 E.r5
    ∗ holds d c j A.pres σ.pres ∗ holds d c j A.pres2 σ.pres2 ∗ (if E.on = true then iprop(holds d c j A.kv σ.kv ∗ holds d c j A.qv σ.qv) else iprop(emp))
    ∗ holds d c j A.khw σ.khw ∗ holds d c j A.qrow σ.qrow ∗ holds d c j A.krow σ.krow
    ∗ holds d c j A.lsc σ.lsc ∗ holds d c j A.lidx σ.lidx ∗ holds d c j A.lcnt σ.lcnt
    ∗ semVal (V d c j, SemLoc.dma A.s0) 0 ∗ semVal (V d c j, SemLoc.dma A.s1) 0 ∗ semVal (V d c j, SemLoc.dma A.s2) 0
    ∗ owing d c j E.O E.W)

variable [FloatOps F]

abbrev PT (F : FTy → Type) (c : Fin τ.nSC) (j : Fin τ.nSub) (α : Type) : Type 1 := Prog (TpuEff nD τ sig (Elt F) Λ₀ (.scVector c j)) α

/-- From `σ`, the program ends with a result and a record that `Q` relates. -/
def T {α : Type} (E : Env F d c j A) (σ : Mem F) (p : PT F c j α) (Q : α → Mem F → Prop) : Prop :=
  St E σ ⊢ wp frame (wpE (defs₀ (F := F)) 𝒱₀ (V d c j) none) Set.univ p (fun v => iprop(∃ σ', ⌜Q v σ'⌝ ∗ St E σ'))

variable {E : Env F d c j A} {σ : Mem F} {α β : Type} {Q : α → Mem F → Prop}

theorem T_pure {v : α} (h : Q v σ) : T E σ (pure v) Q := by
  unfold T
  rw [show (pure v : PT F c j α) = .ret v from rfl, wp_ret]
  iintro H
  imodintro
  iexists σ
  isplitr; · ipureintro; exact h
  iexact H

theorem T_bind {p : PT F c j β} {k : β → PT F c j α} {R : β → Mem F → Prop} (h : T E σ p R)
    (hk : ∀ v σ', R v σ' → T E σ' (k v) Q) : T E σ (p >>= k) Q := by
  unfold T
  rw [wp_bind]
  refine BIBase.Entails.trans h (wp_mono frame _ _ fun v => ?_)
  iintro ⟨%σ', %hr, H⟩
  have hkk := hk v σ' hr
  unfold T at hkk
  iapply hkk
  iexact H

theorem T_mono {p : PT F c j α} {R : α → Mem F → Prop} (h : T E σ p R) (hk : ∀ v σ', R v σ' → Q v σ') : T E σ p Q := by
  unfold T
  refine BIBase.Entails.trans h (wp_mono frame _ _ fun v => ?_)
  iintro ⟨%σ', %hr, H⟩
  iexists σ'
  isplitr; · ipureintro; exact hk v σ' hr
  iexact H

theorem T_for (lb ub st : BitVec 32) (hok : Scf.OK lb ub st) {γ : Type} (init : γ) (body : Fin (Scf.trips lb ub st) → γ → PT F c j γ)
    (I : ℕ → γ → Mem F → Prop) (h0 : I 0 init σ)
    (hb : ∀ (k : Fin (Scf.trips lb ub st)) v σ', I k.val v σ' → T E σ' (body k v) (I (k.val + 1))) :
    T E σ (Scf.for lb ub st hok init body) (I (Scf.trips lb ub st)) := by
  unfold T
  refine BIBase.Entails.trans ?_ (Scf.wp_for frame _ _ lb ub st hok init body (fun k v => iprop(∃ σ', ⌜I k v σ'⌝ ∗ St E σ')) (fun k v => ?_))
  · iintro H
    isplitl [H]
    · iexists σ
      isplitr; · ipureintro; exact h0
      iexact H
    · iintro %v Hv; iexact Hv
  · iintro ⟨%σ', %hr, H⟩
    have hkk := hb k v σ' hr
    unfold T at hkk
    iapply hkk
    iexact H

theorem T_assume {P : Prop} {dP : Decidable P} {k : PLift P → PT F c j α} (h : P) (hk : T E σ (k ⟨h⟩) Q) :
    T E σ (Prog.lift (TpuEff.assume P dP) >>= k) Q := by
  unfold T at hk ⊢
  rw [show (Prog.lift (TpuEff.assume P dP) >>= k : PT F c j α) = .op (.assume P dP) k from rfl, wp_assume_of _ _ _ _ h]
  exact hk

/-- A buffer of the record: reading it and putting it back. -/
structure Cell (E : Env F d c j A) {s : Shape} {e : EltTy} (m : Memref sig .scVector .vmem s e) where
  get : Mem F → Vec F s e
  set : Mem F → Vec F s e → Mem F
  split : ∀ σ, St E σ ⊢ iprop(holds d c j m (get σ) ∗ (∀ f, holds d c j m f -∗ St E (set σ f)))
  set_get : ∀ σ, set σ (get σ) = σ

variable {s : Shape} {e : EltTy} {m : Memref sig .scVector .vmem s e}

theorem T_load (C : Cell E m) {r : Rect s} {hl : m.view.LoadsAt r} {k : (r.shape.Idx → Elt F e) → PT F c j α}
    (hk : T E σ (k (fun x => C.get σ (r.emb x))) Q) : T E σ (Prog.lift (.load m r hl) >>= k) Q := by
  unfold T at hk ⊢
  rw [show (Prog.lift (.load m r hl) >>= k : PT F c j α) = .op (.load m r hl) k from rfl]
  iintro H
  ihave Hs := (C.split σ) $$ H
  unfold holds
  icases Hs with ⟨⟨%raw, %hr, Hm⟩, Hback⟩
  iapply (wp_load 𝒱₀ (V d c j) none Set.univ (m := m) (r := r) (S := m.view.set) (View.setOn_subset_set _ _)) $$ Hm
  iintro Hm
  rw [show m.view.readAt (Elt F) r.toLoadRect raw = (fun x => C.get σ (r.emb x)) from by rw [← hr]; rfl]
  iapply hk
  ispecialize Hback $$ %(C.get σ)
  rw [C.set_get]
  iapply Hback
  iexists raw
  isplitr; · ipureintro; exact hr
  iexact Hm

theorem T_store (C : Cell E m) {r : Rect s} {w : r.shape.Idx → Elt F e} {hx : (m.access r).Stores Finset.univ}
    {hm : Finset.univ = Finset.univ ∨ ∀ a, r.stride a = 1} {k : PUnit → PT F c j α}
    (hk : T E (C.set σ (put (C.get σ) r w)) (k ⟨⟩) Q) : T E σ (Prog.lift (.store m r w Finset.univ hx hm) >>= k) Q := by
  unfold T at hk ⊢
  rw [show (Prog.lift (.store m r w Finset.univ hx hm) >>= k : PT F c j α) = .op (.store m r w Finset.univ hx hm) k from rfl]
  iintro H
  ihave Hs := (C.split σ) $$ H
  unfold holds
  icases Hs with ⟨⟨%raw, %hr, Hm⟩, Hback⟩
  iapply (wp_store 𝒱₀ (V d c j) none Set.univ (m := m) (r := r) (hx := hx) (hm := hm) (S := m.view.set) (View.set_slice_subset _ _)) $$ Hm
  iintro Hm
  iapply hk
  iapply Hback
  iexists _
  isplitr [Hm]
  rotate_left
  · iexact Hm
  · ipureintro
    funext y
    rw [← hr]
    by_cases h : ∃ x, r.emb x = y
    · obtain ⟨x, rfl⟩ := h
      rw [put_emb]
      exact View.read_write_of_mem (v := m.view.slice r) raw w (Finset.mem_univ x)
    · rw [put_of_ne _ _ _ _ (fun x hx => h ⟨x, hx⟩)]
      rw [View.read_apply, View.write_of_not_mem, ← View.read_apply]
      rintro hmem
      obtain ⟨x, -, he⟩ := Finset.mem_map.mp hmem
      exact h ⟨x, m.view.emb.injective he⟩

theorem T_ldx (C : Cell E m) {t : Shape} {idxs : Fin s.rank → IVec t 32}
    {h : ∀ a x, (idxs a x).toNat < s.size a} {hl : m.view.Loads} {k : Vec F t e → PT F c j α}
    (hk : T E σ (k (loadIdx (C.get σ) idxs h)) Q) : T E σ (SparseCore.vectorLoadIdx m idxs h hl >>= k) Q := by
  unfold T at hk ⊢
  iintro H
  ihave Hs := (C.split σ) $$ H
  unfold holds
  icases Hs with ⟨⟨%raw, %hr, Hm⟩, Hback⟩
  iapply (SparseCore.wp_vectorLoadIdx 𝒱₀ (V d c j) none Set.univ (base := m) (S := m.view.set) (f := raw) (View.set_slice_subset _ _)) $$ Hm
  iintro Hm
  rw [show (m.access (.whole s)).read (Elt F) raw = C.get σ from by
    rw [← hr]; funext x; exact congrArg (m.view.read (Elt F) raw) (Rect.emb_whole_apply _ x)]
  iapply hk
  ispecialize Hback $$ %(C.get σ)
  rw [C.set_get]
  iapply Hback
  iexists raw
  isplitr; · ipureintro; exact hr
  iexact Hm

theorem T_stx (C : Cell E m) {n : Fin 1 → Nat} {idxs : Fin s.rank → IVec ⟨1, n⟩ 32} {v : Vec F ⟨1, n⟩ e} {mask : IVec ⟨1, n⟩ 1} {add : Bool}
    {h : ∀ a x, (idxs a x).toNat < s.size a} {hs : (m.access (.whole s)).Stores Finset.univ} {k : PUnit → PT F c j α}
    (hk : T E (C.set σ (storeIdx (C.get σ) idxs v mask add h)) (k ⟨⟩) Q) :
    T E σ (SparseCore.vectorStoreIdx m idxs v mask add h hs >>= k) Q := by
  unfold T at hk ⊢
  iintro H
  ihave Hs := (C.split σ) $$ H
  unfold holds
  icases Hs with ⟨⟨%raw, %hr, Hm⟩, Hback⟩
  have hset : (m.access (.whole s)).set = m.view.set := View.set_slice_rectWhole m.view
  have hread : ∀ raw, (m.access (.whole s)).read (Elt F) raw = m.view.read (Elt F) raw := fun raw => by
    funext x; exact congrArg (m.view.read (Elt F) raw) (Rect.emb_whole_apply _ x)
  iapply (SparseCore.wp_vectorStoreIdx 𝒱₀ (V d c j) none Set.univ (base := m) (f := raw) (hs := hs)) $$ [Hm]
  · rw [hset]; iexact Hm
  iintro Hm
  rw [hset, hread, hr]
  iapply hk
  iapply Hback
  iexists _
  isplitr [Hm]
  rotate_left
  · iexact Hm
  · ipureintro
    rw [← hread]
    exact View.read_write_univ _ _

/-- A copy from a part of an array the tile reads into a buffer of the record, with the counter it is waited for on. -/
structure CopyCell (E : Env F d c j A) {sp : Space} {sb : Shape} {e : EltTy} (b : Memref sig .scVector sp sb e)
    {s : Shape} (m : Memref sig .scVector .vmem s e) (sem : DmaSem sig) where
  q : PosShare TreeShare
  raw : Buf (Elt F) (b.view.loc (V d c j))
  set : Mem F → Vec F s e → Mem F
  split : ∀ σ, St E σ ⊢ iprop(shares d c j b q raw ∗ (∃ f, holds d c j m f) ∗ semVal (V d c j, SemLoc.dma sem) 0 ∗ owing d c j E.O E.W
    ∗ (∀ f, (shares d c j b q raw ∗ holds d c j m f ∗ semVal (V d c j, SemLoc.dma sem) 0 ∗ owing d c j E.O E.W) -∗ St E (set σ f)))

theorem T_copy {sp : Space} {sb : Shape} {b : Memref sig .scVector sp sb e} {sem : DmaSem sig} (C : CopyCell E b m sem)
    {r : Rect sb} {hr : ∀ a, r.stride a = 1} {hq : r.shape.Squeezes s} (hpos : 0 < s.numel)
    {sp' : Space} {s' : Shape} {e' : EltTy} {srcw : Memref sig .scVector sp' s' e'}
    {h1 : ((b.slice r hr).squeeze s hq).view.WordExact} {h2 : m.view.WordExact} {h3 : DmaTarget.Typed (nD := nD) sp (.dma sem) (DmaTarget.here (p := Proc.scVector c j) m)}
    {h4 : srcw.view.WordExact} {h5 : m.view.WordExact}
    {k : PUnit → PT F c j α} (hk : T E (C.set σ (((b.slice r hr).squeeze s hq).view.read (Elt F) C.raw)) (k ⟨⟩) Q) :
    T E σ (Prog.lift (.enqueueDma ((b.slice r hr).squeeze s hq) (.here m) (.dma sem) h1 h2 h3)
      >>= fun _ => Prog.lift (.waitDma2 sem srcw m h4 h5) >>= k) Q := by
  unfold T at hk ⊢
  rw [show (Prog.lift (.enqueueDma ((b.slice r hr).squeeze s hq) (.here m) (.dma sem) h1 h2 h3)
      >>= fun _ => Prog.lift (.waitDma2 sem srcw m h4 h5) >>= k : PT F c j α)
      = .op (.enqueueDma ((b.slice r hr).squeeze s hq) (.here m) (.dma sem) h1 h2 h3) fun _ => .op (.waitDma2 sem srcw m h4 h5) k from rfl]
  iintro H
  ihave Hs := (C.split σ) $$ H
  unfold holds shares owing
  icases Hs with ⟨Hb, ⟨%fm, %rawm, -, Hm⟩, Hsem, ⟨#Hmw, %W', %hW, HO⟩, Hback⟩
  have hsub : ((b.slice r hr).squeeze s hq).view.set ⊆ b.view.set := by
    rw [View.set_reshape]; exact View.set_slice_subset _ _
  ihave Hb2 := (pointsTo_split_subset (q := C.q) (f := C.raw) hsub).1 $$ Hb
  icases Hb2 with ⟨Hb, Hrest⟩
  iapply (Transfers.wp_dmaLocal EC 𝒱₀ (V d c j) none (src := (b.slice r hr).squeeze s hq) (none : HIx 1) (m.view.amount (SemLoc.dma sem)) rfl
    (View.amount_pos _ _ hpos) (Finset.Subset.refl _)) $$ [Hb Hm Hsem]
  · isplitl [Hb]; · iexact Hb
    isplitl [Hm]; · iexact Hm
    iexact Hsem
  iintro Hfl
  ihave Hmw1 := (Transfers.MayWaits.elim (SemLoc.dma sem)) $$ Hmw
  iapply (Transfers.wp_waitLocalO EC 𝒱₀ (V d c j) none (none : HIx 1) (N := m.view.amount (SemLoc.dma sem)) rfl) $$ [Hfl HO Hmw1]
  · isplitl [Hfl]; · iexact Hfl
    isplitl [HO]; · iexact HO
    iexact Hmw1
  iintro ⟨⟨Hm, Hb⟩, Hsem, HO⟩
  iapply hk
  iapply Hback
  isplitl [Hb Hrest]
  · iapply (pointsTo_split_subset (q := C.q) (f := C.raw) hsub).2
    isplitl [Hb]; · iexact Hb
    iexact Hrest
  isplitl [Hm]
  · iexists _
    isplitr [Hm]
    rotate_left
    · iexact Hm
    · ipureintro
      exact View.read_write_univ _ _
  isplitl [Hsem]; · iexact Hsem
  isplitr; · iexact Hmw
  iexists (insert (SemLoc.dma sem, (none : HIx 1)) W')
  isplitr
  · ipureintro
    intro p hp
    rcases Finset.mem_insert.mp hp with rfl | hp
    · exact .inr rfl
    · exact hW p hp
  iexact HO

def c_pres (E : Env F d c j A) : Cell E A.pres where
  get σ := σ.pres
  set σ f := { σ with pres := f }
  split σ := by
    unfold St
    iintro ⟨Ha3, Ha4, Ha5, Hpres, Hpres2, Hkq, Hkhw, Hqrow, Hkrow, Hlsc, Hlidx, Hlcnt, Hs0, Hs1, Hs2, How⟩
    isplitl [Hpres]; · iexact Hpres
    iintro %f Hpres
    iframe
  set_get _ := rfl

def c_pres2 (E : Env F d c j A) : Cell E A.pres2 where
  get σ := σ.pres2
  set σ f := { σ with pres2 := f }
  split σ := by
    unfold St
    iintro ⟨Ha3, Ha4, Ha5, Hpres, Hpres2, Hkq, Hkhw, Hqrow, Hkrow, Hlsc, Hlidx, Hlcnt, Hs0, Hs1, Hs2, How⟩
    isplitl [Hpres2]; · iexact Hpres2
    iintro %f Hpres2
    iframe
  set_get _ := rfl

def c_kv (E : Env F d c j A) [hE : E.On] : Cell E A.kv where
  get σ := σ.kv
  set σ f := { σ with kv := f }
  split σ := by
    unfold St
    simp only [hE.on, if_true]
    iintro ⟨Ha3, Ha4, Ha5, Hpres, Hpres2, ⟨Hkv, Hqv⟩, Hkhw, Hqrow, Hkrow, Hlsc, Hlidx, Hlcnt, Hs0, Hs1, Hs2, How⟩
    isplitl [Hkv]; · iexact Hkv
    iintro %f Hkv
    iframe
  set_get _ := rfl

def c_qv (E : Env F d c j A) [hE : E.On] : Cell E A.qv where
  get σ := σ.qv
  set σ f := { σ with qv := f }
  split σ := by
    unfold St
    simp only [hE.on, if_true]
    iintro ⟨Ha3, Ha4, Ha5, Hpres, Hpres2, ⟨Hkv, Hqv⟩, Hkhw, Hqrow, Hkrow, Hlsc, Hlidx, Hlcnt, Hs0, Hs1, Hs2, How⟩
    isplitl [Hqv]; · iexact Hqv
    iintro %f Hqv
    iframe
  set_get _ := rfl

def c_khw (E : Env F d c j A) : Cell E A.khw where
  get σ := σ.khw
  set σ f := { σ with khw := f }
  split σ := by
    unfold St
    iintro ⟨Ha3, Ha4, Ha5, Hpres, Hpres2, Hkq, Hkhw, Hqrow, Hkrow, Hlsc, Hlidx, Hlcnt, Hs0, Hs1, Hs2, How⟩
    isplitl [Hkhw]; · iexact Hkhw
    iintro %f Hkhw
    iframe
  set_get _ := rfl

def c_qrow (E : Env F d c j A) : Cell E A.qrow where
  get σ := σ.qrow
  set σ f := { σ with qrow := f }
  split σ := by
    unfold St
    iintro ⟨Ha3, Ha4, Ha5, Hpres, Hpres2, Hkq, Hkhw, Hqrow, Hkrow, Hlsc, Hlidx, Hlcnt, Hs0, Hs1, Hs2, How⟩
    isplitl [Hqrow]; · iexact Hqrow
    iintro %f Hqrow
    iframe
  set_get _ := rfl

def c_krow (E : Env F d c j A) : Cell E A.krow where
  get σ := σ.krow
  set σ f := { σ with krow := f }
  split σ := by
    unfold St
    iintro ⟨Ha3, Ha4, Ha5, Hpres, Hpres2, Hkq, Hkhw, Hqrow, Hkrow, Hlsc, Hlidx, Hlcnt, Hs0, Hs1, Hs2, How⟩
    isplitl [Hkrow]; · iexact Hkrow
    iintro %f Hkrow
    iframe
  set_get _ := rfl

def c_lsc (E : Env F d c j A) : Cell E A.lsc where
  get σ := σ.lsc
  set σ f := { σ with lsc := f }
  split σ := by
    unfold St
    iintro ⟨Ha3, Ha4, Ha5, Hpres, Hpres2, Hkq, Hkhw, Hqrow, Hkrow, Hlsc, Hlidx, Hlcnt, Hs0, Hs1, Hs2, How⟩
    isplitl [Hlsc]; · iexact Hlsc
    iintro %f Hlsc
    iframe
  set_get _ := rfl

def c_lidx (E : Env F d c j A) : Cell E A.lidx where
  get σ := σ.lidx
  set σ f := { σ with lidx := f }
  split σ := by
    unfold St
    iintro ⟨Ha3, Ha4, Ha5, Hpres, Hpres2, Hkq, Hkhw, Hqrow, Hkrow, Hlsc, Hlidx, Hlcnt, Hs0, Hs1, Hs2, How⟩
    isplitl [Hlidx]; · iexact Hlidx
    iintro %f Hlidx
    iframe
  set_get _ := rfl

def c_lcnt (E : Env F d c j A) : Cell E A.lcnt where
  get σ := σ.lcnt
  set σ f := { σ with lcnt := f }
  split σ := by
    unfold St
    iintro ⟨Ha3, Ha4, Ha5, Hpres, Hpres2, Hkq, Hkhw, Hqrow, Hkrow, Hlsc, Hlidx, Hlcnt, Hs0, Hs1, Hs2, How⟩
    isplitl [Hlcnt]; · iexact Hlcnt
    iintro %f Hlcnt
    iframe
  set_get _ := rfl

def copy_khw (E : Env F d c j A) : CopyCell E A.a3 A.khw A.s0 where
  q := E.q3
  raw := E.r3
  set σ f := { σ with khw := f }
  split σ := by
    unfold St
    iintro ⟨Ha3, Ha4, Ha5, Hpres, Hpres2, Hkq, Hkhw, Hqrow, Hkrow, Hlsc, Hlidx, Hlcnt, Hs0, Hs1, Hs2, How⟩
    isplitl [Ha3]; · iexact Ha3
    isplitl [Hkhw]; · iexists _; iexact Hkhw
    isplitl [Hs0]; · iexact Hs0
    isplitl [How]; · iexact How
    iintro %f ⟨Ha3, Hkhw, Hs0, How⟩
    iframe

def copy_krow (E : Env F d c j A) : CopyCell E A.a5 A.krow A.s1 where
  q := E.q5
  raw := E.r5
  set σ f := { σ with krow := f }
  split σ := by
    unfold St
    iintro ⟨Ha3, Ha4, Ha5, Hpres, Hpres2, Hkq, Hkhw, Hqrow, Hkrow, Hlsc, Hlidx, Hlcnt, Hs0, Hs1, Hs2, How⟩
    isplitl [Ha5]; · iexact Ha5
    isplitl [Hkrow]; · iexists _; iexact Hkrow
    isplitl [Hs1]; · iexact Hs1
    isplitl [How]; · iexact How
    iintro %f ⟨Ha5, Hkrow, Hs1, How⟩
    iframe

def copy_qrow (E : Env F d c j A) : CopyCell E A.a4 A.qrow A.s2 where
  q := E.q4
  raw := E.r4
  set σ f := { σ with qrow := f }
  split σ := by
    unfold St
    iintro ⟨Ha3, Ha4, Ha5, Hpres, Hpres2, Hkq, Hkhw, Hqrow, Hkrow, Hlsc, Hlidx, Hlcnt, Hs0, Hs1, Hs2, How⟩
    isplitl [Ha4]; · iexact Ha4
    isplitl [Hqrow]; · iexists _; iexact Hqrow
    isplitl [Hs2]; · iexact Hs2
    isplitl [How]; · iexact How
    iintro %f ⟨Ha4, Hqrow, Hs2, How⟩
    iframe

end

end Cert.Proof.Join

end
-- ==== Proof.Pure.lean ====
/-
  What the join kernel's operations compute, as plain statements about arrays: indices named by natural numbers, the
  vector tests the kernel makes, its dot product, and its sorted candidate lists.
-/
module

public import proofs.«01_k».proof.Proof.Hoare

@[expose] public section

noncomputable section

namespace Cert.Proof.Join

open Cert.KernelIdeal Cert.KernelIdeal.Gen
open Idealize.ShloMosaic

variable {F : FTy → Type}

/-! ### Indices by number -/

def ix1 {n : ℕ} [NeZero n] (a : ℕ) : (⟨1, ![n]⟩ : Shape).Idx := fun x =>
  ⟨(![a] : Fin 1 → ℕ) x % (![n] : Fin 1 → ℕ) x, by
    refine Nat.mod_lt _ ?_
    fin_cases x; exact Nat.pos_of_ne_zero (NeZero.ne n)⟩

def ix2 {n m : ℕ} [NeZero n] [NeZero m] (a b : ℕ) : (⟨2, ![n, m]⟩ : Shape).Idx := fun x =>
  ⟨(![a, b] : Fin 2 → ℕ) x % (![n, m] : Fin 2 → ℕ) x, by
    refine Nat.mod_lt _ ?_
    fin_cases x
    · exact Nat.pos_of_ne_zero (NeZero.ne n)
    · exact Nat.pos_of_ne_zero (NeZero.ne m)⟩

def ix3 {n m l : ℕ} [NeZero n] [NeZero m] [NeZero l] (a b c : ℕ) : (⟨3, ![n, m, l]⟩ : Shape).Idx := fun x =>
  ⟨(![a, b, c] : Fin 3 → ℕ) x % (![n, m, l] : Fin 3 → ℕ) x, by
    refine Nat.mod_lt _ ?_
    fin_cases x
    · exact Nat.pos_of_ne_zero (NeZero.ne n)
    · exact Nat.pos_of_ne_zero (NeZero.ne m)
    · exact Nat.pos_of_ne_zero (NeZero.ne l)⟩

theorem eq_ix1 {n : ℕ} [NeZero n] (y : (⟨1, ![n]⟩ : Shape).Idx) {a : ℕ} (h : (y 0).val = a) : y = ix1 a := by
  funext x
  fin_cases x
  subst h
  exact Fin.ext (Nat.mod_eq_of_lt (y 0).isLt).symm

theorem eq_ix2 {n m : ℕ} [NeZero n] [NeZero m] (y : (⟨2, ![n, m]⟩ : Shape).Idx) {a b : ℕ} (h : (y 0).val = a) (h' : (y 1).val = b) :
    y = ix2 a b := by
  subst h h'
  funext x
  fin_cases x
  · exact Fin.ext (Nat.mod_eq_of_lt (y 0).isLt).symm
  · exact Fin.ext (Nat.mod_eq_of_lt (y 1).isLt).symm

theorem eq_ix3 {n m l : ℕ} [NeZero n] [NeZero m] [NeZero l] (y : (⟨3, ![n, m, l]⟩ : Shape).Idx) {a b c : ℕ}
    (h : (y 0).val = a) (h' : (y 1).val = b) (h'' : (y 2).val = c) : y = ix3 a b c := by
  subst h h' h''
  funext x
  fin_cases x
  · exact Fin.ext (Nat.mod_eq_of_lt (y 0).isLt).symm
  · exact Fin.ext (Nat.mod_eq_of_lt (y 1).isLt).symm
  · exact Fin.ext (Nat.mod_eq_of_lt (y 2).isLt).symm

theorem ix1_val {n : ℕ} [NeZero n] {a : ℕ} (h : a < n) : ((ix1 a : (⟨1, ![n]⟩ : Shape).Idx) 0).val = a := Nat.mod_eq_of_lt h
theorem ix2_val0 {n m : ℕ} [NeZero n] [NeZero m] {a b : ℕ} (h : a < n) : ((ix2 a b : (⟨2, ![n, m]⟩ : Shape).Idx) 0).val = a := Nat.mod_eq_of_lt h
theorem ix2_val1 {n m : ℕ} [NeZero n] [NeZero m] {a b : ℕ} (h : b < m) : ((ix2 a b : (⟨2, ![n, m]⟩ : Shape).Idx) 1).val = b := Nat.mod_eq_of_lt h

theorem ix1_inj {n : ℕ} [NeZero n] {a a' : ℕ} (h : a < n) (h' : a' < n) :
    (ix1 a : (⟨1, ![n]⟩ : Shape).Idx) = ix1 a' ↔ a = a' := by
  refine ⟨fun e => ?_, fun e => by rw [e]⟩
  have := congrArg (fun y => (y 0).val) e
  simpa only [ix1_val h, ix1_val h'] using this

theorem ix2_inj {n m : ℕ} [NeZero n] [NeZero m] {a a' b b' : ℕ} (h : a < n) (h' : a' < n) (k : b < m) (k' : b' < m) :
    (ix2 a b : (⟨2, ![n, m]⟩ : Shape).Idx) = ix2 a' b' ↔ a = a' ∧ b = b' := by
  refine ⟨fun e => ⟨?_, ?_⟩, fun e => by rw [e.1, e.2]⟩
  · have := congrArg (fun y => (y 0).val) e
    simpa only [ix2_val0 h, ix2_val0 h'] using this
  · have := congrArg (fun y => (y 1).val) e
    simpa only [ix2_val1 k, ix2_val1 k'] using this

/-! ### Lanes -/

/-- The first lane of a vector, as the kernel takes it out. -/
theorem first_lane {e : EltTy} (v : Vec F S16 e) (h : S16.Slices ![0] S1) (h' : ∀ a, (![0] : Fin 1 → ℕ) a < S1.size a) :
    extractAt ![0] (extractStridedSlice S1 ![0] v h) h' = v (ix1 0) := by
  refine congrArg v (eq_ix1 _ ?_)
  rfl

theorem lane_of {e : EltTy} (o : ℕ) (v : Vec F S16 e) (h : S16.Slices ![o] S1) (h' : ∀ a, (![0] : Fin 1 → ℕ) a < S1.size a) :
    extractAt ![0] (extractStridedSlice S1 ![o] v h) h' = v (ix1 o) := by
  refine congrArg v (eq_ix1 _ ?_)
  rfl

theorem inb1 {n : ℕ} {t : Shape} (a : BitVec 32) (ha : a.toNat < n) :
    ∀ x y, ((![broadcast t a] : Fin 1 → IVec t 32) x y).toNat < (⟨1, ![n]⟩ : Shape).size x := by
  intro x y; fin_cases x; exact ha

theorem inb2 {n m : ℕ} {t : Shape} (a b : BitVec 32) (ha : a.toNat < n) (hb : b.toNat < m) :
    ∀ x y, ((![broadcast t a, broadcast t b] : Fin 2 → IVec t 32) x y).toNat < (⟨2, ![n, m]⟩ : Shape).size x := by
  intro x y; fin_cases x
  · exact ha
  · exact hb

/-- An indexed load of one place, in every lane. -/
theorem loadIdx_b1 {n : ℕ} [NeZero n] {e : EltTy} {t : Shape} (f : Vec F ⟨1, ![n]⟩ e) (a : BitVec 32)
    (h : ∀ x y, ((![broadcast t a] : Fin 1 → IVec t 32) x y).toNat < (⟨1, ![n]⟩ : Shape).size x) :
    loadIdx f ![broadcast t a] h = fun _ => f (ix1 a.toNat) := by
  funext y; exact congrArg f (eq_ix1 _ rfl)

theorem loadIdx_b2 {n m : ℕ} [NeZero n] [NeZero m] {e : EltTy} {t : Shape} (f : Vec F ⟨2, ![n, m]⟩ e) (a b : BitVec 32)
    (h : ∀ x y, ((![broadcast t a, broadcast t b] : Fin 2 → IVec t 32) x y).toNat < (⟨2, ![n, m]⟩ : Shape).size x) :
    loadIdx f ![broadcast t a, broadcast t b] h = fun _ => f (ix2 a.toNat b.toNat) := by
  funext y; exact congrArg f (eq_ix2 _ rfl rfl)

/-- A row's sixteen elements, as the kernel loads them. -/
theorem row16 {α : Type} {n m : ℕ} [NeZero n] [NeZero m] (f : (⟨2, ![n, m]⟩ : Shape).Idx → α) (off : Fin 2 → ℕ)
    (h : ∀ a, off a + S1x16.size a ≤ (⟨2, ![n, m]⟩ : Shape).size a) (h' : S1x16.ShapeCasts S16) {l : ℕ} (hl : l < 16) :
    shapeCast S16 (fun x => f ((Rect.unit (s := ⟨2, ![n, m]⟩) off S1x16.size h).emb x)) h' (ix1 l) = f (ix2 (off 0) (off 1 + l)) := by
  have key : ∀ l : Fin 16, ∃ y : S1x16.Idx, (∀ v : S1x16.Idx → α, shapeCast S16 v h' (ix1 l.val) = v y) ∧ (y 0).val = 0 ∧ (y 1).val = l.val := by
    intro l
    refine ⟨Shape.reshapeEquiv (by decide : S16.numel = S1x16.numel) (ix1 l.val), fun _ => rfl, ?_, ?_⟩ <;> revert l <;> decide
  obtain ⟨y, hy, h0, h1⟩ := key ⟨l, hl⟩
  rw [hy]
  refine congrArg f (eq_ix2 _ ?_ ?_)
  · show off 0 + 1 * (y 0).val = _; rw [h0]; omega
  · show off 1 + 1 * (y 1).val = _; rw [h1]; simp

/-! ### "Some lane": a running maximum of zeros and ones -/

/-- Some lane of the mask is set. -/
def anyLane (m : IVec S16 1) : Prop := ∃ l, l < 16 ∧ m (ix1 l) = 1#1

theorem ofLane_eq {n : ℕ} [NeZero n] (k : Fin n) : (Shape.ofLane (d := ![n]) k : (⟨1, ![n]⟩ : Shape).Idx) = ix1 k.val :=
  eq_ix1 _ rfl

theorem foldl_max (A B : BitVec 32) (hAA : ScanKind.max.step A A = A) (hAB : ScanKind.max.step A B = B) (hBA : ScanKind.max.step B A = B)
    (hBB : ScanKind.max.step B B = B) (w : Fin 16 → BitVec 32) (p : Fin 16 → Prop) (h1 : ∀ k, p k → w k = B) (h0 : ∀ k, ¬ p k → w k = A)
    (l : List (Fin 16)) : ∀ r, (r = A ∨ r = B) → (l.foldl (fun (r : BitVec 32) k => ScanKind.max.step r (w k)) r = B ∧ (r = B ∨ ∃ k ∈ l, p k))
      ∨ (l.foldl (fun (r : BitVec 32) k => ScanKind.max.step r (w k)) r = A ∧ ∀ k ∈ l, ¬ p k) := by
  induction l with
  | nil =>
    rintro r (rfl | rfl)
    · exact .inr ⟨rfl, fun _ h => by cases h⟩
    · exact .inl ⟨rfl, .inl rfl⟩
  | cons a l ih =>
    intro r hr
    rw [List.foldl_cons]
    by_cases hp : p a
    · have hB : ScanKind.max.step r (w a) = B := by
        rw [h1 a hp]; rcases hr with rfl | rfl
        · exact hAB
        · exact hBB
      rw [hB]
      rcases ih B (.inr rfl) with ⟨h, -⟩ | ⟨h, hn⟩
      · exact .inl ⟨h, .inr ⟨a, List.mem_cons_self, hp⟩⟩
      · have hB' : ∀ l : List (Fin 16), l.foldl (fun (r : BitVec 32) k => ScanKind.max.step r (w k)) B = B := by
          intro l
          induction l with
          | nil => rfl
          | cons b l ih =>
            rw [List.foldl_cons]
            by_cases hb : p b
            · rw [h1 b hb, hBB]; exact ih
            · rw [h0 b hb, hBA]; exact ih
        exact .inl ⟨hB' l, .inr ⟨a, List.mem_cons_self, hp⟩⟩
    · have hrr : ScanKind.max.step r (w a) = r := by
        rw [h0 a hp]; rcases hr with rfl | rfl
        · exact hAA
        · exact hBA
      rw [hrr]
      rcases ih r hr with ⟨h, h'⟩ | ⟨h, hn⟩
      · refine .inl ⟨h, h'.imp id ?_⟩
        rintro ⟨k, hk, hpk⟩; exact ⟨k, List.mem_cons_of_mem _ hk, hpk⟩
      · refine .inr ⟨h, fun k hk => ?_⟩
        rcases List.mem_cons.mp hk with rfl | hk
        · exact hp
        · exact hn k hk

theorem scan_max_last (A B : BitVec 32) (hAA : ScanKind.max.step A A = A) (hAB : ScanKind.max.step A B = B) (hBA : ScanKind.max.step B A = B)
    (hBB : ScanKind.max.step B B = B) (hne : A ≠ B) (w : IVec S16 32) (m : IVec S16 1)
    (h1 : ∀ k : Fin 16, m (ix1 k.val) = 1#1 → w (ix1 k.val) = B) (h0 : ∀ k : Fin 16, ¬ m (ix1 k.val) = 1#1 → w (ix1 k.val) = A)
    (y : S16.Idx) (hy : (y 0).val = 15) :
    (scan .max w y = B ∧ anyLane m) ∨ (scan .max w y = A ∧ ¬ anyLane m) := by
  have hw : ∀ k : Fin 16, w (Shape.ofLane (d := ![16]) k) = w (ix1 k.val) := fun k => congrArg w (eq_ix1 (n := 16) _ rfl)
  have hs : scan .max w y = ((List.finRange 16).filter (fun k => decide (0 < k.val ∧ k.val ≤ (y 0).val))).foldl
    (fun r k => ScanKind.max.step r (w (ix1 k.val))) (w (ix1 0)) := by
    rw [show w (ix1 0) = w (Shape.ofLane (d := ![16]) (0 : Fin 16)) from (hw (0 : Fin 16)).symm]
    simp only [← hw]
    rfl
  have hr : w (ix1 0) = A ∨ w (ix1 0) = B := by
    by_cases h : m (ix1 0) = 1#1
    · exact .inr (h1 0 h)
    · exact .inl (h0 0 h)
  rw [hs]
  rcases foldl_max A B hAA hAB hBA hBB (fun k => w (ix1 k.val)) (fun k => m (ix1 k.val) = 1#1) h1 h0 _ (w (ix1 0)) hr with ⟨h, hc⟩ | ⟨h, hc⟩
  · refine .inl ⟨h, ?_⟩
    rcases hc with hc | ⟨k, -, hk⟩
    · refine ⟨0, by decide, ?_⟩
      by_contra hn
      exact hne ((h0 0 hn).symm.trans hc)
    · exact ⟨k.val, k.isLt, hk⟩
  · refine .inr ⟨h, ?_⟩
    rintro ⟨l, hl, hm⟩
    rcases Nat.eq_zero_or_pos l with rfl | hp
    · have hB : w (ix1 0) = B := h1 0 hm
      have hB' : ∀ l : List (Fin 16), l.foldl (fun (r : BitVec 32) k => ScanKind.max.step r (w (ix1 k.val))) B = B := by
        intro l
        induction l with
        | nil => rfl
        | cons b l ih =>
          rw [List.foldl_cons]
          by_cases hb : m (ix1 b.val) = 1#1
          · rw [h1 b hb, hBB]; exact ih
          · rw [h0 b hb, hBA]; exact ih
      rw [hB] at h
      exact hne (h.symm.trans (hB' _))
    · refine hc ⟨l, hl⟩ ?_ hm
      rw [List.mem_filter]
      refine ⟨List.mem_finRange _, ?_⟩
      rw [decide_eq_true_iff, hy]
      exact ⟨hp, Nat.le_of_lt_succ hl⟩

open Classical in
/-- The kernel's test that some lane is set: the last lane of a running maximum of zeros and ones (the maximum compares
    unsigned, so the words' signs are flipped before and after). -/
theorem any_lane (m : IVec S16 1) (h : ∀ a, (![15] : Fin 1 → ℕ) a < S16.size a) :
    extractAt ![15] (xori (scan .max (xori (select m (broadcast S16 1#32) (broadcast S16 0#32)) (broadcast S16 2147483648#32))) (broadcast S16 2147483648#32)) h
      = if anyLane m then 1#32 else 0#32 := by
  rcases scan_max_last 2147483648#32 2147483649#32 (by decide) (by decide) (by decide) (by decide) (by decide)
    (xori (select m (broadcast S16 1#32) (broadcast S16 0#32)) (broadcast S16 2147483648#32)) m
    (fun k hk => (congrArg (fun x => IntOp.xori x 2147483648#32) (if_pos hk)).trans (show IntOp.xori 1#32 2147483648#32 = 2147483649#32 by decide))
    (fun k hk => (congrArg (fun x => IntOp.xori x 2147483648#32) (if_neg hk)).trans (show IntOp.xori 0#32 2147483648#32 = 2147483648#32 by decide))
    (fun a => ⟨(![15] : Fin 1 → ℕ) a, h a⟩) rfl with ⟨hv, ha⟩ | ⟨hv, ha⟩
  · rw [if_pos ha]
    exact (congrArg (fun x => IntOp.xori x 2147483648#32) hv).trans (by decide)
  · rw [if_neg ha]
    exact (congrArg (fun x => IntOp.xori x 2147483648#32) hv).trans (by decide)

/-! ### Indexed stores -/

/-- One lane's part of an indexed store. -/
def laneStore {s : Shape} {e : EltTy} (idxs : Fin s.rank → IVec S16 32) (v : Vec F S16 e) (mask : IVec S16 1)
    (h : ∀ a x, (idxs a x).toNat < s.size a) (g : Vec F s e) (k : Fin 16) : Vec F s e :=
  if mask (ix1 k.val) = 1#1 then fun y => if y = idxAt idxs h (ix1 k.val) then v (ix1 k.val) else g y else g

theorem storeIdx_eq [FloatOps F] {s : Shape} {e : EltTy} (f : Vec F s e) (idxs : Fin s.rank → IVec S16 32) (v : Vec F S16 e) (mask : IVec S16 1)
    (h : ∀ a x, (idxs a x).toNat < s.size a) :
    storeIdx f idxs v mask false h = (List.finRange 16).foldl (laneStore idxs v mask h) f := by
  refine congrArg (fun φ : Vec F s e → Fin 16 → Vec F s e => List.foldl φ f (List.finRange 16)) (funext fun g => funext fun k => ?_)
  have hk : (Shape.ofLane (d := ![16]) k : S16.Idx) = ix1 k.val := eq_ix1 (n := 16) _ rfl
  unfold laneStore
  rw [← hk]
  by_cases hm : mask (Shape.ofLane (d := ![16]) k) = 1#1
  · refine (if_pos hm).trans ((funext fun y => ?_).trans (if_pos hm).symm)
    by_cases he : y = idxAt idxs h (Shape.ofLane (d := ![16]) k)
    · exact (if_pos fun a => by rw [he]).trans (if_pos he).symm
    · exact (if_neg fun hc => he (funext fun a => Fin.ext (hc a))).trans (if_neg he).symm
  · exact (if_neg hm).trans (if_neg hm).symm

/-- A store of one lane is a change of one place. -/
theorem storeIdx_lane0 [FloatOps F] {s : Shape} {e : EltTy} (f : Vec F s e) (idxs : Fin s.rank → IVec S16 32) (v : Vec F S16 e) (mask : IVec S16 1)
    (h : ∀ a x, (idxs a x).toNat < s.size a) (hm : ∀ l < 16, mask (ix1 l) = if l = 0 then 1#1 else 0#1) :
    storeIdx f idxs v mask false h = fun y => if y = idxAt idxs h (ix1 0) then v (ix1 0) else f y := by
  have hrest : ∀ (l : List (Fin 16)) (g : Vec F s e), (∀ k ∈ l, k ≠ 0) → l.foldl (laneStore idxs v mask h) g = g := by
    intro l
    induction l with
    | nil => intro g _; rfl
    | cons a l ih =>
      intro g hl
      have h1 : laneStore idxs v mask h g a = g := by
        unfold laneStore
        rw [hm _ a.isLt, if_neg (show ¬ a.val = 0 from fun h0 => hl a List.mem_cons_self (Fin.ext h0)), if_neg (by decide)]
      rw [List.foldl_cons, h1, ih g fun k hk => hl k (List.mem_cons_of_mem _ hk)]
  rw [storeIdx_eq, show List.finRange 16 = (0 : Fin 16) :: (List.finRange 15).map Fin.succ from List.finRange_succ, List.foldl_cons, hrest]
  · unfold laneStore
    rw [if_pos]
    · rfl
    · exact (hm 0 (by decide)).trans (if_pos rfl)
  · intro k hk
    obtain ⟨j, -, rfl⟩ := List.mem_map.mp hk
    exact Fin.succ_ne_zero j

/-- A store of one value by every lane. -/
theorem storeIdx_all [FloatOps F] {s : Shape} {e : EltTy} (f : Vec F s e) (idxs : Fin s.rank → IVec S16 32) (v : Vec F S16 e) (c : Elt F e)
    (h : ∀ a x, (idxs a x).toNat < s.size a) (hv : ∀ x, v x = c) (y : s.Idx) :
    (∀ l, l < 16 → y = idxAt idxs h (ix1 l) → storeIdx f idxs v (fun _ => 1#1) false h y = c)
      ∧ (f y = c → storeIdx f idxs v (fun _ => 1#1) false h y = c) := by
  have hstep : ∀ (g : Vec F s e) (k : Fin 16), laneStore idxs v (fun _ => 1#1) h g k y = if y = idxAt idxs h (ix1 k.val) then c else g y := by
    intro g k; unfold laneStore; rw [if_pos rfl]; simp only [hv]
  have hrest : ∀ (l : List (Fin 16)) (g : Vec F s e),
      ((∃ k ∈ l, y = idxAt idxs h (ix1 k.val)) ∨ g y = c) → l.foldl (laneStore idxs v (fun _ => 1#1) h) g y = c := by
    intro l
    induction l with
    | nil => rintro g (⟨k, hk, -⟩ | hg); · cases hk
             exact hg
    | cons a l ih =>
      rintro g hg
      rw [List.foldl_cons]
      apply ih
      by_cases hl : ∃ k ∈ l, y = idxAt idxs h (ix1 k.val)
      · exact .inl hl
      · refine .inr ?_
        rw [hstep]
        split
        · rfl
        · rename_i hne
          rcases hg with ⟨k, hk, he⟩ | hg
          · rcases List.mem_cons.mp hk with rfl | hk
            · exact absurd he hne
            · exact absurd ⟨k, hk, he⟩ hl
          · exact hg
  rw [storeIdx_eq]
  exact ⟨fun l hl he => hrest _ _ (.inl ⟨⟨l, hl⟩, List.mem_finRange _, he⟩), fun hg => hrest _ _ (.inr hg)⟩

theorem idxAt_b1 {n : ℕ} [NeZero n] {t : Shape} (a : BitVec 32) (h) (x : t.Idx) :
    idxAt (s := ⟨1, ![n]⟩) ![broadcast t a] h x = ix1 a.toNat := eq_ix1 _ rfl
theorem idxAt_b2 {n m : ℕ} [NeZero n] [NeZero m] {t : Shape} (a b : BitVec 32) (h) (x : t.Idx) :
    idxAt (s := ⟨2, ![n, m]⟩) ![broadcast t a, broadcast t b] h x = ix2 a.toNat b.toNat := eq_ix2 _ rfl rfl

end Cert.Proof.Join

end
-- ==== Proof.Spec.lean ====
/-
  The join's mathematics over any float values: for one query the kernel goes through the keys in order and keeps a list
  of at most sixty-four candidates, the better scores in front.
-/
module

public import proofs.«01_k».proof.Proof.Pure

@[expose] public section

noncomputable section

namespace Cert.Proof.Join

open Cert.KernelIdeal Cert.KernelIdeal.Gen
open Idealize.ShloMosaic

variable {F : FTy → Type}

/-! ### Words that are small numbers -/

theorem slt_ofNat {a b : ℕ} (ha : a < 2 ^ 31) (hb : b < 2 ^ 31) : (BitVec.ofNat 32 a).slt (BitVec.ofNat 32 b) = decide (a < b) := by
  have h (a : ℕ) (ha : a < 2 ^ 31) : (BitVec.ofNat 32 a).toInt = (a : Int) := by
    rw [BitVec.toInt_eq_toNat_cond, BitVec.toNat_ofNat, Nat.mod_eq_of_lt (by omega), if_pos (by omega)]
  rw [BitVec.slt_eq_decide, h a ha, h b hb]
  simp

theorem ofBool_eq_one (b : Bool) : BitVec.ofBool b = 1#1 ↔ b = true := by cases b <;> decide

theorem cmpi_slt_ofNat {a b : ℕ} (ha : a < 2 ^ 31) (hb : b < 2 ^ 31) :
    IntOp.cmpi .slt (BitVec.ofNat 32 a) (BitVec.ofNat 32 b) = if a < b then 1#1 else 0#1 := by
  unfold IntOp.cmpi
  simp only [slt_ofNat ha hb]
  by_cases h : a < b <;> simp [h]

theorem cmpi_eq_iff {w : ℕ} (a b : BitVec w) : IntOp.cmpi .eq a b = 1#1 ↔ a = b := by
  unfold IntOp.cmpi
  rw [ofBool_eq_one, beq_iff_eq]

theorem ofNat_inj {a b : ℕ} (ha : a < 2 ^ 32) (hb : b < 2 ^ 32) : BitVec.ofNat 32 a = BitVec.ofNat 32 b ↔ a = b := by
  refine ⟨fun h => ?_, fun h => by rw [h]⟩
  have := congrArg BitVec.toNat h
  simpa only [BitVec.toNat_ofNat, Nat.mod_eq_of_lt ha, Nat.mod_eq_of_lt hb] using this

theorem toNat_ofNat' {a : ℕ} (ha : a < 2 ^ 32) : (BitVec.ofNat 32 a).toNat = a := by
  rw [BitVec.toNat_ofNat, Nat.mod_eq_of_lt ha]

theorem addi_ofNat (a b : ℕ) : IntOp.addi (BitVec.ofNat 32 a) (BitVec.ofNat 32 b) = BitVec.ofNat 32 (a + b) := by
  unfold IntOp.addi; rw [BitVec.ofNat_add]

theorem muli_ofNat (a b : ℕ) : IntOp.muli (BitVec.ofNat 32 a) (BitVec.ofNat 32 b) = BitVec.ofNat 32 (a * b) := by
  unfold IntOp.muli; rw [BitVec.ofNat_mul]

theorem subi_ofNat {a b : ℕ} (h : b ≤ a) (ha : a < 2 ^ 32) : IntOp.subi (BitVec.ofNat 32 a) (BitVec.ofNat 32 b) = BitVec.ofNat 32 (a - b) := by
  unfold IntOp.subi
  apply BitVec.eq_of_toNat_eq
  rw [BitVec.toNat_sub, toNat_ofNat' ha, toNat_ofNat' (by omega), toNat_ofNat' (by omega)]
  omega

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat ha hb]
  by_cases h : a < b
  · simp [h, Nat.min_eq_left (Nat.le_of_lt h)]
  · simp [h, Nat.min_eq_right (Nat.le_of_not_lt h)]

theorem andi1 (a b : BitVec 1) : IntOp.andi a b = 1#1 ↔ a = 1#1 ∧ b = 1#1 := by revert a b; decide
theorem ori1 (a b : BitVec 1) : IntOp.ori a b = 1#1 ↔ a = 1#1 ∨ b = 1#1 := by revert a b; decide
/-- A bit widened to a word and compared with zero is the bit. -/
theorem ext_ne (a : BitVec 1) : IntOp.cmpi .ne (a.setWidth 32) 0#32 = 1#1 ↔ a = 1#1 := by revert a; decide
theorem not_one {a : BitVec 1} (h : ¬ a = 1#1) : a = 0#1 := by revert a; decide

/-! ### Candidate lists -/

/-- A candidate: its score and the key's number. -/
abbrev Cand (F : FTy → Type) : Type := F .f32 × ℕ

variable [FloatOps F]

/-- `p` stays in front of a new candidate `x`: its score is larger, or equal with a smaller number. -/
def before (x p : Cand F) : Bool :=
  decide (FloatOps.scalar.cmpf .ogt p.1 x.1 = 1#1) || (decide (FloatOps.scalar.cmpf .oeq p.1 x.1 = 1#1) && decide (p.2 < x.2))

/-- A list with a new candidate put in its place, at most sixty-four long. -/
def insL (x : Cand F) (L : List (Cand F)) : List (Cand F) := (L.takeWhile (before x) ++ x :: L.dropWhile (before x)).take 64

/-- Where the new candidate goes. -/
def pos (x : Cand F) (L : List (Cand F)) : ℕ := (L.takeWhile (before x)).length

theorem pos_le (x : Cand F) (L : List (Cand F)) : pos x L ≤ L.length := (List.takeWhile_prefix _).length_le

theorem insL_length (x : Cand F) (L : List (Cand F)) : (insL x L).length = min 64 (L.length + 1) := by
  unfold insL
  rw [List.length_take, List.length_append, List.length_cons]
  have := congrArg List.length (List.takeWhile_append_dropWhile (p := before x) (l := L))
  rw [List.length_append] at this
  omega

theorem insL_get {x : Cand F} {L : List (Cand F)} {s : ℕ} {p : Cand F} (h : (insL x L)[s]? = some p) :
    s < 64 ∧ ((s < pos x L ∧ L[s]? = some p) ∨ (s = pos x L ∧ p = x) ∨ (pos x L < s ∧ s ≤ L.length ∧ L[s - 1]? = some p)) := by
  unfold insL at h
  rw [List.getElem?_take] at h
  split at h
  case isFalse => cases h
  rename_i hs
  refine ⟨hs, ?_⟩
  have hL : L = L.takeWhile (before x) ++ L.dropWhile (before x) := List.takeWhile_append_dropWhile.symm
  have hlen := congrArg List.length hL
  rw [List.length_append] at hlen
  unfold pos
  generalize hA : L.takeWhile (before x) = A at *
  generalize hB : L.dropWhile (before x) = B at *
  subst hL
  rcases Nat.lt_trichotomy s A.length with hlt | heq | hgt
  · rw [List.getElem?_append_left hlt] at h
    exact .inl ⟨hlt, by rw [List.getElem?_append_left hlt]; exact h⟩
  · subst heq
    rw [List.getElem?_append_right (Nat.le_refl _), Nat.sub_self, List.getElem?_cons_zero] at h
    exact .inr (.inl ⟨rfl, (Option.some.inj h).symm⟩)
  · rw [List.getElem?_append_right (Nat.le_of_lt hgt)] at h
    obtain ⟨k, hk⟩ : ∃ k, s = A.length + 1 + k := ⟨s - (A.length + 1), by omega⟩
    subst hk
    rw [show A.length + 1 + k - A.length = k + 1 by omega, List.getElem?_cons_succ] at h
    refine .inr (.inr ⟨hgt, ?_, ?_⟩)
    · have := (List.getElem?_eq_some_iff.mp h).1
      rw [List.length_append]; omega
    · rw [List.getElem?_append_right (by omega), show A.length + 1 + k - 1 - A.length = k by omega]; exact h

/-- A full list that keeps every element in front stays as it is. -/
theorem insL_full {x : Cand F} {L : List (Cand F)} (hL : L.length ≤ 64) (h : pos x L = 64) : insL x L = L := by
  have hle := pos_le x L
  have hlen : L.length = 64 := by omega
  have ht : L.takeWhile (before x) = L := (List.takeWhile_prefix _).eq_of_length (by unfold pos at h; omega)
  unfold insL
  rw [ht, ← hlen, List.take_append_of_le_length (Nat.le_refl _), List.take_length]

/-- The place found by going along the list. -/
theorem pos_eq {x : Cand F} {L : List (Cand F)} {p : ℕ} (hL : L.length ≤ 64) (hp : p ≤ 64) (h : ∀ s < p, ∃ q, L[s]? = some q ∧ before x q = true)
    (h' : p = 64 ∨ ¬ ∃ q, L[p]? = some q ∧ before x q = true) : pos x L = p := by
  have hge : p ≤ pos x L := by
    unfold pos
    clear h' hp hL
    induction L generalizing p with
    | nil =>
      rcases Nat.eq_zero_or_pos p with rfl | hp
      · exact Nat.zero_le _
      · obtain ⟨q, hq, -⟩ := h 0 hp; cases hq
    | cons a L ih =>
      rcases Nat.eq_zero_or_pos p with rfl | hp
      · exact Nat.zero_le _
      · obtain ⟨q, hq, hb⟩ := h 0 hp
        rw [List.getElem?_cons_zero] at hq
        cases hq
        rw [List.takeWhile_cons_of_pos hb, List.length_cons]
        have := ih (p := p - 1) (fun s hs => by
          obtain ⟨q, hq, hb⟩ := h (s + 1) (by omega)
          exact ⟨q, by rwa [List.getElem?_cons_succ] at hq, hb⟩)
        omega
  rcases h' with rfl | h'
  · have := pos_le x L; omega
  · rcases Nat.lt_or_ge p (pos x L) with hlt | hle
    · exfalso
      apply h'
      have hlt' : p < (L.takeWhile (before x)).length := hlt
      have hpre := (List.takeWhile_prefix (l := L) (before x)).getElem hlt'
      refine ⟨(L.takeWhile (before x))[p], ?_, ?_⟩
      · rw [hpre, List.getElem?_eq_getElem]
      · exact List.all_eq_true.mp (List.all_takeWhile (l := L)) _ (List.getElem_mem hlt')
    · omega

/-! ### The join -/

/-- One batch's signatures and scores: `K h k` the key's word, `Q h q` the query's, `sc q k` the score. -/
structure Prob (F : FTy → Type) where
  K : ℕ → ℕ → BitVec 32
  Q : ℕ → ℕ → BitVec 32
  sc : ℕ → ℕ → F .f32

/-- Key `k` is a candidate for query `q` in hash group `g`. -/
def Prob.mt (X : Prob F) (g q k : ℕ) : Prop :=
  X.K (8 + g) k = X.Q (8 + g) q ∧ (((X.K (4 * g) k = X.Q (4 * g) q ∨ X.K (4 * g + 1) k = X.Q (4 * g + 1) q)
    ∨ X.K (4 * g + 2) k = X.Q (4 * g + 2) q) ∨ X.K (4 * g + 3) k = X.Q (4 * g + 3) q)

instance (X : Prob F) (g q k : ℕ) : Decidable (X.mt g q k) := by unfold Prob.mt; infer_instance

def Prob.step (X : Prob F) (g q : ℕ) (L : List (Cand F)) (k : ℕ) : List (Cand F) :=
  if X.mt g q k then (if k ∈ L.map Prod.snd then L else insL (X.sc q k, k) L) else L

/-- The list after the keys below `n`. -/
def Prob.run (X : Prob F) (g q : ℕ) (L : List (Cand F)) (n : ℕ) : List (Cand F) := (List.range n).foldl (X.step g q) L

theorem Prob.run_succ (X : Prob F) (g q : ℕ) (L : List (Cand F)) (n : ℕ) : X.run g q L (n + 1) = X.step g q (X.run g q L n) n := by
  unfold Prob.run
  rw [List.range_succ, List.foldl_append]; rfl

theorem Prob.run_skip (X : Prob F) (g q : ℕ) (L : List (Cand F)) (n m : ℕ) (h : ∀ k, n ≤ k → k < n + m → ¬ X.mt g q k) :
    X.run g q L (n + m) = X.run g q L n := by
  induction m with
  | zero => rfl
  | succ m ih =>
    rw [← Nat.add_assoc, Prob.run_succ, ih fun k h1 h2 => h k h1 (by omega)]
    unfold Prob.step
    rw [if_neg (h (n + m) (by omega) (by omega))]

/-- A list the kernel keeps: short, of keys. -/
def Good (L : List (Cand F)) : Prop := L.length ≤ 64 ∧ ∀ p ∈ L, p.2 < 2048

theorem Good.nil : Good ([] : List (Cand F)) := ⟨by simp, fun _ h => by cases h⟩

theorem Good.ins {x : Cand F} {L : List (Cand F)} (h : Good L) (hx : x.2 < 2048) : Good (insL x L) := by
  refine ⟨by rw [insL_length]; omega, fun p hp => ?_⟩
  obtain ⟨s, hs, rfl⟩ := List.mem_iff_getElem.mp hp
  rcases (insL_get (List.getElem?_eq_getElem hs)).2 with ⟨-, h'⟩ | ⟨-, h'⟩ | ⟨-, -, h'⟩
  · exact h.2 _ (List.mem_of_getElem? h')
  · rw [h']; exact hx
  · exact h.2 _ (List.mem_of_getElem? h')

theorem Good.step {X : Prob F} {g q k : ℕ} {L : List (Cand F)} (h : Good L) (hk : k < 2048) : Good (X.step g q L k) := by
  unfold Prob.step
  split
  · split
    · exact h
    · exact h.ins hk
  · exact h

theorem Good.run {X : Prob F} {g q : ℕ} {L : List (Cand F)} (h : Good L) {n : ℕ} (hn : n ≤ 2048) : Good (X.run g q L n) := by
  induction n with
  | zero => exact h
  | succ n ih => rw [Prob.run_succ]; exact (ih (by omega)).step (by omega)

/-- The list after both groups. -/
def Prob.both (X : Prob F) (q : ℕ) : List (Cand F) := X.run 1 q (X.run 0 q [] 2048) 2048

/-- What slot `s` of query `q` holds: the candidate's number if its score is above the cut, `-1` otherwise. -/
def Prob.out (X : Prob F) (q s : ℕ) : BitVec 32 :=
  match (X.both q)[s]? with
  | some p => if FloatOps.cmpf .ogt p.1 (Scalar.ofBits .f32 0xCCBEBC20#32) = 1#1 then BitVec.ofNat 32 p.2 else 4294967295#32
  | none => 4294967295#32

/-! ### Scores -/

/-- Sixteen terms added from the left. -/
def lsum (p : ℕ → F .f32) (o : ℕ) : F .f32 :=
  [1, 2, 3, 4, 5, 6, 7, 8, 9, 10, 11, 12, 13, 14, 15].foldl (fun a l => Scalar.addf a (p (o + l))) (p (o + 0))

/-- A dot product as the kernel adds it up: four blocks of sixteen. -/
def dot (p : ℕ → F .f32) : F .f32 :=
  Scalar.addf (Scalar.addf (Scalar.addf (Scalar.addf (Scalar.ofBits .f32 0x00000000#32) (lsum p 0)) (lsum p 16)) (lsum p 32)) (lsum p 48)

/-! ### A tile's record and the lists -/

/-- Row `r` of the tile's buffers holds the list `L`. -/
def RowOK (σ : Mem F) (r : ℕ) (L : List (Cand F)) : Prop :=
  σ.lcnt (ix1 r) = BitVec.ofNat 32 L.length ∧ ∀ s p, L[s]? = some p → σ.lsc (ix2 r s) = p.1 ∧ σ.lidx (ix2 r s) = BitVec.ofNat 32 p.2

end Cert.Proof.Join

end
-- ==== Proof.Rows.lean ====
/-
  What one insertion does to the buffers that hold the candidate lists.
-/
module

public import proofs.«01_k».proof.Proof.Spec
public import proofs.«01_k».proof.Proof.Hoare

@[expose] public section

noncomputable section

namespace Cert.Proof.Join

open Cert.KernelIdeal Cert.KernelIdeal.Gen
open Idealize.ShloMosaic

variable {F : FTy → Type}

theorem inb1n {n : ℕ} {t : Shape} (a : ℕ) (ha : a < n) (hn : n ≤ 2 ^ 31) :
    ∀ x y, ((![broadcast t (BitVec.ofNat 32 a)] : Fin 1 → IVec t 32) x y).toNat < (⟨1, ![n]⟩ : Shape).size x :=
  inb1 _ (by rw [toNat_ofNat' (by omega)]; exact ha)

theorem inb2n {n m : ℕ} {t : Shape} (a b : ℕ) (ha : a < n) (hb : b < m) (hn : n ≤ 2 ^ 31) (hm : m ≤ 2 ^ 31) :
    ∀ x y, ((![broadcast t (BitVec.ofNat 32 a), broadcast t (BitVec.ofNat 32 b)] : Fin 2 → IVec t 32) x y).toNat
      < (⟨2, ![n, m]⟩ : Shape).size x :=
  inb2 _ _ (by rw [toNat_ofNat' (by omega)]; exact ha) (by rw [toNat_ofNat' (by omega)]; exact hb)

theorem loadIdx_n2 {n m : ℕ} [NeZero n] [NeZero m] {e : EltTy} {t : Shape} (f : Vec F ⟨2, ![n, m]⟩ e) {a b : ℕ} (ha : a < 2 ^ 32) (hb : b < 2 ^ 32)
    (h : ∀ x y, ((![broadcast t (BitVec.ofNat 32 a), broadcast t (BitVec.ofNat 32 b)] : Fin 2 → IVec t 32) x y).toNat < (⟨2, ![n, m]⟩ : Shape).size x) :
    loadIdx f ![broadcast t (BitVec.ofNat 32 a), broadcast t (BitVec.ofNat 32 b)] h = fun _ => f (ix2 a b) := by
  rw [loadIdx_b2, toNat_ofNat' ha, toNat_ofNat' hb]

theorem loadIdx_n1 {n : ℕ} [NeZero n] {e : EltTy} {t : Shape} (f : Vec F ⟨1, ![n]⟩ e) {a : ℕ} (ha : a < 2 ^ 32)
    (h : ∀ x y, ((![broadcast t (BitVec.ofNat 32 a)] : Fin 1 → IVec t 32) x y).toNat < (⟨1, ![n]⟩ : Shape).size x) :
    loadIdx f ![broadcast t (BitVec.ofNat 32 a)] h = fun _ => f (ix1 a) := by
  rw [loadIdx_b1, toNat_ofNat' ha]

/-- Only lane zero is on. -/
def Lane0 (m : IVec S16 1) : Prop := ∀ l < 16, m (ix1 l) = if l = 0 then 1#1 else 0#1

variable [FloatOps F]

theorem store_n2 {n m : ℕ} [NeZero n] [NeZero m] {e : EltTy} (f : Vec F ⟨2, ![n, m]⟩ e) {a b : ℕ} (ha : a < 2 ^ 32) (hb : b < 2 ^ 32)
    (v : Vec F S16 e) (mask : IVec S16 1) (hm : Lane0 mask)
    (h : ∀ x y, ((![broadcast S16 (BitVec.ofNat 32 a), broadcast S16 (BitVec.ofNat 32 b)] : Fin 2 → IVec S16 32) x y).toNat < (⟨2, ![n, m]⟩ : Shape).size x) :
    storeIdx f ![broadcast S16 (BitVec.ofNat 32 a), broadcast S16 (BitVec.ofNat 32 b)] v mask false h = fun y => if y = ix2 a b then v (ix1 0) else f y := by
  rw [storeIdx_lane0 _ _ _ _ _ hm, idxAt_b2, toNat_ofNat' ha, toNat_ofNat' hb]

theorem store_n1 {n : ℕ} [NeZero n] {e : EltTy} (f : Vec F ⟨1, ![n]⟩ e) {a : ℕ} (ha : a < 2 ^ 32)
    (v : Vec F S16 e) (mask : IVec S16 1) (hm : Lane0 mask)
    (h : ∀ x y, ((![broadcast S16 (BitVec.ofNat 32 a)] : Fin 1 → IVec S16 32) x y).toNat < (⟨1, ![n]⟩ : Shape).size x) :
    storeIdx f ![broadcast S16 (BitVec.ofNat 32 a)] v mask false h = fun y => if y = ix1 a then v (ix1 0) else f y := by
  rw [storeIdx_lane0 _ _ _ _ _ hm, idxAt_b1, toNat_ofNat' ha]

/-! ### Walking along a list -/

/-- `p` is as far as the new candidate `x` has been carried along `L` after `k` looks. -/
def Walk (x : Cand F) (L : List (Cand F)) (k p : ℕ) : Prop :=
  p ≤ k ∧ (∀ s < p, ∃ q, L[s]? = some q ∧ before x q = true) ∧ (p = k ∨ ¬ ∃ q, L[p]? = some q ∧ before x q = true)

theorem Walk.zero (x : Cand F) (L : List (Cand F)) : Walk x L 0 0 := ⟨Nat.le_refl _, fun _ h => absurd h (by omega), .inl rfl⟩

theorem Walk.pos {x : Cand F} {L : List (Cand F)} {p : ℕ} (h : Walk x L 64 p) (hL : L.length ≤ 64) : pos x L = p :=
  pos_eq hL h.1 h.2.1 h.2.2

/-- What the kernel compares at place `p`. -/
theorem walk_cond {σ : Mem F} {r : ℕ} {L : List (Cand F)} (hR : RowOK σ r L) (hG : Good L) {sc : F .f32} {key p : ℕ} (hkey : key < 2048) (hp : p < 64) :
    IntOp.andi (IntOp.cmpi .slt (BitVec.ofNat 32 p) (BitVec.ofNat 32 L.length))
      (IntOp.ori (FloatOps.scalar.cmpf .ogt (σ.lsc (ix2 r p)) sc)
        (IntOp.andi (FloatOps.scalar.cmpf .oeq (σ.lsc (ix2 r p)) sc) (IntOp.cmpi .slt (σ.lidx (ix2 r p)) (BitVec.ofNat 32 key)))) = 1#1
      ↔ ∃ q, L[p]? = some q ∧ before (sc, key) q = true := by
  have hlen := hG.1
  rw [andi1, ori1, andi1, cmpi_slt_ofNat (by omega) (by omega)]
  constructor
  · rintro ⟨h1, h2⟩
    have hpl : p < L.length := by by_contra hc; rw [if_neg hc] at h1; exact absurd h1 (by decide)
    obtain ⟨ha, hb⟩ := hR.2 p _ (List.getElem?_eq_getElem hpl)
    refine ⟨L[p], List.getElem?_eq_getElem hpl, ?_⟩
    have hk := hG.2 _ (List.getElem_mem hpl)
    rw [ha, hb, cmpi_slt_ofNat (by omega) (by omega)] at h2
    unfold before
    rw [Bool.or_eq_true, Bool.and_eq_true, decide_eq_true_eq, decide_eq_true_eq, decide_eq_true_eq]
    rcases h2 with h2 | ⟨h2, h3⟩
    · exact .inl h2
    · refine .inr ⟨h2, ?_⟩
      by_contra hc; rw [if_neg hc] at h3; exact absurd h3 (by decide)
  · rintro ⟨q, hq, h2⟩
    have hpl : p < L.length := (List.getElem?_eq_some_iff.mp hq).1
    obtain ⟨ha, hb⟩ := hR.2 p _ hq
    have hk := hG.2 _ (List.mem_of_getElem? hq)
    rw [if_pos hpl, ha, hb, cmpi_slt_ofNat (by omega) (by omega)]
    unfold before at h2
    rw [Bool.or_eq_true, Bool.and_eq_true, decide_eq_true_eq, decide_eq_true_eq, decide_eq_true_eq] at h2
    refine ⟨rfl, ?_⟩
    rcases h2 with h2 | ⟨h2, h3⟩
    · exact .inl h2
    · exact .inr ⟨h2, by rw [if_pos h3]⟩

/-- One look. -/
theorem Walk.next {x : Cand F} {L : List (Cand F)} {k p : ℕ} (h : Walk x L k p) {c : BitVec 1}
    (hc : p < 64 → (c = 1#1 ↔ ∃ q, L[p]? = some q ∧ before x q = true)) (hk : k < 64) :
    ∃ p', (if c = 1#1 then IntOp.addi (BitVec.ofNat 32 p) 1#32 else BitVec.ofNat 32 p) = BitVec.ofNat 32 p' ∧ Walk x L (k + 1) p' := by
  have hp : p < 64 := by have := h.1; omega
  by_cases hq : c = 1#1
  · refine ⟨p + 1, by rw [if_pos hq]; exact addi_ofNat p 1, ?_⟩
    have hb := (hc hp).1 hq
    refine ⟨by have := h.1; omega, fun s hs => ?_, ?_⟩
    · rcases Nat.lt_or_ge s p with h1 | h1
      · exact h.2.1 s h1
      · rw [show s = p by omega]; exact hb
    · rcases h.2.2 with h1 | h1
      · exact .inl (by omega)
      · exact absurd hb h1
  · refine ⟨p, by rw [if_neg hq], ⟨by have := h.1; omega, h.2.1, .inr fun hb => hq ((hc hp).2 hb)⟩⟩

/-! ### Moving a row's tail up by one -/

/-- Contents `f` with the places after `a` up to `e` of row `r` moved up by one. -/
def shiftRow {α : Type} (f : S64x64.Idx → α) (r a e : ℕ) : S64x64.Idx → α := fun y =>
  if (y 0).val = r ∧ a < (y 1).val ∧ (y 1).val ≤ e then f (ix2 r ((y 1).val - 1)) else f y

theorem shiftRow_self {α : Type} (f : S64x64.Idx → α) (r e : ℕ) : shiftRow f r e e = f := by
  funext y
  unfold shiftRow
  rw [if_neg (by omega)]

theorem shiftRow_step {α : Type} (f : S64x64.Idx → α) {r a e : ℕ} (hr : r < 64) (ha : 0 < a) (hae : a ≤ e) (he : e < 64) :
    (fun y => if y = ix2 r a then shiftRow f r a e (ix2 r (a - 1)) else shiftRow f r a e y) = shiftRow f r (a - 1) e := by
  funext y
  have hprev : shiftRow f r a e (ix2 r (a - 1)) = f (ix2 r (a - 1)) := by
    unfold shiftRow
    rw [if_neg]
    rw [ix2_val1 (by omega)]
    omega
  by_cases hy : y = ix2 r a
  · rw [if_pos hy, hprev, hy]
    unfold shiftRow
    rw [ix2_val0 hr, ix2_val1 (by omega), if_pos ⟨rfl, by omega, hae⟩]
  · rw [if_neg hy]
    unfold shiftRow
    by_cases h0 : (y 0).val = r
    · have h1 : (y 1).val ≠ a := fun h1 => hy (eq_ix2 y h0 h1)
      by_cases h2 : a < (y 1).val ∧ (y 1).val ≤ e
      · rw [if_pos ⟨h0, h2.1, h2.2⟩, if_pos ⟨h0, by omega, h2.2⟩]
      · rw [if_neg (by omega), if_neg (by omega)]
    · rw [if_neg (by omega), if_neg (by omega)]

/-- The buffers after the insertion of `x` at place `p` of row `r`, the list's length `n`. -/
def insMem (σ : Mem F) (r p n : ℕ) (x : Cand F) : Mem F :=
  { σ with
    lsc := fun y => if y = ix2 r p then x.1 else shiftRow σ.lsc r p (min n 63) y
    lidx := fun y => if y = ix2 r p then BitVec.ofNat 32 x.2 else shiftRow σ.lidx r p (min n 63) y
    lcnt := fun y => if y = ix1 r then BitVec.ofNat 32 (min (n + 1) 64) else σ.lcnt y }

theorem insMem_row {σ : Mem F} {r : ℕ} {L : List (Cand F)} (hR : RowOK σ r L) (hG : Good L) {x : Cand F} (hr : r < 64) (hp : pos x L < 64) :
    RowOK (insMem σ r (pos x L) L.length x) r (insL x L) := by
  refine ⟨?_, fun s p h => ?_⟩
  · show (if (ix1 r : S64.Idx) = ix1 r then _ else _) = _
    rw [if_pos rfl, insL_length, Nat.min_comm]
  · obtain ⟨hs, h⟩ := insL_get h
    show (if (ix2 r s : S64x64.Idx) = ix2 r (pos x L) then x.1 else shiftRow σ.lsc r (pos x L) (min L.length 63) (ix2 r s)) = _
      ∧ (if (ix2 r s : S64x64.Idx) = ix2 r (pos x L) then BitVec.ofNat 32 x.2 else shiftRow σ.lidx r (pos x L) (min L.length 63) (ix2 r s)) = _
    unfold shiftRow
    rw [ix2_val0 hr, ix2_val1 hs]
    have hxy : (ix2 r s : S64x64.Idx) = ix2 r (pos x L) ↔ s = pos x L := by rw [ix2_inj hr hr hs hp]; simp
    simp only [hxy]
    rcases h with ⟨h1, h2⟩ | ⟨h1, h2⟩ | ⟨h1, h2, h3⟩
    · have e1 : ¬ s = pos x L := by omega
      have e2 : ¬ (pos x L < s ∧ s ≤ min L.length 63) := by omega
      simp only [true_and, if_neg e1, if_neg e2]
      exact hR.2 s p h2
    · simp only [if_pos h1, h2, and_self]
    · have e1 : ¬ s = pos x L := by omega
      have e2 : pos x L < s ∧ s ≤ min L.length 63 := by omega
      simp only [true_and, if_neg e1, if_pos e2]
      exact hR.2 (s - 1) p h3

theorem insMem_other {σ : Mem F} {r r' : ℕ} {L : List (Cand F)} (hR : RowOK σ r' L) (hG : Good L) {x : Cand F} {p n : ℕ} (hr : r < 64) (hr' : r' < 64)
    (hp : p < 64) (hne : r' ≠ r) : RowOK (insMem σ r p n x) r' L := by
  have hlen := hG.1
  refine ⟨?_, fun s q h => ?_⟩
  · show (if (ix1 r' : S64.Idx) = ix1 r then _ else _) = _
    rw [if_neg (by rw [ix1_inj hr' hr]; exact hne)]; exact hR.1
  · have hs : s < 64 := by have := (List.getElem?_eq_some_iff.mp h).1; omega
    show (if (ix2 r' s : S64x64.Idx) = ix2 r p then x.1 else shiftRow σ.lsc r p (min n 63) (ix2 r' s)) = _
      ∧ (if (ix2 r' s : S64x64.Idx) = ix2 r p then BitVec.ofNat 32 x.2 else shiftRow σ.lidx r p (min n 63) (ix2 r' s)) = _
    unfold shiftRow
    have e1 : ¬ (ix2 r' s : S64x64.Idx) = ix2 r p := by rw [ix2_inj hr' hr hs hp]; omega
    have e2 : ¬ (r' = r ∧ p < s ∧ s ≤ min n 63) := by omega
    simp only [ix2_val0 hr', ix2_val1 hs, if_neg e1, if_neg e2]
    exact hR.2 s q h

/-! ### What a copy of one plane reads, and the scores -/

theorem read_plane {n m l d0 d1 : ℕ} [NeZero n] [NeZero m] [NeZero l] {e : EltTy} {sp : Space} (b : Memref sig .scVector sp ⟨3, ![n, m, l]⟩ e)
    (off : Fin 3 → ℕ) (h : ∀ a, off a + (![1, d0, d1] : Fin 3 → ℕ) a ≤ (⟨3, ![n, m, l]⟩ : Shape).size a)
    (hr : ∀ a, (Rect.unit (s := ⟨3, ![n, m, l]⟩) off ![1, d0, d1] h).stride a = 1)
    (hq : (⟨3, ![1, d0, d1]⟩ : Shape).Squeezes ⟨2, ![d0, d1]⟩) (f : b.view.ty.Contents (Elt F)) (y : (⟨2, ![d0, d1]⟩ : Shape).Idx) :
    ((b.slice (Rect.unit (s := ⟨3, ![n, m, l]⟩) off ![1, d0, d1] h) hr).squeeze ⟨2, ![d0, d1]⟩ hq).view.read (Elt F) f y
      = b.view.read (Elt F) f (ix3 (off 0) (off 1 + (y 0).val) (off 2 + (y 1).val)) := by
  have hc : (⟨3, ![1, d0, d1]⟩ : Shape).ShapeCasts ⟨2, ![d0, d1]⟩ := hq.numel_eq
  rw [Memref.read_squeeze_slice b _ hr hq hc f]
  refine (shapeCast_dropUnit_apply ![d0, d1] _ hc y).trans ?_
  refine congrArg (b.view.read (Elt F) f) (eq_ix3 _ ?_ ?_ ?_)
  · show off 0 + 1 * 0 = _; omega
  · show off 1 + 1 * (y 0).val = _; omega
  · show off 2 + 1 * (y 1).val = _; omega

/-- A word that is one if `p` holds and zero if it doesn't. -/
def IsBit (w : BitVec 32) (p : Prop) : Prop := (p ∧ w = 1#32) ∨ (¬ p ∧ w = 0#32)

/-- Whether a chunk of sixteen places of a row holds the key. -/
theorem dup_word (f : Vec F S64x64 .i32) (off : Fin 2 → ℕ) (h : ∀ a, off a + S1x16.size a ≤ S64x64.size a) (hi : S16.Iotas .scVector 32 [0])
    (r c len key : ℕ) (hoff : off = ![r, c]) (hc : c ≤ 64) (hlen : len ≤ 64) (h' : ∀ a, (![15] : Fin 1 → ℕ) a < S16.size a) :
    IsBit (extractAt ![15] (xori (scan .max (xori (select (andi (cmpi .eq (shapeCast S16 (fun x => f ((Rect.unit (s := S64x64) off S1x16.size h).emb x))
      shapeCasts_S1x16_S16) (broadcast S16 (BitVec.ofNat 32 key))) (cmpi .slt (addi (broadcast S16 (BitVec.ofNat 32 c)) (iota .scVector S16 32 [0] hi))
      (broadcast S16 (BitVec.ofNat 32 len)))) (broadcast S16 1#32) (broadcast S16 0#32)) (broadcast S16 2147483648#32))) (broadcast S16 2147483648#32)) h')
      (∃ l, l < 16 ∧ f (ix2 r (c + l)) = BitVec.ofNat 32 key ∧ c + l < len) := by
  unfold IsBit
  rw [any_lane]
  have hiff : anyLane (andi (cmpi .eq (shapeCast S16 (fun x => f ((Rect.unit (s := S64x64) off S1x16.size h).emb x))
      shapeCasts_S1x16_S16) (broadcast S16 (BitVec.ofNat 32 key))) (cmpi .slt (addi (broadcast S16 (BitVec.ofNat 32 c)) (iota .scVector S16 32 [0] hi))
      (broadcast S16 (BitVec.ofNat 32 len)))) ↔ ∃ l, l < 16 ∧ f (ix2 r (c + l)) = BitVec.ofNat 32 key ∧ c + l < len := by
    unfold anyLane
    refine exists_congr fun l => and_congr_right fun hl => ?_
    show IntOp.andi (IntOp.cmpi .eq (shapeCast S16 _ shapeCasts_S1x16_S16 (ix1 l)) (BitVec.ofNat 32 key))
      (IntOp.cmpi .slt (IntOp.addi (BitVec.ofNat 32 c) (iota .scVector S16 32 [0] hi (ix1 l))) (BitVec.ofNat 32 len)) = 1#1 ↔ _
    rw [row16 f off h _ hl, iota_single_apply, ix1_val hl, show off 0 = r by rw [hoff]; rfl, show off 1 = c by rw [hoff]; rfl, addi_ofNat, andi1, cmpi_eq_iff, cmpi_slt_ofNat (by omega) (by omega)]
    refine and_congr_right fun _ => ?_
    by_cases hcl : c + l < len
    · simp [hcl]
    · simp [hcl]
  by_cases hex : ∃ l, l < 16 ∧ f (ix2 r (c + l)) = BitVec.ofNat 32 key ∧ c + l < len
  · exact .inl ⟨hex, if_pos (hiff.2 hex)⟩
  · exact .inr ⟨hex, if_neg (fun hh => hex (hiff.1 hh))⟩

/-- No chunk holds the key exactly when the list doesn't. -/
theorem dup_iff {σ : Mem F} {r : ℕ} {L : List (Cand F)} (hR : RowOK σ r L) (hG : Good L) {key : ℕ} (hkey : key < 2048) :
    ((∃ l, l < 16 ∧ σ.lidx (ix2 r (0 + l)) = BitVec.ofNat 32 key ∧ 0 + l < L.length) ∨ (∃ l, l < 16 ∧ σ.lidx (ix2 r (16 + l)) = BitVec.ofNat 32 key ∧ 16 + l < L.length)
      ∨ (∃ l, l < 16 ∧ σ.lidx (ix2 r (32 + l)) = BitVec.ofNat 32 key ∧ 32 + l < L.length) ∨ (∃ l, l < 16 ∧ σ.lidx (ix2 r (48 + l)) = BitVec.ofNat 32 key ∧ 48 + l < L.length))
      ↔ key ∈ L.map Prod.snd := by
  have hlen := hG.1
  have one (s : ℕ) (h : σ.lidx (ix2 r s) = BitVec.ofNat 32 key) (hs : s < L.length) : key ∈ L.map Prod.snd := by
    obtain ⟨-, hb⟩ := hR.2 s _ (List.getElem?_eq_getElem hs)
    have hk := hG.2 _ (List.getElem_mem hs)
    rw [hb, ofNat_inj (by omega) (by omega)] at h
    exact List.mem_map.mpr ⟨L[s], List.getElem_mem hs, h⟩
  constructor
  · rintro (⟨l, -, h1, h2⟩ | ⟨l, -, h1, h2⟩ | ⟨l, -, h1, h2⟩ | ⟨l, -, h1, h2⟩) <;> exact one _ h1 h2
  · intro h
    obtain ⟨p, hp, rfl⟩ := List.mem_map.mp h
    obtain ⟨s, hs, rfl⟩ := List.mem_iff_getElem.mp hp
    obtain ⟨-, hb⟩ := hR.2 s _ (List.getElem?_eq_getElem hs)
    by_cases h1 : s < 16
    · exact .inl ⟨s, h1, by rw [Nat.zero_add]; exact hb, by omega⟩
    by_cases h2 : s < 32
    · exact .inr (.inl ⟨s - 16, by omega, by rw [show 16 + (s - 16) = s by omega]; exact hb, by omega⟩)
    by_cases h3 : s < 48
    · exact .inr (.inr (.inl ⟨s - 32, by omega, by rw [show 32 + (s - 32) = s by omega]; exact hb, by omega⟩))
    · exact .inr (.inr (.inr ⟨s - 48, by omega, by rw [show 48 + (s - 48) = s by omega]; exact hb, by omega⟩))

/-- Four words, each one or zero, joined: zero exactly when all are. -/
theorem or_four {p0 p1 p2 p3 : Prop} {w0 w1 w2 w3 : BitVec 32} (h0 : IsBit w0 p0) (h1 : IsBit w1 p1) (h2 : IsBit w2 p2) (h3 : IsBit w3 p3) :
    IntOp.cmpi .ne ((IntOp.cmpi .eq (IntOp.ori (IntOp.ori (IntOp.ori (IntOp.ori 0#32 w0) w1) w2) w3) 0#32).setWidth 32) 0#32 = 1#1
      ↔ ¬ (p0 ∨ p1 ∨ p2 ∨ p3) := by
  rcases h0 with ⟨h0, rfl⟩ | ⟨h0, rfl⟩ <;> rcases h1 with ⟨h1, rfl⟩ | ⟨h1, rfl⟩ <;> rcases h2 with ⟨h2, rfl⟩ | ⟨h2, rfl⟩ <;>
    rcases h3 with ⟨h3, rfl⟩ | ⟨h3, rfl⟩ <;> simp only [h0, h1, h2, h3] <;> decide

/-! ### What an insertion leaves alone -/

/-- Everything but row `r`'s list (and the rows and chunks read in) is as it was. -/
structure Keep (r : ℕ) (σ σ' : Mem F) : Prop where
  pres : σ'.pres = σ.pres
  pres2 : σ'.pres2 = σ.pres2
  kv : σ'.kv = σ.kv
  qv : σ'.qv = σ.qv
  rows : ∀ r' L, r' < 64 → r' ≠ r → Good L → RowOK σ r' L → RowOK σ' r' L

theorem Keep.refl (r : ℕ) (σ : Mem F) : Keep r σ σ := ⟨rfl, rfl, rfl, rfl, fun _ _ _ _ _ h => h⟩

theorem Keep.trans {r : ℕ} {σ σ' σ'' : Mem F} (h : Keep r σ σ') (h' : Keep r σ' σ'') : Keep r σ σ'' :=
  ⟨h'.pres.trans h.pres, h'.pres2.trans h.pres2, h'.kv.trans h.kv, h'.qv.trans h.qv,
    fun r' L h1 h2 h3 h4 => h'.rows r' L h1 h2 h3 (h.rows r' L h1 h2 h3 h4)⟩

/-- A batch's signatures and scores from the arrays. -/
def batch (b : ℕ) (QS KS : Vec F S2x10x2048 .i32) (QT KT : Vec F S2x2048x64 .f32) : Prob F where
  K h k := KS (ix3 b h k)
  Q h q := QS (ix3 b h q)
  sc q k := dot fun l => FloatOps.mulf (QT (ix3 b q l)) (KT (ix3 b k l))

/-- Products of a query row and a key row, sixteen at a time. -/
theorem mul_lane (f g : Vec F S1x64 .f32) (o : ℕ) (h : ∀ a, (![0, o] : Fin 2 → ℕ) a + S1x16.size a ≤ S1x64.size a) (p q : ℕ → F .f32)
    (hf : ∀ l < 64, f (ix2 0 l) = p l) (hg : ∀ l < 64, g (ix2 0 l) = q l) (ho : o ≤ 48) (l : ℕ) (hl : l < 16) :
    mulf (shapeCast S16 (fun x => f ((Rect.unit (s := S1x64) ![0, o] S1x16.size h).emb x)) shapeCasts_S1x16_S16)
      (shapeCast S16 (fun x => g ((Rect.unit (s := S1x64) ![0, o] S1x16.size h).emb x)) shapeCasts_S1x16_S16) (ix1 l) = FloatOps.mulf (p (o + l)) (q (o + l)) := by
  show FloatOps.mulf (shapeCast S16 _ shapeCasts_S1x16_S16 (ix1 l)) (shapeCast S16 _ shapeCasts_S1x16_S16 (ix1 l)) = _
  rw [row16 f ![0, o] h _ hl, row16 g ![0, o] h _ hl]
  show FloatOps.mulf (f (ix2 0 (o + l))) (g (ix2 0 (o + l))) = _
  rw [hf _ (by omega), hg _ (by omega)]

theorem lane_at {α : Type} (o : ℕ) (v : S16.Idx → α) (h : S16.Slices ![o] S1) (h' : ∀ a, (![0] : Fin 1 → ℕ) a < S1.size a) :
    extractAt ![0] (extractStridedSlice S1 ![o] v h) h' = v (ix1 o) := congrArg v (eq_ix1 _ rfl)

theorem score_pay (a0 b0 a1 b1 a2 b2 a3 b3 : Vec F S1x16 .f32) (p : ℕ → F .f32)
    (h0 : ∀ l, l < 16 → mulf (shapeCast S16 a0 shapeCasts_S1x16_S16) (shapeCast S16 b0 shapeCasts_S1x16_S16) (ix1 l) = p (0 + l))
    (h1 : ∀ l, l < 16 → mulf (shapeCast S16 a1 shapeCasts_S1x16_S16) (shapeCast S16 b1 shapeCasts_S1x16_S16) (ix1 l) = p (16 + l))
    (h2 : ∀ l, l < 16 → mulf (shapeCast S16 a2 shapeCasts_S1x16_S16) (shapeCast S16 b2 shapeCasts_S1x16_S16) (ix1 l) = p (32 + l))
    (h3 : ∀ l, l < 16 → mulf (shapeCast S16 a3 shapeCasts_S1x16_S16) (shapeCast S16 b3 shapeCasts_S1x16_S16) (ix1 l) = p (48 + l)) :
    k1_pay119 (F := F) (k1_pay48 (F := F) (k1_pay44 (F := F) (k1_pay40 (F := F) (k1_pay37 a0 b0) (k1_pay38 a0 b0) (k1_pay39 a0 b0)) (k1_pay41 a1 b1) (k1_pay42 a1 b1)
      (k1_pay43 a1 b1)) (k1_pay45 a2 b2) (k1_pay46 a2 b2) (k1_pay47 a2 b2)) (k1_pay49 a3 b3) (k1_pay50 a3 b3) = dot p := by
  unfold dot lsum
  dsimp only [k1_pay119, k1_pay48, k1_pay44, k1_pay40, k1_pay37, k1_pay38, k1_pay39, k1_pay41, k1_pay42, k1_pay43, k1_pay45, k1_pay46, k1_pay47, k1_pay49,
    k1_pay50, List.foldl]
  simp only [lane_at]
  simp (discharger := decide) only [h0, h1, h2, h3]

theorem T_dite {d : Dev nD} {c : Fin τ.nSC} {j : Fin τ.nSub} {A : Regs} {E : Env F d c j A} {σ : Mem F} {α : Type} {Q : α → Mem F → Prop}
    {p : Prop} {dp : Decidable p} {a : p → PT F c j α} {b : ¬ p → PT F c j α} (ha : ∀ h, T E σ (a h) Q) (hb : ∀ h, T E σ (b h) Q) :
    T E σ (@dite _ p dp a b) Q := by
  by_cases h : p
  · rw [dif_pos h]; exact ha h
  · rw [dif_neg h]; exact hb h

end Cert.Proof.Join

end
-- ==== Proof.Steps.lean ====
/-
  What the tile's loops share: chunks of sixteen keys, the rows a batch fills, and the two presence tables.
-/
module

public import proofs.«01_k».proof.Proof.Rows

@[expose] public section

noncomputable section

namespace Cert.Proof.Join

open Cert.KernelIdeal Cert.KernelIdeal.Gen
open Idealize.ShloMosaic

variable {F : FTy → Type} [FloatOps F]

theorem iv_ofNat (a k : ℕ) : Scf.iv (BitVec.ofNat 32 a) 1#32 k = BitVec.ofNat 32 (a + k) := by
  unfold Scf.iv; rw [BitVec.mul_one, ← BitVec.ofNat_add]

theorem iv0 (k : ℕ) : Scf.iv 0#32 1#32 k = BitVec.ofNat 32 k := by
  unfold Scf.iv; rw [BitVec.mul_one, BitVec.zero_add]

/-- A chunk of sixteen keys none of which has the code `w`. -/
def NoMt (f : Vec F S2x2048 .i32) (g : ℕ) (w : BitVec 32) (s : ℕ) : Prop := ∀ l < 16, f (ix2 g (16 * s + l)) ≠ w

/-- What the search for the next chunk knows after some chunks. -/
def Seek (f : Vec F S2x2048 .i32) (g : ℕ) (w : BitVec 32) (a k m : ℕ) : Prop :=
  m ≤ 128 ∧ a ≤ m ∧ ∀ s, a ≤ s → s < a + k → s < m → NoMt f g w s

theorem Seek.zero (f : Vec F S2x2048 .i32) (g : ℕ) (w : BitVec 32) {a : ℕ} (ha : a ≤ 128) : Seek f g w a 0 128 :=
  ⟨le_refl _, ha, fun s h h' => by omega⟩

theorem Seek.next {f : Vec F S2x2048 .i32} {g : ℕ} {w : BitVec 32} {a k m : ℕ} (h : Seek f g w a k m) (hk : a + k < 128)
    {M : IVec S16 1} (hM : ∀ l < 16, M (ix1 l) = 1#1 ↔ f (ix2 g (16 * (a + k) + l)) = w) {v : BitVec 32}
    (hv : IsBit v (anyLane M)) :
    ∃ m', Scalar.minsi (BitVec.ofNat 32 m) (Scalar.select (Scalar.cmpi .sgt v 0#32) (BitVec.ofNat 32 (a + k)) 128#32) = BitVec.ofNat 32 m'
      ∧ Seek f g w a (k + 1) m' := by
  obtain ⟨h1, h2, h3⟩ := h
  rcases hv with ⟨hp, rfl⟩ | ⟨hp, rfl⟩
  · refine ⟨min m (a + k), (show _ = IntOp.minsi (BitVec.ofNat 32 m) (BitVec.ofNat 32 (a + k)) from rfl).trans (minsi_ofNat (by omega) (by omega)), by omega, by omega, ?_⟩
    intro s hs hs1 hs2
    exact h3 s hs (by omega) (by omega)
  · refine ⟨min m 128, (show _ = IntOp.minsi (BitVec.ofNat 32 m) (BitVec.ofNat 32 128) from rfl).trans (minsi_ofNat (by omega) (by omega)), by omega, by omega, ?_⟩
    intro s hs hs1 hs2
    rcases Nat.lt_or_ge s (a + k) with hlt | hge
    · exact h3 s hs hlt (by omega)
    · obtain rfl : s = a + k := by omega
      intro l hl hf
      exact hp ⟨l, hl, (hM l hl).2 hf⟩

theorem bit_any (M : IVec S16 1) (h : ∀ a, (![15] : Fin 1 → ℕ) a < S16.size a) :
    IsBit (extractAt ![15] (xori (scan .max (xori (select M (broadcast S16 1#32) (broadcast S16 0#32)) (broadcast S16 2147483648#32))) (broadcast S16 2147483648#32)) h)
      (anyLane M) := by
  classical
  unfold IsBit
  rw [any_lane]
  by_cases hM : anyLane M
  · exact .inl ⟨hM, if_pos hM⟩
  · exact .inr ⟨hM, if_neg hM⟩

/-- The kernel's `> 0` test of such a word. -/
theorem bit_pos {v : BitVec 32} {p : Prop} (h : IsBit v p) : IntOp.cmpi .ne ((IntOp.cmpi .sgt v 0#32).setWidth 32) 0#32 = 1#1 ↔ p := by
  rcases h with ⟨h, rfl⟩ | ⟨h, rfl⟩ <;> simp only [h] <;> decide

/-- The chunks passed over hold no candidate. -/
theorem run_seek {X : Prob F} {g q a m : ℕ} {f : Vec F S2x2048 .i32} {L : List (Cand F)} (h : Seek f g (X.Q (8 + g) q) a (128 - a) m)
    (hf : ∀ k < 2048, f (ix2 g k) = X.K (8 + g) k) : X.run g q L (16 * m) = X.run g q L (16 * a) := by
  obtain ⟨h1, h2, h3⟩ := h
  have := X.run_skip g q L (16 * a) (16 * (m - a)) (fun k hk hk' hmt => by
    have hno := h3 (k / 16) (by omega) (by omega) (by omega) (k % 16) (by omega)
    rw [show 16 * (k / 16) + k % 16 = k by omega, hf k (by omega)] at hno
    exact hno hmt.1)
  rwa [show 16 * a + 16 * (m - a) = 16 * m by omega] at this

/-- Everything but the row buffers and the list of the rows is as it was. -/
structure Same (σ σ' : Mem F) : Prop where
  pres : σ'.pres = σ.pres
  pres2 : σ'.pres2 = σ.pres2
  kv : σ'.kv = σ.kv
  qv : σ'.qv = σ.qv

theorem Same.refl (σ : Mem F) : Same σ σ := ⟨rfl, rfl, rfl, rfl⟩
theorem Same.trans {σ σ' σ'' : Mem F} (h : Same σ σ') (h' : Same σ' σ'') : Same σ σ'' :=
  ⟨h'.1.trans h.1, h'.2.trans h.2, h'.3.trans h.3, h'.4.trans h.4⟩
theorem Keep.same {r : ℕ} {σ σ' : Mem F} (h : Keep r σ σ') : Same σ σ' := ⟨h.1, h.2, h.3, h.4⟩

/-- The sixty-four rows of a batch. -/
def Rows (σ : Mem F) (Ls : ℕ → List (Cand F)) : Prop := ∀ r < 64, RowOK σ r (Ls r)

theorem Rows.keep {σ σ' : Mem F} {Ls Ls' : ℕ → List (Cand F)} {r : ℕ} (h : Rows σ Ls) (hK : Keep r σ σ') (hG : ∀ r, Good (Ls r))
    (hr : RowOK σ' r (Ls' r)) (ho : ∀ r', r' ≠ r → Ls' r' = Ls r') : Rows σ' Ls' := by
  intro r' hr'
  by_cases he : r' = r
  · subst he; exact hr
  · rw [ho r' he]; exact hK.rows r' _ hr' he (hG r') (h r' hr')

/-- The rows with the first `n` done. -/
def upto (X : Prob F) (g base : ℕ) (Ls : ℕ → List (Cand F)) (n r : ℕ) : List (Cand F) := if r < n then X.run g (base + r) (Ls r) 2048 else Ls r

theorem upto_good {X : Prob F} {g base : ℕ} {Ls : ℕ → List (Cand F)} (hG : ∀ r, Good (Ls r)) (n r : ℕ) : Good (upto X g base Ls n r) := by
  unfold upto; split
  · exact (hG r).run (le_refl _)
  · exact hG r

theorem upto_zero (X : Prob F) (g base : ℕ) (Ls : ℕ → List (Cand F)) : upto X g base Ls 0 = Ls := by
  funext r; exact if_neg (Nat.not_lt_zero _)

/-- The presence tables of a hash group: every key's two fields are marked `ep`. -/
def Marks (σ : Mem F) (ep : BitVec 32) (w : ℕ → BitVec 32) (n : ℕ) : Prop :=
  ∀ k < n, σ.pres (ix1 (IntOp.andi (w k) 32767#32).toNat) = ep ∧ σ.pres2 (ix1 (IntOp.andi (IntOp.shrui .vector (w k) 18#32) 16383#32).toNat) = ep

theorem and_lt (w : BitVec 32) : (IntOp.andi w 32767#32).toNat < 32768 := by
  unfold IntOp.andi
  rw [BitVec.toNat_and]
  exact lt_of_le_of_lt Nat.and_le_right (by decide)

theorem and_lt2 (w : BitVec 32) : (IntOp.andi w 16383#32).toNat < 16384 := by
  unfold IntOp.andi
  rw [BitVec.toNat_and]
  exact lt_of_le_of_lt Nat.and_le_right (by decide)

/-- A query whose fields aren't both marked matches no key. -/
theorem run_unmarked {X : Prob F} {σ : Mem F} {ep : BitVec 32} {g q : ℕ} (L : List (Cand F)) (h : Marks σ ep (X.K (8 + g)) 2048)
    (hq : ¬ (σ.pres (ix1 (IntOp.andi (X.Q (8 + g) q) 32767#32).toNat) = ep ∧ σ.pres2 (ix1 (IntOp.andi (IntOp.shrui .vector (X.Q (8 + g) q) 18#32) 16383#32).toNat) = ep)) :
    X.run g q L 2048 = L := by
  have := X.run_skip g q L 0 2048 (fun k _ hk hmt => hq (by rw [← hmt.1]; exact h k (by omega)))
  rwa [Nat.zero_add] at this

theorem inb_lanes1 {n : ℕ} (v : IVec S16 32) (h : ∀ x, (v x).toNat < n) :
    ∀ x y, ((![v] : Fin 1 → IVec S16 32) x y).toNat < (⟨1, ![n]⟩ : Shape).size x := by
  intro x y; fin_cases x; exact h y

end Cert.Proof.Join

end
-- ==== Proof.Mask.lean ====
/-
  Stores of sixteen words, the marking of the presence tables, and the masking of a row of the result.
-/
module

public import proofs.«01_k».proof.Proof.Steps

@[expose] public section

noncomputable section

namespace Cert.Proof.Join

open Cert.KernelIdeal Cert.KernelIdeal.Gen
open Idealize.ShloMosaic Idealize.SL.Sem

variable {F : FTy → Type} [FloatOps F]

theorem put_row16 {α : Type} {n m : ℕ} [NeZero n] [NeZero m] (f : (⟨2, ![n, m]⟩ : Shape).Idx → α) (off : Fin 2 → ℕ)
    (h : ∀ a, off a + S1x16.size a ≤ (⟨2, ![n, m]⟩ : Shape).size a) (w : S16.Idx → α) (hc : S16.ShapeCasts S1x16) {r s : ℕ} (hr : r < n) (hs : s < m) :
    put f (Rect.unit (s := ⟨2, ![n, m]⟩) off S1x16.size h) (shapeCast S1x16 w hc) (ix2 r s)
      = if r = off 0 ∧ off 1 ≤ s ∧ s < off 1 + 16 then w (ix1 (s - off 1)) else f (ix2 r s) := by
  have key : ∀ l : Fin 16, shapeCast S1x16 w hc (ix2 0 l.val) = w (ix1 l.val) := by
    intro l
    have : ∀ l : Fin 16, Shape.reshapeEquiv (by decide : S1x16.numel = S16.numel) (ix2 0 l.val) = ix1 l.val := by decide
    exact congrArg w (this l)
  split
  · rename_i hh
    obtain ⟨h0, h1, h2⟩ := hh
    have hl : s - off 1 < 16 := by omega
    have he : (Rect.unit (s := ⟨2, ![n, m]⟩) off S1x16.size h).emb (ix2 0 (s - off 1)) = ix2 r s := by
      refine eq_ix2 _ ?_ ?_
      · show (off 0 + 1 * 0) = r
        omega
      · show off 1 + 1 * ((s - off 1) % 16) = s
        rw [Nat.mod_eq_of_lt hl]; omega
    rw [← he, put_emb]
    exact key ⟨_, hl⟩
  · rename_i hh
    refine put_of_ne _ _ _ _ fun x hx => hh ?_
    have h0 := congrArg (fun y : (⟨2, ![n, m]⟩ : Shape).Idx => (y 0).val) hx
    have h1 := congrArg (fun y : (⟨2, ![n, m]⟩ : Shape).Idx => (y 1).val) hx
    have e0 : off 0 + 1 * (x 0).val = r % n := h0
    have e1 : off 1 + 1 * (x 1).val = s % m := h1
    rw [Nat.mod_eq_of_lt hr] at e0
    rw [Nat.mod_eq_of_lt hs] at e1
    have x0 : (x 0).val < 1 := (x 0).isLt
    have x1 : (x 1).val < 16 := (x 1).isLt
    omega

/-- Sixteen more keys marked. -/
theorem marks_step {σ : Mem F} {ep : BitVec 32} {w : ℕ → BitVec 32} {n : ℕ} (v1 v2 : IVec S16 32) (c : Vec F S16 .i32)
    (h1 : ∀ a x, ((![v1] : Fin 1 → IVec S16 32) a x).toNat < S32768.size a) (h2 : ∀ a x, ((![v2] : Fin 1 → IVec S16 32) a x).toNat < S16384.size a)
    (hv1 : ∀ l, l < 16 → v1 (ix1 l) = IntOp.andi (w (n + l)) 32767#32)
    (hv2 : ∀ l, l < 16 → v2 (ix1 l) = IntOp.andi (IntOp.shrui .vector (w (n + l)) 18#32) 16383#32)
    (hc : ∀ x, c x = ep) (hM : Marks σ ep w n) :
    Marks { σ with pres := storeIdx σ.pres ![v1] c (fun _ => 1#1) false h1, pres2 := storeIdx σ.pres2 ![v2] c (fun _ => 1#1) false h2 } ep w (n + 16) := by
  intro k hk
  have s1 := fun y => storeIdx_all (F := F) (e := .i32) σ.pres ![v1] c ep h1 hc y
  have s2 := fun y => storeIdx_all (F := F) (e := .i32) σ.pres2 ![v2] c ep h2 hc y
  by_cases hkn : k < n
  · exact ⟨(s1 _).2 (hM k hkn).1, (s2 _).2 (hM k hkn).2⟩
  · obtain ⟨l, rfl⟩ : ∃ l, k = n + l := ⟨k - n, by omega⟩
    have hl : l < 16 := by omega
    refine ⟨(s1 _).1 l hl ?_, (s2 _).1 l hl ?_⟩
    · rw [← hv1 l hl]; exact (eq_ix1 (n := 32768) (idxAt ![v1] h1 (ix1 l)) rfl).symm
    · rw [← hv2 l hl]; exact (eq_ix1 (n := 16384) (idxAt ![v2] h2 (ix1 l)) rfl).symm

/-- A word of the masked row: the number if the slot is filled and the score is above the cut. -/
def maskw (o : BitVec 32) (l : ℕ) (n : BitVec 32) (sc : F .f32) (ix : BitVec 32) : BitVec 32 :=
  Scalar.select (IntOp.andi (IntOp.cmpi .slt (IntOp.addi o (BitVec.ofNat 32 l)) n) (FloatOps.cmpf .ogt sc (Scalar.ofBits .f32 0xCCBEBC20#32))) ix 4294967295#32

theorem maskw_out {X : Prob F} {σ : Mem F} {q r o l : ℕ} (hR : RowOK σ r (X.both q)) (hG : Good (X.both q)) (hs : o + l < 64) :
    maskw (BitVec.ofNat 32 o) l (σ.lcnt (ix1 r)) (σ.lsc (ix2 r (o + l))) (σ.lidx (ix2 r (o + l))) = X.out q (o + l) := by
  have hlen : (X.both q).length ≤ 64 := hG.1
  obtain ⟨hc, hp⟩ := hR
  unfold maskw Prob.out
  rw [hc, addi_ofNat, cmpi_slt_ofNat (by omega) (by omega)]
  by_cases h : o + l < (X.both q).length
  · rw [if_pos h]
    obtain ⟨h1, h2⟩ := hp (o + l) _ (List.getElem?_eq_getElem h)
    rw [h1, h2, List.getElem?_eq_getElem h]
    show (if IntOp.andi 1#1 _ = 1 then _ else _) = if _ = 1#1 then _ else _
    rw [show IntOp.andi 1#1 _ = _ from BitVec.allOnes_and (w := 1)]
    rfl
  · rw [if_neg h, List.getElem?_eq_none (by omega)]
    show (if IntOp.andi 0#1 _ = 1 then _ else _) = _
    rw [show IntOp.andi 0#1 _ = 0#1 from BitVec.zero_and]
    rfl

/-- The row with its first `o` words masked. -/
structure Masked (X : Prob F) (q k : ℕ) (f0 : Vec F S64x64 .i32) (o : ℕ) (f : Vec F S64x64 .i32) : Prop where
  done : ∀ s < o, f (ix2 k s) = X.out q s
  rest : ∀ s < 64, o ≤ s → f (ix2 k s) = f0 (ix2 k s)
  other : ∀ r < 64, ∀ s < 64, r ≠ k → f (ix2 r s) = f0 (ix2 r s)

theorem Masked.zero (X : Prob F) (q k : ℕ) (f0 : Vec F S64x64 .i32) : Masked X q k f0 0 f0 :=
  ⟨fun s h => absurd h (Nat.not_lt_zero _), fun _ _ _ => rfl, fun _ _ _ _ _ => rfl⟩

theorem Masked.step {X : Prob F} {σ : Mem F} {q k o : ℕ} {f : Vec F S64x64 .i32} (h : Masked X q k σ.lidx o f) (hk : k < 64) (ho : o + 16 ≤ 64)
    (hR : RowOK σ k (X.both q)) (hG : Good (X.both q)) (off : Fin 2 → ℕ) (b : ∀ a, off a + S1x16.size a ≤ S64x64.size a) (w : Vec F S16 .i32) (hc : S16.ShapeCasts S1x16)
    (hoff : off = ![k, o]) (hw : ∀ l, l < 16 → w (ix1 l) = maskw (BitVec.ofNat 32 o) l (σ.lcnt (ix1 k)) (σ.lsc (ix2 k (o + l))) (f (ix2 k (o + l)))) :
    Masked X q k σ.lidx (o + 16) (put f (Rect.unit (s := S64x64) off S1x16.size b) (shapeCast S1x16 w hc)) := by
  have e : ∀ r < 64, ∀ s < 64, put f (Rect.unit (s := S64x64) off S1x16.size b) (shapeCast S1x16 w hc) (ix2 r s)
      = if r = k ∧ o ≤ s ∧ s < o + 16 then w (ix1 (s - o)) else f (ix2 r s) := fun r hr s hs => by
    refine (put_row16 f off b w hc hr hs).trans ?_
    rw [hoff]; rfl
  refine ⟨fun s hs => ?_, fun s hs hos => ?_, fun r hr s hs hrk => ?_⟩
  · rw [e k hk s (by omega)]
    by_cases hh : o ≤ s
    · rw [if_pos ⟨rfl, hh, hs⟩, hw _ (by omega)]
      obtain ⟨l, rfl⟩ : ∃ l, s = o + l := ⟨s - o, by omega⟩
      rw [Nat.add_sub_cancel_left, h.rest _ (by omega) (by omega)]
      exact maskw_out hR hG (by omega)
    · rw [if_neg (by omega)]; exact h.done _ (by omega)
  · rw [e k hk s hs, if_neg (by omega)]; exact h.rest _ hs (by omega)
  · rw [e r hr s hs, if_neg (by omega)]; exact h.other _ hr _ hs hrk

theorem mask_pay (o c ix : BitVec 32) (sc : F .f32) {l : ℕ} (hl : l < 16) (a : Vec F S1x16 .f32) (b : Vec F S1x16 .i32)
    (ha : shapeCast S16 a shapeCasts_S1x16_S16 (ix1 l) = sc) (hb : shapeCast S16 b shapeCasts_S1x16_S16 (ix1 l) = ix) :
    Scalar.select (IntOp.andi (IntOp.cmpi .slt (IntOp.addi o (iota .scVector S16 32 [0] iota_S16_d0_w32_scVector (ix1 l))) c)
      (FloatOps.cmpf .ogt (shapeCast S16 a shapeCasts_S1x16_S16 (ix1 l)) (Scalar.ofBits .f32 0xCCBEBC20#32))) (shapeCast S16 b shapeCasts_S1x16_S16 (ix1 l)) 4294967295#32
      = maskw o l c sc ix := by
  have e : iota .scVector S16 32 [0] iota_S16_d0_w32_scVector (ix1 l) = BitVec.ofNat 32 l :=
    (iota_single_apply .scVector S16 32 0 iota_S16_d0_w32_scVector (ix1 l)).trans (congrArg (BitVec.ofNat 32) (Nat.mod_eq_of_lt hl))
  rw [ha, hb, e]; rfl

theorem T_mask {d : Dev nD} {c : Fin τ.nSC} {j : Fin τ.nSub} {A : Regs} {E : Env F d c j A} {α : Type} {Q : α → Mem F → Prop}
    {X : Prob F} {σ : Mem F} {q k o : ℕ} {f : Vec F S64x64 .i32} (hM : Masked X q k σ.lidx o f) (hk : k < 64) (ho : o + 16 ≤ 64)
    (hR : RowOK σ k (X.both q)) (hG : Good (X.both q)) {off : Fin 2 → ℕ} {b : ∀ a, off a + S1x16.size a ≤ S64x64.size a} {w : Vec F S16 .i32} {hc : S16.ShapeCasts S1x16}
    {hx : (A.lidx.access (Rect.unit (s := S64x64) off S1x16.size b)).Stores Finset.univ}
    {hm : Finset.univ = Finset.univ ∨ ∀ a, (Rect.unit (s := S64x64) off S1x16.size b).stride a = 1} {kk : PUnit → PT F c j α}
    (hoff : off = ![k, o]) (hw : ∀ l, l < 16 → w (ix1 l) = maskw (BitVec.ofNat 32 o) l (σ.lcnt (ix1 k)) (σ.lsc (ix2 k (o + l))) (f (ix2 k (o + l))))
    (hk' : ∀ f', Masked X q k σ.lidx (o + 16) f' → T E { σ with lidx := f' } (kk ⟨⟩) Q) :
    T E { σ with lidx := f } (Prog.lift (.store A.lidx (Rect.unit (s := S64x64) off S1x16.size b) (shapeCast S1x16 w hc) Finset.univ hx hm) >>= kk) Q :=
  T_store (c_lidx E) (hk' _ (hM.step hk ho hR hG off b w hc hoff hw))

/-- The first `n` counts are zero. -/
def Zeroed (σ : Mem F) (n : ℕ) : Prop := ∀ r < n, σ.lcnt (ix1 r) = 0#32

theorem Zeroed.rows {σ : Mem F} (h : Zeroed σ 64) : Rows σ (fun _ => []) := fun r hr => ⟨h r hr, fun s p hp => by cases hp⟩

theorem T_zero {d : Dev nD} {c : Fin τ.nSC} {j : Fin τ.nSub} {A : Regs} {E : Env F d c j A} {α : Type} {Q : α → Mem F → Prop} {σ : Mem F} {n : ℕ}
    (hZ : Zeroed σ n) (hn : n + 16 ≤ 64) {off : Fin 1 → ℕ} {b : ∀ a, off a + S16.size a ≤ S64.size a} {w : Vec F S16 .i32} (hw : ∀ x, w x = 0#32)
    {hx : (A.lcnt.access (Rect.unit (s := S64) off S16.size b)).Stores Finset.univ}
    {hm : Finset.univ = Finset.univ ∨ ∀ a, (Rect.unit (s := S64) off S16.size b).stride a = 1} {kk : PUnit → PT F c j α} (hoff : off 0 = n)
    (hk : ∀ σ', (∃ f, σ' = { σ with lcnt := f }) → Zeroed σ' (n + 16) → T E σ' (kk ⟨⟩) Q) :
    T E σ (Prog.lift (.store A.lcnt (Rect.unit (s := S64) off S16.size b) w Finset.univ hx hm) >>= kk) Q := by
  refine T_store (c_lcnt E) (hk _ ⟨_, rfl⟩ fun r hr => ?_)
  show put σ.lcnt (Rect.unit (s := S64) off S16.size b) w (ix1 r) = 0#32
  by_cases h : r < n
  · rw [put_of_ne]
    · exact hZ r h
    · intro x hx
      have e : off 0 + 1 * (x 0).val = r % 64 := congrArg (fun y : S64.Idx => (y 0).val) hx
      rw [hoff, Nat.mod_eq_of_lt (by omega)] at e
      omega
  · have he : (Rect.unit (s := S64) off S16.size b).emb (ix1 (n := 16) (r - n)) = ix1 r := by
      refine eq_ix1 _ ?_
      show off 0 + 1 * ((r - n) % 16) = r
      rw [hoff, Nat.mod_eq_of_lt (by omega)]; omega
    rw [← he, put_emb]
    exact hw _

end Cert.Proof.Join

end
-- ==== Proof.Flow.lean ====
/-
  Copies a tile starts and waits for later: one at a time on a counter, or two on one counter; and running a stretch
  described by `T` beside what else the tile holds.
-/
module

public import proofs.«01_k».proof.Proof.Mask

@[expose] public section

noncomputable section

namespace Cert.Proof.Join

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable {d : Dev nD} {c : Fin τ.nSC} {j : Fin τ.nSub} {A : Regs}

/-- A share of a buffer as two. -/
theorem shares_halve {sp : Space} {s : Shape} {e : EltTy} (m : Memref sig .scVector sp s e) (q : PosShare TreeShare) (raw : Buf (Elt F) (m.view.loc (V d c j))) :
    (shares d c j m q raw : sProp 𝕄) ⊣⊢ iprop(shares d c j m q.left raw ∗ shares d c j m q.right raw) := by
  unfold shares
  exact pointsTo_share (PosShare.mem_left_op_right _)

/-- A share of a buffer as a share of a part and what restores it. -/
theorem shares_part {sp : Space} {sb s : Shape} {e : EltTy} (b : Memref sig .scVector sp sb e) (r : Rect sb) (hr : ∀ a, r.stride a = 1) (hq : r.shape.Squeezes s)
    (q : PosShare TreeShare) (raw : Buf (Elt F) (b.view.loc (V d c j))) :
    (shares d c j b q raw : sProp 𝕄) ⊢ iprop(shares d c j ((b.slice r hr).squeeze s hq) q raw
      ∗ (shares d c j ((b.slice r hr).squeeze s hq) q raw -∗ shares d c j b q raw)) := by
  have hsub : ((b.slice r hr).squeeze s hq).view.set ⊆ b.view.set := by
    rw [View.set_reshape]; exact View.set_slice_subset _ _
  unfold shares
  iintro H
  ihave H2 := (pointsTo_split_subset (q := q) (f := raw) hsub).1 $$ H
  icases H2 with ⟨Hb, Hrest⟩
  isplitl [Hb]; · iexact Hb
  iintro Hb
  iapply (pointsTo_split_subset (q := q) (f := raw) hsub).2
  isplitl [Hb]; · iexact Hb
  iexact Hrest

/-- What a finished copy hands back. -/
abbrev back (d : Dev nD) (c : Fin τ.nSC) (j : Fin τ.nSub) {sp sp' : Space} {s : Shape} {e : EltTy} (src : Memref sig .scVector sp s e)
    (m : Memref sig .scVector sp' s e) (q : PosShare TreeShare) (fs : Buf (Elt F) (src.view.loc (V d c j))) : sProp 𝕄 :=
  iprop(holds d c j m (src.view.read (Elt F) fs) ∗ shares d c j src q fs)

/-- A copy under way. -/
def going (d : Dev nD) (c : Fin τ.nSC) (j : Fin τ.nSub) {sp sp' : Space} {s : Shape} {e : EltTy} (src : Memref sig .scVector sp s e)
    (m : Memref sig .scVector sp' s e) (q : PosShare TreeShare) (fs : Buf (Elt F) (src.view.loc (V d c j))) (sem : DmaSem sig) : sProp 𝕄 :=
  iprop(∃ raw : Buf (Elt F) (m.view.loc (V d c j)), ⌜m.view.read (Elt F) raw = src.view.read (Elt F) fs⌝
    ∗ Transfers.Flight EC (V d c j) (SemLoc.dma sem) (none : HIx 1) (m.view.amount (SemLoc.dma sem))
        iprop((m.view.loc (V d c j) ↦[m.view.set]{fullShare} raw) ∗ (src.view.loc (V d c j) ↦[src.view.set]{q} fs)))

def two (P Q : sProp 𝕄) : Fin 2 → sProp 𝕄 := fun t => if t = 0 then P else Q

instance two_storable (P Q : sProp 𝕄) [Storable (upEmb : UEmb _ 𝕄) P] [Storable (upEmb : UEmb _ 𝕄) Q] (t : Fin 2) :
    Storable (upEmb : UEmb _ 𝕄) (two P Q t) := by
  unfold two; split <;> infer_instance

instance holds_storable {sp : Space} {s : Shape} {e : EltTy} (m : Memref sig .scVector sp s e) (f : Vec F s e) :
    Storable (upEmb : UEmb _ 𝕄) (holds d c j m f) := by
  unfold holds; infer_instance

instance shares_storable {sp : Space} {s : Shape} {e : EltTy} (m : Memref sig .scVector sp s e) (q : PosShare TreeShare) (raw : Buf (Elt F) (m.view.loc (V d c j))) :
    Storable (upEmb : UEmb _ 𝕄) (shares d c j m q raw) := by
  unfold shares; infer_instance

/-- Two copies on one counter, `n` of them started and `u` units waited for. -/
abbrev pair (d : Dev nD) (c : Fin τ.nSC) (j : Fin τ.nSub) (sem : DmaSem sig) (N : ℕ) (P Q : sProp 𝕄) (n u : ℕ) : sProp 𝕄 :=
  Transfers.Batch EC (V d c j) (SemLoc.dma sem) (none : HIx 1) N (two P Q) n u

/-- What a tile owes and has waited for. -/
theorem owing_take (O : CellTallies nD τ sig (HIx 1)) (W : Waits sig (HIx 1)) (sem : DmaSem sig) :
    (owing d c j O W : sProp 𝕄) ⊢ iprop(∃ W', MayWait (V d c j) (SemLoc.dma sem) (none : HIx 1) O ∗ owes (V d c j) O W'
      ∗ (owes (V d c j) O (insert (SemLoc.dma sem, (none : HIx 1)) W') -∗ owing d c j O W)) := by
  unfold owing
  iintro ⟨#Hmw, %W', %hW, HO⟩
  iexists W'
  isplitr
  · iapply (Transfers.MayWaits.elim (SemLoc.dma sem)); iexact Hmw
  isplitl [HO]; · iexact HO
  iintro HO
  isplitr; · iexact Hmw
  iexists (insert (SemLoc.dma sem, (none : HIx 1)) W')
  isplitr
  · ipureintro
    intro p hp
    rcases Finset.mem_insert.mp hp with rfl | hp
    · exact .inr rfl
    · exact hW p hp
  iexact HO

variable [FloatOps F] {E : Env F d c j A} {σ : Mem F} {α β : Type}

/-- The tile's run of a program. -/
abbrev run (d : Dev nD) (c : Fin τ.nSC) (j : Fin τ.nSub) (p : PT F c j α) (Ψ : α → sProp 𝕄) : sProp 𝕄 :=
  wp frame (wpE (defs₀ (F := F)) 𝒱₀ (V d c j) none) Set.univ p Ψ

theorem run_T {p : PT F c j β} {k : β → PT F c j α} {Q : β → Mem F → Prop} {Ψ : α → sProp 𝕄} (h : T E σ p Q) :
    St E σ ⊢ iprop((∀ v σ', ⌜Q v σ'⌝ -∗ St E σ' -∗ run d c j (k v) Ψ) -∗ run d c j (p >>= k) Ψ) := by
  unfold T at h
  unfold run
  rw [wp_bind]
  iintro H Hk
  iapply wp_wand_r
  isplitl [H]; · iapply h; iexact H
  iintro %v ⟨%σ', %hQ, H⟩
  iapply Hk
  · ipureintro; exact hQ
  iexact H

theorem St_owing (E : Env F d c j A) (σ : Mem F) : St E σ ⊢ iprop(owing d c j E.O E.W ∗ (owing d c j E.O E.W -∗ St E σ)) := by
  unfold St
  iintro ⟨Ha3, Ha4, Ha5, Hpres, Hpres2, Hkq, Hkhw, Hqrow, Hkrow, Hlsc, Hlidx, Hlcnt, Hs0, Hs1, Hs2, How⟩
  isplitl [How]; · iexact How
  iintro How
  iframe

theorem run_start {sp sp' : Space} {s : Shape} {e : EltTy} {src : Memref sig .scVector sp s e} {m : Memref sig .scVector sp' s e}
    {q : PosShare TreeShare} {fs : Buf (Elt F) (src.view.loc (V d c j))} {sem : DmaSem sig} (hpos : 0 < s.numel)
    {h1 : src.view.WordExact} {h2 : m.view.WordExact} {h3 : DmaTarget.Typed (nD := nD) sp (.dma sem) (DmaTarget.here (p := Proc.scVector c j) m)}
    {k : PUnit → PT F c j α} {Ψ : α → sProp 𝕄} :
    iprop(shares d c j src q fs ∗ (∃ f, holds d c j m f) ∗ semVal (V d c j, SemLoc.dma sem) 0)
      ⊢ iprop((going d c j src m q fs sem -∗ run d c j (k ⟨⟩) Ψ)
        -∗ run d c j (Prog.lift (.enqueueDma src (.here m) (.dma sem) h1 h2 h3) >>= k) Ψ) := by
  rw [show (Prog.lift (.enqueueDma src (.here m) (.dma sem) h1 h2 h3) >>= k : PT F c j α) = .op (.enqueueDma src (.here m) (.dma sem) h1 h2 h3) k from rfl]
  unfold run holds shares
  iintro ⟨Hb, ⟨%fm, %rawm, -, Hm⟩, Hsem⟩ Hk
  iapply (Transfers.wp_dmaLocal EC 𝒱₀ (V d c j) none (src := src) (none : HIx 1) (m.view.amount (SemLoc.dma sem)) rfl
    (View.amount_pos _ _ hpos) (Finset.Subset.refl _)) $$ [Hb Hm Hsem]
  · isplitl [Hb]; · iexact Hb
    isplitl [Hm]; · iexact Hm
    iexact Hsem
  iintro Hfl
  iapply Hk
  unfold going
  iexists _
  isplitr [Hfl]
  rotate_left
  · iexact Hfl
  · ipureintro
    exact View.read_write_univ _ _

theorem run_await {sp sp' : Space} {s : Shape} {e : EltTy} {src : Memref sig .scVector sp s e} {m : Memref sig .scVector sp' s e}
    {q : PosShare TreeShare} {fs : Buf (Elt F) (src.view.loc (V d c j))} {sem : DmaSem sig}
    {sp₁ : Space} {s' : Shape} {e' : EltTy} {srcw : Memref sig .scVector sp₁ s' e'}
    {h4 : srcw.view.WordExact} {h5 : m.view.WordExact} {O : CellTallies nD τ sig (HIx 1)} {W : Waits sig (HIx 1)}
    {k : PUnit → PT F c j α} {Ψ : α → sProp 𝕄} :
    iprop(going d c j src m q fs sem ∗ owing d c j O W)
      ⊢ iprop((iprop(back d c j src m q fs ∗ semVal (V d c j, SemLoc.dma sem) 0 ∗ owing d c j O W) -∗ run d c j (k ⟨⟩) Ψ)
        -∗ run d c j (Prog.lift (.waitDma2 sem srcw m h4 h5) >>= k) Ψ) := by
  rw [show (Prog.lift (.waitDma2 sem srcw m h4 h5) >>= k : PT F c j α) = .op (.waitDma2 sem srcw m h4 h5) k from rfl]
  unfold run going
  iintro ⟨⟨%raw, %hraw, Hfl⟩, How⟩ Hk
  ihave How' := (owing_take O W sem) $$ How
  icases How' with ⟨%W', Hmw, HO, Hback⟩
  iapply (Transfers.wp_waitLocalO EC 𝒱₀ (V d c j) none (none : HIx 1) (N := m.view.amount (SemLoc.dma sem)) rfl) $$ [Hfl HO Hmw]
  · isplitl [Hfl]; · iexact Hfl
    isplitl [HO]; · iexact HO
    iexact Hmw
  iintro ⟨⟨Hm, Hb⟩, Hsem, HO⟩
  iapply Hk
  unfold back holds shares
  isplitl [Hm Hb]
  · isplitl [Hm]
    · iexists raw
      isplitr; · ipureintro; exact hraw
      iexact Hm
    · iexact Hb
  isplitl [Hsem]; · iexact Hsem
  iapply Hback
  iexact HO

theorem run_push {sp sp' : Space} {s : Shape} {e : EltTy} {src : Memref sig .scVector sp s e} {m : Memref sig .scVector sp' s e}
    {q : PosShare TreeShare} {fs : Buf (Elt F) (src.view.loc (V d c j))} {sem : DmaSem sig} {N : ℕ} (hN : m.view.amount (SemLoc.dma sem) = N)
    {P Q : sProp 𝕄} {n : ℕ} (hn : n < 2) (hD : back d c j src m q fs ⊢ two P Q ⟨n, hn⟩)
    {h1 : src.view.WordExact} {h2 : m.view.WordExact} {h3 : DmaTarget.Typed (nD := nD) sp (.dma sem) (DmaTarget.here (p := Proc.scVector c j) m)}
    {k : PUnit → PT F c j α} {Ψ : α → sProp 𝕄} :
    iprop(shares d c j src q fs ∗ (∃ f, holds d c j m f) ∗ pair d c j sem N P Q n 0)
      ⊢ iprop((pair d c j sem N P Q (n + 1) 0 -∗ run d c j (k ⟨⟩) Ψ)
        -∗ run d c j (Prog.lift (.enqueueDma src (.here m) (.dma sem) h1 h2 h3) >>= k) Ψ) := by
  rw [show (Prog.lift (.enqueueDma src (.here m) (.dma sem) h1 h2 h3) >>= k : PT F c j α) = .op (.enqueueDma src (.here m) (.dma sem) h1 h2 h3) k from rfl]
  unfold run
  iintro ⟨Hb, Hm, Hp⟩ Hk
  unfold holds shares
  icases Hm with ⟨%fm, %rawm, -, Hm⟩
  iapply (Transfers.wp_dmaBatch EC 𝒱₀ (V d c j) none (src := src) (none : HIx 1) N hN (Finset.Subset.refl _) hn (Nat.zero_le _) ?_) $$ [Hb Hm Hp]
  rotate_left
  · isplitl [Hb]; · iexact Hb
    isplitl [Hm]; · iexact Hm
    iexact Hp
  · iintro Hp
    iapply Hk
    iexact Hp
  · refine BIBase.Entails.trans ?_ hD
    unfold back holds shares
    iintro ⟨Hm, Hb⟩
    isplitl [Hm]
    · iexists _
      isplitr [Hm]
      rotate_left
      · iexact Hm
      · ipureintro
        exact View.read_write_univ _ _
    · iexact Hb

theorem run_drain {sp' : Space} {s : Shape} {e : EltTy} {m : Memref sig .scVector sp' s e} {sem : DmaSem sig} {N : ℕ} (hN : m.view.dmaCredit = N) (hN0 : 0 < N)
    {P Q : sProp 𝕄} {sp₁ : Space} {s' : Shape} {e' : EltTy} {srcw : Memref sig .scVector sp₁ s' e'}
    {h4 : srcw.view.WordExact} {h5 : m.view.WordExact} {O : CellTallies nD τ sig (HIx 1)} {W : Waits sig (HIx 1)}
    {k : PUnit → PT F c j α} {Ψ : α → sProp 𝕄} :
    iprop(pair d c j sem N P Q 2 0 ∗ owing d c j O W)
      ⊢ iprop((iprop(pair d c j sem N P Q 2 N ∗ owing d c j O W) -∗ run d c j (k ⟨⟩) Ψ)
        -∗ run d c j (Prog.lift (.waitDma2 sem srcw m h4 h5) >>= k) Ψ) := by
  rw [show (Prog.lift (.waitDma2 sem srcw m h4 h5) >>= k : PT F c j α) = .op (.waitDma2 sem srcw m h4 h5) k from rfl]
  unfold run pair
  iintro ⟨Hp, How⟩ Hk
  ihave How' := (owing_take O W sem) $$ How
  icases How' with ⟨%W', Hmw, HO, Hback⟩
  iapply (Transfers.wp_waitBatchO EC 𝒱₀ (V d c j) none (none : HIx 1) hN (D := two P Q) (u := 0) (show 0 + N < N * 2 by omega)) $$ [Hp HO Hmw]
  · isplitl [Hp]; · iexact Hp
    isplitl [HO]; · iexact HO
    iexact Hmw
  iintro ⟨Hp, HO⟩
  iapply Hk
  isplitl [Hp]; · rw [Nat.zero_add]; iexact Hp
  iapply Hback
  iexact HO

theorem run_drained {sp' : Space} {s : Shape} {e : EltTy} {m : Memref sig .scVector sp' s e} {sem : DmaSem sig} {N : ℕ} (hN : m.view.dmaCredit = N) (hN0 : 0 < N)
    {P Q : sProp 𝕄} {sp₁ : Space} {s' : Shape} {e' : EltTy} {srcw : Memref sig .scVector sp₁ s' e'}
    {h4 : srcw.view.WordExact} {h5 : m.view.WordExact} {O : CellTallies nD τ sig (HIx 1)} {W : Waits sig (HIx 1)}
    {k : PUnit → PT F c j α} {Ψ : α → sProp 𝕄} :
    iprop(pair d c j sem N P Q 2 N ∗ owing d c j O W)
      ⊢ iprop((iprop(P ∗ Q ∗ semVal (V d c j, SemLoc.dma sem) 0 ∗ owing d c j O W) -∗ run d c j (k ⟨⟩) Ψ)
        -∗ run d c j (Prog.lift (.waitDma2 sem srcw m h4 h5) >>= k) Ψ) := by
  rw [show (Prog.lift (.waitDma2 sem srcw m h4 h5) >>= k : PT F c j α) = .op (.waitDma2 sem srcw m h4 h5) k from rfl]
  unfold run pair
  iintro ⟨Hp, How⟩ Hk
  ihave How' := (owing_take O W sem) $$ How
  icases How' with ⟨%W', Hmw, HO, Hback⟩
  iapply (Transfers.wp_waitBatchLastO EC 𝒱₀ (V d c j) none (none : HIx 1) hN hN0 (D := two P Q) (u := N) (show N + N = N * 2 by omega)) $$ [Hp HO Hmw]
  · isplitl [Hp]; · iexact Hp
    isplitl [HO]; · iexact HO
    iexact Hmw
  iintro ⟨HD, Hsem, HO⟩
  ihave HD' := (show bigSep Finset.univ (two P Q) ⊢ iprop(P ∗ Q) from by
    rw [show (Finset.univ : Finset (Fin 2)) = {0, 1} by decide, SparseCore.bigSep_insert' (by decide), bigSep_singleton]
    exact .rfl) $$ HD
  icases HD' with ⟨HP, HQ⟩
  iapply Hk
  isplitl [HP]; · iexact HP
  isplitl [HQ]; · iexact HQ
  isplitl [Hsem]; · iexact Hsem
  iapply Hback
  iexact HO

theorem run_seq {p : PT F c j β} {k : β → PT F c j α} {P : sProp 𝕄} {Φ : β → sProp 𝕄} {Ψ : α → sProp 𝕄} (h : P ⊢ run d c j p Φ) :
    P ⊢ iprop((∀ v, Φ v -∗ run d c j (k v) Ψ) -∗ run d c j (p >>= k) Ψ) := by
  unfold run at h ⊢
  rw [wp_bind]
  iintro H Hk
  iapply wp_wand_r
  isplitl [H]; · iapply h; iexact H
  iexact Hk

theorem run_pure {v : α} {Ψ : α → sProp 𝕄} : Ψ v ⊢ run d c j (pure v : PT F c j α) Ψ := by
  unfold run
  rw [show (pure v : PT F c j α) = .ret v from rfl, wp_ret]
  iintro H
  imodintro
  iexact H

/-- The same surroundings with the two buffers of signatures at hand or not. -/
abbrev Env.atOn (E : Env F d c j A) (b : Bool) : Env F d c j A := { E with on := b }

instance (E : Env F d c j A) : Env.On (E.atOn true) := ⟨rfl⟩

theorem St_enter (E : Env F d c j A) (σ : Mem F) (f : Vec F S2x2048 .i32) (g : Vec F S10x128 .i32) :
    iprop(St (E.atOn false) σ ∗ holds d c j A.kv f ∗ holds d c j A.qv g) ⊢ St (E.atOn true) { σ with kv := f, qv := g } := by
  unfold St
  simp only [Bool.false_eq_true, if_false, if_true]
  iintro ⟨⟨Ha3, Ha4, Ha5, Hpres, Hpres2, -, Hkhw, Hqrow, Hkrow, Hlsc, Hlidx, Hlcnt, Hs0, Hs1, Hs2, How⟩, Hkv, Hqv⟩
  iframe

theorem St_leave (E : Env F d c j A) (σ : Mem F) :
    St (E.atOn true) σ ⊢ iprop(St (E.atOn false) σ ∗ holds d c j A.kv σ.kv ∗ holds d c j A.qv σ.qv) := by
  unfold St
  simp only [Bool.false_eq_true, if_false, if_true]
  iintro ⟨Ha3, Ha4, Ha5, Hpres, Hpres2, ⟨Hkv, Hqv⟩, Hkhw, Hqrow, Hkrow, Hlsc, Hlidx, Hlcnt, Hs0, Hs1, Hs2, How⟩
  iframe

/-- Sixteen counts set to zero. -/
theorem run_zero {n : ℕ} (hZ : Zeroed σ n) (hn : n + 16 ≤ 64) {off : Fin 1 → ℕ} {b : ∀ a, off a + S16.size a ≤ S64.size a} {w : Vec F S16 .i32} (hw : ∀ x, w x = 0#32)
    {hl : A.lcnt.view.LoadsAt (Rect.unit (s := S64) off S16.size b).toLoadRect}
    {hx : (A.lcnt.access (Rect.unit (s := S64) off S16.size b)).Stores Finset.univ}
    {hm : Finset.univ = Finset.univ ∨ ∀ a, (Rect.unit (s := S64) off S16.size b).stride a = 1} (hoff : off 0 = n)
    {k : PUnit → PT F c j α} {Ψ : α → sProp 𝕄} :
    St E σ ⊢ iprop((∀ σ', ⌜(∃ f, σ' = { σ with lcnt := f }) ∧ Zeroed σ' (n + 16)⌝ -∗ St E σ' -∗ run d c j (k ⟨⟩) Ψ)
      -∗ run d c j (Prog.lift (.load A.lcnt (Rect.unit (s := S64) off S16.size b).toLoadRect hl)
          >>= fun _ => Prog.lift (.store A.lcnt (Rect.unit (s := S64) off S16.size b) w Finset.univ hx hm) >>= k) Ψ) := by
  have h : T E σ (Prog.lift (.load A.lcnt (Rect.unit (s := S64) off S16.size b).toLoadRect hl)
      >>= fun _ => Prog.lift (.store A.lcnt (Rect.unit (s := S64) off S16.size b) w Finset.univ hx hm) >>= fun x => pure x)
      (fun _ σ' => (∃ f, σ' = { σ with lcnt := f }) ∧ Zeroed σ' (n + 16)) := by
    refine T_load (c_lcnt E) ?_
    refine T_zero hZ hn hw hoff fun σ' h1 h2 => T_pure ⟨h1, h2⟩
  have h2 := run_T (k := k) (Ψ := Ψ) h
  iintro H Hk
  ihave H2 := h2 $$ H
  iapply H2
  iintro %v %σ' %hq H
  cases v
  iapply Hk
  · ipureintro; exact hq
  iexact H

end

end Cert.Proof.Join

end
-- ==== Proof.Tile0.lean ====
/-
  The first batch's half of a tile, loop by loop from the innermost.
-/
module

public import proofs.«01_k».proof.Proof.Rows

@[expose] public section

set_option pp.maxSteps 100

noncomputable section

namespace Cert.Proof.Join

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}

/-- The first batch's buffers. -/
abbrev regs0 (arg3 : Memref sig .scVector .hbm S2x10x2048 .i32) (arg4 arg5 : Memref sig .scVector .hbm S2x2048x64 .f32)
    (arg7 : Memref sig .scVector .vmem S32768 .i32) (arg8 : Memref sig .scVector .vmem S16384 .i32) (arg9 : Memref sig .scVector .vmem S2x2048 .i32)
    (arg10 : Memref sig .scVector .vmem S10x128 .i32) (arg12 : Memref sig .scVector .vmem S8x128 .i32) (arg13 arg14 : Memref sig .scVector .vmem S1x64 .f32)
    (arg15 : Memref sig .scVector .vmem S64x64 .f32) (arg17 : Memref sig .scVector .vmem S64x64 .i32) (arg19 : Memref sig .scVector .vmem S64 .i32)
    (r0 r1 r2 : DmaSems sig S_) : Regs :=
  ⟨arg3, arg4, arg5, arg7, arg8, arg9, arg10, arg12, arg13, arg14, arg15, arg17, arg19, r0.sem, r1.sem, r2.sem⟩

variable {d : Dev nD} {E : Env F d ((i 0).castLE hcore1) ((i 1).castLE hsub1)
  (regs0 arg3 arg4 arg5 arg7 arg8 arg9 arg10 arg12 arg13 arg14 arg15 arg17 arg19 v293_r0 v653_r1 v653_r2)} {σ σ0 : Mem F}
  {row p e key : ℕ} {L : List (Cand F)} {sc : F .f32}

theorem t11_step (hv139 : v139 = BitVec.ofNat 32 row) (hrow : row < 64) (hv354 : v354 = BitVec.ofNat 32 L.length)
    (hv295 : v295 = BitVec.ofNat 32 key) (hkey : key < 2048) (hsc : k1_pay119 (F := F) v594 v599 v619 = sc)
    (hR : RowOK σ row L) (hG : Good L) (hp : arg34 = BitVec.ofNat 32 p) (hW : Walk (sc, key) L k1_t11.val p) :
    T E σ (k1_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 v132 k1_h1 v139 v146 v151 v153 v160 v162 k1_h2 v212 k1_h3 v289 k1_h4 v295 v300 v308 v310 v319 v321 v331 v333 v343 v345 k1_h5 v354 v373 v392 v411 v430 k1_h6 v594 v599 v619 k1_t11 arg34)
      (fun v σ' => σ' = σ ∧ ∃ p', v = BitVec.ofNat 32 p' ∧ Walk (sc, key) L (k1_t11.val + 1) p') := by
  subst hv139 hv354 hv295 hp
  have hk : k1_t11.val < 64 := Nat.lt_of_lt_of_le k1_t11.isLt (by decide +kernel)
  have hpk := hW.1
  dsimp only [k1_t11_body]
  rw [show Scalar.minsi (BitVec.ofNat 32 p) 63#32 = BitVec.ofNat 32 p from (minsi_ofNat (b := 63) (by omega) (by omega)).trans (by rw [Nat.min_eq_left (by omega)])]
  refine T_assume (fun _ _ _ _ _ _ => inb2n _ _ hrow (by omega) (by decide) (by decide)) ?_
  refine T_ldx (c_lsc E) ?_
  refine T_assume (fun _ _ _ _ _ _ => inb2n _ _ hrow (by omega) (by decide) (by decide)) ?_
  refine T_ldx (c_lidx E) ?_
  rw [loadIdx_n2 _ (by omega) (by omega), loadIdx_n2 _ (by omega) (by omega)]
  refine T_pure ⟨rfl, ?_⟩
  rw [hsc]
  exact hW.next (fun _ => walk_cond hR hG hkey (by omega)) hk

theorem t12_step (hv139 : v139 = BitVec.ofNat 32 row) (hrow : row < 64) (hm : Lane0 v35) (he : e < 64) (hke : k1_t12.val < e)
    (hp : arg34 = BitVec.ofNat 32 (e - k1_t12.val))
    (hσ : σ = { σ0 with lsc := shiftRow σ0.lsc row (e - k1_t12.val) e, lidx := shiftRow σ0.lidx row (e - k1_t12.val) e }) :
    T E σ (k1_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 v132 k1_h1 v139 v146 v151 v153 v160 v162 k1_h2 v212 k1_h3 v289 k1_h4 v300 v308 v310 v319 v321 v331 v333 v343 v345 k1_h5 v354 v373 v392 v411 v430 k1_h6 v649 k1_hw23 k1_h7 k1_t12 arg34)
      (fun v σ' => v = BitVec.ofNat 32 (e - (k1_t12.val + 1)) ∧
        σ' = { σ0 with lsc := shiftRow σ0.lsc row (e - (k1_t12.val + 1)) e, lidx := shiftRow σ0.lidx row (e - (k1_t12.val + 1)) e }) := by
  subst hv139 hp
  have hsub : Scalar.subi (BitVec.ofNat 32 (e - k1_t12.val)) 1#32 = BitVec.ofNat 32 (e - k1_t12.val - 1) := subi_ofNat (b := 1) (by omega) (by omega)
  dsimp only [k1_t12_body]
  rw [hsub]
  refine T_assume (fun _ _ _ _ _ _ _ => inb2n _ _ hrow (by omega) (by decide) (by decide)) ?_
  refine T_ldx (c_lsc E) ?_
  refine T_assume (fun _ _ _ _ _ _ _ => inb2n _ _ hrow (by omega) (by decide) (by decide)) ?_
  refine T_stx (c_lsc E) ?_
  refine T_assume (fun _ _ _ _ _ _ _ => inb2n _ _ hrow (by omega) (by decide) (by decide)) ?_
  refine T_ldx (c_lidx E) ?_
  refine T_assume (fun _ _ _ _ _ _ _ => inb2n _ _ hrow (by omega) (by decide) (by decide)) ?_
  refine T_stx (c_lidx E) ?_
  refine T_pure ⟨by rw [Nat.sub_sub], ?_⟩
  rw [store_n2 _ (by omega) (by omega) _ _ hm, store_n2 _ (by omega) (by omega) _ _ hm, loadIdx_n2 _ (by omega) (by omega), loadIdx_n2 _ (by omega) (by omega)]
  subst hσ
  rw [← Nat.sub_sub, ← shiftRow_step σ0.lsc hrow (by omega) (by omega) he, ← shiftRow_step σ0.lidx hrow (by omega) (by omega) he]
  rfl

/-! ### One key -/

theorem pay128_eq {n : ℕ} (hn : n ≤ 64) : k1_pay128 (BitVec.ofNat 32 n) (ix1 0) = BitVec.ofNat 32 (min (n + 1) 64) := by
  have h : ∀ m : Fin 65, k1_pay128 (BitVec.ofNat 32 m.val) (ix1 0) = BitVec.ofNat 32 (min (m.val + 1) 64) := by decide +kernel
  exact h ⟨n, by omega⟩

theorem t12_loop_eq {n p : ℕ} (hn : n ≤ 64) (hp : p ≤ min n 63) :
    (k1_t12_loop (BitVec.ofNat 32 n) (BitVec.ofNat 32 p)).trips = min n 63 - p ∧ (k1_t13_loop (BitVec.ofNat 32 n) (BitVec.ofNat 32 p)).trips = 0 := by
  have h1 : ∀ m : Fin 64, Scf.trips 0#32 (Scalar.addi 0#32 (Scalar.muli (Scalar.divsi (Scalar.subi (BitVec.ofNat 32 m.val) 0#32) 1#32) 1#32)) 1#32 = m.val := by
    decide +kernel
  have h2 : ∀ m : Fin 64, Scf.trips (Scalar.addi 0#32 (Scalar.muli (Scalar.divsi (Scalar.subi (BitVec.ofNat 32 m.val) 0#32) 1#32) 1#32))
      (Scalar.addi 0#32 (Scalar.subi (BitVec.ofNat 32 m.val) 0#32)) 1#32 = 0 := by
    decide +kernel
  have hm : Scalar.subi (Scalar.minsi (BitVec.ofNat 32 n) 63#32) (BitVec.ofNat 32 p) = BitVec.ofNat 32 (min n 63 - p) := by
    rw [show Scalar.minsi (BitVec.ofNat 32 n) 63#32 = BitVec.ofNat 32 (min n 63) from minsi_ofNat (b := 63) (by omega) (by omega)]
    exact subi_ofNat hp (by omega)
  constructor
  · show Scf.trips 0#32 (Scalar.addi 0#32 (Scalar.muli (Scalar.divsi (Scalar.subi (Scalar.subi (Scalar.minsi (BitVec.ofNat 32 n) 63#32) (BitVec.ofNat 32 p)) 0#32) 1#32) 1#32)) 1#32 = _
    rw [hm]; exact h1 ⟨min n 63 - p, by omega⟩
  · show Scf.trips (Scalar.addi 0#32 (Scalar.muli (Scalar.divsi (Scalar.subi (Scalar.subi (Scalar.minsi (BitVec.ofNat 32 n) 63#32) (BitVec.ofNat 32 p)) 0#32) 1#32) 1#32))
      (Scalar.addi 0#32 (Scalar.subi (Scalar.subi (Scalar.minsi (BitVec.ofNat 32 n) 63#32) (BitVec.ofNat 32 p)) 0#32)) 1#32 = _
    rw [hm]; exact h2 ⟨min n 63 - p, by omega⟩

theorem cond5_iff : k1_cond5 v146 v300 v308 v310 v319 v321 v331 v333 v343 v345 = 1#1
    ↔ v300 = v146 ∧ (((v308 = v310 ∨ v319 = v321) ∨ v331 = v333) ∨ v343 = v345) := by
  show IntOp.cmpi .ne ((IntOp.andi (IntOp.cmpi .eq v300 v146) (IntOp.ori (IntOp.ori (IntOp.ori (IntOp.cmpi .eq v308 v310) (IntOp.cmpi .eq v319 v321))
    (IntOp.cmpi .eq v331 v333)) (IntOp.cmpi .eq v343 v345))).setWidth 32) 0#32 = 1#1 ↔ _
  rw [ext_ne, andi1, ori1, ori1, ori1, cmpi_eq_iff, cmpi_eq_iff, cmpi_eq_iff, cmpi_eq_iff, cmpi_eq_iff]

theorem cond7_iff (hp : p ≤ 64) : k1_cond7 (BitVec.ofNat 32 p) = 1#1 ↔ p < 64 := by
  have h : ∀ m : Fin 65, k1_cond7 (BitVec.ofNat 32 m.val) = 1#1 ↔ m.val < 64 := by decide +kernel
  exact h ⟨p, by omega⟩

theorem chk23_ok : k1_chk23 v132 v146 v151 v153 v160 v162 v212 v289 v300 v308 v310 v319 v321 v331 v333 v343 v345 v354 v373 v392 v411 v430 v649 := by
  unfold k1_chk23
  exact ⟨fun _ _ _ _ _ _ _ => (k1_t12_abs _ _).1, fun _ _ _ _ _ _ _ => (k1_t13_abs _ _).1⟩

theorem off17_eq {s : ℕ} (hs : s < 128) : ∀ t : Fin k1_t10_loop.trips, k1_off17 (BitVec.ofNat 32 s) t = ![0, 16 * s + t.val, 0] := by
  have h : ∀ (s : Fin 128) (t : Fin k1_t10_loop.trips), k1_off17 (BitVec.ofNat 32 s.val) t = ![0, 16 * s.val + t.val, 0] := by decide +kernel
  exact fun t => h ⟨s, hs⟩ t

theorem off17_inb {s : ℕ} (hs : s < 128) : ∀ t : Fin k1_t10_loop.trips, ∀ a, k1_off17 (BitVec.ofNat 32 s) t a + S1x1x64.size a ≤ S2x2048x64.size a := by
  have h : ∀ (s : Fin 128) (t : Fin k1_t10_loop.trips), ∀ a, k1_off17 (BitVec.ofNat 32 s.val) t a + S1x1x64.size a ≤ S2x2048x64.size a := by decide +kernel
  exact fun t => h ⟨s, hs⟩ t

theorem cond6_iff {p0 p1 p2 p3 : Prop} (h0 : IsBit v373 p0) (h1 : IsBit v392 p1) (h2 : IsBit v411 p2) (h3 : IsBit v430 p3) :
    k1_cond6 v373 v392 v411 v430 = 1#1 ↔ ¬ (p0 ∨ p1 ∨ p2 ∨ p3) := or_four h0 h1 h2 h3

variable [E.On]

set_option maxHeartbeats 1000000 in
theorem t10_step {X : Prob F} {g s : ℕ} (hg : g < 2) (harg23 : arg23 = BitVec.ofNat 32 g) (hs : s < 128) (hv212 : v212 = BitVec.ofNat 32 s)
    (hv219 : v219 = BitVec.ofNat 32 (16 * s)) (hv249 : v249 = BitVec.ofNat 32 (16 * (s % 8)))
    (hrow : row = 16 * k1_t5.val + k1_t6.val) (hrow64 : row < 64) (hv139 : v139 = BitVec.ofNat 32 row) {q : ℕ}
    (hq : q = 128 * (i 1).val + 64 * (i 0).val + row) (hm : Lane0 v35)
    (hv146 : v146 = X.Q (8 + g) q) (hv173 : v173 = fun _ => X.Q (4 * g) q) (hv182 : v182 = fun _ => X.Q (4 * g + 1) q)
    (hv191 : v191 = fun _ => X.Q (4 * g + 2) q) (hv200 : v200 = fun _ => X.Q (4 * g + 3) q)
    (hS : ∀ k < 2048, (dot fun l => FloatOps.mulf (E.QT (ix3 0 q l)) (E.KT (ix3 0 k l))) = X.sc q k)
    (hkv : ∀ k < 2048, σ.kv (ix2 g k) = X.K (8 + g) k) (hkhw : ∀ h < 8, ∀ c < 128, σ.khw (ix2 h c) = X.K h (128 * (s / 8) + c))
    (hR : RowOK σ row L) (hG : Good L) :
    T E σ (k1_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 arg23 k1_t5 v132 k1_h1 k1_t6 v139 v146 v151 v153 v160 v162 k1_h2 v173 v182 v191 v200 v212 k1_h3 v219 v249 v289 k1_h4 k1_t10 arg32)
      (fun _ σ' => Keep row σ σ' ∧ σ'.khw = σ.khw ∧ RowOK σ' row (X.step g q L (16 * s + k1_t10.val))) := by
  have hk : k1_t10.val < 16 := Nat.lt_of_lt_of_le k1_t10.isLt (by decide +kernel)
  have hlen := hG.1
  subst harg23 hv212 hv219 hv249 hv139 hv146 hv173 hv182 hv191 hv200
  generalize hkey : 16 * s + k1_t10.val = key
  have hkey2 : key < 2048 := by omega
  have hiv : Scf.iv 0#32 1#32 k1_t10 = BitVec.ofNat 32 k1_t10.val := by
    unfold Scf.iv; rw [BitVec.mul_one, BitVec.zero_add]
  have e295 : Scalar.addi (BitVec.ofNat 32 (16 * s)) (Scf.iv 0#32 1#32 k1_t10) = BitVec.ofNat 32 key := by rw [hiv, ← hkey]; exact addi_ofNat _ _
  have ecol : Scalar.addi (BitVec.ofNat 32 (16 * (s % 8))) (Scf.iv 0#32 1#32 k1_t10) = BitVec.ofNat 32 (16 * (s % 8) + k1_t10.val) := by
    rw [hiv]; exact addi_ofNat _ _
  have eh : Scalar.muli 4#32 (BitVec.ofNat 32 g) = BitVec.ofNat 32 (4 * g) := muli_ofNat 4 g
  have eh1 : Scalar.addi (BitVec.ofNat 32 (4 * g)) 1#32 = BitVec.ofNat 32 (4 * g + 1) := addi_ofNat _ 1
  have eh2 : Scalar.addi (BitVec.ofNat 32 (4 * g)) 2#32 = BitVec.ofNat 32 (4 * g + 2) := addi_ofNat _ 2
  have eh3 : Scalar.addi (BitVec.ofNat 32 (4 * g)) 3#32 = BitVec.ofNat 32 (4 * g + 3) := addi_ofNat _ 3
  have hcol : 128 * (s / 8) + (16 * (s % 8) + k1_t10.val) = key := by omega
  dsimp only [k1_t10_body]
  simp only [k1_part6_eq_skeleton, k1_part6_skel, bind_assoc, pure_bind]
  rw [e295, ecol, eh, eh1, eh2, eh3]
  refine T_assume (fun _ _ _ _ => inb2n _ _ hg (by omega) (by decide) (by decide)) ?_
  refine T_ldx (c_kv E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  rw [loadIdx_n2 _ (a := g) (b := key) (by omega) (by omega), loadIdx_n2 _ (a := 4 * g) (b := 16 * (s % 8) + k1_t10.val) (by omega) (by omega),
    loadIdx_n2 _ (a := 4 * g + 1) (b := 16 * (s % 8) + k1_t10.val) (by omega) (by omega),
    loadIdx_n2 _ (a := 4 * g + 2) (b := 16 * (s % 8) + k1_t10.val) (by omega) (by omega),
    loadIdx_n2 _ (a := 4 * g + 3) (b := 16 * (s % 8) + k1_t10.val) (by omega) (by omega)]
  rw [show (c_kv E).get σ (ix2 g key) = X.K (8 + g) key from hkv key hkey2,
    show (c_khw E).get σ (ix2 (4 * g) (16 * (s % 8) + k1_t10.val)) = X.K (4 * g) key from hcol ▸ hkhw _ (by omega) _ (by omega),
    show (c_khw E).get σ (ix2 (4 * g + 1) (16 * (s % 8) + k1_t10.val)) = X.K (4 * g + 1) key from hcol ▸ hkhw _ (by omega) _ (by omega),
    show (c_khw E).get σ (ix2 (4 * g + 2) (16 * (s % 8) + k1_t10.val)) = X.K (4 * g + 2) key from hcol ▸ hkhw _ (by omega) _ (by omega),
    show (c_khw E).get σ (ix2 (4 * g + 3) (16 * (s % 8) + k1_t10.val)) = X.K (4 * g + 3) key from hcol ▸ hkhw _ (by omega) _ (by omega)]
  refine T_dite (fun h5 => ?_) fun h5 => ?_
  rotate_left
  · have hmt : ¬ X.mt g q key := fun hm => h5 (cond5_iff.2 hm)
    refine T_pure ⟨Keep.refl _ _, rfl, ?_⟩
    unfold Prob.step
    rw [if_neg hmt]; exact hR
  have hmt : X.mt g q key := cond5_iff.1 h5
  have hstep : X.step g q L key = if key ∈ L.map Prod.snd then L else insL (X.sc q key, key) L := by
    unfold Prob.step; rw [if_pos hmt]
  rw [hstep]
  simp only [k1_part5_eq_skeleton, k1_part5_skel, bind_assoc, pure_bind]
  refine T_assume (fun _ _ _ _ _ => inb1n _ hrow64 (by decide)) ?_
  refine T_ldx (c_lcnt E) ?_
  rw [loadIdx_n1 _ (a := row) (by omega), show (c_lcnt E).get σ (ix1 row) = BitVec.ofNat 32 L.length from hR.1,
    show extractAt ![0] (k1_pay51 (F := F) (fun _ => BitVec.ofNat 32 L.length)) inpos_S1_p0 = BitVec.ofNat 32 L.length from rfl]
  refine T_load (c_lidx E) ?_
  refine T_load (c_lidx E) ?_
  refine T_load (c_lidx E) ?_
  refine T_load (c_lidx E) ?_
  refine T_assume (fun _ _ _ _ _ _ => off17_inb hs k1_t10) ?_
  have hc6 := cond6_iff
    (dup_word σ.lidx (k1_off13 k1_t5 k1_t6) (k1_off13_inb k1_t5 k1_t6) iota_S16_d0_w32_scVector row 0 L.length key
      (by rw [k1_off13_eq, hrow]) (by omega) hlen inpos_S16_p15)
    (dup_word σ.lidx (k1_off14 k1_t5 k1_t6) (k1_off14_inb k1_t5 k1_t6) iota_S16_d0_w32_scVector row 16 L.length key
      (by rw [k1_off14_eq, hrow]) (by omega) hlen inpos_S16_p15)
    (dup_word σ.lidx (k1_off15 k1_t5 k1_t6) (k1_off15_inb k1_t5 k1_t6) iota_S16_d0_w32_scVector row 32 L.length key
      (by rw [k1_off15_eq, hrow]) (by omega) hlen inpos_S16_p15)
    (dup_word σ.lidx (k1_off16 k1_t5 k1_t6) (k1_off16_inb k1_t5 k1_t6) iota_S16_d0_w32_scVector row 48 L.length key
      (by rw [k1_off16_eq, hrow]) (by omega) hlen inpos_S16_p15)
  rw [dup_iff hR hG hkey2] at hc6
  refine T_dite (fun h6 => ?_) fun h6 => ?_
  rotate_left
  · have hdup : key ∈ L.map Prod.snd := by
      by_contra hnd
      exact h6 (hc6.2 hnd)
    refine T_pure ⟨Keep.refl _ _, rfl, ?_⟩
    rw [if_pos hdup]; exact hR
  have hnd : ¬ key ∈ L.map Prod.snd := hc6.1 h6
  rw [if_neg hnd]
  clear hc6
  simp only [k1_part1_eq_skeleton, k1_part1_skel, k1_part2_eq_skeleton, k1_part2_skel, k1_part3_eq_skeleton, k1_part3_skel, k1_part4_eq_skeleton,
    k1_part4_skel, bind_assoc, pure_bind]
  refine T_copy (copy_krow E) (by decide) ?_
  refine T_copy (copy_qrow E) (by decide) ?_
  refine T_load (c_qrow E) ?_
  refine T_load (c_krow E) ?_
  refine T_load (c_qrow E) ?_
  refine T_load (c_krow E) ?_
  refine T_load (c_qrow E) ?_
  refine T_load (c_krow E) ?_
  refine T_load (c_qrow E) ?_
  refine T_load (c_krow E) ?_
  dsimp only [c_qrow, c_krow]
  generalize hσ2 : (copy_qrow E).set ((copy_krow E).set σ _) _ = σ2
  have hqr : ∀ l < 64, σ2.qrow (ix2 0 l) = E.QT (ix3 0 q l) := by
    intro l hl
    rw [← hσ2]
    refine (read_plane arg4 (k1_off18 i k1_t5 k1_t6) (k1_off18_inb i k1_t5 k1_t6) (fun _ => rfl) squeezes_S1x1x64_S1x64 E.r4 _).trans ?_
    rw [k1_off18_eq, ix2_val0 (by omega), ix2_val1 hl]
    refine congrArg E.QT ?_
    rw [show (![0, 128 * (i 1).val + 64 * (i 0).val + 16 * k1_t5.val + k1_t6.val, 0] : Fin 3 → ℕ) 0 = 0 from rfl,
      show (![0, 128 * (i 1).val + 64 * (i 0).val + 16 * k1_t5.val + k1_t6.val, 0] : Fin 3 → ℕ) 1 + 0 = q by
        show 128 * (i 1).val + 64 * (i 0).val + 16 * k1_t5.val + k1_t6.val + 0 = q; omega,
      show (![0, 128 * (i 1).val + 64 * (i 0).val + 16 * k1_t5.val + k1_t6.val, 0] : Fin 3 → ℕ) 2 + l = l by show 0 + l = l; omega]
  have hkr : ∀ l < 64, σ2.krow (ix2 0 l) = E.KT (ix3 0 key l) := by
    intro l hl
    rw [← hσ2]
    refine (read_plane arg5 (k1_off17 (BitVec.ofNat 32 s) k1_t10) (off17_inb hs k1_t10) (fun _ => rfl) squeezes_S1x1x64_S1x64 E.r5 _).trans ?_
    rw [off17_eq hs, ix2_val0 (by omega), ix2_val1 hl]
    refine congrArg E.KT ?_
    rw [show (![0, 16 * s + k1_t10.val, 0] : Fin 3 → ℕ) 0 = 0 from rfl,
      show (![0, 16 * s + k1_t10.val, 0] : Fin 3 → ℕ) 1 + 0 = key from hkey,
      show (![0, 16 * s + k1_t10.val, 0] : Fin 3 → ℕ) 2 + l = l by show 0 + l = l; omega]
  have hsc := (score_pay _ _ _ _ _ _ _ _ (fun l => FloatOps.mulf (E.QT (ix3 0 q l)) (E.KT (ix3 0 key l)))
    (mul_lane σ2.qrow σ2.krow 0 inb_S1x64_S1x16_0_0 _ _ hqr hkr (by omega)) (mul_lane σ2.qrow σ2.krow 16 inb_S1x64_S1x16_0_16 _ _ hqr hkr (by omega))
    (mul_lane σ2.qrow σ2.krow 32 inb_S1x64_S1x16_0_32 _ _ hqr hkr (by omega)) (mul_lane σ2.qrow σ2.krow 48 inb_S1x64_S1x16_0_48 _ _ hqr hkr (by omega))).trans
    (hS key hkey2)
  have hK2 : Keep row σ σ2 := by rw [← hσ2]; exact ⟨rfl, rfl, rfl, rfl, fun _ _ _ _ _ h => h⟩
  have hkhw2 : σ2.khw = σ.khw := by rw [← hσ2]; rfl
  have hR2 : RowOK σ2 row L := by rw [← hσ2]; exact hR
  refine T_bind (T_for _ _ _ _ _ _ (fun k v σ' => σ' = σ2 ∧ ∃ p, v = BitVec.ofNat 32 p ∧ Walk (X.sc q key, key) L k p)
    ⟨rfl, 0, rfl, Walk.zero _ _⟩ ?_) ?_
  · rintro k v σ' ⟨rfl, p, rfl, hW⟩
    refine t11_step rfl hrow64 rfl rfl hkey2 ?_ hR2 hG rfl hW
    exact hsc
  rintro v σ' ⟨hσ', p, rfl, hW⟩
  rw [hσ']
  have htr : k1_t11_loop.trips = 64 := by decide +kernel
  rw [show Scf.trips k1_t11_loop.lb k1_t11_loop.ub k1_t11_loop.st = 64 from htr] at hW
  have hpos : pos (X.sc q key, key) L = p := hW.pos hG.1
  have hp64 : p ≤ 64 := hpos ▸ (pos_le _ _).trans hG.1
  have hpl : p ≤ L.length := hpos ▸ pos_le _ _
  refine T_assume chk23_ok ?_
  refine T_dite (fun h7 => ?_) (fun h7 => ?_)
  swap
  · refine T_pure ⟨hK2, hkhw2, ?_⟩
    rw [insL_full hG.1 (by rw [hpos]; by_contra hh; exact h7 ((cond7_iff hp64).2 (by omega)))]
    exact hR2
  have hp : p < 64 := (cond7_iff hp64).1 h7
  rw [show Scalar.minsi (BitVec.ofNat 32 L.length) 63#32 = BitVec.ofNat 32 (min L.length 63) from minsi_ofNat (b := 63) (by omega) (by omega)]
  obtain ⟨htr12, htr13⟩ := t12_loop_eq (n := L.length) (p := p) hG.1 (by omega)
  refine T_bind (T_for _ _ _ _ _ _ (fun k v σ' => v = BitVec.ofNat 32 (min L.length 63 - k) ∧
      σ' = { σ2 with lsc := shiftRow σ2.lsc row (min L.length 63 - k) (min L.length 63), lidx := shiftRow σ2.lidx row (min L.length 63 - k) (min L.length 63) })
    ⟨rfl, by rw [Nat.sub_zero, shiftRow_self, shiftRow_self]⟩ ?_) ?_
  · rintro k v σ' ⟨hv, hσ⟩
    have hk : k.val < min L.length 63 - p := htr12 ▸ k.isLt
    exact t12_step rfl hrow64 hm (by omega) (by omega) hv hσ
  rintro v σ' ⟨hv, hσ⟩
  rw [show Scf.trips (k1_t12_loop (BitVec.ofNat 32 L.length) (BitVec.ofNat 32 p)).lb (k1_t12_loop (BitVec.ofNat 32 L.length) (BitVec.ofNat 32 p)).ub
    (k1_t12_loop (BitVec.ofNat 32 L.length) (BitVec.ofNat 32 p)).st = min L.length 63 - p from htr12, show min L.length 63 - (min L.length 63 - p) = p by omega] at hv hσ
  subst hσ
  refine T_bind (T_for _ _ _ _ _ _ (fun _ _ σ' => σ' = { σ2 with lsc := shiftRow σ2.lsc row p (min L.length 63), lidx := shiftRow σ2.lidx row p (min L.length 63) }) rfl ?_) ?_
  · rintro k v σ' _
    exact absurd (lt_of_lt_of_eq k.isLt htr13) (Nat.not_lt_zero _)
  rintro v σ' rfl
  refine T_assume (fun _ _ _ _ _ _ _ => inb2n _ _ hrow64 hp (by decide) (by decide)) ?_
  refine T_stx (c_lsc E) ?_
  refine T_assume (fun _ _ _ _ _ _ _ => inb2n _ _ hrow64 hp (by decide) (by decide)) ?_
  refine T_stx (c_lidx E) ?_
  refine T_assume (fun _ _ _ _ _ _ _ => inb1n _ hrow64 (by decide)) ?_
  refine T_stx (c_lcnt E) ?_
  refine T_pure ?_
  rw [store_n2 _ (by omega) (by omega) _ _ hm, store_n2 _ (by omega) (by omega) _ _ hm, store_n1 _ (by omega) _ _ hm]
  have hfin : ∀ σ'' : Mem F, σ'' = insMem σ2 row p L.length (X.sc q key, key) → Keep row σ σ'' ∧ σ''.khw = σ.khw ∧ RowOK σ'' row (insL (X.sc q key, key) L) := by
    rintro _ rfl
    refine ⟨hK2.trans ⟨rfl, rfl, rfl, rfl, fun r' L' hr' hne hG' hR' => insMem_other hR' hG' hrow64 hr' hp hne⟩, hkhw2, ?_⟩
    have := insMem_row (x := (X.sc q key, key)) hR2 hG hrow64 (by rw [hpos]; exact hp)
    rwa [hpos] at this
  refine hfin _ ?_
  rw [pay128_eq hG.1]
  unfold insMem
  rw [← hsc]
  rfl

end

end Cert.Proof.Join

end
-- ==== Proof.Half0.lean ====
/-
  The first batch's half of a tile: the search over chunks, the queries of a group, the two groups, the masking.
-/
module

public import proofs.«01_k».proof.Proof.Tile0
public import proofs.«01_k».proof.Proof.Steps

@[expose] public section

set_option pp.maxSteps 100

noncomputable section

namespace Cert.Proof.Join

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}
variable {d : Dev nD} {E : Env F d ((i 0).castLE hcore1) ((i 1).castLE hsub1)
  (regs0 arg3 arg4 arg5 arg7 arg8 arg9 arg10 arg12 arg13 arg14 arg15 arg17 arg19 v293_r0 v653_r1 v653_r2)} {σ σ0 : Mem F}
  {X : Prob F} {row a q m : ℕ} {L : List (Cand F)} {Ls : ℕ → List (Cand F)} {w ep : BitVec 32}
variable [E.On]

/-! ### The search -/

theorem t8_facts {a : ℕ} (ha : a ≤ 128) : (k1_t8_loop (BitVec.ofNat 32 a)).OK ∧ (k1_t8_loop (BitVec.ofNat 32 a)).trips = 128 - a
    ∧ (k1_t9_loop (BitVec.ofNat 32 a)).OK ∧ (k1_t9_loop (BitVec.ofNat 32 a)).trips = 0 := by
  have h : ∀ m : Fin 129, (k1_t8_loop (BitVec.ofNat 32 m.val)).OK ∧ (k1_t8_loop (BitVec.ofNat 32 m.val)).trips = 128 - m.val
    ∧ (k1_t9_loop (BitVec.ofNat 32 m.val)).OK ∧ (k1_t9_loop (BitVec.ofNat 32 m.val)).trips = 0 := by decide +kernel
  exact h ⟨a, by omega⟩

theorem off7_eq {a : ℕ} (k1_t3 : Fin k1_t3_loop.trips) (k : Fin (k1_t8_loop (BitVec.ofNat 32 a)).trips) (hk : a + k.val < 128) :
    k1_off7 k1_t3 (BitVec.ofNat 32 a) k = ![k1_t3.val, 16 * (a + k.val)] := by
  have h : ∀ (t : Fin k1_t3_loop.trips) (m : Fin 128), (![(Scalar.indexCast (Scf.iv 0#32 1#32 t)).toNat,
    (Scalar.indexCast (Scalar.muli (BitVec.ofNat 32 m.val) 16#32)).toNat] : Fin 2 → ℕ) = ![t.val, 16 * m.val] := by decide +kernel
  show (![(Scalar.indexCast (Scf.iv 0#32 1#32 k1_t3)).toNat, (Scalar.indexCast (Scalar.muli (Scf.iv (BitVec.ofNat 32 a) 1#32 k) 16#32)).toNat] : Fin 2 → ℕ) = _
  rw [iv_ofNat a]
  exact h k1_t3 ⟨a + k.val, hk⟩

theorem t3_lt (k1_t3 : Fin k1_t3_loop.trips) : k1_t3.val < 2 := Nat.lt_of_lt_of_le k1_t3.isLt (by decide +kernel)

theorem chk12_ok {a : ℕ} (ha : a ≤ 128) (k1_t3 : Fin k1_t3_loop.trips) : k1_chk12 k1_t3 v132 v151 v153 v160 v162 (BitVec.ofNat 32 a) := by
  obtain ⟨h1, h2, h3, h4⟩ := t8_facts ha
  have h3' := t3_lt k1_t3
  refine ⟨fun _ _ => h1, fun k _ _ x => ?_, fun _ _ => h3, fun k => absurd (lt_of_lt_of_eq k.isLt h4) (Nat.not_lt_zero _)⟩
  have hk : k.val < 128 - a := lt_of_lt_of_eq k.isLt h2
  rw [off7_eq k1_t3 k (by omega)]
  fin_cases x
  · show k1_t3.val + 1 ≤ 2; omega
  · show 16 * (a + k.val) + 16 ≤ 2048; omega

theorem t8_step (h30 : arg30 = BitVec.ofNat 32 a) (ha : a ≤ 128) (h144 : v144 = fun _ => w) (hm : arg32 = BitVec.ofNat 32 m)
    (hno : Seek σ.kv k1_t3.val w a k1_t8.val m) :
    T E σ (k1_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 v132 k1_h1 v144 v151 v153 v160 v162 k1_h2 arg30 k1_hw12 k1_t8 arg32) (fun v σ' => σ' = σ ∧ ∃ m', v = BitVec.ofNat 32 m' ∧ Seek σ.kv k1_t3.val w a (k1_t8.val + 1) m') := by
  subst h30 h144 hm
  have hk : k1_t8.val < 128 - a := lt_of_lt_of_eq k1_t8.isLt (t8_facts ha).2.1
  dsimp only [k1_t8_body]
  refine T_load (c_kv E) ?_
  refine T_pure ⟨rfl, ?_⟩
  rw [iv_ofNat]
  have hin : ∀ x, k1_off7 k1_t3 (BitVec.ofNat 32 a) k1_t8 x + S1x16.size x ≤ S2x2048.size x := k1_hw12.2.1 k1_t8 k1_h1 k1_h2
  refine hno.next (M := cmpi .eq (shapeCast S16 (fun x => σ.kv ((Rect.unit (s := S2x2048) (k1_off7 k1_t3 (BitVec.ofNat 32 a) k1_t8) S1x16.size
      hin).emb x)) shapeCasts_S1x16_S16) (broadcast S16 w)) (by omega) (fun l hl => ?_) (bit_any _ _)
  show IntOp.cmpi .eq (shapeCast S16 _ shapeCasts_S1x16_S16 (ix1 l)) w = 1#1 ↔ _
  rw [row16 σ.kv _ hin _ hl, cmpi_eq_iff, off7_eq k1_t3 k1_t8 (by omega)]
  rfl

theorem cond3_iff {m : ℕ} (hm : m ≤ 128) : k1_cond3 (BitVec.ofNat 32 m) = 1#1 ↔ m < 128 := by
  have h : ∀ m : Fin 129, k1_cond3 (BitVec.ofNat 32 m.val) = 1#1 ↔ m.val < 128 := by decide +kernel
  exact h ⟨m, by omega⟩

theorem off9_eq {m : ℕ} (hm : m < 128) : k1_off9 (BitVec.ofNat 32 m) = ![0, 0, 128 * (m / 8)] := by
  have h : ∀ m : Fin 128, k1_off9 (BitVec.ofNat 32 m.val) = ![0, 0, 128 * (m.val / 8)] := by decide +kernel
  exact h ⟨m, hm⟩

theorem off10_eq {m : ℕ} (hm : m < 128) (k1_t3 : Fin k1_t3_loop.trips) : k1_off10 k1_t3 (BitVec.ofNat 32 m) = ![k1_t3.val, 16 * m] := by
  have h : ∀ (m : Fin 128) (t : Fin k1_t3_loop.trips), k1_off10 t (BitVec.ofNat 32 m.val) = ![t.val, 16 * m.val] := by decide +kernel
  exact h ⟨m, hm⟩ k1_t3

theorem off11_eq {m : ℕ} (hm : m < 128) (k1_t3 : Fin k1_t3_loop.trips) : k1_off11 k1_t3 (BitVec.ofNat 32 m) = ![4 * k1_t3.val, 16 * (m % 8)] := by
  have h : ∀ (m : Fin 128) (t : Fin k1_t3_loop.trips), k1_off11 t (BitVec.ofNat 32 m.val) = ![4 * t.val, 16 * (m.val % 8)] := by decide +kernel
  exact h ⟨m, hm⟩ k1_t3

theorem off12_eq {m : ℕ} (hm : m < 128) (k1_t3 : Fin k1_t3_loop.trips) {c : ℕ} (hc : c < 4) :
    k1_off12 k1_t3 (BitVec.ofNat 32 m) (BitVec.ofNat 32 c) = ![4 * k1_t3.val + c, 16 * (m % 8)] := by
  have h : ∀ (m : Fin 128) (t : Fin k1_t3_loop.trips) (c : Fin 4), k1_off12 t (BitVec.ofNat 32 m.val) (BitVec.ofNat 32 c.val) = ![4 * t.val + c.val, 16 * (m.val % 8)] := by
    decide +kernel
  exact h ⟨m, hm⟩ k1_t3 ⟨c, hc⟩

theorem chk13_ok {m : ℕ} (hm : m ≤ 128) (k1_t3 : Fin k1_t3_loop.trips) : k1_chk13 k1_t3 v132 v151 v153 v160 v162 (BitVec.ofNat 32 m) := by
  have h3' := t3_lt k1_t3
  have hdv : ∀ m : Fin 128, 128 ∣ (k1_mult1 (BitVec.ofNat 32 m.val)).toNat := by decide +kernel
  refine ⟨fun _ _ h => hdv ⟨m, (cond3_iff hm).1 h⟩, fun _ _ h x => ?_, fun _ _ h x => ?_, fun _ _ h x => ?_, fun _ _ h r x => ?_⟩ <;>
    have hm' := (cond3_iff hm).1 h
  · rw [off9_eq hm']; fin_cases x
    · show 0 + 1 ≤ 2; omega
    · show 0 + 8 ≤ 10; omega
    · show 128 * (m / 8) + 128 ≤ 2048; omega
  · rw [off10_eq hm']; fin_cases x
    · show k1_t3.val + 1 ≤ 2; omega
    · show 16 * m + 16 ≤ 2048; omega
  · rw [off11_eq hm']; fin_cases x
    · show 4 * k1_t3.val + 1 ≤ 8; omega
    · show 16 * (m % 8) + 16 ≤ 128; omega
  · rw [off12_eq hm' k1_t3 (c := 1 + r.val) (by omega)]; fin_cases x
    · show 4 * k1_t3.val + (1 + r.val) + 1 ≤ 8; omega
    · show 16 * (m % 8) + 16 ≤ 128; omega

/-- The column of a chunk inside its block of 128 keys. -/
theorem v249_eq {m : ℕ} (hm : m < 128) :
    Scalar.muli (Scalar.select (Scalar.andi (Scalar.xori (Scalar.cmpi .slt (Scalar.remsi (BitVec.ofNat 32 m) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 m) (Scalar.select (Scalar.cmpi .eq 8#32 0#32) 1#32 8#32)) 0#32))
      (Scalar.addi (Scalar.remsi (BitVec.ofNat 32 m) (Scalar.select (Scalar.cmpi .eq 8#32 0#32) 1#32 8#32)) (Scalar.select (Scalar.cmpi .eq 8#32 0#32) 1#32 8#32))
      (Scalar.remsi (BitVec.ofNat 32 m) (Scalar.select (Scalar.cmpi .eq 8#32 0#32) 1#32 8#32))) 16#32 = BitVec.ofNat 32 (16 * (m % 8)) := by
  have h : ∀ m : Fin 128, Scalar.muli (Scalar.select (Scalar.andi (Scalar.xori (Scalar.cmpi .slt (Scalar.remsi (BitVec.ofNat 32 m.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 m.val) (Scalar.select (Scalar.cmpi .eq 8#32 0#32) 1#32 8#32)) 0#32))
      (Scalar.addi (Scalar.remsi (BitVec.ofNat 32 m.val) (Scalar.select (Scalar.cmpi .eq 8#32 0#32) 1#32 8#32)) (Scalar.select (Scalar.cmpi .eq 8#32 0#32) 1#32 8#32))
      (Scalar.remsi (BitVec.ofNat 32 m.val) (Scalar.select (Scalar.cmpi .eq 8#32 0#32) 1#32 8#32))) 16#32 = BitVec.ofNat 32 (16 * (m.val % 8)) := by decide +kernel
  exact h ⟨m, hm⟩

theorem v217_eq {m : ℕ} (hm : m ≤ 128) :
    Scalar.select (Scalar.cmpi .slt (BitVec.ofNat 32 m) 128#32) (Scalar.addi (BitVec.ofNat 32 m) 1#32) 128#32 = BitVec.ofNat 32 (min (m + 1) 128) := by
  have h : ∀ m : Fin 129, Scalar.select (Scalar.cmpi .slt (BitVec.ofNat 32 m.val) 128#32) (Scalar.addi (BitVec.ofNat 32 m.val) 1#32) 128#32 = BitVec.ofNat 32 (min (m.val + 1) 128) := by
    decide +kernel
  exact h ⟨m, by omega⟩

/-- The test whether a chunk holds a candidate. -/
theorem cond4_iff {s g q : ℕ} (a b c e f : Vec F S1x16 .i32) (ha : ∀ l < 16, shapeCast S16 a shapeCasts_S1x16_S16 (ix1 l) = X.K (8 + g) (16 * s + l))
    (hb : ∀ l < 16, shapeCast S16 b shapeCasts_S1x16_S16 (ix1 l) = X.K (4 * g) (16 * s + l))
    (hc : ∀ l < 16, shapeCast S16 c shapeCasts_S1x16_S16 (ix1 l) = X.K (4 * g + 1) (16 * s + l))
    (he : ∀ l < 16, shapeCast S16 e shapeCasts_S1x16_S16 (ix1 l) = X.K (4 * g + 2) (16 * s + l))
    (hf : ∀ l < 16, shapeCast S16 f shapeCasts_S1x16_S16 (ix1 l) = X.K (4 * g + 3) (16 * s + l)) :
    k1_cond4 (extractAt ![15] (k1_pay61 (F := F) (broadcast S16 (X.Q (8 + g) q)) (broadcast S16 (X.Q (4 * g) q)) (broadcast S16 (X.Q (4 * g + 1) q))
      (broadcast S16 (X.Q (4 * g + 2) q)) (broadcast S16 (X.Q (4 * g + 3) q)) a b c e f) inpos_S16_p15) = 1#1 ↔ ∃ l < 16, X.mt g q (16 * s + l) := by
  refine (bit_pos (bit_any (andi (cmpi .eq (shapeCast S16 a shapeCasts_S1x16_S16) (broadcast S16 (X.Q (8 + g) q)))
    (ori (ori (ori (cmpi .eq (shapeCast S16 b shapeCasts_S1x16_S16) (broadcast S16 (X.Q (4 * g) q))) (cmpi .eq (shapeCast S16 c shapeCasts_S1x16_S16) (broadcast S16 (X.Q (4 * g + 1) q))))
      (cmpi .eq (shapeCast S16 e shapeCasts_S1x16_S16) (broadcast S16 (X.Q (4 * g + 2) q)))) (cmpi .eq (shapeCast S16 f shapeCasts_S1x16_S16) (broadcast S16 (X.Q (4 * g + 3) q)))))
    inpos_S16_p15)).trans ?_
  unfold anyLane
  refine exists_congr fun l => and_congr_right fun hl => ?_
  unfold Prob.mt
  show IntOp.andi (IntOp.cmpi .eq (shapeCast S16 a shapeCasts_S1x16_S16 (ix1 l)) (X.Q (8 + g) q))
    (IntOp.ori (IntOp.ori (IntOp.ori (IntOp.cmpi .eq (shapeCast S16 b shapeCasts_S1x16_S16 (ix1 l)) (X.Q (4 * g) q))
      (IntOp.cmpi .eq (shapeCast S16 c shapeCasts_S1x16_S16 (ix1 l)) (X.Q (4 * g + 1) q)))
      (IntOp.cmpi .eq (shapeCast S16 e shapeCasts_S1x16_S16 (ix1 l)) (X.Q (4 * g + 2) q)))
      (IntOp.cmpi .eq (shapeCast S16 f shapeCasts_S1x16_S16 (ix1 l)) (X.Q (4 * g + 3) q))) = 1#1 ↔ _
  rw [andi1, ori1, ori1, ori1, cmpi_eq_iff, cmpi_eq_iff, cmpi_eq_iff, cmpi_eq_iff, cmpi_eq_iff, ha l hl, hb l hl, hc l hl, he l hl, hf l hl]

theorem t10_trips : k1_t10_loop.trips = 16 := by decide +kernel

set_option maxHeartbeats 1000000 in
theorem t7_step {s : ℕ} (harg23 : arg23 = BitVec.ofNat 32 k1_t3.val) (h30 : arg30 = BitVec.ofNat 32 s) (hs : s ≤ 128)
    (hrow : row = 16 * k1_t5.val + k1_t6.val) (hrow64 : row < 64) (hv139 : v139 = BitVec.ofNat 32 row)
    (hq : q = 128 * (i 1).val + 64 * (i 0).val + row) (hm : Lane0 v35)
    (hv144 : v144 = fun _ => X.Q (8 + k1_t3.val) q)
    (hv146 : v146 = X.Q (8 + k1_t3.val) q) (hv173 : v173 = fun _ => X.Q (4 * k1_t3.val) q) (hv182 : v182 = fun _ => X.Q (4 * k1_t3.val + 1) q)
    (hv191 : v191 = fun _ => X.Q (4 * k1_t3.val + 2) q) (hv200 : v200 = fun _ => X.Q (4 * k1_t3.val + 3) q)
    (hS : ∀ k < 2048, (dot fun l => FloatOps.mulf (E.QT (ix3 0 q l)) (E.KT (ix3 0 k l))) = X.sc q k)
    (hKS : ∀ h < 8, ∀ k < 2048, E.KS (ix3 0 h k) = X.K h k)
    (hkv : ∀ k < 2048, σ.kv (ix2 k1_t3.val k) = X.K (8 + k1_t3.val) k)
    (hR : RowOK σ row (X.run k1_t3.val q L (16 * s))) (hG : Good L) :
    T E σ (k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 arg23 k1_t5 v132 k1_h1 k1_t6 v139 v144 v146 v151 v153 v160 v162 k1_h2 v173 v182 v191 v200 k1_t7 arg30)
      (fun v σ' => ∃ s', v = BitVec.ofNat 32 s' ∧ s' ≤ 128 ∧ (s < 128 → s + 1 ≤ s') ∧ (s = 128 → s' = 128) ∧ Keep row σ σ'
        ∧ RowOK σ' row (X.run k1_t3.val q L (16 * s'))) := by
  have hg := t3_lt k1_t3
  subst harg23 h30 hv144
  dsimp only [k1_t7_body]
  refine T_assume (chk12_ok hs k1_t3) ?_
  refine T_bind (T_for _ _ _ _ _ _ (fun k v σ' => σ' = σ ∧ ∃ m', v = BitVec.ofNat 32 m' ∧ Seek σ.kv k1_t3.val (X.Q (8 + k1_t3.val) q) s k m')
    ⟨rfl, 128, rfl, Seek.zero _ _ _ hs⟩ ?_) ?_
  · rintro k v σ' ⟨rfl, m, hv, hno⟩
    exact t8_step rfl hs rfl hv hno
  rintro v σ' ⟨hσ, m, rfl, hno⟩
  rw [hσ]
  clear hσ
  rw [show Scf.trips (k1_t8_loop (BitVec.ofNat 32 s)).lb (k1_t8_loop (BitVec.ofNat 32 s)).ub (k1_t8_loop (BitVec.ofNat 32 s)).st = 128 - s from (t8_facts hs).2.1] at hno
  have hm128 : m ≤ 128 := hno.1
  have hsm : s ≤ m := hno.2.1
  refine T_bind (T_for _ _ _ _ _ _ (fun _ v σ' => v = BitVec.ofNat 32 m ∧ σ' = σ) ⟨rfl, rfl⟩ ?_) ?_
  · rintro k v σ' _
    exact absurd (lt_of_lt_of_eq k.isLt (t8_facts hs).2.2.2) (Nat.not_lt_zero _)
  rintro v σ' ⟨rfl, hσ⟩
  rw [hσ]
  refine T_assume (chk13_ok hm128 k1_t3) ?_
  have hrun := run_seek (L := L) hno hkv
  rw [← hrun] at hR
  rw [v217_eq hm128]
  have hfin : ∀ {σ' : Mem F}, Keep row σ σ' ∧ RowOK σ' row (X.run k1_t3.val q L (16 * min (m + 1) 128)) →
      T E σ' (pure (BitVec.ofNat 32 (min (m + 1) 128)))
      (fun v σ' => ∃ s', v = BitVec.ofNat 32 s' ∧ s' ≤ 128 ∧ (s < 128 → s + 1 ≤ s') ∧ (s = 128 → s' = 128) ∧ Keep row σ σ'
        ∧ RowOK σ' row (X.run k1_t3.val q L (16 * s'))) :=
    fun h => T_pure ⟨_, rfl, by omega, by omega, by omega, h.1, h.2⟩
  refine T_dite (fun h3 => ?_) (fun h3 => ?_)
  swap
  · have hm3 : m = 128 := by
      by_contra hh; exact h3 ((cond3_iff hm128).2 (by omega))
    subst hm3
    exact hfin ⟨Keep.refl _ _, hR⟩
  have hm3 : m < 128 := (cond3_iff hm128).1 h3
  simp only [k1_part7_eq_skeleton, k1_part7_skel, k1_part8_eq_skeleton, k1_part8_skel, bind_assoc, pure_bind]
  refine T_copy (copy_khw E) (by decide) ?_
  generalize hσ1 : (copy_khw E).set σ _ = σ1
  have hK1 : Keep row σ σ1 := by rw [← hσ1]; exact ⟨rfl, rfl, rfl, rfl, fun _ _ _ _ _ h => h⟩
  have hR1 : RowOK σ1 row (X.run k1_t3.val q L (16 * m)) := by rw [← hσ1]; exact hR
  have hkv1 : ∀ k < 2048, σ1.kv (ix2 k1_t3.val k) = X.K (8 + k1_t3.val) k := by rw [← hσ1]; exact hkv
  have hkhw1 : ∀ h < 8, ∀ c < 128, σ1.khw (ix2 h c) = X.K h (128 * (m / 8) + c) := by
    intro h hh c hc
    rw [← hσ1]
    refine (read_plane arg3 (k1_off9 (BitVec.ofNat 32 m)) ((chk13_ok hm128 k1_t3).2.1 k1_h1 k1_h2 h3) (fun _ => rfl) squeezes_S1x8x128_S8x128 E.r3 _).trans ?_
    rw [off9_eq hm3, ix2_val0 (by omega), ix2_val1 hc, ← hKS h hh _ (by omega)]
    refine congrArg E.KS ?_
    rw [show (![0, 0, 128 * (m / 8)] : Fin 3 → ℕ) 0 = 0 from rfl, show (![0, 0, 128 * (m / 8)] : Fin 3 → ℕ) 1 + h = h by show 0 + h = h; omega,
      show (![0, 0, 128 * (m / 8)] : Fin 3 → ℕ) 2 + c = 128 * (m / 8) + c from rfl]
  refine T_load (c_kv E) ?_
  refine T_load (c_khw E) ?_
  refine T_load (c_khw E) ?_
  refine T_load (c_khw E) ?_
  refine T_load (c_khw E) ?_
  have b10 : ∀ x, k1_off10 k1_t3 (BitVec.ofNat 32 m) x + S1x16.size x ≤ S2x2048.size x := (chk13_ok hm128 k1_t3).2.2.1 k1_h1 k1_h2 h3
  have b11 : ∀ x, k1_off11 k1_t3 (BitVec.ofNat 32 m) x + S1x16.size x ≤ S8x128.size x := (chk13_ok hm128 k1_t3).2.2.2.1 k1_h1 k1_h2 h3
  have b121 : ∀ x, k1_off12 k1_t3 (BitVec.ofNat 32 m) 1#32 x + S1x16.size x ≤ S8x128.size x := (chk13_ok hm128 k1_t3).2.2.2.2 k1_h1 k1_h2 h3 0
  have b122 : ∀ x, k1_off12 k1_t3 (BitVec.ofNat 32 m) 2#32 x + S1x16.size x ≤ S8x128.size x := (chk13_ok hm128 k1_t3).2.2.2.2 k1_h1 k1_h2 h3 1
  have b123 : ∀ x, k1_off12 k1_t3 (BitVec.ofNat 32 m) 3#32 x + S1x16.size x ≤ S8x128.size x := (chk13_ok hm128 k1_t3).2.2.2.2 k1_h1 k1_h2 h3 2
  have hc4 := cond4_iff (F := F) (X := X) (s := m) (g := k1_t3.val) (q := q)
    (fun x => σ1.kv ((Rect.unit (s := S2x2048) (k1_off10 k1_t3 (BitVec.ofNat 32 m)) S1x16.size b10).emb x))
    (fun x => σ1.khw ((Rect.unit (s := S8x128) (k1_off11 k1_t3 (BitVec.ofNat 32 m)) S1x16.size b11).emb x))
    (fun x => σ1.khw ((Rect.unit (s := S8x128) (k1_off12 k1_t3 (BitVec.ofNat 32 m) 1#32) S1x16.size b121).emb x))
    (fun x => σ1.khw ((Rect.unit (s := S8x128) (k1_off12 k1_t3 (BitVec.ofNat 32 m) 2#32) S1x16.size b122).emb x))
    (fun x => σ1.khw ((Rect.unit (s := S8x128) (k1_off12 k1_t3 (BitVec.ofNat 32 m) 3#32) S1x16.size b123).emb x))
    (fun l hl => by
      refine (row16 σ1.kv _ b10 _ hl).trans ?_
      rw [off10_eq hm3]
      exact hkv1 _ (by show 16 * m + l < 2048; omega))
    (fun l hl => by
      refine (row16 σ1.khw _ b11 _ hl).trans ?_
      rw [off11_eq hm3]
      refine (hkhw1 (4 * k1_t3.val) (by omega) (16 * (m % 8) + l) (by omega)).trans (congrArg _ (by omega)))
    (fun l hl => by
      refine (row16 σ1.khw _ b121 _ hl).trans ?_
      rw [off12_eq hm3 k1_t3 (c := 1) (by omega)]
      refine (hkhw1 (4 * k1_t3.val + 1) (by omega) (16 * (m % 8) + l) (by omega)).trans (congrArg _ (by omega)))
    (fun l hl => by
      refine (row16 σ1.khw _ b122 _ hl).trans ?_
      rw [off12_eq hm3 k1_t3 (c := 2) (by omega)]
      refine (hkhw1 (4 * k1_t3.val + 2) (by omega) (16 * (m % 8) + l) (by omega)).trans (congrArg _ (by omega)))
    (fun l hl => by
      refine (row16 σ1.khw _ b123 _ hl).trans ?_
      rw [off12_eq hm3 k1_t3 (c := 3) (by omega)]
      refine (hkhw1 (4 * k1_t3.val + 3) (by omega) (16 * (m % 8) + l) (by omega)).trans (congrArg _ (by omega)))
  subst hv173 hv182 hv191 hv200
  refine T_dite (fun h4 => ?_) (fun h4 => ?_)
  swap
  · refine hfin ⟨hK1, ?_⟩
    rw [show 16 * min (m + 1) 128 = 16 * m + 16 by omega, X.run_skip k1_t3.val q L (16 * m) 16 (fun k hk hk' hmt => h4 (hc4.2 ⟨k - 16 * m, by omega, by
      rwa [show 16 * m + (k - 16 * m) = k by omega]⟩))]
    exact hR1
  refine T_bind (T_for _ _ _ _ _ _ (fun k _ σ' => Keep row σ1 σ' ∧ σ'.khw = σ1.khw ∧ RowOK σ' row (X.run k1_t3.val q L (16 * m + k)))
    ⟨Keep.refl _ _, rfl, hR1⟩ ?_) ?_
  · rintro k v σ' ⟨hK, hkh, hR'⟩
    have hk : k.val < 16 := lt_of_lt_of_eq k.isLt t10_trips
    refine T_mono (t10_step hg rfl hm3 rfl (muli_ofNat m 16 |>.trans (by rw [Nat.mul_comm])) (v249_eq hm3) hrow hrow64 hv139 hq hm hv146 rfl rfl rfl rfl hS
      (fun k hk => by rw [hK.kv]; exact hkv1 k hk) (fun h hh c hc => by rw [hkh]; exact hkhw1 h hh c hc) hR' (hG.run (by omega))) ?_
    rintro v' σ'' ⟨hK', hkh', hR''⟩
    exact ⟨hK.trans hK', hkh'.trans hkh, by rw [← Nat.add_assoc, X.run_succ]; exact hR''⟩
  rintro v σ' ⟨hK, hkh, hR'⟩
  rw [show Scf.trips k1_t10_loop.lb k1_t10_loop.ub k1_t10_loop.st = 16 from t10_trips] at hR'
  exact hfin ⟨hK1.trans hK, by rw [show 16 * min (m + 1) 128 = 16 * m + 16 by omega]; exact hR'⟩

end

end Cert.Proof.Join

end
-- ==== Proof.Run0.lean ====
/-
  The first batch's half of a tile: one query, the sixty-four queries of a hash group, both groups, and the masking.
-/
module

public import proofs.«01_k».proof.Proof.Half0
public import proofs.«01_k».proof.Proof.Mask

@[expose] public section

set_option pp.maxSteps 100

noncomputable section

namespace Cert.Proof.Join

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}
variable {d : Dev nD} {E : Env F d ((i 0).castLE hcore1) ((i 1).castLE hsub1)
  (regs0 arg3 arg4 arg5 arg7 arg8 arg9 arg10 arg12 arg13 arg14 arg15 arg17 arg19 v293_r0 v653_r1 v653_r2)} {σ σ0 : Mem F}
  {X : Prob F} {row base q m : ℕ} {L : List (Cand F)} {Ls : ℕ → List (Cand F)} {w ep : BitVec 32}
variable [E.On]

theorem t5_lt (k1_t5 : Fin k1_t5_loop.trips) : k1_t5.val < 4 := Nat.lt_of_lt_of_le k1_t5.isLt (by decide +kernel)
theorem t6_lt (k1_t6 : Fin k1_t6_loop.trips) : k1_t6.val < 16 := Nat.lt_of_lt_of_le k1_t6.isLt (by decide +kernel)
theorem t7_trips : k1_t7_loop.trips = 128 := by decide +kernel

theorem cond2_iff {a b c e : BitVec 32} : k1_cond2 a b c e = 1#1 ↔ a = b ∧ c = e := by
  refine (ext_ne _).trans ?_
  exact (andi1 _ _).trans (and_congr (cmpi_eq_iff _ _) (cmpi_eq_iff _ _))

theorem cond1_iff {v : BitVec 32} {p : Prop} (h : IsBit v p) : k1_cond1 v = 1#1 ↔ p := bit_pos h

variable {k1_t3 : Fin k1_t3_loop.trips} {k1_t5 : Fin k1_t5_loop.trips} {k1_t6 : Fin k1_t6_loop.trips} {k1_t4 : Fin k1_t4_loop.trips}

set_option maxHeartbeats 1000000 in
theorem t6_step (harg23 : arg23 = BitVec.ofNat 32 k1_t3.val) (harg25 : arg25 = BitVec.ofNat 32 k1_t5.val) (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 0 (base + r) l)) (E.KT (ix3 0 k l))) = X.sc (base + r) k)
    (hKS : ∀ h < 8, ∀ k < 2048, E.KS (ix3 0 h k) = X.K h k)
    (hkv : ∀ k < 2048, σ.kv (ix2 k1_t3.val k) = X.K (8 + k1_t3.val) k)
    (hB : Marks σ (Scalar.addi 1#32 (Scf.iv 0#32 1#32 k1_t3)) (X.K (8 + k1_t3.val)) 2048)
    (hR : Rows σ (upto X k1_t3.val base Ls (16 * k1_t5.val + k1_t6.val))) (hG : ∀ r, Good (Ls r)) :
    T E σ (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 arg23 k1_t5 arg25 v132 k1_h1 k1_t6 arg28)
      (fun _ σ' => Same σ σ' ∧ Rows σ' (upto X k1_t3.val base Ls (16 * k1_t5.val + (k1_t6.val + 1)))) := by
  have hg := t3_lt k1_t3
  have h5 := t5_lt k1_t5
  have h6 := t6_lt k1_t6
  have hi0 : (i 0).val < 2 := (i 0).isLt
  subst harg23 harg25 hv31
  generalize hrow : 16 * k1_t5.val + k1_t6.val = row at hR
  have hrow64 : row < 64 := by omega
  have hq : base + row = 128 * (i 1).val + 64 * (i 0).val + row := by rw [hbase]
  have e139 : Scalar.addi (Scalar.muli (BitVec.ofNat 32 k1_t5.val) 16#32) (Scf.iv 0#32 1#32 k1_t6) = BitVec.ofNat 32 row := by
    rw [iv0, show Scalar.muli (BitVec.ofNat 32 k1_t5.val) 16#32 = BitVec.ofNat 32 (k1_t5.val * 16) from muli_ofNat _ 16, ← hrow, Nat.mul_comm 16]
    exact addi_ofNat _ _
  have e140 : Scalar.addi 8#32 (BitVec.ofNat 32 k1_t3.val) = BitVec.ofNat 32 (8 + k1_t3.val) := addi_ofNat 8 _
  have e141 : Scalar.addi (BitVec.ofNat 32 (64 * (i 0).val)) (BitVec.ofNat 32 row) = BitVec.ofNat 32 (64 * (i 0).val + row) := addi_ofNat _ _
  have eh : Scalar.muli 4#32 (BitVec.ofNat 32 k1_t3.val) = BitVec.ofNat 32 (4 * k1_t3.val) := muli_ofNat 4 _
  have eh0 : Scalar.addi (BitVec.ofNat 32 (4 * k1_t3.val)) 0#32 = BitVec.ofNat 32 (4 * k1_t3.val + 0) := addi_ofNat _ 0
  have eh1 : Scalar.addi (BitVec.ofNat 32 (4 * k1_t3.val)) 1#32 = BitVec.ofNat 32 (4 * k1_t3.val + 1) := addi_ofNat _ 1
  have eh2 : Scalar.addi (BitVec.ofNat 32 (4 * k1_t3.val)) 2#32 = BitVec.ofNat 32 (4 * k1_t3.val + 2) := addi_ofNat _ 2
  have eh3 : Scalar.addi (BitVec.ofNat 32 (4 * k1_t3.val)) 3#32 = BitVec.ofNat 32 (4 * k1_t3.val + 3) := addi_ofNat _ 3
  have hfin : ∀ {σ' : Mem F}, Keep row σ σ' → RowOK σ' row (X.run k1_t3.val (base + row) (Ls row) 2048) →
      T E σ' (pure 0#32) (fun _ σ' => Same σ σ' ∧ Rows σ' (upto X k1_t3.val base Ls (16 * k1_t5.val + (k1_t6.val + 1)))) := by
    intro σ' hK hr
    refine T_pure ⟨hK.same, hR.keep hK (upto_good hG _) (r := row) ?_ ?_⟩
    · unfold upto; rw [if_pos (by omega)]; exact hr
    · intro r' hr'; unfold upto
      by_cases hh : r' < row
      · rw [if_pos hh, if_pos (by omega)]
      · rw [if_neg hh, if_neg (by omega)]
  have hR0 : RowOK σ row (Ls row) := by
    have := hR row hrow64
    unfold upto at this
    rwa [if_neg (lt_irrefl _)] at this
  dsimp only [k1_t6_body]
  rw [e139, e140, e141, eh, eh0, eh1, eh2, eh3]
  refine T_assume (fun _ => inb2n _ _ (by omega) (by omega) (by decide) (by decide)) ?_
  refine T_ldx (c_qv E) ?_
  rw [loadIdx_n2 _ (a := 8 + k1_t3.val) (b := 64 * (i 0).val + row) (by omega) (by omega),
    show (c_qv E).get σ (ix2 (8 + k1_t3.val) (64 * (i 0).val + row)) = X.Q (8 + k1_t3.val) (base + row) from hqv _ (by omega) _ hrow64,
    show extractAt ![0] (k1_pay103 (F := F) (fun _ => X.Q (8 + k1_t3.val) (base + row))) inpos_S1_p0 = X.Q (8 + k1_t3.val) (base + row) from rfl]
  refine T_assume (fun _ => inb1 _ (and_lt _)) ?_
  refine T_ldx (c_pres E) ?_
  refine T_assume (fun _ => inb1 _ (and_lt2 _)) ?_
  refine T_ldx (c_pres2 E) ?_
  rw [loadIdx_b1, loadIdx_b1]
  refine T_dite (fun h2 => ?_) (fun h2 => ?_)
  swap
  · refine hfin (Keep.refl _ _) ?_
    rw [run_unmarked _ hB (fun hh => h2 (cond2_iff.2 hh))]
    exact hR0
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  rw [loadIdx_n2 _ (a := 4 * k1_t3.val + 0) (b := 64 * (i 0).val + row) (by omega) (by omega), loadIdx_n2 _ (a := 4 * k1_t3.val + 1) (b := 64 * (i 0).val + row) (by omega) (by omega),
    loadIdx_n2 _ (a := 4 * k1_t3.val + 2) (b := 64 * (i 0).val + row) (by omega) (by omega), loadIdx_n2 _ (a := 4 * k1_t3.val + 3) (b := 64 * (i 0).val + row) (by omega) (by omega)]
  refine T_bind (T_for _ _ _ _ _ _ (fun k v σ' => ∃ s, v = BitVec.ofNat 32 s ∧ s ≤ 128 ∧ k ≤ s ∧ Keep row σ σ' ∧ RowOK σ' row (X.run k1_t3.val (base + row) (Ls row) (16 * s)))
    ⟨0, rfl, by omega, le_refl _, Keep.refl _ _, hR0⟩ ?_) ?_
  · rintro k v σ' ⟨s, rfl, hs, hks, hK, hr⟩
    have hk : k.val < 128 := lt_of_lt_of_eq k.isLt t7_trips
    refine T_mono (t7_step (X := X) (q := base + row) rfl rfl hs hrow.symm hrow64 rfl hq hm rfl rfl
      (funext fun _ => hqv _ (by omega) _ hrow64) (funext fun _ => hqv _ (by omega) _ hrow64) (funext fun _ => hqv _ (by omega) _ hrow64) (funext fun _ => hqv _ (by omega) _ hrow64)
      (hS row hrow64) hKS (fun k hk => by rw [hK.kv]; exact hkv k hk) hr (hG row)) ?_
    rintro v' σ'' ⟨s', hv', hs', h1, h2, hK', hr'⟩
    exact ⟨s', hv', hs', by omega, hK.trans hK', hr'⟩
  rintro v σ' ⟨s, rfl, hs, hks, hK, hr⟩
  rw [show Scf.trips k1_t7_loop.lb k1_t7_loop.ub k1_t7_loop.st = 128 from t7_trips] at hks
  refine hfin hK ?_
  rw [show 16 * s = 2048 by omega] at hr
  exact hr

/-! ### Marking the keys of a group -/

theorem t4_step (hkv : ∀ k < 2048, σ.kv (ix2 k1_t3.val k) = X.K (8 + k1_t3.val) k)
    (hM : Marks σ (Scalar.addi 1#32 (Scf.iv 0#32 1#32 k1_t3)) (X.K (8 + k1_t3.val)) (16 * k1_t4.val)) :
    T E σ (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 k1_t4 ⟨⟩)
      (fun _ σ' => (∃ p p2, σ' = { σ with pres := p, pres2 := p2 }) ∧ Marks σ' (Scalar.addi 1#32 (Scf.iv 0#32 1#32 k1_t3)) (X.K (8 + k1_t3.val)) (16 * (k1_t4.val + 1))) := by
  have hk : k1_t4.val < 128 := Nat.lt_of_lt_of_le k1_t4.isLt (by decide +kernel)
  have hg := t3_lt k1_t3
  have b : ∀ x, k1_off5 k1_t3 k1_t4 x + S1x16.size x ≤ S2x2048.size x := k1_off5_inb k1_t3 k1_t4
  have hl : ∀ l, l < 16 → shapeCast S16 (fun x => σ.kv ((Rect.unit (s := S2x2048) (k1_off5 k1_t3 k1_t4) S1x16.size b).emb x)) shapeCasts_S1x16_S16 (ix1 l)
      = X.K (8 + k1_t3.val) (16 * k1_t4.val + l) := fun l hl => by
    refine (row16 σ.kv _ b _ hl).trans ?_
    rw [k1_off5_eq]
    exact hkv _ (by show 16 * k1_t4.val + l < 2048; omega)
  dsimp only [k1_t4_body]
  refine T_load (c_kv E) ?_
  refine T_assume (inb_lanes1 _ fun x => and_lt _) ?_
  refine T_stx (c_pres E) ?_
  refine T_assume (inb_lanes1 _ fun x => and_lt2 _) ?_
  refine T_stx (c_pres2 E) ?_
  refine T_pure ⟨⟨_, _, rfl⟩, ?_⟩
  rw [Nat.mul_succ]
  exact marks_step _ _ _ _ _ (fun l h => congrArg (fun w => IntOp.andi w 32767#32) (hl l h))
    (fun l h => congrArg (fun w => IntOp.andi (IntOp.shrui .vector w 18#32) 16383#32) (hl l h)) (fun _ => rfl) hM

/-! ### Sixteen queries -/

theorem off6_eq (i : grid1.Coords) (k1_t3 : Fin k1_t3_loop.trips) (k1_t5 : Fin k1_t5_loop.trips) :
    k1_off6 i k1_t3 k1_t5 = ![8 + k1_t3.val, 64 * (i 0).val + 16 * k1_t5.val] := by
  revert i k1_t3 k1_t5; decide +kernel

set_option maxHeartbeats 1000000 in
theorem t5_step (harg23 : arg23 = BitVec.ofNat 32 k1_t3.val) (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 0 (base + r) l)) (E.KT (ix3 0 k l))) = X.sc (base + r) k)
    (hKS : ∀ h < 8, ∀ k < 2048, E.KS (ix3 0 h k) = X.K h k)
    (hkv : ∀ k < 2048, σ.kv (ix2 k1_t3.val k) = X.K (8 + k1_t3.val) k)
    (hB : Marks σ (Scalar.addi 1#32 (Scf.iv 0#32 1#32 k1_t3)) (X.K (8 + k1_t3.val)) 2048)
    (hR : Rows σ (upto X k1_t3.val base Ls (16 * k1_t5.val))) (hG : ∀ r, Good (Ls r)) :
    T E σ (k1_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 arg23 k1_t5 arg26)
      (fun _ σ' => Same σ σ' ∧ Rows σ' (upto X k1_t3.val base Ls (16 * (k1_t5.val + 1)))) := by
  have hg := t3_lt k1_t3
  have h5 := t5_lt k1_t5
  have hi0 : (i 0).val < 2 := (i 0).isLt
  have b : ∀ x, k1_off6 i k1_t3 k1_t5 x + S1x16.size x ≤ S10x128.size x := k1_off6_inb i k1_t3 k1_t5
  have hl : ∀ l, l < 16 → shapeCast S16 (fun x => σ.qv ((Rect.unit (s := S10x128) (k1_off6 i k1_t3 k1_t5) S1x16.size b).emb x)) shapeCasts_S1x16_S16 (ix1 l)
      = X.Q (8 + k1_t3.val) (base + (16 * k1_t5.val + l)) := fun l hl => by
    refine (row16 σ.qv _ b _ hl).trans ?_
    rw [off6_eq]
    refine (congrArg σ.qv ?_).trans (hqv (8 + k1_t3.val) (by omega) (16 * k1_t5.val + l) (by omega))
    rw [← Nat.add_assoc]; rfl
  dsimp only [k1_t5_body]
  refine T_load (c_qv E) ?_
  refine T_assume (inb_lanes1 _ fun x => and_lt _) ?_
  refine T_ldx (c_pres E) ?_
  refine T_assume (inb_lanes1 _ fun x => and_lt2 _) ?_
  refine T_ldx (c_pres2 E) ?_
  refine T_dite (fun h1 => ?_) (fun h1 => ?_)
  · refine T_bind (T_for _ _ _ _ _ _ (fun k _ σ' => Same σ σ' ∧ Rows σ' (upto X k1_t3.val base Ls (16 * k1_t5.val + k))) ⟨Same.refl _, hR⟩ ?_) ?_
    · rintro k v σ' ⟨hK, hr⟩
      refine T_mono (t6_step (X := X) (base := base) harg23 (iv0 _) hv31 hm hbase (fun h hh r hr => by rw [hK.qv]; exact hqv h hh r hr) hS hKS
        (fun k hk => by rw [hK.kv]; exact hkv k hk) (fun k hk => by rw [hK.pres, hK.pres2]; exact hB k hk) hr hG) ?_
      rintro v' σ'' ⟨hK', hr'⟩
      exact ⟨hK.trans hK', hr'⟩
    rintro v σ' ⟨hK, hr⟩
    rw [show Scf.trips k1_t6_loop.lb k1_t6_loop.ub k1_t6_loop.st = 16 from by decide +kernel] at hr
    exact T_pure ⟨hK, by rw [Nat.mul_succ]; exact hr⟩
  · refine T_pure ⟨Same.refl _, ?_⟩
    have hno := fun hh => h1 ((cond1_iff (bit_any _ _)).2 hh)
    intro r hr64
    have hr := hR r hr64
    have : upto X k1_t3.val base Ls (16 * (k1_t5.val + 1)) r = upto X k1_t3.val base Ls (16 * k1_t5.val) r := by
      unfold upto
      by_cases ha : r < 16 * k1_t5.val
      · rw [if_pos ha, if_pos (by omega)]
      · rw [if_neg ha]
        by_cases hb : r < 16 * (k1_t5.val + 1)
        · rw [if_pos hb]
          refine run_unmarked _ hB fun hh => hno ?_
          obtain ⟨l, rfl⟩ : ∃ l, r = 16 * k1_t5.val + l := ⟨r - 16 * k1_t5.val, by omega⟩
          have hll : l < 16 := by omega
          rw [← hl l hll] at hh
          exact ⟨l, hll, (andi1 _ _).2 ⟨(cmpi_eq_iff _ _).2 ((congrArg σ.pres (eq_ix1 (n := 32768) _ rfl)).trans hh.1), (cmpi_eq_iff _ _).2 ((congrArg σ.pres2 (eq_ix1 (n := 16384) _ rfl)).trans hh.2)⟩⟩
        · rw [if_neg hb]
    rw [this]; exact hr

/-! ### A hash group -/

theorem t3_step (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 0 (base + r) l)) (E.KT (ix3 0 k l))) = X.sc (base + r) k)
    (hKS : ∀ h < 8, ∀ k < 2048, E.KS (ix3 0 h k) = X.K h k)
    (hkv : ∀ g < 2, ∀ k < 2048, σ.kv (ix2 g k) = X.K (8 + g) k)
    (hR : Rows σ Ls) (hG : ∀ r, Good (Ls r)) :
    T E σ (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 k1_t3 arg24)
      (fun _ σ' => (σ'.qv = σ.qv ∧ σ'.kv = σ.kv) ∧ Rows σ' (fun r => X.run k1_t3.val (base + r) (Ls r) 2048)) := by
  have hg := t3_lt k1_t3
  dsimp only [k1_t3_body]
  refine T_bind (T_for _ _ _ _ _ _ (fun k _ σ' => (∃ p p2, σ' = { σ with pres := p, pres2 := p2 }) ∧
    Marks σ' (Scalar.addi 1#32 (Scf.iv 0#32 1#32 k1_t3)) (X.K (8 + k1_t3.val)) (16 * k)) ⟨⟨_, _, rfl⟩, fun k hk => absurd hk (by omega)⟩ ?_) ?_
  · rintro k v σ' ⟨⟨p, p2, rfl⟩, hM⟩
    refine T_mono (t4_step (X := X) (hkv _ hg) hM) ?_
    rintro v' σ'' ⟨⟨p', p2', rfl⟩, hM'⟩
    exact ⟨⟨_, _, rfl⟩, hM'⟩
  rintro v σ' ⟨⟨p, p2, rfl⟩, hM⟩
  rw [show Scf.trips k1_t4_loop.lb k1_t4_loop.ub k1_t4_loop.st = 128 from by decide +kernel] at hM
  refine T_bind (T_for _ _ _ _ _ _ (fun k _ σ' => Same { σ with pres := p, pres2 := p2 } σ' ∧ Rows σ' (upto X k1_t3.val base Ls (16 * k))) ⟨Same.refl _, by rw [Nat.mul_zero, upto_zero]; exact hR⟩ ?_) ?_
  · rintro k v' σ' ⟨hK, hr⟩
    refine T_mono (t5_step (X := X) (base := base) (iv0 _) hv31 hm hbase (fun h hh r hr => by rw [hK.qv]; exact hqv h hh r hr) hS hKS
      (fun k hk => by rw [hK.kv]; exact hkv _ hg k hk) (fun k hk => by rw [hK.pres, hK.pres2]; exact hM k hk) hr hG) ?_
    rintro v'' σ'' ⟨hK', hr'⟩
    exact ⟨hK.trans hK', hr'⟩
  rintro v' σ' ⟨hK, hr⟩
  rw [show Scf.trips k1_t5_loop.lb k1_t5_loop.ub k1_t5_loop.st = 4 from by decide +kernel] at hr
  refine T_pure ⟨⟨hK.qv, hK.kv⟩, fun r hr64 => ?_⟩
  have := hr r hr64
  unfold upto at this
  rwa [if_pos (by omega)] at this

/-! ### Masking a row -/

omit [E.On] in
set_option maxHeartbeats 1000000 in
theorem t14_step {k1_t14 : Fin k1_t14_loop.trips} (hv72 : v72 = iota .scVector S16 32 [0] iota_S16_d0_w32_scVector) (hR : RowOK σ k1_t14.val (X.both (base + k1_t14.val)))
    (hG : Good (X.both (base + k1_t14.val))) :
    T E σ (k1_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 v72 k1_t14 ⟨⟩)
      (fun _ σ' => ∃ f, σ' = { σ with lidx := f } ∧ (∀ s < 64, f (ix2 k1_t14.val s) = X.out (base + k1_t14.val) s) ∧
        ∀ r < 64, ∀ s < 64, r ≠ k1_t14.val → f (ix2 r s) = σ.lidx (ix2 r s)) := by
  subst hv72
  have hk : k1_t14.val < 64 := Nat.lt_of_lt_of_le k1_t14.isLt (by decide +kernel)
  have b0 : ∀ x, k1_off19 k1_t14 x + S1x16.size x ≤ S64x64.size x := k1_off19_inb k1_t14
  have b1 : ∀ x, k1_off20 k1_t14 x + S1x16.size x ≤ S64x64.size x := k1_off20_inb k1_t14
  have b2 : ∀ x, k1_off21 k1_t14 x + S1x16.size x ≤ S64x64.size x := k1_off21_inb k1_t14
  have b3 : ∀ x, k1_off22 k1_t14 x + S1x16.size x ≤ S64x64.size x := k1_off22_inb k1_t14
  have e104 : Scalar.addi 0#32 (Scalar.muli (Scf.iv 0#32 1#32 k1_t14) 1#32) = BitVec.ofNat 32 k1_t14.val := by
    rw [iv0, show Scalar.muli (BitVec.ofNat 32 k1_t14.val) 1#32 = BitVec.ofNat 32 (k1_t14.val * 1) from muli_ofNat _ 1, Nat.mul_one]
    exact (addi_ofNat 0 _).trans (by rw [Nat.zero_add])
  dsimp only [k1_t14_body]
  simp only [k1_part9_eq_skeleton, k1_part9_skel, bind_assoc, pure_bind]
  rw [e104]
  refine T_assume (inb1n _ hk (by decide)) ?_
  refine T_ldx (c_lcnt E) ?_
  rw [loadIdx_n1 _ (a := k1_t14.val) (by omega)]
  refine T_load (c_lsc E) ?_
  refine T_load (c_lidx E) ?_
  refine T_load (c_lidx E) ?_
  refine T_mask (σ := σ) (f := σ.lidx) (Masked.zero X (base + k1_t14.val) k1_t14.val σ.lidx) hk (by omega) hR hG (k1_off19_eq _) (fun l hl => ?_) fun f0 w0 => ?_
  · exact mask_pay _ _ _ _ hl _ _ ((row16 σ.lsc _ b0 _ hl).trans (by rw [k1_off19_eq]; rfl)) ((row16 σ.lidx _ b0 _ hl).trans (by rw [k1_off19_eq]; rfl))
  refine T_load (c_lsc E) ?_
  refine T_load (c_lidx E) ?_
  refine T_load (c_lidx E) ?_
  refine T_mask (σ := σ) (f := f0) w0 hk (by omega) hR hG (k1_off20_eq _) (fun l hl => ?_) fun f1 w1 => ?_
  · exact mask_pay _ _ _ _ hl _ _ ((row16 σ.lsc _ b1 _ hl).trans (by rw [k1_off20_eq]; rfl)) ((row16 f0 _ b1 _ hl).trans (by rw [k1_off20_eq]; rfl))
  refine T_load (c_lsc E) ?_
  refine T_load (c_lidx E) ?_
  refine T_load (c_lidx E) ?_
  refine T_mask (σ := σ) (f := f1) w1 hk (by omega) hR hG (k1_off21_eq _) (fun l hl => ?_) fun f2 w2 => ?_
  · exact mask_pay _ _ _ _ hl _ _ ((row16 σ.lsc _ b2 _ hl).trans (by rw [k1_off21_eq]; rfl)) ((row16 f1 _ b2 _ hl).trans (by rw [k1_off21_eq]; rfl))
  refine T_load (c_lsc E) ?_
  refine T_load (c_lidx E) ?_
  refine T_load (c_lidx E) ?_
  refine T_mask (σ := σ) (f := f2) w2 hk (by omega) hR hG (k1_off22_eq _) (fun l hl => ?_) fun f3 w3 => ?_
  · exact mask_pay _ _ _ _ hl _ _ ((row16 σ.lsc _ b3 _ hl).trans (by rw [k1_off22_eq]; rfl)) ((row16 f2 _ b3 _ hl).trans (by rw [k1_off22_eq]; rfl))
  exact T_pure ⟨f3, rfl, w3.done, w3.other⟩

/-! ### The loops -/

theorem t3_loop (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 0 (base + r) l)) (E.KT (ix3 0 k l))) = X.sc (base + r) k)
    (hKS : ∀ h < 8, ∀ k < 2048, E.KS (ix3 0 h k) = X.K h k)
    (hkv : ∀ g < 2, ∀ k < 2048, σ.kv (ix2 g k) = X.K (8 + g) k)
    (hR : Rows σ (fun _ => [])) :
    T E σ (Scf.Loop.for k1_t3_loop k1_t3_ok 0#32 (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35)) (fun _ σ' => Rows σ' (fun r => X.both (base + r))) := by
  refine T_mono (T_for _ _ _ _ _ _ (fun n _ σ' => (σ'.qv = σ.qv ∧ σ'.kv = σ.kv) ∧
    Rows σ' (fun r => if n = 0 then [] else if n = 1 then X.run 0 (base + r) [] 2048 else X.both (base + r))) ⟨⟨rfl, rfl⟩, hR⟩ ?_) ?_
  · rintro k v σ' ⟨⟨h1, h2⟩, hr⟩
    have hk := t3_lt k
    refine T_mono (t3_step (X := X) (base := base) hv31 hm hbase (fun h hh r hr => by rw [h1]; exact hqv h hh r hr) hS hKS
      (fun g hg k hk => by rw [h2]; exact hkv g hg k hk) hr (fun r => ?_)) ?_
    · split
      · exact Good.nil
      · split
        · exact Good.nil.run (le_refl _)
        · exact (Good.nil.run (le_refl _)).run (le_refl _)
    · rintro v' σ'' ⟨⟨h1', h2'⟩, hr'⟩
      refine ⟨⟨h1'.trans h1, h2'.trans h2⟩, ?_⟩
      obtain h0 | h0 : k.val = 0 ∨ k.val = 1 := by omega
      · rw [h0] at hr'; rw [h0]; exact hr'
      · rw [h0] at hr'; rw [h0]; exact hr'
  · rintro v σ' ⟨-, hr⟩
    rw [show Scf.trips k1_t3_loop.lb k1_t3_loop.ub k1_t3_loop.st = 2 from by decide +kernel] at hr
    exact hr

omit [E.On] in
theorem t14_loop (hv72 : v72 = iota .scVector S16 32 [0] iota_S16_d0_w32_scVector) (hR : Rows σ (fun r => X.both (base + r))) :
    T E σ (Scf.Loop.for k1_t14_loop k1_t14_ok ⟨⟩ (k1_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35 v72)) (fun _ σ' => ∀ r < 64, ∀ s < 64, σ'.lidx (ix2 r s) = X.out (base + r) s) := by
  refine T_mono (T_for _ _ _ _ _ _ (fun n _ σ' => ∃ f, σ' = { σ with lidx := f } ∧ (∀ r < n, r < 64 → ∀ s < 64, f (ix2 r s) = X.out (base + r) s) ∧
    ∀ r < 64, n ≤ r → ∀ s < 64, f (ix2 r s) = σ.lidx (ix2 r s)) ⟨_, rfl, fun r h => absurd h (Nat.not_lt_zero _), fun _ _ _ _ _ => rfl⟩ ?_) ?_
  · rintro k v σ' ⟨f, rfl, hd, hn⟩
    have hk : k.val < 64 := Nat.lt_of_lt_of_le k.isLt (by decide +kernel)
    have hG : Good (X.both (base + k.val)) := (Good.nil.run (le_refl _)).run (le_refl _)
    refine T_mono (t14_step (X := X) (base := base) hv72 ⟨(hR k.val hk).1, fun s p hp => ?_⟩ hG) ?_
    · obtain ⟨h1, h2⟩ := (hR k.val hk).2 s p hp
      refine ⟨h1, (hn k.val hk (le_refl _) s ?_).trans h2⟩
      have := (List.getElem?_eq_some_iff.1 hp).1
      have := hG.1
      omega
    · rintro v' σ'' ⟨f', rfl, hd', ho'⟩
      refine ⟨f', rfl, fun r hr h64 s hs => ?_, fun r h64 hr s hs => ?_⟩
      · by_cases he : r = k.val
        · subst he; exact hd' s hs
        · rw [ho' r h64 s hs he]; exact hd r (by omega) h64 s hs
      · rw [ho' r h64 s hs (by omega)]; exact hn r h64 (by omega) s hs
  · rintro v σ' ⟨f, rfl, hd, -⟩
    rw [show Scf.trips k1_t14_loop.lb k1_t14_loop.ub k1_t14_loop.st = 64 from by decide +kernel] at hd
    exact fun r hr s hs => hd r hr hr s hs

omit [E.On] in
theorem t1_loop : T E σ (Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v32)) (fun _ _ => True) := by
  refine T_mono (T_for _ _ _ _ _ _ (fun _ _ _ => True) trivial ?_) (fun _ _ _ => trivial)
  intro k v σ' _
  dsimp only [k1_t1_body]
  exact T_load (c_pres E) (T_store (c_pres E) (T_pure trivial))

omit [E.On] in
theorem t2_loop : T E σ (Scf.Loop.for k1_t2_loop k1_t2_ok ⟨⟩ (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v32)) (fun _ _ => True) := by
  refine T_mono (T_for _ _ _ _ _ _ (fun _ _ _ => True) trivial ?_) (fun _ _ _ => trivial)
  intro k v σ' _
  dsimp only [k1_t2_body]
  exact T_load (c_pres2 E) (T_store (c_pres2 E) (T_pure trivial))

end

end Cert.Proof.Join

end
-- ==== Proof.Tile1.lean ====
/-
  The first batch's half of a tile, loop by loop from the innermost.
-/
module

public import proofs.«01_k».proof.Proof.Rows

@[expose] public section

set_option pp.maxSteps 100

noncomputable section

namespace Cert.Proof.Join.Second

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}

/-- The first batch's buffers. -/
abbrev regs1 (arg3 : Memref sig .scVector .hbm S2x10x2048 .i32) (arg4 arg5 : Memref sig .scVector .hbm S2x2048x64 .f32)
    (arg7 : Memref sig .scVector .vmem S32768 .i32) (arg8 : Memref sig .scVector .vmem S16384 .i32) (arg9 : Memref sig .scVector .vmem S2x2048 .i32)
    (arg11 : Memref sig .scVector .vmem S10x128 .i32) (arg12 : Memref sig .scVector .vmem S8x128 .i32) (arg13 arg14 : Memref sig .scVector .vmem S1x64 .f32)
    (arg16 : Memref sig .scVector .vmem S64x64 .f32) (arg18 : Memref sig .scVector .vmem S64x64 .i32) (arg19 : Memref sig .scVector .vmem S64 .i32)
    (r0 r1 r2 : DmaSems sig S_) : Regs :=
  ⟨arg3, arg4, arg5, arg7, arg8, arg9, arg11, arg12, arg13, arg14, arg16, arg18, arg19, r0.sem, r1.sem, r2.sem⟩

variable {d : Dev nD} {E : Env F d ((i 0).castLE hcore1) ((i 1).castLE hsub1)
  (regs1 arg3 arg4 arg5 arg7 arg8 arg9 arg11 arg12 arg13 arg14 arg16 arg18 arg19 v293_r3 v653_r4 v653_r5)} {σ σ0 : Mem F}
  {row p e key : ℕ} {L : List (Cand F)} {sc : F .f32}

theorem t11_step (hv139 : v139 = BitVec.ofNat 32 row) (hrow : row < 64) (hv354 : v354 = BitVec.ofNat 32 L.length)
    (hv295 : v295 = BitVec.ofNat 32 key) (hkey : key < 2048) (hsc : k1_pay25 (F := F) v594 v599 v619 = sc)
    (hR : RowOK σ row L) (hG : Good L) (hp : arg34 = BitVec.ofNat 32 p) (hW : Walk (sc, key) L k1_t23.val p) :
    T E σ (k1_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v132 k1_h8 v139 v146 v151 v153 v160 v162 k1_h9 v212 k1_h10 v289 k1_h11 v295 v300 v308 v310 v319 v321 v331 v333 v343 v345 k1_h12 v354 v373 v392 v411 v430 k1_h13 v594 v599 v619 k1_t23 arg34)
      (fun v σ' => σ' = σ ∧ ∃ p', v = BitVec.ofNat 32 p' ∧ Walk (sc, key) L (k1_t23.val + 1) p') := by
  subst hv139 hv354 hv295 hp
  have hk : k1_t23.val < 64 := Nat.lt_of_lt_of_le k1_t23.isLt (by decide +kernel)
  have hpk := hW.1
  dsimp only [k1_t23_body]
  rw [show Scalar.minsi (BitVec.ofNat 32 p) 63#32 = BitVec.ofNat 32 p from (minsi_ofNat (b := 63) (by omega) (by omega)).trans (by rw [Nat.min_eq_left (by omega)])]
  refine T_assume (fun _ _ _ _ _ _ => inb2n _ _ hrow (by omega) (by decide) (by decide)) ?_
  refine T_ldx (c_lsc E) ?_
  refine T_assume (fun _ _ _ _ _ _ => inb2n _ _ hrow (by omega) (by decide) (by decide)) ?_
  refine T_ldx (c_lidx E) ?_
  rw [loadIdx_n2 _ (by omega) (by omega), loadIdx_n2 _ (by omega) (by omega)]
  refine T_pure ⟨rfl, ?_⟩
  rw [hsc]
  exact hW.next (fun _ => walk_cond hR hG hkey (by omega)) hk

theorem t12_step (hv139 : v139 = BitVec.ofNat 32 row) (hrow : row < 64) (hm : Lane0 v35) (he : e < 64) (hke : k1_t24.val < e)
    (hp : arg34 = BitVec.ofNat 32 (e - k1_t24.val))
    (hσ : σ = { σ0 with lsc := shiftRow σ0.lsc row (e - k1_t24.val) e, lidx := shiftRow σ0.lidx row (e - k1_t24.val) e }) :
    T E σ (k1_t24_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v35 v132 k1_h8 v139 v146 v151 v153 v160 v162 k1_h9 v212 k1_h10 v289 k1_h11 v300 v308 v310 v319 v321 v331 v333 v343 v345 k1_h12 v354 v373 v392 v411 v430 k1_h13 v649 k1_hw58 k1_h14 k1_t24 arg34)
      (fun v σ' => v = BitVec.ofNat 32 (e - (k1_t24.val + 1)) ∧
        σ' = { σ0 with lsc := shiftRow σ0.lsc row (e - (k1_t24.val + 1)) e, lidx := shiftRow σ0.lidx row (e - (k1_t24.val + 1)) e }) := by
  subst hv139 hp
  have hsub : Scalar.subi (BitVec.ofNat 32 (e - k1_t24.val)) 1#32 = BitVec.ofNat 32 (e - k1_t24.val - 1) := subi_ofNat (b := 1) (by omega) (by omega)
  dsimp only [k1_t24_body]
  rw [hsub]
  refine T_assume (fun _ _ _ _ _ _ _ => inb2n _ _ hrow (by omega) (by decide) (by decide)) ?_
  refine T_ldx (c_lsc E) ?_
  refine T_assume (fun _ _ _ _ _ _ _ => inb2n _ _ hrow (by omega) (by decide) (by decide)) ?_
  refine T_stx (c_lsc E) ?_
  refine T_assume (fun _ _ _ _ _ _ _ => inb2n _ _ hrow (by omega) (by decide) (by decide)) ?_
  refine T_ldx (c_lidx E) ?_
  refine T_assume (fun _ _ _ _ _ _ _ => inb2n _ _ hrow (by omega) (by decide) (by decide)) ?_
  refine T_stx (c_lidx E) ?_
  refine T_pure ⟨by rw [Nat.sub_sub], ?_⟩
  rw [store_n2 _ (by omega) (by omega) _ _ hm, store_n2 _ (by omega) (by omega) _ _ hm, loadIdx_n2 _ (by omega) (by omega), loadIdx_n2 _ (by omega) (by omega)]
  subst hσ
  rw [← Nat.sub_sub, ← shiftRow_step σ0.lsc hrow (by omega) (by omega) he, ← shiftRow_step σ0.lidx hrow (by omega) (by omega) he]
  rfl

/-! ### One key -/

theorem pay128_eq {n : ℕ} (hn : n ≤ 64) : k1_pay34 (BitVec.ofNat 32 n) (ix1 0) = BitVec.ofNat 32 (min (n + 1) 64) := by
  have h : ∀ m : Fin 65, k1_pay34 (BitVec.ofNat 32 m.val) (ix1 0) = BitVec.ofNat 32 (min (m.val + 1) 64) := by decide +kernel
  exact h ⟨n, by omega⟩

theorem t12_loop_eq {n p : ℕ} (hn : n ≤ 64) (hp : p ≤ min n 63) :
    (k1_t24_loop (BitVec.ofNat 32 n) (BitVec.ofNat 32 p)).trips = min n 63 - p ∧ (k1_t25_loop (BitVec.ofNat 32 n) (BitVec.ofNat 32 p)).trips = 0 := by
  have h1 : ∀ m : Fin 64, Scf.trips 0#32 (Scalar.addi 0#32 (Scalar.muli (Scalar.divsi (Scalar.subi (BitVec.ofNat 32 m.val) 0#32) 1#32) 1#32)) 1#32 = m.val := by
    decide +kernel
  have h2 : ∀ m : Fin 64, Scf.trips (Scalar.addi 0#32 (Scalar.muli (Scalar.divsi (Scalar.subi (BitVec.ofNat 32 m.val) 0#32) 1#32) 1#32))
      (Scalar.addi 0#32 (Scalar.subi (BitVec.ofNat 32 m.val) 0#32)) 1#32 = 0 := by
    decide +kernel
  have hm : Scalar.subi (Scalar.minsi (BitVec.ofNat 32 n) 63#32) (BitVec.ofNat 32 p) = BitVec.ofNat 32 (min n 63 - p) := by
    rw [show Scalar.minsi (BitVec.ofNat 32 n) 63#32 = BitVec.ofNat 32 (min n 63) from minsi_ofNat (b := 63) (by omega) (by omega)]
    exact subi_ofNat hp (by omega)
  constructor
  · show Scf.trips 0#32 (Scalar.addi 0#32 (Scalar.muli (Scalar.divsi (Scalar.subi (Scalar.subi (Scalar.minsi (BitVec.ofNat 32 n) 63#32) (BitVec.ofNat 32 p)) 0#32) 1#32) 1#32)) 1#32 = _
    rw [hm]; exact h1 ⟨min n 63 - p, by omega⟩
  · show Scf.trips (Scalar.addi 0#32 (Scalar.muli (Scalar.divsi (Scalar.subi (Scalar.subi (Scalar.minsi (BitVec.ofNat 32 n) 63#32) (BitVec.ofNat 32 p)) 0#32) 1#32) 1#32))
      (Scalar.addi 0#32 (Scalar.subi (Scalar.subi (Scalar.minsi (BitVec.ofNat 32 n) 63#32) (BitVec.ofNat 32 p)) 0#32)) 1#32 = _
    rw [hm]; exact h2 ⟨min n 63 - p, by omega⟩

theorem cond5_iff : k1_cond12 v146 v300 v308 v310 v319 v321 v331 v333 v343 v345 = 1#1
    ↔ v300 = v146 ∧ (((v308 = v310 ∨ v319 = v321) ∨ v331 = v333) ∨ v343 = v345) := by
  show IntOp.cmpi .ne ((IntOp.andi (IntOp.cmpi .eq v300 v146) (IntOp.ori (IntOp.ori (IntOp.ori (IntOp.cmpi .eq v308 v310) (IntOp.cmpi .eq v319 v321))
    (IntOp.cmpi .eq v331 v333)) (IntOp.cmpi .eq v343 v345))).setWidth 32) 0#32 = 1#1 ↔ _
  rw [ext_ne, andi1, ori1, ori1, ori1, cmpi_eq_iff, cmpi_eq_iff, cmpi_eq_iff, cmpi_eq_iff, cmpi_eq_iff]

theorem cond7_iff (hp : p ≤ 64) : k1_cond14 (BitVec.ofNat 32 p) = 1#1 ↔ p < 64 := by
  have h : ∀ m : Fin 65, k1_cond14 (BitVec.ofNat 32 m.val) = 1#1 ↔ m.val < 64 := by decide +kernel
  exact h ⟨p, by omega⟩

theorem chk23_ok : k1_chk58 v132 v146 v151 v153 v160 v162 v212 v289 v300 v308 v310 v319 v321 v331 v333 v343 v345 v354 v373 v392 v411 v430 v649 := by
  unfold k1_chk58
  exact ⟨fun _ _ _ _ _ _ _ => (k1_t12_abs _ _).1, fun _ _ _ _ _ _ _ => (k1_t13_abs _ _).1⟩

theorem off17_eq {s : ℕ} (hs : s < 128) : ∀ t : Fin k1_t22_loop.trips, k1_off36 (BitVec.ofNat 32 s) t = ![1, 16 * s + t.val, 0] := by
  have h : ∀ (s : Fin 128) (t : Fin k1_t22_loop.trips), k1_off36 (BitVec.ofNat 32 s.val) t = ![1, 16 * s.val + t.val, 0] := by decide +kernel
  exact fun t => h ⟨s, hs⟩ t

theorem off17_inb {s : ℕ} (hs : s < 128) : ∀ t : Fin k1_t22_loop.trips, ∀ a, k1_off36 (BitVec.ofNat 32 s) t a + S1x1x64.size a ≤ S2x2048x64.size a := by
  have h : ∀ (s : Fin 128) (t : Fin k1_t22_loop.trips), ∀ a, k1_off36 (BitVec.ofNat 32 s.val) t a + S1x1x64.size a ≤ S2x2048x64.size a := by decide +kernel
  exact fun t => h ⟨s, hs⟩ t

theorem cond6_iff {p0 p1 p2 p3 : Prop} (h0 : IsBit v373 p0) (h1 : IsBit v392 p1) (h2 : IsBit v411 p2) (h3 : IsBit v430 p3) :
    k1_cond13 v373 v392 v411 v430 = 1#1 ↔ ¬ (p0 ∨ p1 ∨ p2 ∨ p3) := or_four h0 h1 h2 h3

variable [E.On]

set_option maxHeartbeats 1000000 in
theorem t10_step {X : Prob F} {g s : ℕ} (hg : g < 2) (harg23 : arg23 = BitVec.ofNat 32 g) (hs : s < 128) (hv212 : v212 = BitVec.ofNat 32 s)
    (hv219 : v219 = BitVec.ofNat 32 (16 * s)) (hv249 : v249 = BitVec.ofNat 32 (16 * (s % 8)))
    (hrow : row = 16 * k1_t17.val + k1_t18.val) (hrow64 : row < 64) (hv139 : v139 = BitVec.ofNat 32 row) {q : ℕ}
    (hq : q = 128 * (i 1).val + 64 * (i 0).val + row) (hm : Lane0 v35)
    (hv146 : v146 = X.Q (8 + g) q) (hv173 : v173 = fun _ => X.Q (4 * g) q) (hv182 : v182 = fun _ => X.Q (4 * g + 1) q)
    (hv191 : v191 = fun _ => X.Q (4 * g + 2) q) (hv200 : v200 = fun _ => X.Q (4 * g + 3) q)
    (hS : ∀ k < 2048, (dot fun l => FloatOps.mulf (E.QT (ix3 1 q l)) (E.KT (ix3 1 k l))) = X.sc q k)
    (hkv : ∀ k < 2048, σ.kv (ix2 g k) = X.K (8 + g) k) (hkhw : ∀ h < 8, ∀ c < 128, σ.khw (ix2 h c) = X.K h (128 * (s / 8) + c))
    (hR : RowOK σ row L) (hG : Good L) :
    T E σ (k1_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v35 arg23 k1_t17 v132 k1_h8 k1_t18 v139 v146 v151 v153 v160 v162 k1_h9 v173 v182 v191 v200 v212 k1_h10 v219 v249 v289 k1_h11 k1_t22 arg32)
      (fun _ σ' => Keep row σ σ' ∧ σ'.khw = σ.khw ∧ RowOK σ' row (X.step g q L (16 * s + k1_t22.val))) := by
  have hk : k1_t22.val < 16 := Nat.lt_of_lt_of_le k1_t22.isLt (by decide +kernel)
  have hlen := hG.1
  subst harg23 hv212 hv219 hv249 hv139 hv146 hv173 hv182 hv191 hv200
  generalize hkey : 16 * s + k1_t22.val = key
  have hkey2 : key < 2048 := by omega
  have hiv : Scf.iv 0#32 1#32 k1_t22 = BitVec.ofNat 32 k1_t22.val := by
    unfold Scf.iv; rw [BitVec.mul_one, BitVec.zero_add]
  have e295 : Scalar.addi (BitVec.ofNat 32 (16 * s)) (Scf.iv 0#32 1#32 k1_t22) = BitVec.ofNat 32 key := by rw [hiv, ← hkey]; exact addi_ofNat _ _
  have ecol : Scalar.addi (BitVec.ofNat 32 (16 * (s % 8))) (Scf.iv 0#32 1#32 k1_t22) = BitVec.ofNat 32 (16 * (s % 8) + k1_t22.val) := by
    rw [hiv]; exact addi_ofNat _ _
  have eh : Scalar.muli 4#32 (BitVec.ofNat 32 g) = BitVec.ofNat 32 (4 * g) := muli_ofNat 4 g
  have eh1 : Scalar.addi (BitVec.ofNat 32 (4 * g)) 1#32 = BitVec.ofNat 32 (4 * g + 1) := addi_ofNat _ 1
  have eh2 : Scalar.addi (BitVec.ofNat 32 (4 * g)) 2#32 = BitVec.ofNat 32 (4 * g + 2) := addi_ofNat _ 2
  have eh3 : Scalar.addi (BitVec.ofNat 32 (4 * g)) 3#32 = BitVec.ofNat 32 (4 * g + 3) := addi_ofNat _ 3
  have hcol : 128 * (s / 8) + (16 * (s % 8) + k1_t22.val) = key := by omega
  dsimp only [k1_t22_body]
  simp only [k1_part15_eq_skeleton, k1_part15_skel, bind_assoc, pure_bind]
  rw [e295, ecol, eh, eh1, eh2, eh3]
  refine T_assume (fun _ _ _ _ => inb2n _ _ hg (by omega) (by decide) (by decide)) ?_
  refine T_ldx (c_kv E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  refine T_assume (fun _ _ _ _ => inb2n _ _ (by omega) (by omega) (by decide) (by decide)) ?_
  refine T_ldx (c_khw E) ?_
  rw [loadIdx_n2 _ (a := g) (b := key) (by omega) (by omega), loadIdx_n2 _ (a := 4 * g) (b := 16 * (s % 8) + k1_t22.val) (by omega) (by omega),
    loadIdx_n2 _ (a := 4 * g + 1) (b := 16 * (s % 8) + k1_t22.val) (by omega) (by omega),
    loadIdx_n2 _ (a := 4 * g + 2) (b := 16 * (s % 8) + k1_t22.val) (by omega) (by omega),
    loadIdx_n2 _ (a := 4 * g + 3) (b := 16 * (s % 8) + k1_t22.val) (by omega) (by omega)]
  rw [show (c_kv E).get σ (ix2 g key) = X.K (8 + g) key from hkv key hkey2,
    show (c_khw E).get σ (ix2 (4 * g) (16 * (s % 8) + k1_t22.val)) = X.K (4 * g) key from hcol ▸ hkhw _ (by omega) _ (by omega),
    show (c_khw E).get σ (ix2 (4 * g + 1) (16 * (s % 8) + k1_t22.val)) = X.K (4 * g + 1) key from hcol ▸ hkhw _ (by omega) _ (by omega),
    show (c_khw E).get σ (ix2 (4 * g + 2) (16 * (s % 8) + k1_t22.val)) = X.K (4 * g + 2) key from hcol ▸ hkhw _ (by omega) _ (by omega),
    show (c_khw E).get σ (ix2 (4 * g + 3) (16 * (s % 8) + k1_t22.val)) = X.K (4 * g + 3) key from hcol ▸ hkhw _ (by omega) _ (by omega)]
  refine T_dite (fun h5 => ?_) fun h5 => ?_
  rotate_left
  · have hmt : ¬ X.mt g q key := fun hm => h5 (cond5_iff.2 hm)
    refine T_pure ⟨Keep.refl _ _, rfl, ?_⟩
    unfold Prob.step
    rw [if_neg hmt]; exact hR
  have hmt : X.mt g q key := cond5_iff.1 h5
  have hstep : X.step g q L key = if key ∈ L.map Prod.snd then L else insL (X.sc q key, key) L := by
    unfold Prob.step; rw [if_pos hmt]
  rw [hstep]
  simp only [k1_part14_eq_skeleton, k1_part14_skel, bind_assoc, pure_bind]
  refine T_assume (fun _ _ _ _ _ => inb1n _ hrow64 (by decide)) ?_
  refine T_ldx (c_lcnt E) ?_
  rw [loadIdx_n1 _ (a := row) (by omega), show (c_lcnt E).get σ (ix1 row) = BitVec.ofNat 32 L.length from hR.1,
    show extractAt ![0] (k1_pay79 (F := F) (fun _ => BitVec.ofNat 32 L.length)) inpos_S1_p0 = BitVec.ofNat 32 L.length from rfl]
  refine T_load (c_lidx E) ?_
  refine T_load (c_lidx E) ?_
  refine T_load (c_lidx E) ?_
  refine T_load (c_lidx E) ?_
  refine T_assume (fun _ _ _ _ _ _ => off17_inb hs k1_t22) ?_
  have hc6 := cond6_iff
    (dup_word σ.lidx (k1_off32 k1_t17 k1_t18) (k1_off32_inb k1_t17 k1_t18) iota_S16_d0_w32_scVector row 0 L.length key
      (by rw [k1_off32_eq, hrow]) (by omega) hlen inpos_S16_p15)
    (dup_word σ.lidx (k1_off33 k1_t17 k1_t18) (k1_off33_inb k1_t17 k1_t18) iota_S16_d0_w32_scVector row 16 L.length key
      (by rw [k1_off33_eq, hrow]) (by omega) hlen inpos_S16_p15)
    (dup_word σ.lidx (k1_off34 k1_t17 k1_t18) (k1_off34_inb k1_t17 k1_t18) iota_S16_d0_w32_scVector row 32 L.length key
      (by rw [k1_off34_eq, hrow]) (by omega) hlen inpos_S16_p15)
    (dup_word σ.lidx (k1_off35 k1_t17 k1_t18) (k1_off35_inb k1_t17 k1_t18) iota_S16_d0_w32_scVector row 48 L.length key
      (by rw [k1_off35_eq, hrow]) (by omega) hlen inpos_S16_p15)
  rw [dup_iff hR hG hkey2] at hc6
  refine T_dite (fun h6 => ?_) fun h6 => ?_
  rotate_left
  · have hdup : key ∈ L.map Prod.snd := by
      by_contra hnd
      exact h6 (hc6.2 hnd)
    refine T_pure ⟨Keep.refl _ _, rfl, ?_⟩
    rw [if_pos hdup]; exact hR
  have hnd : ¬ key ∈ L.map Prod.snd := hc6.1 h6
  rw [if_neg hnd]
  clear hc6
  simp only [k1_part10_eq_skeleton, k1_part10_skel, k1_part11_eq_skeleton, k1_part11_skel, k1_part12_eq_skeleton, k1_part12_skel, k1_part13_eq_skeleton,
    k1_part13_skel, bind_assoc, pure_bind]
  refine T_copy (copy_krow E) (by decide) ?_
  refine T_copy (copy_qrow E) (by decide) ?_
  refine T_load (c_qrow E) ?_
  refine T_load (c_krow E) ?_
  refine T_load (c_qrow E) ?_
  refine T_load (c_krow E) ?_
  refine T_load (c_qrow E) ?_
  refine T_load (c_krow E) ?_
  refine T_load (c_qrow E) ?_
  refine T_load (c_krow E) ?_
  dsimp only [c_qrow, c_krow]
  generalize hσ2 : (copy_qrow E).set ((copy_krow E).set σ _) _ = σ2
  have hqr : ∀ l < 64, σ2.qrow (ix2 0 l) = E.QT (ix3 1 q l) := by
    intro l hl
    rw [← hσ2]
    refine (read_plane arg4 (k1_off37 i k1_t17 k1_t18) (k1_off37_inb i k1_t17 k1_t18) (fun _ => rfl) squeezes_S1x1x64_S1x64 E.r4 _).trans ?_
    rw [k1_off37_eq, ix2_val0 (by omega), ix2_val1 hl]
    refine congrArg E.QT ?_
    rw [show (![1, 128 * (i 1).val + 64 * (i 0).val + 16 * k1_t17.val + k1_t18.val, 0] : Fin 3 → ℕ) 0 = 1 from rfl,
      show (![1, 128 * (i 1).val + 64 * (i 0).val + 16 * k1_t17.val + k1_t18.val, 0] : Fin 3 → ℕ) 1 + 0 = q by
        show 128 * (i 1).val + 64 * (i 0).val + 16 * k1_t17.val + k1_t18.val + 0 = q; omega,
      show (![1, 128 * (i 1).val + 64 * (i 0).val + 16 * k1_t17.val + k1_t18.val, 0] : Fin 3 → ℕ) 2 + l = l by show 0 + l = l; omega]
  have hkr : ∀ l < 64, σ2.krow (ix2 0 l) = E.KT (ix3 1 key l) := by
    intro l hl
    rw [← hσ2]
    refine (read_plane arg5 (k1_off36 (BitVec.ofNat 32 s) k1_t22) (off17_inb hs k1_t22) (fun _ => rfl) squeezes_S1x1x64_S1x64 E.r5 _).trans ?_
    rw [off17_eq hs, ix2_val0 (by omega), ix2_val1 hl]
    refine congrArg E.KT ?_
    rw [show (![1, 16 * s + k1_t22.val, 0] : Fin 3 → ℕ) 0 = 1 from rfl,
      show (![1, 16 * s + k1_t22.val, 0] : Fin 3 → ℕ) 1 + 0 = key from hkey,
      show (![1, 16 * s + k1_t22.val, 0] : Fin 3 → ℕ) 2 + l = l by show 0 + l = l; omega]
  have hsc := (score_pay _ _ _ _ _ _ _ _ (fun l => FloatOps.mulf (E.QT (ix3 1 q l)) (E.KT (ix3 1 key l)))
    (mul_lane σ2.qrow σ2.krow 0 inb_S1x64_S1x16_0_0 _ _ hqr hkr (by omega)) (mul_lane σ2.qrow σ2.krow 16 inb_S1x64_S1x16_0_16 _ _ hqr hkr (by omega))
    (mul_lane σ2.qrow σ2.krow 32 inb_S1x64_S1x16_0_32 _ _ hqr hkr (by omega)) (mul_lane σ2.qrow σ2.krow 48 inb_S1x64_S1x16_0_48 _ _ hqr hkr (by omega))).trans
    (hS key hkey2)
  have hK2 : Keep row σ σ2 := by rw [← hσ2]; exact ⟨rfl, rfl, rfl, rfl, fun _ _ _ _ _ h => h⟩
  have hkhw2 : σ2.khw = σ.khw := by rw [← hσ2]; rfl
  have hR2 : RowOK σ2 row L := by rw [← hσ2]; exact hR
  refine T_bind (T_for _ _ _ _ _ _ (fun k v σ' => σ' = σ2 ∧ ∃ p, v = BitVec.ofNat 32 p ∧ Walk (X.sc q key, key) L k p)
    ⟨rfl, 0, rfl, Walk.zero _ _⟩ ?_) ?_
  · rintro k v σ' ⟨rfl, p, rfl, hW⟩
    refine t11_step rfl hrow64 rfl rfl hkey2 ?_ hR2 hG rfl hW
    exact hsc
  rintro v σ' ⟨hσ', p, rfl, hW⟩
  rw [hσ']
  have htr : k1_t23_loop.trips = 64 := by decide +kernel
  rw [show Scf.trips k1_t23_loop.lb k1_t23_loop.ub k1_t23_loop.st = 64 from htr] at hW
  have hpos : pos (X.sc q key, key) L = p := hW.pos hG.1
  have hp64 : p ≤ 64 := hpos ▸ (pos_le _ _).trans hG.1
  have hpl : p ≤ L.length := hpos ▸ pos_le _ _
  refine T_assume chk23_ok ?_
  refine T_dite (fun h7 => ?_) (fun h7 => ?_)
  swap
  · refine T_pure ⟨hK2, hkhw2, ?_⟩
    rw [insL_full hG.1 (by rw [hpos]; by_contra hh; exact h7 ((cond7_iff hp64).2 (by omega)))]
    exact hR2
  have hp : p < 64 := (cond7_iff hp64).1 h7
  rw [show Scalar.minsi (BitVec.ofNat 32 L.length) 63#32 = BitVec.ofNat 32 (min L.length 63) from minsi_ofNat (b := 63) (by omega) (by omega)]
  obtain ⟨htr12, htr13⟩ := t12_loop_eq (n := L.length) (p := p) hG.1 (by omega)
  refine T_bind (T_for _ _ _ _ _ _ (fun k v σ' => v = BitVec.ofNat 32 (min L.length 63 - k) ∧
      σ' = { σ2 with lsc := shiftRow σ2.lsc row (min L.length 63 - k) (min L.length 63), lidx := shiftRow σ2.lidx row (min L.length 63 - k) (min L.length 63) })
    ⟨rfl, by rw [Nat.sub_zero, shiftRow_self, shiftRow_self]⟩ ?_) ?_
  · rintro k v σ' ⟨hv, hσ⟩
    have hk : k.val < min L.length 63 - p := htr12 ▸ k.isLt
    exact t12_step rfl hrow64 hm (by omega) (by omega) hv hσ
  rintro v σ' ⟨hv, hσ⟩
  rw [show Scf.trips (k1_t24_loop (BitVec.ofNat 32 L.length) (BitVec.ofNat 32 p)).lb (k1_t24_loop (BitVec.ofNat 32 L.length) (BitVec.ofNat 32 p)).ub
    (k1_t24_loop (BitVec.ofNat 32 L.length) (BitVec.ofNat 32 p)).st = min L.length 63 - p from htr12, show min L.length 63 - (min L.length 63 - p) = p by omega] at hv hσ
  subst hσ
  refine T_bind (T_for _ _ _ _ _ _ (fun _ _ σ' => σ' = { σ2 with lsc := shiftRow σ2.lsc row p (min L.length 63), lidx := shiftRow σ2.lidx row p (min L.length 63) }) rfl ?_) ?_
  · rintro k v σ' _
    exact absurd (lt_of_lt_of_eq k.isLt htr13) (Nat.not_lt_zero _)
  rintro v σ' rfl
  refine T_assume (fun _ _ _ _ _ _ _ => inb2n _ _ hrow64 hp (by decide) (by decide)) ?_
  refine T_stx (c_lsc E) ?_
  refine T_assume (fun _ _ _ _ _ _ _ => inb2n _ _ hrow64 hp (by decide) (by decide)) ?_
  refine T_stx (c_lidx E) ?_
  refine T_assume (fun _ _ _ _ _ _ _ => inb1n _ hrow64 (by decide)) ?_
  refine T_stx (c_lcnt E) ?_
  refine T_pure ?_
  rw [store_n2 _ (by omega) (by omega) _ _ hm, store_n2 _ (by omega) (by omega) _ _ hm, store_n1 _ (by omega) _ _ hm]
  have hfin : ∀ σ'' : Mem F, σ'' = insMem σ2 row p L.length (X.sc q key, key) → Keep row σ σ'' ∧ σ''.khw = σ.khw ∧ RowOK σ'' row (insL (X.sc q key, key) L) := by
    rintro _ rfl
    refine ⟨hK2.trans ⟨rfl, rfl, rfl, rfl, fun r' L' hr' hne hG' hR' => insMem_other hR' hG' hrow64 hr' hp hne⟩, hkhw2, ?_⟩
    have := insMem_row (x := (X.sc q key, key)) hR2 hG hrow64 (by rw [hpos]; exact hp)
    rwa [hpos] at this
  refine hfin _ ?_
  rw [pay128_eq hG.1]
  unfold insMem
  rw [← hsc]
  rfl

end

end Cert.Proof.Join.Second

end
-- ==== Proof.Half1.lean ====
/-
  The first batch's half of a tile: the search over chunks, the queries of a group, the two groups, the masking.
-/
module

public import proofs.«01_k».proof.Proof.Tile1
public import proofs.«01_k».proof.Proof.Steps

@[expose] public section

set_option pp.maxSteps 100

noncomputable section

namespace Cert.Proof.Join.Second

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}
variable {d : Dev nD} {E : Env F d ((i 0).castLE hcore1) ((i 1).castLE hsub1)
  (regs1 arg3 arg4 arg5 arg7 arg8 arg9 arg11 arg12 arg13 arg14 arg16 arg18 arg19 v293_r3 v653_r4 v653_r5)} {σ σ0 : Mem F}
  {X : Prob F} {row a q m : ℕ} {L : List (Cand F)} {Ls : ℕ → List (Cand F)} {w ep : BitVec 32}
variable [E.On]

/-! ### The search -/

theorem t8_facts {a : ℕ} (ha : a ≤ 128) : (k1_t20_loop (BitVec.ofNat 32 a)).OK ∧ (k1_t20_loop (BitVec.ofNat 32 a)).trips = 128 - a
    ∧ (k1_t21_loop (BitVec.ofNat 32 a)).OK ∧ (k1_t21_loop (BitVec.ofNat 32 a)).trips = 0 := by
  have h : ∀ m : Fin 129, (k1_t20_loop (BitVec.ofNat 32 m.val)).OK ∧ (k1_t20_loop (BitVec.ofNat 32 m.val)).trips = 128 - m.val
    ∧ (k1_t21_loop (BitVec.ofNat 32 m.val)).OK ∧ (k1_t21_loop (BitVec.ofNat 32 m.val)).trips = 0 := by decide +kernel
  exact h ⟨a, by omega⟩

theorem off7_eq {a : ℕ} (k1_t15 : Fin k1_t15_loop.trips) (k : Fin (k1_t20_loop (BitVec.ofNat 32 a)).trips) (hk : a + k.val < 128) :
    k1_off26 k1_t15 (BitVec.ofNat 32 a) k = ![k1_t15.val, 16 * (a + k.val)] := by
  have h : ∀ (t : Fin k1_t15_loop.trips) (m : Fin 128), (![(Scalar.indexCast (Scf.iv 0#32 1#32 t)).toNat,
    (Scalar.indexCast (Scalar.muli (BitVec.ofNat 32 m.val) 16#32)).toNat] : Fin 2 → ℕ) = ![t.val, 16 * m.val] := by decide +kernel
  show (![(Scalar.indexCast (Scf.iv 0#32 1#32 k1_t15)).toNat, (Scalar.indexCast (Scalar.muli (Scf.iv (BitVec.ofNat 32 a) 1#32 k) 16#32)).toNat] : Fin 2 → ℕ) = _
  rw [iv_ofNat a]
  exact h k1_t15 ⟨a + k.val, hk⟩

theorem t3_lt (k1_t15 : Fin k1_t15_loop.trips) : k1_t15.val < 2 := Nat.lt_of_lt_of_le k1_t15.isLt (by decide +kernel)

theorem chk12_ok {a : ℕ} (ha : a ≤ 128) (k1_t15 : Fin k1_t15_loop.trips) : k1_chk47 k1_t15 v132 v151 v153 v160 v162 (BitVec.ofNat 32 a) := by
  obtain ⟨h1, h2, h3, h4⟩ := t8_facts ha
  have h3' := t3_lt k1_t15
  refine ⟨fun _ _ => h1, fun k _ _ x => ?_, fun _ _ => h3, fun k => absurd (lt_of_lt_of_eq k.isLt h4) (Nat.not_lt_zero _)⟩
  have hk : k.val < 128 - a := lt_of_lt_of_eq k.isLt h2
  rw [off7_eq k1_t15 k (by omega)]
  fin_cases x
  · show k1_t15.val + 1 ≤ 2; omega
  · show 16 * (a + k.val) + 16 ≤ 2048; omega

theorem t8_step (h30 : arg30 = BitVec.ofNat 32 a) (ha : a ≤ 128) (h144 : v144 = fun _ => w) (hm : arg32 = BitVec.ofNat 32 m)
    (hno : Seek σ.kv k1_t15.val w a k1_t20.val m) :
    T E σ (k1_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 k1_t15 v132 k1_h8 v144 v151 v153 v160 v162 k1_h9 arg30 k1_hw47 k1_t20 arg32) (fun v σ' => σ' = σ ∧ ∃ m', v = BitVec.ofNat 32 m' ∧ Seek σ.kv k1_t15.val w a (k1_t20.val + 1) m') := by
  subst h30 h144 hm
  have hk : k1_t20.val < 128 - a := lt_of_lt_of_eq k1_t20.isLt (t8_facts ha).2.1
  dsimp only [k1_t20_body]
  refine T_load (c_kv E) ?_
  refine T_pure ⟨rfl, ?_⟩
  rw [iv_ofNat]
  have hin : ∀ x, k1_off26 k1_t15 (BitVec.ofNat 32 a) k1_t20 x + S1x16.size x ≤ S2x2048.size x := k1_hw47.2.1 k1_t20 k1_h8 k1_h9
  refine hno.next (M := cmpi .eq (shapeCast S16 (fun x => σ.kv ((Rect.unit (s := S2x2048) (k1_off26 k1_t15 (BitVec.ofNat 32 a) k1_t20) S1x16.size
      hin).emb x)) shapeCasts_S1x16_S16) (broadcast S16 w)) (by omega) (fun l hl => ?_) (bit_any _ _)
  show IntOp.cmpi .eq (shapeCast S16 _ shapeCasts_S1x16_S16 (ix1 l)) w = 1#1 ↔ _
  rw [row16 σ.kv _ hin _ hl, cmpi_eq_iff, off7_eq k1_t15 k1_t20 (by omega)]
  rfl

theorem cond3_iff {m : ℕ} (hm : m ≤ 128) : k1_cond10 (BitVec.ofNat 32 m) = 1#1 ↔ m < 128 := by
  have h : ∀ m : Fin 129, k1_cond10 (BitVec.ofNat 32 m.val) = 1#1 ↔ m.val < 128 := by decide +kernel
  exact h ⟨m, by omega⟩

theorem off9_eq {m : ℕ} (hm : m < 128) : k1_off28 (BitVec.ofNat 32 m) = ![1, 0, 128 * (m / 8)] := by
  have h : ∀ m : Fin 128, k1_off28 (BitVec.ofNat 32 m.val) = ![1, 0, 128 * (m.val / 8)] := by decide +kernel
  exact h ⟨m, hm⟩

theorem off10_eq {m : ℕ} (hm : m < 128) (k1_t15 : Fin k1_t15_loop.trips) : k1_off29 k1_t15 (BitVec.ofNat 32 m) = ![k1_t15.val, 16 * m] := by
  have h : ∀ (m : Fin 128) (t : Fin k1_t15_loop.trips), k1_off29 t (BitVec.ofNat 32 m.val) = ![t.val, 16 * m.val] := by decide +kernel
  exact h ⟨m, hm⟩ k1_t15

theorem off11_eq {m : ℕ} (hm : m < 128) (k1_t15 : Fin k1_t15_loop.trips) : k1_off30 k1_t15 (BitVec.ofNat 32 m) = ![4 * k1_t15.val, 16 * (m % 8)] := by
  have h : ∀ (m : Fin 128) (t : Fin k1_t15_loop.trips), k1_off30 t (BitVec.ofNat 32 m.val) = ![4 * t.val, 16 * (m.val % 8)] := by decide +kernel
  exact h ⟨m, hm⟩ k1_t15

theorem off12_eq {m : ℕ} (hm : m < 128) (k1_t15 : Fin k1_t15_loop.trips) {c : ℕ} (hc : c < 4) :
    k1_off31 k1_t15 (BitVec.ofNat 32 m) (BitVec.ofNat 32 c) = ![4 * k1_t15.val + c, 16 * (m % 8)] := by
  have h : ∀ (m : Fin 128) (t : Fin k1_t15_loop.trips) (c : Fin 4), k1_off31 t (BitVec.ofNat 32 m.val) (BitVec.ofNat 32 c.val) = ![4 * t.val + c.val, 16 * (m.val % 8)] := by
    decide +kernel
  exact h ⟨m, hm⟩ k1_t15 ⟨c, hc⟩

theorem chk13_ok {m : ℕ} (hm : m ≤ 128) (k1_t15 : Fin k1_t15_loop.trips) : k1_chk48 k1_t15 v132 v151 v153 v160 v162 (BitVec.ofNat 32 m) := by
  have h3' := t3_lt k1_t15
  have hdv : ∀ m : Fin 128, 128 ∣ (k1_mult1 (BitVec.ofNat 32 m.val)).toNat := by decide +kernel
  refine ⟨fun _ _ h => hdv ⟨m, (cond3_iff hm).1 h⟩, fun _ _ h x => ?_, fun _ _ h x => ?_, fun _ _ h x => ?_, fun _ _ h r x => ?_⟩ <;>
    have hm' := (cond3_iff hm).1 h
  · rw [off9_eq hm']; fin_cases x
    · show 1 + 1 ≤ 2; omega
    · show 0 + 8 ≤ 10; omega
    · show 128 * (m / 8) + 128 ≤ 2048; omega
  · rw [off10_eq hm']; fin_cases x
    · show k1_t15.val + 1 ≤ 2; omega
    · show 16 * m + 16 ≤ 2048; omega
  · rw [off11_eq hm']; fin_cases x
    · show 4 * k1_t15.val + 1 ≤ 8; omega
    · show 16 * (m % 8) + 16 ≤ 128; omega
  · rw [off12_eq hm' k1_t15 (c := 1 + r.val) (by omega)]; fin_cases x
    · show 4 * k1_t15.val + (1 + r.val) + 1 ≤ 8; omega
    · show 16 * (m % 8) + 16 ≤ 128; omega

/-- The column of a chunk inside its block of 128 keys. -/
theorem v249_eq {m : ℕ} (hm : m < 128) :
    Scalar.muli (Scalar.select (Scalar.andi (Scalar.xori (Scalar.cmpi .slt (Scalar.remsi (BitVec.ofNat 32 m) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 m) (Scalar.select (Scalar.cmpi .eq 8#32 0#32) 1#32 8#32)) 0#32))
      (Scalar.addi (Scalar.remsi (BitVec.ofNat 32 m) (Scalar.select (Scalar.cmpi .eq 8#32 0#32) 1#32 8#32)) (Scalar.select (Scalar.cmpi .eq 8#32 0#32) 1#32 8#32))
      (Scalar.remsi (BitVec.ofNat 32 m) (Scalar.select (Scalar.cmpi .eq 8#32 0#32) 1#32 8#32))) 16#32 = BitVec.ofNat 32 (16 * (m % 8)) := by
  have h : ∀ m : Fin 128, Scalar.muli (Scalar.select (Scalar.andi (Scalar.xori (Scalar.cmpi .slt (Scalar.remsi (BitVec.ofNat 32 m.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 m.val) (Scalar.select (Scalar.cmpi .eq 8#32 0#32) 1#32 8#32)) 0#32))
      (Scalar.addi (Scalar.remsi (BitVec.ofNat 32 m.val) (Scalar.select (Scalar.cmpi .eq 8#32 0#32) 1#32 8#32)) (Scalar.select (Scalar.cmpi .eq 8#32 0#32) 1#32 8#32))
      (Scalar.remsi (BitVec.ofNat 32 m.val) (Scalar.select (Scalar.cmpi .eq 8#32 0#32) 1#32 8#32))) 16#32 = BitVec.ofNat 32 (16 * (m.val % 8)) := by decide +kernel
  exact h ⟨m, hm⟩

theorem v217_eq {m : ℕ} (hm : m ≤ 128) :
    Scalar.select (Scalar.cmpi .slt (BitVec.ofNat 32 m) 128#32) (Scalar.addi (BitVec.ofNat 32 m) 1#32) 128#32 = BitVec.ofNat 32 (min (m + 1) 128) := by
  have h : ∀ m : Fin 129, Scalar.select (Scalar.cmpi .slt (BitVec.ofNat 32 m.val) 128#32) (Scalar.addi (BitVec.ofNat 32 m.val) 1#32) 128#32 = BitVec.ofNat 32 (min (m.val + 1) 128) := by
    decide +kernel
  exact h ⟨m, by omega⟩

/-- The test whether a chunk holds a candidate. -/
theorem cond4_iff {s g q : ℕ} (a b c e f : Vec F S1x16 .i32) (ha : ∀ l < 16, shapeCast S16 a shapeCasts_S1x16_S16 (ix1 l) = X.K (8 + g) (16 * s + l))
    (hb : ∀ l < 16, shapeCast S16 b shapeCasts_S1x16_S16 (ix1 l) = X.K (4 * g) (16 * s + l))
    (hc : ∀ l < 16, shapeCast S16 c shapeCasts_S1x16_S16 (ix1 l) = X.K (4 * g + 1) (16 * s + l))
    (he : ∀ l < 16, shapeCast S16 e shapeCasts_S1x16_S16 (ix1 l) = X.K (4 * g + 2) (16 * s + l))
    (hf : ∀ l < 16, shapeCast S16 f shapeCasts_S1x16_S16 (ix1 l) = X.K (4 * g + 3) (16 * s + l)) :
    k1_cond11 (extractAt ![15] (k1_pay89 (F := F) (broadcast S16 (X.Q (8 + g) q)) (broadcast S16 (X.Q (4 * g) q)) (broadcast S16 (X.Q (4 * g + 1) q))
      (broadcast S16 (X.Q (4 * g + 2) q)) (broadcast S16 (X.Q (4 * g + 3) q)) a b c e f) inpos_S16_p15) = 1#1 ↔ ∃ l < 16, X.mt g q (16 * s + l) := by
  refine (bit_pos (bit_any (andi (cmpi .eq (shapeCast S16 a shapeCasts_S1x16_S16) (broadcast S16 (X.Q (8 + g) q)))
    (ori (ori (ori (cmpi .eq (shapeCast S16 b shapeCasts_S1x16_S16) (broadcast S16 (X.Q (4 * g) q))) (cmpi .eq (shapeCast S16 c shapeCasts_S1x16_S16) (broadcast S16 (X.Q (4 * g + 1) q))))
      (cmpi .eq (shapeCast S16 e shapeCasts_S1x16_S16) (broadcast S16 (X.Q (4 * g + 2) q)))) (cmpi .eq (shapeCast S16 f shapeCasts_S1x16_S16) (broadcast S16 (X.Q (4 * g + 3) q)))))
    inpos_S16_p15)).trans ?_
  unfold anyLane
  refine exists_congr fun l => and_congr_right fun hl => ?_
  unfold Prob.mt
  show IntOp.andi (IntOp.cmpi .eq (shapeCast S16 a shapeCasts_S1x16_S16 (ix1 l)) (X.Q (8 + g) q))
    (IntOp.ori (IntOp.ori (IntOp.ori (IntOp.cmpi .eq (shapeCast S16 b shapeCasts_S1x16_S16 (ix1 l)) (X.Q (4 * g) q))
      (IntOp.cmpi .eq (shapeCast S16 c shapeCasts_S1x16_S16 (ix1 l)) (X.Q (4 * g + 1) q)))
      (IntOp.cmpi .eq (shapeCast S16 e shapeCasts_S1x16_S16 (ix1 l)) (X.Q (4 * g + 2) q)))
      (IntOp.cmpi .eq (shapeCast S16 f shapeCasts_S1x16_S16 (ix1 l)) (X.Q (4 * g + 3) q))) = 1#1 ↔ _
  rw [andi1, ori1, ori1, ori1, cmpi_eq_iff, cmpi_eq_iff, cmpi_eq_iff, cmpi_eq_iff, cmpi_eq_iff, ha l hl, hb l hl, hc l hl, he l hl, hf l hl]

theorem t10_trips : k1_t22_loop.trips = 16 := by decide +kernel

set_option maxHeartbeats 1000000 in
theorem t7_step {s : ℕ} (harg23 : arg23 = BitVec.ofNat 32 k1_t15.val) (h30 : arg30 = BitVec.ofNat 32 s) (hs : s ≤ 128)
    (hrow : row = 16 * k1_t17.val + k1_t18.val) (hrow64 : row < 64) (hv139 : v139 = BitVec.ofNat 32 row)
    (hq : q = 128 * (i 1).val + 64 * (i 0).val + row) (hm : Lane0 v35)
    (hv144 : v144 = fun _ => X.Q (8 + k1_t15.val) q)
    (hv146 : v146 = X.Q (8 + k1_t15.val) q) (hv173 : v173 = fun _ => X.Q (4 * k1_t15.val) q) (hv182 : v182 = fun _ => X.Q (4 * k1_t15.val + 1) q)
    (hv191 : v191 = fun _ => X.Q (4 * k1_t15.val + 2) q) (hv200 : v200 = fun _ => X.Q (4 * k1_t15.val + 3) q)
    (hS : ∀ k < 2048, (dot fun l => FloatOps.mulf (E.QT (ix3 1 q l)) (E.KT (ix3 1 k l))) = X.sc q k)
    (hKS : ∀ h < 8, ∀ k < 2048, E.KS (ix3 1 h k) = X.K h k)
    (hkv : ∀ k < 2048, σ.kv (ix2 k1_t15.val k) = X.K (8 + k1_t15.val) k)
    (hR : RowOK σ row (X.run k1_t15.val q L (16 * s))) (hG : Good L) :
    T E σ (k1_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v35 k1_t15 arg23 k1_t17 v132 k1_h8 k1_t18 v139 v144 v146 v151 v153 v160 v162 k1_h9 v173 v182 v191 v200 k1_t19 arg30)
      (fun v σ' => ∃ s', v = BitVec.ofNat 32 s' ∧ s' ≤ 128 ∧ (s < 128 → s + 1 ≤ s') ∧ (s = 128 → s' = 128) ∧ Keep row σ σ'
        ∧ RowOK σ' row (X.run k1_t15.val q L (16 * s'))) := by
  have hg := t3_lt k1_t15
  subst harg23 h30 hv144
  dsimp only [k1_t19_body]
  refine T_assume (chk12_ok hs k1_t15) ?_
  refine T_bind (T_for _ _ _ _ _ _ (fun k v σ' => σ' = σ ∧ ∃ m', v = BitVec.ofNat 32 m' ∧ Seek σ.kv k1_t15.val (X.Q (8 + k1_t15.val) q) s k m')
    ⟨rfl, 128, rfl, Seek.zero _ _ _ hs⟩ ?_) ?_
  · rintro k v σ' ⟨rfl, m, hv, hno⟩
    exact t8_step rfl hs rfl hv hno
  rintro v σ' ⟨hσ, m, rfl, hno⟩
  rw [hσ]
  clear hσ
  rw [show Scf.trips (k1_t20_loop (BitVec.ofNat 32 s)).lb (k1_t20_loop (BitVec.ofNat 32 s)).ub (k1_t20_loop (BitVec.ofNat 32 s)).st = 128 - s from (t8_facts hs).2.1] at hno
  have hm128 : m ≤ 128 := hno.1
  have hsm : s ≤ m := hno.2.1
  refine T_bind (T_for _ _ _ _ _ _ (fun _ v σ' => v = BitVec.ofNat 32 m ∧ σ' = σ) ⟨rfl, rfl⟩ ?_) ?_
  · rintro k v σ' _
    exact absurd (lt_of_lt_of_eq k.isLt (t8_facts hs).2.2.2) (Nat.not_lt_zero _)
  rintro v σ' ⟨rfl, hσ⟩
  rw [hσ]
  refine T_assume (chk13_ok hm128 k1_t15) ?_
  have hrun := run_seek (L := L) hno hkv
  rw [← hrun] at hR
  rw [v217_eq hm128]
  have hfin : ∀ {σ' : Mem F}, Keep row σ σ' ∧ RowOK σ' row (X.run k1_t15.val q L (16 * min (m + 1) 128)) →
      T E σ' (pure (BitVec.ofNat 32 (min (m + 1) 128)))
      (fun v σ' => ∃ s', v = BitVec.ofNat 32 s' ∧ s' ≤ 128 ∧ (s < 128 → s + 1 ≤ s') ∧ (s = 128 → s' = 128) ∧ Keep row σ σ'
        ∧ RowOK σ' row (X.run k1_t15.val q L (16 * s'))) :=
    fun h => T_pure ⟨_, rfl, by omega, by omega, by omega, h.1, h.2⟩
  refine T_dite (fun h3 => ?_) (fun h3 => ?_)
  swap
  · have hm3 : m = 128 := by
      by_contra hh; exact h3 ((cond3_iff hm128).2 (by omega))
    subst hm3
    exact hfin ⟨Keep.refl _ _, hR⟩
  have hm3 : m < 128 := (cond3_iff hm128).1 h3
  simp only [k1_part16_eq_skeleton, k1_part16_skel, k1_part17_eq_skeleton, k1_part17_skel, bind_assoc, pure_bind]
  refine T_copy (copy_khw E) (by decide) ?_
  generalize hσ1 : (copy_khw E).set σ _ = σ1
  have hK1 : Keep row σ σ1 := by rw [← hσ1]; exact ⟨rfl, rfl, rfl, rfl, fun _ _ _ _ _ h => h⟩
  have hR1 : RowOK σ1 row (X.run k1_t15.val q L (16 * m)) := by rw [← hσ1]; exact hR
  have hkv1 : ∀ k < 2048, σ1.kv (ix2 k1_t15.val k) = X.K (8 + k1_t15.val) k := by rw [← hσ1]; exact hkv
  have hkhw1 : ∀ h < 8, ∀ c < 128, σ1.khw (ix2 h c) = X.K h (128 * (m / 8) + c) := by
    intro h hh c hc
    rw [← hσ1]
    refine (read_plane arg3 (k1_off28 (BitVec.ofNat 32 m)) ((chk13_ok hm128 k1_t15).2.1 k1_h8 k1_h9 h3) (fun _ => rfl) squeezes_S1x8x128_S8x128 E.r3 _).trans ?_
    rw [off9_eq hm3, ix2_val0 (by omega), ix2_val1 hc, ← hKS h hh _ (by omega)]
    refine congrArg E.KS ?_
    rw [show (![1, 0, 128 * (m / 8)] : Fin 3 → ℕ) 0 = 1 from rfl, show (![1, 0, 128 * (m / 8)] : Fin 3 → ℕ) 1 + h = h by show 0 + h = h; omega,
      show (![1, 0, 128 * (m / 8)] : Fin 3 → ℕ) 2 + c = 128 * (m / 8) + c from rfl]
  refine T_load (c_kv E) ?_
  refine T_load (c_khw E) ?_
  refine T_load (c_khw E) ?_
  refine T_load (c_khw E) ?_
  refine T_load (c_khw E) ?_
  have b10 : ∀ x, k1_off29 k1_t15 (BitVec.ofNat 32 m) x + S1x16.size x ≤ S2x2048.size x := (chk13_ok hm128 k1_t15).2.2.1 k1_h8 k1_h9 h3
  have b11 : ∀ x, k1_off30 k1_t15 (BitVec.ofNat 32 m) x + S1x16.size x ≤ S8x128.size x := (chk13_ok hm128 k1_t15).2.2.2.1 k1_h8 k1_h9 h3
  have b121 : ∀ x, k1_off31 k1_t15 (BitVec.ofNat 32 m) 1#32 x + S1x16.size x ≤ S8x128.size x := (chk13_ok hm128 k1_t15).2.2.2.2 k1_h8 k1_h9 h3 0
  have b122 : ∀ x, k1_off31 k1_t15 (BitVec.ofNat 32 m) 2#32 x + S1x16.size x ≤ S8x128.size x := (chk13_ok hm128 k1_t15).2.2.2.2 k1_h8 k1_h9 h3 1
  have b123 : ∀ x, k1_off31 k1_t15 (BitVec.ofNat 32 m) 3#32 x + S1x16.size x ≤ S8x128.size x := (chk13_ok hm128 k1_t15).2.2.2.2 k1_h8 k1_h9 h3 2
  have hc4 := cond4_iff (F := F) (X := X) (s := m) (g := k1_t15.val) (q := q)
    (fun x => σ1.kv ((Rect.unit (s := S2x2048) (k1_off29 k1_t15 (BitVec.ofNat 32 m)) S1x16.size b10).emb x))
    (fun x => σ1.khw ((Rect.unit (s := S8x128) (k1_off30 k1_t15 (BitVec.ofNat 32 m)) S1x16.size b11).emb x))
    (fun x => σ1.khw ((Rect.unit (s := S8x128) (k1_off31 k1_t15 (BitVec.ofNat 32 m) 1#32) S1x16.size b121).emb x))
    (fun x => σ1.khw ((Rect.unit (s := S8x128) (k1_off31 k1_t15 (BitVec.ofNat 32 m) 2#32) S1x16.size b122).emb x))
    (fun x => σ1.khw ((Rect.unit (s := S8x128) (k1_off31 k1_t15 (BitVec.ofNat 32 m) 3#32) S1x16.size b123).emb x))
    (fun l hl => by
      refine (row16 σ1.kv _ b10 _ hl).trans ?_
      rw [off10_eq hm3]
      exact hkv1 _ (by show 16 * m + l < 2048; omega))
    (fun l hl => by
      refine (row16 σ1.khw _ b11 _ hl).trans ?_
      rw [off11_eq hm3]
      refine (hkhw1 (4 * k1_t15.val) (by omega) (16 * (m % 8) + l) (by omega)).trans (congrArg _ (by omega)))
    (fun l hl => by
      refine (row16 σ1.khw _ b121 _ hl).trans ?_
      rw [off12_eq hm3 k1_t15 (c := 1) (by omega)]
      refine (hkhw1 (4 * k1_t15.val + 1) (by omega) (16 * (m % 8) + l) (by omega)).trans (congrArg _ (by omega)))
    (fun l hl => by
      refine (row16 σ1.khw _ b122 _ hl).trans ?_
      rw [off12_eq hm3 k1_t15 (c := 2) (by omega)]
      refine (hkhw1 (4 * k1_t15.val + 2) (by omega) (16 * (m % 8) + l) (by omega)).trans (congrArg _ (by omega)))
    (fun l hl => by
      refine (row16 σ1.khw _ b123 _ hl).trans ?_
      rw [off12_eq hm3 k1_t15 (c := 3) (by omega)]
      refine (hkhw1 (4 * k1_t15.val + 3) (by omega) (16 * (m % 8) + l) (by omega)).trans (congrArg _ (by omega)))
  subst hv173 hv182 hv191 hv200
  refine T_dite (fun h4 => ?_) (fun h4 => ?_)
  swap
  · refine hfin ⟨hK1, ?_⟩
    rw [show 16 * min (m + 1) 128 = 16 * m + 16 by omega, X.run_skip k1_t15.val q L (16 * m) 16 (fun k hk hk' hmt => h4 (hc4.2 ⟨k - 16 * m, by omega, by
      rwa [show 16 * m + (k - 16 * m) = k by omega]⟩))]
    exact hR1
  refine T_bind (T_for _ _ _ _ _ _ (fun k _ σ' => Keep row σ1 σ' ∧ σ'.khw = σ1.khw ∧ RowOK σ' row (X.run k1_t15.val q L (16 * m + k)))
    ⟨Keep.refl _ _, rfl, hR1⟩ ?_) ?_
  · rintro k v σ' ⟨hK, hkh, hR'⟩
    have hk : k.val < 16 := lt_of_lt_of_eq k.isLt t10_trips
    refine T_mono (t10_step hg rfl hm3 rfl (muli_ofNat m 16 |>.trans (by rw [Nat.mul_comm])) (v249_eq hm3) hrow hrow64 hv139 hq hm hv146 rfl rfl rfl rfl hS
      (fun k hk => by rw [hK.kv]; exact hkv1 k hk) (fun h hh c hc => by rw [hkh]; exact hkhw1 h hh c hc) hR' (hG.run (by omega))) ?_
    rintro v' σ'' ⟨hK', hkh', hR''⟩
    exact ⟨hK.trans hK', hkh'.trans hkh, by rw [← Nat.add_assoc, X.run_succ]; exact hR''⟩
  rintro v σ' ⟨hK, hkh, hR'⟩
  rw [show Scf.trips k1_t22_loop.lb k1_t22_loop.ub k1_t22_loop.st = 16 from t10_trips] at hR'
  exact hfin ⟨hK1.trans hK, by rw [show 16 * min (m + 1) 128 = 16 * m + 16 by omega]; exact hR'⟩

end

end Cert.Proof.Join.Second

end
-- ==== Proof.Run1.lean ====
/-
  The first batch's half of a tile: one query, the sixty-four queries of a hash group, both groups, and the masking.
-/
module

public import proofs.«01_k».proof.Proof.Half1
public import proofs.«01_k».proof.Proof.Mask

@[expose] public section

set_option pp.maxSteps 100

noncomputable section

namespace Cert.Proof.Join.Second

open Cert.KernelIdeal Cert.KernelIdeal.Gen
open Idealize.ShloMosaic

section
variable {F : FTy → Type} [FloatOps F]
variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}
variable {d : Dev nD} {E : Env F d ((i 0).castLE hcore1) ((i 1).castLE hsub1)
  (regs1 arg3 arg4 arg5 arg7 arg8 arg9 arg11 arg12 arg13 arg14 arg16 arg18 arg19 v293_r3 v653_r4 v653_r5)} {σ σ0 : Mem F}
  {X : Prob F} {row base q m : ℕ} {L : List (Cand F)} {Ls : ℕ → List (Cand F)} {w ep : BitVec 32}
variable [E.On]

theorem t5_lt (k1_t17 : Fin k1_t17_loop.trips) : k1_t17.val < 4 := Nat.lt_of_lt_of_le k1_t17.isLt (by decide +kernel)
theorem t6_lt (k1_t18 : Fin k1_t18_loop.trips) : k1_t18.val < 16 := Nat.lt_of_lt_of_le k1_t18.isLt (by decide +kernel)
theorem t7_trips : k1_t19_loop.trips = 128 := by decide +kernel

theorem cond2_iff {a b c e : BitVec 32} : k1_cond9 a b c e = 1#1 ↔ a = b ∧ c = e := by
  refine (ext_ne _).trans ?_
  exact (andi1 _ _).trans (and_congr (cmpi_eq_iff _ _) (cmpi_eq_iff _ _))

theorem cond1_iff {v : BitVec 32} {p : Prop} (h : IsBit v p) : k1_cond8 v = 1#1 ↔ p := bit_pos h

variable {k1_t15 : Fin k1_t15_loop.trips} {k1_t17 : Fin k1_t17_loop.trips} {k1_t18 : Fin k1_t18_loop.trips} {k1_t16 : Fin k1_t16_loop.trips}

set_option maxHeartbeats 1000000 in
theorem t6_step (harg23 : arg23 = BitVec.ofNat 32 k1_t15.val) (harg25 : arg25 = BitVec.ofNat 32 k1_t17.val) (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 1 (base + r) l)) (E.KT (ix3 1 k l))) = X.sc (base + r) k)
    (hKS : ∀ h < 8, ∀ k < 2048, E.KS (ix3 1 h k) = X.K h k)
    (hkv : ∀ k < 2048, σ.kv (ix2 k1_t15.val k) = X.K (8 + k1_t15.val) k)
    (hB : Marks σ (Scalar.addi 3#32 (Scf.iv 0#32 1#32 k1_t15)) (X.K (8 + k1_t15.val)) 2048)
    (hR : Rows σ (upto X k1_t15.val base Ls (16 * k1_t17.val + k1_t18.val))) (hG : ∀ r, Good (Ls r)) :
    T E σ (k1_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v35 k1_t15 arg23 k1_t17 arg25 v132 k1_h8 k1_t18 arg28)
      (fun _ σ' => Same σ σ' ∧ Rows σ' (upto X k1_t15.val base Ls (16 * k1_t17.val + (k1_t18.val + 1)))) := by
  have hg := t3_lt k1_t15
  have h5 := t5_lt k1_t17
  have h6 := t6_lt k1_t18
  have hi0 : (i 0).val < 2 := (i 0).isLt
  subst harg23 harg25 hv31
  generalize hrow : 16 * k1_t17.val + k1_t18.val = row at hR
  have hrow64 : row < 64 := by omega
  have hq : base + row = 128 * (i 1).val + 64 * (i 0).val + row := by rw [hbase]
  have e139 : Scalar.addi (Scalar.muli (BitVec.ofNat 32 k1_t17.val) 16#32) (Scf.iv 0#32 1#32 k1_t18) = BitVec.ofNat 32 row := by
    rw [iv0, show Scalar.muli (BitVec.ofNat 32 k1_t17.val) 16#32 = BitVec.ofNat 32 (k1_t17.val * 16) from muli_ofNat _ 16, ← hrow, Nat.mul_comm 16]
    exact addi_ofNat _ _
  have e140 : Scalar.addi 8#32 (BitVec.ofNat 32 k1_t15.val) = BitVec.ofNat 32 (8 + k1_t15.val) := addi_ofNat 8 _
  have e141 : Scalar.addi (BitVec.ofNat 32 (64 * (i 0).val)) (BitVec.ofNat 32 row) = BitVec.ofNat 32 (64 * (i 0).val + row) := addi_ofNat _ _
  have eh : Scalar.muli 4#32 (BitVec.ofNat 32 k1_t15.val) = BitVec.ofNat 32 (4 * k1_t15.val) := muli_ofNat 4 _
  have eh0 : Scalar.addi (BitVec.ofNat 32 (4 * k1_t15.val)) 0#32 = BitVec.ofNat 32 (4 * k1_t15.val + 0) := addi_ofNat _ 0
  have eh1 : Scalar.addi (BitVec.ofNat 32 (4 * k1_t15.val)) 1#32 = BitVec.ofNat 32 (4 * k1_t15.val + 1) := addi_ofNat _ 1
  have eh2 : Scalar.addi (BitVec.ofNat 32 (4 * k1_t15.val)) 2#32 = BitVec.ofNat 32 (4 * k1_t15.val + 2) := addi_ofNat _ 2
  have eh3 : Scalar.addi (BitVec.ofNat 32 (4 * k1_t15.val)) 3#32 = BitVec.ofNat 32 (4 * k1_t15.val + 3) := addi_ofNat _ 3
  have hfin : ∀ {σ' : Mem F}, Keep row σ σ' → RowOK σ' row (X.run k1_t15.val (base + row) (Ls row) 2048) →
      T E σ' (pure 0#32) (fun _ σ' => Same σ σ' ∧ Rows σ' (upto X k1_t15.val base Ls (16 * k1_t17.val + (k1_t18.val + 1)))) := by
    intro σ' hK hr
    refine T_pure ⟨hK.same, hR.keep hK (upto_good hG _) (r := row) ?_ ?_⟩
    · unfold upto; rw [if_pos (by omega)]; exact hr
    · intro r' hr'; unfold upto
      by_cases hh : r' < row
      · rw [if_pos hh, if_pos (by omega)]
      · rw [if_neg hh, if_neg (by omega)]
  have hR0 : RowOK σ row (Ls row) := by
    have := hR row hrow64
    unfold upto at this
    rwa [if_neg (lt_irrefl _)] at this
  dsimp only [k1_t18_body]
  rw [e139, e140, e141, eh, eh0, eh1, eh2, eh3]
  refine T_assume (fun _ => inb2n _ _ (by omega) (by omega) (by decide) (by decide)) ?_
  refine T_ldx (c_qv E) ?_
  rw [loadIdx_n2 _ (a := 8 + k1_t15.val) (b := 64 * (i 0).val + row) (by omega) (by omega),
    show (c_qv E).get σ (ix2 (8 + k1_t15.val) (64 * (i 0).val + row)) = X.Q (8 + k1_t15.val) (base + row) from hqv _ (by omega) _ hrow64,
    show extractAt ![0] (k1_pay9 (F := F) (fun _ => X.Q (8 + k1_t15.val) (base + row))) inpos_S1_p0 = X.Q (8 + k1_t15.val) (base + row) from rfl]
  refine T_assume (fun _ => inb1 _ (and_lt _)) ?_
  refine T_ldx (c_pres E) ?_
  refine T_assume (fun _ => inb1 _ (and_lt2 _)) ?_
  refine T_ldx (c_pres2 E) ?_
  rw [loadIdx_b1, loadIdx_b1]
  refine T_dite (fun h2 => ?_) (fun h2 => ?_)
  swap
  · refine hfin (Keep.refl _ _) ?_
    rw [run_unmarked _ hB (fun hh => h2 (cond2_iff.2 hh))]
    exact hR0
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  refine T_assume (fun _ _ => inb2n _ _ (by omega) (by omega) (by decide) (by decide)) ?_
  refine T_ldx (c_qv E) ?_
  rw [loadIdx_n2 _ (a := 4 * k1_t15.val + 0) (b := 64 * (i 0).val + row) (by omega) (by omega), loadIdx_n2 _ (a := 4 * k1_t15.val + 1) (b := 64 * (i 0).val + row) (by omega) (by omega),
    loadIdx_n2 _ (a := 4 * k1_t15.val + 2) (b := 64 * (i 0).val + row) (by omega) (by omega), loadIdx_n2 _ (a := 4 * k1_t15.val + 3) (b := 64 * (i 0).val + row) (by omega) (by omega)]
  refine T_bind (T_for _ _ _ _ _ _ (fun k v σ' => ∃ s, v = BitVec.ofNat 32 s ∧ s ≤ 128 ∧ k ≤ s ∧ Keep row σ σ' ∧ RowOK σ' row (X.run k1_t15.val (base + row) (Ls row) (16 * s)))
    ⟨0, rfl, by omega, le_refl _, Keep.refl _ _, hR0⟩ ?_) ?_
  · rintro k v σ' ⟨s, rfl, hs, hks, hK, hr⟩
    have hk : k.val < 128 := lt_of_lt_of_eq k.isLt t7_trips
    refine T_mono (t7_step (X := X) (q := base + row) rfl rfl hs hrow.symm hrow64 rfl hq hm rfl rfl
      (funext fun _ => hqv _ (by omega) _ hrow64) (funext fun _ => hqv _ (by omega) _ hrow64) (funext fun _ => hqv _ (by omega) _ hrow64) (funext fun _ => hqv _ (by omega) _ hrow64)
      (hS row hrow64) hKS (fun k hk => by rw [hK.kv]; exact hkv k hk) hr (hG row)) ?_
    rintro v' σ'' ⟨s', hv', hs', h1, h2, hK', hr'⟩
    exact ⟨s', hv', hs', by omega, hK.trans hK', hr'⟩
  rintro v σ' ⟨s, rfl, hs, hks, hK, hr⟩
  rw [show Scf.trips k1_t19_loop.lb k1_t19_loop.ub k1_t19_loop.st = 128 from t7_trips] at hks
  refine hfin hK ?_
  rw [show 16 * s = 2048 by omega] at hr
  exact hr

/-! ### Marking the keys of a group -/

theorem t4_step (hkv : ∀ k < 2048, σ.kv (ix2 k1_t15.val k) = X.K (8 + k1_t15.val) k)
    (hM : Marks σ (Scalar.addi 3#32 (Scf.iv 0#32 1#32 k1_t15)) (X.K (8 + k1_t15.val)) (16 * k1_t16.val)) :
    T E σ (k1_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 k1_t15 k1_t16 ⟨⟩)
      (fun _ σ' => (∃ p p2, σ' = { σ with pres := p, pres2 := p2 }) ∧ Marks σ' (Scalar.addi 3#32 (Scf.iv 0#32 1#32 k1_t15)) (X.K (8 + k1_t15.val)) (16 * (k1_t16.val + 1))) := by
  have hk : k1_t16.val < 128 := Nat.lt_of_lt_of_le k1_t16.isLt (by decide +kernel)
  have hg := t3_lt k1_t15
  have b : ∀ x, k1_off24 k1_t15 k1_t16 x + S1x16.size x ≤ S2x2048.size x := k1_off24_inb k1_t15 k1_t16
  have hl : ∀ l, l < 16 → shapeCast S16 (fun x => σ.kv ((Rect.unit (s := S2x2048) (k1_off24 k1_t15 k1_t16) S1x16.size b).emb x)) shapeCasts_S1x16_S16 (ix1 l)
      = X.K (8 + k1_t15.val) (16 * k1_t16.val + l) := fun l hl => by
    refine (row16 σ.kv _ b _ hl).trans ?_
    rw [k1_off24_eq]
    exact hkv _ (by show 16 * k1_t16.val + l < 2048; omega)
  dsimp only [k1_t16_body]
  refine T_load (c_kv E) ?_
  refine T_assume (inb_lanes1 _ fun x => and_lt _) ?_
  refine T_stx (c_pres E) ?_
  refine T_assume (inb_lanes1 _ fun x => and_lt2 _) ?_
  refine T_stx (c_pres2 E) ?_
  refine T_pure ⟨⟨_, _, rfl⟩, ?_⟩
  rw [Nat.mul_succ]
  exact marks_step _ _ _ _ _ (fun l h => congrArg (fun w => IntOp.andi w 32767#32) (hl l h))
    (fun l h => congrArg (fun w => IntOp.andi (IntOp.shrui .vector w 18#32) 16383#32) (hl l h)) (fun _ => rfl) hM

/-! ### Sixteen queries -/

theorem off6_eq (i : grid1.Coords) (k1_t15 : Fin k1_t15_loop.trips) (k1_t17 : Fin k1_t17_loop.trips) :
    k1_off25 i k1_t15 k1_t17 = ![8 + k1_t15.val, 64 * (i 0).val + 16 * k1_t17.val] := by
  revert i k1_t15 k1_t17; decide +kernel

set_option maxHeartbeats 1000000 in
theorem t5_step (harg23 : arg23 = BitVec.ofNat 32 k1_t15.val) (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 1 (base + r) l)) (E.KT (ix3 1 k l))) = X.sc (base + r) k)
    (hKS : ∀ h < 8, ∀ k < 2048, E.KS (ix3 1 h k) = X.K h k)
    (hkv : ∀ k < 2048, σ.kv (ix2 k1_t15.val k) = X.K (8 + k1_t15.val) k)
    (hB : Marks σ (Scalar.addi 3#32 (Scf.iv 0#32 1#32 k1_t15)) (X.K (8 + k1_t15.val)) 2048)
    (hR : Rows σ (upto X k1_t15.val base Ls (16 * k1_t17.val))) (hG : ∀ r, Good (Ls r)) :
    T E σ (k1_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v35 k1_t15 arg23 k1_t17 arg26)
      (fun _ σ' => Same σ σ' ∧ Rows σ' (upto X k1_t15.val base Ls (16 * (k1_t17.val + 1)))) := by
  have hg := t3_lt k1_t15
  have h5 := t5_lt k1_t17
  have hi0 : (i 0).val < 2 := (i 0).isLt
  have b : ∀ x, k1_off25 i k1_t15 k1_t17 x + S1x16.size x ≤ S10x128.size x := k1_off25_inb i k1_t15 k1_t17
  have hl : ∀ l, l < 16 → shapeCast S16 (fun x => σ.qv ((Rect.unit (s := S10x128) (k1_off25 i k1_t15 k1_t17) S1x16.size b).emb x)) shapeCasts_S1x16_S16 (ix1 l)
      = X.Q (8 + k1_t15.val) (base + (16 * k1_t17.val + l)) := fun l hl => by
    refine (row16 σ.qv _ b _ hl).trans ?_
    rw [off6_eq]
    refine (congrArg σ.qv ?_).trans (hqv (8 + k1_t15.val) (by omega) (16 * k1_t17.val + l) (by omega))
    rw [← Nat.add_assoc]; rfl
  dsimp only [k1_t17_body]
  refine T_load (c_qv E) ?_
  refine T_assume (inb_lanes1 _ fun x => and_lt _) ?_
  refine T_ldx (c_pres E) ?_
  refine T_assume (inb_lanes1 _ fun x => and_lt2 _) ?_
  refine T_ldx (c_pres2 E) ?_
  refine T_dite (fun h1 => ?_) (fun h1 => ?_)
  · refine T_bind (T_for _ _ _ _ _ _ (fun k _ σ' => Same σ σ' ∧ Rows σ' (upto X k1_t15.val base Ls (16 * k1_t17.val + k))) ⟨Same.refl _, hR⟩ ?_) ?_
    · rintro k v σ' ⟨hK, hr⟩
      refine T_mono (t6_step (X := X) (base := base) harg23 (iv0 _) hv31 hm hbase (fun h hh r hr => by rw [hK.qv]; exact hqv h hh r hr) hS hKS
        (fun k hk => by rw [hK.kv]; exact hkv k hk) (fun k hk => by rw [hK.pres, hK.pres2]; exact hB k hk) hr hG) ?_
      rintro v' σ'' ⟨hK', hr'⟩
      exact ⟨hK.trans hK', hr'⟩
    rintro v σ' ⟨hK, hr⟩
    rw [show Scf.trips k1_t18_loop.lb k1_t18_loop.ub k1_t18_loop.st = 16 from by decide +kernel] at hr
    exact T_pure ⟨hK, by rw [Nat.mul_succ]; exact hr⟩
  · refine T_pure ⟨Same.refl _, ?_⟩
    have hno := fun hh => h1 ((cond1_iff (bit_any _ _)).2 hh)
    intro r hr64
    have hr := hR r hr64
    have : upto X k1_t15.val base Ls (16 * (k1_t17.val + 1)) r = upto X k1_t15.val base Ls (16 * k1_t17.val) r := by
      unfold upto
      by_cases ha : r < 16 * k1_t17.val
      · rw [if_pos ha, if_pos (by omega)]
      · rw [if_neg ha]
        by_cases hb : r < 16 * (k1_t17.val + 1)
        · rw [if_pos hb]
          refine run_unmarked _ hB fun hh => hno ?_
          obtain ⟨l, rfl⟩ : ∃ l, r = 16 * k1_t17.val + l := ⟨r - 16 * k1_t17.val, by omega⟩
          have hll : l < 16 := by omega
          rw [← hl l hll] at hh
          exact ⟨l, hll, (andi1 _ _).2 ⟨(cmpi_eq_iff _ _).2 ((congrArg σ.pres (eq_ix1 (n := 32768) _ rfl)).trans hh.1), (cmpi_eq_iff _ _).2 ((congrArg σ.pres2 (eq_ix1 (n := 16384) _ rfl)).trans hh.2)⟩⟩
        · rw [if_neg hb]
    rw [this]; exact hr

/-! ### A hash group -/

theorem t3_step (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 1 (base + r) l)) (E.KT (ix3 1 k l))) = X.sc (base + r) k)
    (hKS : ∀ h < 8, ∀ k < 2048, E.KS (ix3 1 h k) = X.K h k)
    (hkv : ∀ g < 2, ∀ k < 2048, σ.kv (ix2 g k) = X.K (8 + g) k)
    (hR : Rows σ Ls) (hG : ∀ r, Good (Ls r)) :
    T E σ (k1_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v35 k1_t15 arg24)
      (fun _ σ' => (σ'.qv = σ.qv ∧ σ'.kv = σ.kv) ∧ Rows σ' (fun r => X.run k1_t15.val (base + r) (Ls r) 2048)) := by
  have hg := t3_lt k1_t15
  dsimp only [k1_t15_body]
  refine T_bind (T_for _ _ _ _ _ _ (fun k _ σ' => (∃ p p2, σ' = { σ with pres := p, pres2 := p2 }) ∧
    Marks σ' (Scalar.addi 3#32 (Scf.iv 0#32 1#32 k1_t15)) (X.K (8 + k1_t15.val)) (16 * k)) ⟨⟨_, _, rfl⟩, fun k hk => absurd hk (by omega)⟩ ?_) ?_
  · rintro k v σ' ⟨⟨p, p2, rfl⟩, hM⟩
    refine T_mono (t4_step (X := X) (hkv _ hg) hM) ?_
    rintro v' σ'' ⟨⟨p', p2', rfl⟩, hM'⟩
    exact ⟨⟨_, _, rfl⟩, hM'⟩
  rintro v σ' ⟨⟨p, p2, rfl⟩, hM⟩
  rw [show Scf.trips k1_t16_loop.lb k1_t16_loop.ub k1_t16_loop.st = 128 from by decide +kernel] at hM
  refine T_bind (T_for _ _ _ _ _ _ (fun k _ σ' => Same { σ with pres := p, pres2 := p2 } σ' ∧ Rows σ' (upto X k1_t15.val base Ls (16 * k))) ⟨Same.refl _, by rw [Nat.mul_zero, upto_zero]; exact hR⟩ ?_) ?_
  · rintro k v' σ' ⟨hK, hr⟩
    refine T_mono (t5_step (X := X) (base := base) (iv0 _) hv31 hm hbase (fun h hh r hr => by rw [hK.qv]; exact hqv h hh r hr) hS hKS
      (fun k hk => by rw [hK.kv]; exact hkv _ hg k hk) (fun k hk => by rw [hK.pres, hK.pres2]; exact hM k hk) hr hG) ?_
    rintro v'' σ'' ⟨hK', hr'⟩
    exact ⟨hK.trans hK', hr'⟩
  rintro v' σ' ⟨hK, hr⟩
  rw [show Scf.trips k1_t17_loop.lb k1_t17_loop.ub k1_t17_loop.st = 4 from by decide +kernel] at hr
  refine T_pure ⟨⟨hK.qv, hK.kv⟩, fun r hr64 => ?_⟩
  have := hr r hr64
  unfold upto at this
  rwa [if_pos (by omega)] at this

/-! ### Masking a row -/

omit [E.On] in
set_option maxHeartbeats 1000000 in
theorem t14_step {k1_t26 : Fin k1_t26_loop.trips} (hv72 : v88 = iota .scVector S16 32 [0] iota_S16_d0_w32_scVector) (hR : RowOK σ k1_t26.val (X.both (base + k1_t26.val)))
    (hG : Good (X.both (base + k1_t26.val))) :
    T E σ (k1_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v88 k1_t26 ⟨⟩)
      (fun _ σ' => ∃ f, σ' = { σ with lidx := f } ∧ (∀ s < 64, f (ix2 k1_t26.val s) = X.out (base + k1_t26.val) s) ∧
        ∀ r < 64, ∀ s < 64, r ≠ k1_t26.val → f (ix2 r s) = σ.lidx (ix2 r s)) := by
  subst hv72
  have hk : k1_t26.val < 64 := Nat.lt_of_lt_of_le k1_t26.isLt (by decide +kernel)
  have b0 : ∀ x, k1_off38 k1_t26 x + S1x16.size x ≤ S64x64.size x := k1_off38_inb k1_t26
  have b1 : ∀ x, k1_off39 k1_t26 x + S1x16.size x ≤ S64x64.size x := k1_off39_inb k1_t26
  have b2 : ∀ x, k1_off40 k1_t26 x + S1x16.size x ≤ S64x64.size x := k1_off40_inb k1_t26
  have b3 : ∀ x, k1_off41 k1_t26 x + S1x16.size x ≤ S64x64.size x := k1_off41_inb k1_t26
  have e104 : Scalar.addi 0#32 (Scalar.muli (Scf.iv 0#32 1#32 k1_t26) 1#32) = BitVec.ofNat 32 k1_t26.val := by
    rw [iv0, show Scalar.muli (BitVec.ofNat 32 k1_t26.val) 1#32 = BitVec.ofNat 32 (k1_t26.val * 1) from muli_ofNat _ 1, Nat.mul_one]
    exact (addi_ofNat 0 _).trans (by rw [Nat.zero_add])
  dsimp only [k1_t26_body]
  simp only [k1_part18_eq_skeleton, k1_part18_skel, bind_assoc, pure_bind]
  rw [e104]
  refine T_assume (inb1n _ hk (by decide)) ?_
  refine T_ldx (c_lcnt E) ?_
  rw [loadIdx_n1 _ (a := k1_t26.val) (by omega)]
  refine T_load (c_lsc E) ?_
  refine T_load (c_lidx E) ?_
  refine T_load (c_lidx E) ?_
  refine T_mask (σ := σ) (f := σ.lidx) (Masked.zero X (base + k1_t26.val) k1_t26.val σ.lidx) hk (by omega) hR hG (k1_off38_eq _) (fun l hl => ?_) fun f0 w0 => ?_
  · exact mask_pay _ _ _ _ hl _ _ ((row16 σ.lsc _ b0 _ hl).trans (by rw [k1_off38_eq]; rfl)) ((row16 σ.lidx _ b0 _ hl).trans (by rw [k1_off38_eq]; rfl))
  refine T_load (c_lsc E) ?_
  refine T_load (c_lidx E) ?_
  refine T_load (c_lidx E) ?_
  refine T_mask (σ := σ) (f := f0) w0 hk (by omega) hR hG (k1_off39_eq _) (fun l hl => ?_) fun f1 w1 => ?_
  · exact mask_pay _ _ _ _ hl _ _ ((row16 σ.lsc _ b1 _ hl).trans (by rw [k1_off39_eq]; rfl)) ((row16 f0 _ b1 _ hl).trans (by rw [k1_off39_eq]; rfl))
  refine T_load (c_lsc E) ?_
  refine T_load (c_lidx E) ?_
  refine T_load (c_lidx E) ?_
  refine T_mask (σ := σ) (f := f1) w1 hk (by omega) hR hG (k1_off40_eq _) (fun l hl => ?_) fun f2 w2 => ?_
  · exact mask_pay _ _ _ _ hl _ _ ((row16 σ.lsc _ b2 _ hl).trans (by rw [k1_off40_eq]; rfl)) ((row16 f1 _ b2 _ hl).trans (by rw [k1_off40_eq]; rfl))
  refine T_load (c_lsc E) ?_
  refine T_load (c_lidx E) ?_
  refine T_load (c_lidx E) ?_
  refine T_mask (σ := σ) (f := f2) w2 hk (by omega) hR hG (k1_off41_eq _) (fun l hl => ?_) fun f3 w3 => ?_
  · exact mask_pay _ _ _ _ hl _ _ ((row16 σ.lsc _ b3 _ hl).trans (by rw [k1_off41_eq]; rfl)) ((row16 f2 _ b3 _ hl).trans (by rw [k1_off41_eq]; rfl))
  exact T_pure ⟨f3, rfl, w3.done, w3.other⟩

/-! ### The loops -/

theorem t3_loop (hv31 : v31 = BitVec.ofNat 32 (64 * (i 0).val))
    (hm : Lane0 v35) (hbase : base = 128 * (i 1).val + 64 * (i 0).val)
    (hqv : ∀ h < 10, ∀ r < 64, σ.qv (ix2 h (64 * (i 0).val + r)) = X.Q h (base + r))
    (hS : ∀ r < 64, ∀ k < 2048, (dot fun l => FloatOps.mulf (E.QT (ix3 1 (base + r) l)) (E.KT (ix3 1 k l))) = X.sc (base + r) k)
    (hKS : ∀ h < 8, ∀ k < 2048, E.KS (ix3 1 h k) = X.K h k)
    (hkv : ∀ g < 2, ∀ k < 2048, σ.kv (ix2 g k) = X.K (8 + g) k)
    (hR : Rows σ (fun _ => [])) :
    T E σ (Scf.Loop.for k1_t15_loop k1_t15_ok 0#32 (k1_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v35)) (fun _ σ' => Rows σ' (fun r => X.both (base + r))) := by
  refine T_mono (T_for _ _ _ _ _ _ (fun n _ σ' => (σ'.qv = σ.qv ∧ σ'.kv = σ.kv) ∧
    Rows σ' (fun r => if n = 0 then [] else if n = 1 then X.run 0 (base + r) [] 2048 else X.both (base + r))) ⟨⟨rfl, rfl⟩, hR⟩ ?_) ?_
  · rintro k v σ' ⟨⟨h1, h2⟩, hr⟩
    have hk := t3_lt k
    refine T_mono (t3_step (X := X) (base := base) hv31 hm hbase (fun h hh r hr => by rw [h1]; exact hqv h hh r hr) hS hKS
      (fun g hg k hk => by rw [h2]; exact hkv g hg k hk) hr (fun r => ?_)) ?_
    · split
      · exact Good.nil
      · split
        · exact Good.nil.run (le_refl _)
        · exact (Good.nil.run (le_refl _)).run (le_refl _)
    · rintro v' σ'' ⟨⟨h1', h2'⟩, hr'⟩
      refine ⟨⟨h1'.trans h1, h2'.trans h2⟩, ?_⟩
      obtain h0 | h0 : k.val = 0 ∨ k.val = 1 := by omega
      · rw [h0] at hr'; rw [h0]; exact hr'
      · rw [h0] at hr'; rw [h0]; exact hr'
  · rintro v σ' ⟨-, hr⟩
    rw [show Scf.trips k1_t15_loop.lb k1_t15_loop.ub k1_t15_loop.st = 2 from by decide +kernel] at hr
    exact hr

omit [E.On] in
theorem t14_loop (hv72 : v88 = iota .scVector S16 32 [0] iota_S16_d0_w32_scVector) (hR : Rows σ (fun r => X.both (base + r))) :
    T E σ (Scf.Loop.for k1_t26_loop k1_t26_ok ⟨⟩ (k1_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v88)) (fun _ σ' => ∀ r < 64, ∀ s < 64, σ'.lidx (ix2 r s) = X.out (base + r) s) := by
  refine T_mono (T_for _ _ _ _ _ _ (fun n _ σ' => ∃ f, σ' = { σ with lidx := f } ∧ (∀ r < n, r < 64 → ∀ s < 64, f (ix2 r s) = X.out (base + r) s) ∧
    ∀ r < 64, n ≤ r → ∀ s < 64, f (ix2 r s) = σ.lidx (ix2 r s)) ⟨_, rfl, fun r h => absurd h (Nat.not_lt_zero _), fun _ _ _ _ _ => rfl⟩ ?_) ?_
  · rintro k v σ' ⟨f, rfl, hd, hn⟩
    have hk : k.val < 64 := Nat.lt_of_lt_of_le k.isLt (by decide +kernel)
    have hG : Good (X.both (base + k.val)) := (Good.nil.run (le_refl _)).run (le_refl _)
    refine T_mono (t14_step (X := X) (base := base) hv72 ⟨(hR k.val hk).1, fun s p hp => ?_⟩ hG) ?_
    · obtain ⟨h1, h2⟩ := (hR k.val hk).2 s p hp
      refine ⟨h1, (hn k.val hk (le_refl _) s ?_).trans h2⟩
      have := (List.getElem?_eq_some_iff.1 hp).1
      have := hG.1
      omega
    · rintro v' σ'' ⟨f', rfl, hd', ho'⟩
      refine ⟨f', rfl, fun r hr h64 s hs => ?_, fun r h64 hr s hs => ?_⟩
      · by_cases he : r = k.val
        · subst he; exact hd' s hs
        · rw [ho' r h64 s hs he]; exact hd r (by omega) h64 s hs
      · rw [ho' r h64 s hs (by omega)]; exact hn r h64 (by omega) s hs
  · rintro v σ' ⟨f, rfl, hd, -⟩
    rw [show Scf.trips k1_t26_loop.lb k1_t26_loop.ub k1_t26_loop.st = 64 from by decide +kernel] at hd
    exact fun r hr s hs => hd r hr hr s hs

omit [E.On] in
theorem t1_loop : T E σ (Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v32)) (fun _ _ => True) := by
  refine T_mono (T_for _ _ _ _ _ _ (fun _ _ _ => True) trivial ?_) (fun _ _ _ => trivial)
  intro k v σ' _
  dsimp only [k1_t1_body]
  exact T_load (c_pres E) (T_store (c_pres E) (T_pure trivial))

omit [E.On] in
theorem t2_loop : T E σ (Scf.Loop.for k1_t2_loop k1_t2_ok ⟨⟩ (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v32)) (fun _ _ => True) := by
  refine T_mono (T_for _ _ _ _ _ _ (fun _ _ _ => True) trivial ?_) (fun _ _ _ => trivial)
  intro k v σ' _
  dsimp only [k1_t2_body]
  exact T_load (c_pres2 E) (T_store (c_pres2 E) (T_pure trivial))

end

end Cert.Proof.Join.Second

end
-- ==== Proof.Body.lean ====
/-
  One tile's whole run: it fetches its blocks of signatures, clears its tables, makes the candidate lists of its
  sixty-four queries in each batch and writes them out.
-/
module

public import proofs.«01_k».proof.Proof.Flow
public import proofs.«01_k».proof.Proof.Run0
public import proofs.«01_k».proof.Proof.Run1

@[expose] public section

noncomputable section

namespace Cert.Proof.Join

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

section
variable {F : FTy → Type} [FloatOps F]

local notation "𝕄" => MT nD τ sig (HIx 1) (Elt F) ℕ UU ℕ

theorem off1_eq : ∀ i : grid1.Coords, k1_off1 i = ![0, 0, 128 * (i 1).val] := by decide +kernel
theorem off2_eq : ∀ i : grid1.Coords, k1_off2 i = ![1, 0, 128 * (i 1).val] := by decide +kernel

abbrev keyBlock0 (arg3 : Memref sig .scVector .hbm S2x10x2048 .i32) : Memref sig .scVector .hbm S2x2048 .i32 :=
  (arg3.slice (Rect.unit (s := S2x10x2048) ![0, 8, 0] S1x2x2048.size inb_S2x10x2048_S1x2x2048_0_8_0) (fun _ => rfl)).squeeze S2x2048 squeezes_S1x2x2048_S2x2048
abbrev keyBlock1 (arg3 : Memref sig .scVector .hbm S2x10x2048 .i32) : Memref sig .scVector .hbm S2x2048 .i32 :=
  (arg3.slice (Rect.unit (s := S2x10x2048) ![1, 8, 0] S1x2x2048.size inb_S2x10x2048_S1x2x2048_1_8_0) (fun _ => rfl)).squeeze S2x2048 squeezes_S1x2x2048_S2x2048
abbrev queryBlock0 (i : grid1.Coords) (arg2 : Memref sig .scVector .hbm S2x10x2048 .i32) : Memref sig .scVector .hbm S10x128 .i32 :=
  (arg2.slice (Rect.unit (s := S2x10x2048) (k1_off1 i) S1x10x128.size (k1_off1_inb i)) (fun _ => rfl)).squeeze S10x128 squeezes_S1x10x128_S10x128
abbrev queryBlock1 (i : grid1.Coords) (arg2 : Memref sig .scVector .hbm S2x10x2048 .i32) : Memref sig .scVector .hbm S10x128 .i32 :=
  (arg2.slice (Rect.unit (s := S2x10x2048) (k1_off2 i) S1x10x128.size (k1_off2_inb i)) (fun _ => rfl)).squeeze S10x128 squeezes_S1x10x128_S10x128
abbrev outBlock0 (i : grid1.Coords) (arg6 : Memref sig .scVector .hbm S2x2048x64 .i32) : Memref sig .scVector .hbm S64x64 .i32 :=
  (arg6.slice (Rect.unit (s := S2x2048x64) (k1_off23 i) S1x64x64.size (k1_off23_inb i)) (fun _ => rfl)).squeeze S64x64 squeezes_S1x64x64_S64x64
abbrev outBlock1 (i : grid1.Coords) (arg6 : Memref sig .scVector .hbm S2x2048x64 .i32) : Memref sig .scVector .hbm S64x64 .i32 :=
  (arg6.slice (Rect.unit (s := S2x2048x64) (k1_off42 i) S1x64x64.size (k1_off42_inb i)) (fun _ => rfl)).squeeze S64x64 squeezes_S1x64x64_S64x64

/-- A copy of key signatures under way, and what restores the share it reads by. -/
def fetching (d : Dev nD) (c : Fin τ.nSC) (j : Fin τ.nSub) (arg3 : Memref sig .scVector .hbm S2x10x2048 .i32) (blk : Memref sig .scVector .hbm S2x2048 .i32)
    (arg9 : Memref sig .scVector .vmem S2x2048 .i32) (sem : DmaSem sig) (q : PosShare TreeShare) (fs : Buf (Elt F) (blk.view.loc (V d c j)))
    (r3 : Buf (Elt F) (arg3.view.loc (V d c j))) : sProp 𝕄 :=
  iprop(going d c j blk arg9 q fs sem ∗ (shares d c j blk q fs -∗ shares d c j arg3 q r3))

abbrev some' (F : FTy → Type) (d : Dev nD) (c : Fin τ.nSC) (j : Fin τ.nSub) {sp : Space} {s : Shape} {e : EltTy} (m : Memref sig .scVector sp s e) : sProp 𝕄 := iprop(∃ f, holds d c j m f)

/-- After the first stretch: the key signatures of the first batch on their way, the query signatures arrived. -/
def After20 (d : Dev nD) (c : Fin τ.nSC) (j : Fin τ.nSub) (i : grid1.Coords) (arg2 arg3 : Memref sig .scVector .hbm S2x10x2048 .i32) (arg9 : Memref sig .scVector .vmem S2x2048 .i32)
    (arg10 arg11 : Memref sig .scVector .vmem S10x128 .i32) (arg20 arg21 : DmaSems sig S_) {A : Regs} (E : Env F d c j A) (q2 q3 : PosShare TreeShare)
    (r2 : Buf (Elt F) (arg2.view.loc (V d c j))) (r3 : Buf (Elt F) (arg3.view.loc (V d c j))) (n : ℕ) : sProp 𝕄 :=
  iprop(shares d c j arg2 q2 r2 ∗ fetching d c j arg3 (keyBlock0 arg3) arg9 arg20.sem q3.right r3 r3
    ∗ holds d c j arg10 ((queryBlock0 i arg2).view.read (Elt F) r2) ∗ holds d c j arg11 ((queryBlock1 i arg2).view.read (Elt F) r2)
    ∗ semVal (V d c j, SemLoc.dma arg21.sem) 0 ∗ ∃ σ, ⌜Zeroed σ n⌝ ∗ St (E.atOn false) σ)

/-- A list buffer written out to `dst`: row `r` of the destination is what `X` says of query `base + r`. -/
def sent (d : Dev nD) (c : Fin τ.nSC) (j : Fin τ.nSub) (m : Memref sig .scVector .vmem S64x64 .i32) (dst : Memref sig .scVector .hbm S64x64 .i32)
    (X : Prob F) (base : ℕ) : sProp 𝕄 :=
  iprop((∃ f, ⌜∀ r < 64, ∀ s < 64, f (ix2 r s) = X.out (base + r) s⌝ ∗ holds d c j dst f) ∗ some' F d c j m)

instance sent_storable {d : Dev nD} {c : Fin τ.nSC} {j : Fin τ.nSub} (m : Memref sig .scVector .vmem S64x64 .i32) (dst : Memref sig .scVector .hbm S64x64 .i32)
    (X : Prob F) (base : ℕ) : Storable (upEmb : UEmb _ 𝕄) (sent d c j m dst X base) := by
  unfold sent some'; infer_instance

theorem back_sent {d : Dev nD} {c : Fin τ.nSC} {j : Fin τ.nSub} {m : Memref sig .scVector .vmem S64x64 .i32} {dst : Memref sig .scVector .hbm S64x64 .i32}
    {X : Prob F} {base : ℕ} {raw : Buf (Elt F) (m.view.loc (V d c j))}
    (h : ∀ r < 64, ∀ s < 64, m.view.read (Elt F) raw (ix2 r s) = X.out (base + r) s) : back d c j m dst fullShare raw ⊢ sent d c j m dst X base := by
  unfold back sent some'
  iintro ⟨H1, H2⟩
  isplitl [H1]
  · iexists _
    isplitr; · ipureintro; exact h
    iexact H1
  · iexists _
    unfold holds shares
    iexists raw
    isplitr; · ipureintro; rfl
    iexact H2

/-- A batch's problem as a tile reads it. -/
abbrev problem (d : Dev nD) (c : Fin τ.nSC) (j : Fin τ.nSub) (b : ℕ) (arg2 arg3 : Memref sig .scVector .hbm S2x10x2048 .i32) (arg4 arg5 : Memref sig .scVector .hbm S2x2048x64 .f32)
    (r2 : Buf (Elt F) (arg2.view.loc (V d c j))) (r3 : Buf (Elt F) (arg3.view.loc (V d c j))) (r4 : Buf (Elt F) (arg4.view.loc (V d c j)))
    (r5 : Buf (Elt F) (arg5.view.loc (V d c j))) : Prob F :=
  batch b (arg2.view.read (Elt F) r2) (arg3.view.read (Elt F) r3) (arg4.view.read (Elt F) r4) (arg5.view.read (Elt F) r5)

/-- A tile's first query. -/
abbrev first (i : grid1.Coords) : ℕ := 128 * (i 1).val + 64 * (i 0).val

/-- What the tile holds of the second half's own while the first runs, and the other way round. -/
abbrev spare (F : FTy → Type) (d : Dev nD) (c : Fin τ.nSC) (j : Fin τ.nSub) (lsc : Memref sig .scVector .vmem S64x64 .f32) (s0 s1 s2 : DmaSems sig S_) : sProp 𝕄 :=
  iprop(some' F d c j lsc ∗ semVal (V d c j, SemLoc.dma s0.sem) 0 ∗ semVal (V d c j, SemLoc.dma s1.sem) 0 ∗ semVal (V d c j, SemLoc.dma s2.sem) 0)

/-- The buffers and counters one tile has of its own. -/
def scratch (d : Dev nD) (c : Fin τ.nSC) (j : Fin τ.nSub) (F : FTy → Type)
    (arg7 : Memref sig .scVector .vmem S32768 .i32) (arg8 : Memref sig .scVector .vmem S16384 .i32) (arg9 : Memref sig .scVector .vmem S2x2048 .i32)
    (arg10 arg11 : Memref sig .scVector .vmem S10x128 .i32) (arg12 : Memref sig .scVector .vmem S8x128 .i32) (arg13 arg14 : Memref sig .scVector .vmem S1x64 .f32)
    (arg15 arg16 : Memref sig .scVector .vmem S64x64 .f32) (arg17 arg18 : Memref sig .scVector .vmem S64x64 .i32) (arg19 : Memref sig .scVector .vmem S64 .i32)
    (arg20 arg21 arg22 v293_r0 v653_r1 v653_r2 v293_r3 v653_r4 v653_r5 : DmaSems sig S_) : sProp 𝕄 :=
  iprop(some' F d c j arg7 ∗ some' F d c j arg8 ∗ some' F d c j arg9 ∗ some' F d c j arg10 ∗ some' F d c j arg11 ∗ some' F d c j arg12
    ∗ some' F d c j arg13 ∗ some' F d c j arg14 ∗ some' F d c j arg15 ∗ some' F d c j arg16 ∗ some' F d c j arg17 ∗ some' F d c j arg18 ∗ some' F d c j arg19
    ∗ semVal (V d c j, SemLoc.dma arg20.sem) 0 ∗ semVal (V d c j, SemLoc.dma arg21.sem) 0 ∗ semVal (V d c j, SemLoc.dma arg22.sem) 0
    ∗ semVal (V d c j, SemLoc.dma v293_r0.sem) 0 ∗ semVal (V d c j, SemLoc.dma v653_r1.sem) 0 ∗ semVal (V d c j, SemLoc.dma v653_r2.sem) 0
    ∗ semVal (V d c j, SemLoc.dma v293_r3.sem) 0 ∗ semVal (V d c j, SemLoc.dma v653_r4.sem) 0 ∗ semVal (V d c j, SemLoc.dma v653_r5.sem) 0)

theorem lane0_pay94 : Lane0 k1_pay94 := by
  intro l hl
  unfold k1_pay94
  interval_cases l <;> decide +kernel

variable
  {i : grid1.Coords}
  {arg2 : Memref sig .scVector .hbm S2x10x2048 .i32}
  {harg2 : arg2.IsWhole}
  {arg3 : Memref sig .scVector .hbm S2x10x2048 .i32}
  {harg3 : arg3.IsWhole}
  {arg4 : Memref sig .scVector .hbm S2x2048x64 .f32}
  {harg4 : arg4.IsWhole}
  {arg5 : Memref sig .scVector .hbm S2x2048x64 .f32}
  {harg5 : arg5.IsWhole}
  {arg6 : Memref sig .scVector .hbm S2x2048x64 .i32}
  {harg6 : arg6.IsWhole}
  {arg7 : Memref sig .scVector .vmem S32768 .i32}
  {harg7 : arg7.IsWhole}
  {arg8 : Memref sig .scVector .vmem S16384 .i32}
  {harg8 : arg8.IsWhole}
  {arg9 : Memref sig .scVector .vmem S2x2048 .i32}
  {harg9 : arg9.IsWhole}
  {arg10 : Memref sig .scVector .vmem S10x128 .i32}
  {harg10 : arg10.IsWhole}
  {arg11 : Memref sig .scVector .vmem S10x128 .i32}
  {harg11 : arg11.IsWhole}
  {arg12 : Memref sig .scVector .vmem S8x128 .i32}
  {harg12 : arg12.IsWhole}
  {arg13 : Memref sig .scVector .vmem S1x64 .f32}
  {harg13 : arg13.IsWhole}
  {arg14 : Memref sig .scVector .vmem S1x64 .f32}
  {harg14 : arg14.IsWhole}
  {arg15 : Memref sig .scVector .vmem S64x64 .f32}
  {harg15 : arg15.IsWhole}
  {arg16 : Memref sig .scVector .vmem S64x64 .f32}
  {harg16 : arg16.IsWhole}
  {arg17 : Memref sig .scVector .vmem S64x64 .i32}
  {harg17 : arg17.IsWhole}
  {arg18 : Memref sig .scVector .vmem S64x64 .i32}
  {harg18 : arg18.IsWhole}
  {arg19 : Memref sig .scVector .vmem S64 .i32}
  {harg19 : arg19.IsWhole}
  {arg20 : DmaSems sig S_}
  {arg21 : DmaSems sig S_}
  {arg22 : DmaSems sig S_}
  {v293_r0 : DmaSems sig S_}
  {v653_r1 : DmaSems sig S_}
  {v653_r2 : DmaSems sig S_}
  {v293_r3 : DmaSems sig S_}
  {v653_r4 : DmaSems sig S_}
  {v653_r5 : DmaSems sig S_}

local notation "c₀" => (Fin.castLE hcore1 (i 0))
local notation "j₀" => (Fin.castLE hsub1 (i 1))

variable {d : Dev nD} {q2 q3 q4 q5 : PosShare TreeShare} {r2 : Buf (Elt F) (arg2.view.loc (V d ((i 0).castLE hcore1) ((i 1).castLE hsub1)))}
  {r3 : Buf (Elt F) (arg3.view.loc (V d ((i 0).castLE hcore1) ((i 1).castLE hsub1)))}
  {r4 : Buf (Elt F) (arg4.view.loc (V d ((i 0).castLE hcore1) ((i 1).castLE hsub1)))}
  {r5 : Buf (Elt F) (arg5.view.loc (V d ((i 0).castLE hcore1) ((i 1).castLE hsub1)))}
  {O : CellTallies nD τ sig (HIx 1)} {W : Waits sig (HIx 1)}

/-- The surroundings of the first batch's half, and of the second's. -/
abbrev env0 (d : Dev nD) (i : grid1.Coords) (arg3 : Memref sig .scVector .hbm S2x10x2048 .i32) (arg4 arg5 : Memref sig .scVector .hbm S2x2048x64 .f32)
    (arg7 : Memref sig .scVector .vmem S32768 .i32) (arg8 : Memref sig .scVector .vmem S16384 .i32) (arg9 : Memref sig .scVector .vmem S2x2048 .i32)
    (arg10 : Memref sig .scVector .vmem S10x128 .i32) (arg12 : Memref sig .scVector .vmem S8x128 .i32) (arg13 arg14 : Memref sig .scVector .vmem S1x64 .f32)
    (arg15 : Memref sig .scVector .vmem S64x64 .f32) (arg17 : Memref sig .scVector .vmem S64x64 .i32) (arg19 : Memref sig .scVector .vmem S64 .i32)
    (v293_r0 v653_r1 v653_r2 : DmaSems sig S_) (q3 q4 q5 : PosShare TreeShare)
    (r3 : Buf (Elt F) (arg3.view.loc (V d ((i 0).castLE hcore1) ((i 1).castLE hsub1))))
    (r4 : Buf (Elt F) (arg4.view.loc (V d ((i 0).castLE hcore1) ((i 1).castLE hsub1))))
    (r5 : Buf (Elt F) (arg5.view.loc (V d ((i 0).castLE hcore1) ((i 1).castLE hsub1))))
    (O : CellTallies nD τ sig (HIx 1)) (W : Waits sig (HIx 1)) : Env F d ((i 0).castLE hcore1) ((i 1).castLE hsub1)
      (regs0 arg3 arg4 arg5 arg7 arg8 arg9 arg10 arg12 arg13 arg14 arg15 arg17 arg19 v293_r0 v653_r1 v653_r2) :=
  ⟨q3, q4, q5, r3, r4, r5, O, W, false⟩

local notation "E₀" => env0 d i arg3 arg4 arg5 arg7 arg8 arg9 arg10 arg12 arg13 arg14 arg15 arg17 arg19 v293_r0 v653_r1 v653_r2 (PosShare.left q3) q4 q5 r3 r4 r5 O W
local notation "E₁" => env0 d i arg3 arg4 arg5 arg7 arg8 arg9 arg11 arg12 arg13 arg14 arg16 arg18 arg19 v293_r3 v653_r4 v653_r5 (PosShare.left q3) q4 q5 r3 r4 r5 O W

set_option maxHeartbeats 4000000 in
theorem part20_run (hv32 : ∀ x, v32 x = 0#32) (hN : arg10.view.amount (SemLoc.dma arg21.sem) = arg11.view.amount (SemLoc.dma arg21.sem)) :
    iprop(shares d c₀ j₀ arg2 q2 r2 ∗ shares d c₀ j₀ arg3 q3.right r3 ∗ some' F d c₀ j₀ arg9 ∗ some' F d c₀ j₀ arg10 ∗ some' F d c₀ j₀ arg11
        ∗ semVal (V d c₀ j₀, SemLoc.dma arg20.sem) 0 ∗ semVal (V d c₀ j₀, SemLoc.dma arg21.sem) 0 ∗ ∃ σ, St ((E₀).atOn false) σ)
      ⊢ run d c₀ j₀ (k1_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v32) fun _ => After20 d c₀ j₀ i arg2 arg3 arg9 arg10 arg11 arg20 arg21 E₀ q2 q3 r2 r3 48 := by
  rw [k1_part20_eq_skeleton]
  dsimp only [k1_part20_skel]
  unfold some'
  iintro ⟨H2, H3, H9, H10, H11, S20, S21, ⟨%σ, HS⟩⟩
  ihave H3' := (shares_part arg3 (Rect.unit (s := S2x10x2048) ![0, 8, 0] S1x2x2048.size inb_S2x10x2048_S1x2x2048_0_8_0) (fun _ => rfl) squeezes_S1x2x2048_S2x2048 q3.right r3) $$ H3
  icases H3' with ⟨H3, H3b⟩
  iapply (run_start (src := keyBlock0 arg3) (m := arg9) (sem := arg20.sem) (q := q3.right) (fs := r3) (show 0 < S2x2048.numel by decide)) $$ [H3 H9 S20]
  · isplitl [H3]; · iexact H3
    isplitl [H9]; · iexact H9
    iexact S20
  iintro Hkey
  ihave H2' := (shares_halve arg2 q2 r2).1 $$ H2
  icases H2' with ⟨H2l, H2r⟩
  ihave H2l' := (shares_part arg2 (Rect.unit (s := S2x10x2048) (k1_off1 i) S1x10x128.size (k1_off1_inb i)) (fun _ => rfl) squeezes_S1x10x128_S10x128 q2.left r2) $$ H2l
  icases H2l' with ⟨H2l, H2lb⟩
  ihave H2r' := (shares_part arg2 (Rect.unit (s := S2x10x2048) (k1_off2 i) S1x10x128.size (k1_off2_inb i)) (fun _ => rfl) squeezes_S1x10x128_S10x128 q2.right r2) $$ H2r
  icases H2r' with ⟨H2r, H2rb⟩
  imod (Transfers.batch_alloc' EC (V d c₀ j₀) (sm := SemLoc.dma arg21.sem) (none : HIx 1) (arg10.view.amount (SemLoc.dma arg21.sem))
    (two (back d c₀ j₀ (queryBlock0 i arg2) arg10 q2.left r2) (back d c₀ j₀ (queryBlock1 i arg2) arg11 q2.right r2))) $$ S21 with Hp
  iapply (run_push (src := queryBlock0 i arg2) (m := arg10) (sem := arg21.sem) (q := q2.left) (fs := r2) rfl (n := 0) (by decide)
    (P := back d c₀ j₀ (queryBlock0 i arg2) arg10 q2.left r2) (Q := back d c₀ j₀ (queryBlock1 i arg2) arg11 q2.right r2) .rfl) $$ [H2l H10 Hp]
  · isplitl [H2l]; · iexact H2l
    isplitl [H10]; · iexact H10
    iexact Hp
  iintro Hp
  iapply (run_push (src := queryBlock1 i arg2) (m := arg11) (sem := arg21.sem) (q := q2.right) (fs := r2) hN.symm (n := 1) (by decide)
    (P := back d c₀ j₀ (queryBlock0 i arg2) arg10 q2.left r2) (Q := back d c₀ j₀ (queryBlock1 i arg2) arg11 q2.right r2) .rfl) $$ [H2r H11 Hp]
  · isplitl [H2r]; · iexact H2r
    isplitl [H11]; · iexact H11
    iexact Hp
  iintro Hp
  iapply (run_T (t1_loop (E := (E₀).atOn false) (σ := σ))) $$ HS
  iintro %_ %σ1 %_ HS
  iapply (run_T (t2_loop (E := (E₀).atOn false) (σ := σ1))) $$ HS
  iintro %_ %σ2 %_ HS
  ihave HS' := (St_owing _ σ2) $$ HS
  icases HS' with ⟨How, HS⟩
  iapply (run_drain (m := arg10) (sem := arg21.sem) (N := arg10.view.amount (SemLoc.dma arg21.sem)) rfl (View.amount_pos _ _ (show 0 < S10x128.numel by decide))) $$ [Hp How]
  · isplitl [Hp]; · iexact Hp
    iexact How
  iintro ⟨Hp, How⟩
  iapply (run_drained (m := arg11) (sem := arg21.sem) (N := arg10.view.amount (SemLoc.dma arg21.sem)) hN.symm (View.amount_pos _ _ (show 0 < S10x128.numel by decide))) $$ [Hp How]
  · isplitl [Hp]; · iexact Hp
    iexact How
  iintro ⟨⟨H10, H2l⟩, ⟨H11, H2r⟩, S21, How⟩
  ihave HS := HS $$ How
  iapply (run_zero (n := 0) (fun r hr => absurd hr (by omega)) (by decide) hv32 rfl) $$ HS
  iintro %σ3 %h3 HS
  iapply (run_zero (n := 16) h3.2 (by decide) hv32 rfl) $$ HS
  iintro %σ4 %h4 HS
  iapply (run_zero (n := 32) h4.2 (by decide) hv32 rfl) $$ HS
  iintro %σ5 %h5 HS
  iapply run_pure
  unfold After20 fetching
  isplitl [H2l H2r H2lb H2rb]
  · iapply (shares_halve arg2 q2 r2).2
    isplitl [H2l H2lb]
    · iapply H2lb; iexact H2l
    · iapply H2rb; iexact H2r
  isplitl [Hkey H3b]
  · isplitl [Hkey]; · iexact Hkey
    iexact H3b
  isplitl [H10]; · iexact H10
  isplitl [H11]; · iexact H11
  isplitl [S21]; · iexact S21
  iexists σ5
  isplitr; · ipureintro; exact h5.2
  iexact HS

theorem queryBlock0_read {h r : ℕ} (hh : h < 10) (hr : r < 64) :
    (queryBlock0 i arg2).view.read (Elt F) r2 (ix2 h (64 * (i 0).val + r)) = arg2.view.read (Elt F) r2 (ix3 0 h (first i + r)) := by
  have hi : (i 0).val < 2 := (i 0).isLt
  refine (read_plane arg2 (k1_off1 i) (k1_off1_inb i) (fun _ => rfl) squeezes_S1x10x128_S10x128 r2 _).trans ?_
  rw [off1_eq, ix2_val0 (by omega), ix2_val1 (by omega)]
  refine congrArg (arg2.view.read (Elt F) r2) ?_
  show ix3 0 (0 + h) (128 * (i 1).val + (64 * (i 0).val + r)) = _
  rw [Nat.zero_add, Nat.add_assoc]

theorem queryBlock1_read {h r : ℕ} (hh : h < 10) (hr : r < 64) :
    (queryBlock1 i arg2).view.read (Elt F) r2 (ix2 h (64 * (i 0).val + r)) = arg2.view.read (Elt F) r2 (ix3 1 h (first i + r)) := by
  have hi : (i 0).val < 2 := (i 0).isLt
  refine (read_plane arg2 (k1_off2 i) (k1_off2_inb i) (fun _ => rfl) squeezes_S1x10x128_S10x128 r2 _).trans ?_
  rw [off2_eq, ix2_val0 (by omega), ix2_val1 (by omega)]
  refine congrArg (arg2.view.read (Elt F) r2) ?_
  show ix3 1 (0 + h) (128 * (i 1).val + (64 * (i 0).val + r)) = _
  rw [Nat.zero_add, Nat.add_assoc]

theorem keyBlock0_read {g k : ℕ} (hg : g < 2) (hk : k < 2048) :
    (keyBlock0 arg3).view.read (Elt F) r3 (ix2 g k) = arg3.view.read (Elt F) r3 (ix3 0 (8 + g) k) := by
  refine (read_plane arg3 ![0, 8, 0] inb_S2x10x2048_S1x2x2048_0_8_0 (fun _ => rfl) squeezes_S1x2x2048_S2x2048 r3 _).trans ?_
  rw [ix2_val0 (by omega), ix2_val1 (by omega)]
  refine congrArg (arg3.view.read (Elt F) r3) ?_
  show ix3 0 (8 + g) (0 + k) = _
  rw [Nat.zero_add]

theorem keyBlock1_read {g k : ℕ} (hg : g < 2) (hk : k < 2048) :
    (keyBlock1 arg3).view.read (Elt F) r3 (ix2 g k) = arg3.view.read (Elt F) r3 (ix3 1 (8 + g) k) := by
  refine (read_plane arg3 ![1, 8, 0] inb_S2x10x2048_S1x2x2048_1_8_0 (fun _ => rfl) squeezes_S1x2x2048_S2x2048 r3 _).trans ?_
  rw [ix2_val0 (by omega), ix2_val1 (by omega)]
  refine congrArg (arg3.view.read (Elt F) r3) ?_
  show ix3 1 (8 + g) (0 + k) = _
  rw [Nat.zero_add]

/-- From the first batch's buffers to the second's. -/
theorem St_swap (σ : Mem F) (f : Vec F S64x64 .f32) (g : Vec F S64x64 .i32) :
    iprop(St ((E₀).atOn false) σ ∗ holds d c₀ j₀ arg16 f ∗ holds d c₀ j₀ arg18 g ∗ semVal (V d c₀ j₀, SemLoc.dma v293_r3.sem) 0
        ∗ semVal (V d c₀ j₀, SemLoc.dma v653_r4.sem) 0 ∗ semVal (V d c₀ j₀, SemLoc.dma v653_r5.sem) 0)
      ⊢ iprop(St ((E₁).atOn false) { σ with lsc := f, lidx := g } ∗ holds d c₀ j₀ arg15 σ.lsc ∗ holds d c₀ j₀ arg17 σ.lidx
        ∗ semVal (V d c₀ j₀, SemLoc.dma v293_r0.sem) 0 ∗ semVal (V d c₀ j₀, SemLoc.dma v653_r1.sem) 0 ∗ semVal (V d c₀ j₀, SemLoc.dma v653_r2.sem) 0) := by
  unfold St
  simp only [Bool.false_eq_true, if_false]
  iintro ⟨⟨Ha3, Ha4, Ha5, Hpres, Hpres2, -, Hkhw, Hqrow, Hkrow, Hlsc, Hlidx, Hlcnt, Hs0, Hs1, Hs2, How⟩, H16, H18, R3, R4, R5⟩
  iframe

local notation "X₀" => problem d c₀ j₀ 0 arg2 arg3 arg4 arg5 r2 r3 r4 r5
local notation "X₁" => problem d c₀ j₀ 1 arg2 arg3 arg4 arg5 r2 r3 r4 r5
local notation "N₂" => View.amount (Memref.view (outBlock0 i arg6)) (SemLoc.dma (SemArray.sem arg22))

set_option maxHeartbeats 4000000 in
theorem part21_run (hv32 : ∀ x, v32 x = 0#32) (hv31 : v31 = BitVec.ofNat 32 (64 * (i 0).val)) (hm : Lane0 v35) :
    iprop(After20 d c₀ j₀ i arg2 arg3 arg9 arg10 arg11 arg20 arg21 E₀ q2 q3 r2 r3 48 ∗ some' F d c₀ j₀ (outBlock0 i arg6)
        ∗ semVal (V d c₀ j₀, SemLoc.dma arg22.sem) 0 ∗ spare F d c₀ j₀ arg16 v293_r3 v653_r4 v653_r5 ∗ some' F d c₀ j₀ arg18)
      ⊢ run d c₀ j₀ (k1_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5 v2 v31 v32 v35) fun _ =>
        iprop(shares d c₀ j₀ arg2 q2 r2 ∗ fetching d c₀ j₀ arg3 (keyBlock1 arg3) arg9 arg20.sem q3.right r3 r3
          ∗ some' F d c₀ j₀ arg10 ∗ holds d c₀ j₀ arg11 ((queryBlock1 i arg2).view.read (Elt F) r2)
          ∗ semVal (V d c₀ j₀, SemLoc.dma arg21.sem) 0
          ∗ pair d c₀ j₀ arg22.sem N₂ (sent d c₀ j₀ arg17 (outBlock0 i arg6) X₀ (first i)) (sent d c₀ j₀ arg18 (outBlock1 i arg6) X₁ (first i)) 1 0
          ∗ spare F d c₀ j₀ arg15 v293_r0 v653_r1 v653_r2
          ∗ ∃ σ, ⌜Zeroed σ 64⌝ ∗ St ((E₁).atOn false) σ) := by
  haveI : Env.On ((E₀).atOn true) := ⟨rfl⟩
  rw [k1_part21_eq_skeleton]
  dsimp only [k1_part21_skel]
  unfold After20 fetching spare some'
  iintro ⟨⟨H2, ⟨Hkey, H3b⟩, H10, H11, S21, %σ, %hz, HS⟩, Ho, S22, ⟨⟨%f16, H16⟩, R3, R4, R5⟩, %f18, H18⟩
  iapply (run_zero (n := 48) hz (by decide) hv32 rfl) $$ HS
  iintro %σ1 %h1 HS
  ihave HS' := (St_owing _ σ1) $$ HS
  icases HS' with ⟨How, HS⟩
  iapply (run_await (src := keyBlock0 arg3) (m := arg9) (q := q3.right) (fs := r3)) $$ [Hkey How]
  · isplitl [Hkey]; · iexact Hkey
    iexact How
  iintro ⟨⟨H9, H3⟩, S20, How⟩
  ihave HS := HS $$ How
  ihave H3 := H3b $$ H3
  ihave HS := (St_enter E₀ σ1 _ _) $$ [HS H9 H10]
  · isplitl [HS]; · iexact HS
    isplitl [H9]; · iexact H9
    iexact H10
  iapply (run_T (t3_loop (E := (E₀).atOn true) (σ := { σ1 with kv := (keyBlock0 arg3).view.read (Elt F) r3, qv := (queryBlock0 i arg2).view.read (Elt F) r2 })
    (X := X₀) (base := first i) hv31 hm rfl
    (fun h hh r hr => queryBlock0_read hh hr) (fun r hr k hk => rfl) (fun h hh k hk => rfl) (fun g hg k hk => keyBlock0_read hg hk) (show Zeroed _ 64 from h1.2).rows)) $$ HS
  iintro %_ %σ2 %h2 HS
  ihave HS := (St_leave E₀ σ2) $$ HS
  icases HS with ⟨HS, H9, H10⟩
  ihave H3' := (shares_part arg3 (Rect.unit (s := S2x10x2048) ![1, 8, 0] S1x2x2048.size inb_S2x10x2048_S1x2x2048_1_8_0) (fun _ => rfl) squeezes_S1x2x2048_S2x2048 q3.right r3) $$ H3
  icases H3' with ⟨H3, H3b⟩
  iapply (run_start (src := keyBlock1 arg3) (m := arg9) (sem := arg20.sem) (q := q3.right) (fs := r3) (show 0 < S2x2048.numel by decide)) $$ [H3 H9 S20]
  · isplitl [H3]; · iexact H3
    isplitl [H9]; · iexists _; iexact H9
    iexact S20
  iintro Hkey
  iapply (run_T (t14_loop (E := (E₀).atOn false) (X := X₀) (base := first i) rfl h2)) $$ HS
  iintro %_ %σ3 %h3 HS
  ihave HS := (St_swap σ3 f16 f18) $$ [HS H16 H18 R3 R4 R5]
  · iframe
  icases HS with ⟨HS, H15, H17, R0, R1, R2⟩
  imod (Transfers.batch_alloc' EC (V d c₀ j₀) (sm := SemLoc.dma arg22.sem) (none : HIx 1) N₂
    (two (sent d c₀ j₀ arg17 (outBlock0 i arg6) X₀ (first i)) (sent d c₀ j₀ arg18 (outBlock1 i arg6) X₁ (first i)))) $$ S22 with Hp
  ihave H17 := (show holds d c₀ j₀ arg17 σ3.lidx ⊢ iprop(∃ raw, ⌜arg17.view.read (Elt F) raw = σ3.lidx⌝ ∗ shares d c₀ j₀ arg17 fullShare raw) from by unfold holds shares; exact .rfl) $$ H17
  icases H17 with ⟨%raw, %hraw, H17⟩
  iapply (run_push (src := arg17) (m := outBlock0 i arg6) (sem := arg22.sem) (q := fullShare) (fs := raw) rfl (n := 0) (by decide)
    (P := sent d c₀ j₀ arg17 (outBlock0 i arg6) X₀ (first i)) (Q := sent d c₀ j₀ arg18 (outBlock1 i arg6) X₁ (first i))
    (back_sent (by rw [hraw]; exact h3))) $$ [H17 Ho Hp]
  · isplitl [H17]; · iexact H17
    isplitl [Ho]; · iexact Ho
    iexact Hp
  iintro Hp
  iapply (run_zero (n := 0) (fun r hr => absurd hr (by omega)) (by decide) hv32 rfl) $$ HS
  iintro %σ4 %h4 HS
  iapply (run_zero (n := 16) h4.2 (by decide) hv32 rfl) $$ HS
  iintro %σ5 %h5 HS
  iapply (run_zero (n := 32) h5.2 (by decide) hv32 rfl) $$ HS
  iintro %σ6 %h6 HS
  iapply (run_zero (n := 48) h6.2 (by decide) hv32 rfl) $$ HS
  iintro %σ7 %h7 HS
  iapply run_pure
  isplitl [H2]; · iexact H2
  isplitl [Hkey H3b]
  · isplitl [Hkey]; · iexact Hkey
    iexact H3b
  isplitl [H10]; · iexists _; iexact H10
  isplitl [H11]; · iexact H11
  isplitl [S21]; · iexact S21
  isplitl [Hp]; · iexact Hp
  isplitl [H15 R0 R1 R2]
  · isplitl [H15]; · iexists _; iexact H15
    iframe
  iexists σ7
  isplitr; · ipureintro; exact h7.2
  iexact HS

set_option maxHeartbeats 4000000 in
/-- The tile's run, from its scratch, a share of each array it reads and its two blocks of the result. -/
theorem join_run (hN : arg10.view.amount (SemLoc.dma arg21.sem) = arg11.view.amount (SemLoc.dma arg21.sem)) :
    iprop(shares d c₀ j₀ arg2 q2 r2 ∗ shares d c₀ j₀ arg3 q3 r3 ∗ shares d c₀ j₀ arg4 q4 r4 ∗ shares d c₀ j₀ arg5 q5 r5
        ∗ some' F d c₀ j₀ (outBlock0 i arg6) ∗ some' F d c₀ j₀ (outBlock1 i arg6)
        ∗ scratch d c₀ j₀ F arg7 arg8 arg9 arg10 arg11 arg12 arg13 arg14 arg15 arg16 arg17 arg18 arg19 arg20 arg21 arg22 v293_r0 v653_r1 v653_r2 v293_r3 v653_r4 v653_r5
        ∗ owing d c₀ j₀ O W)
      ⊢ run d c₀ j₀ (cc1_join (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 v293_r0 v653_r1 v653_r2 v293_r3 v653_r4 v653_r5) fun _ =>
        iprop(shares d c₀ j₀ arg2 q2 r2 ∗ shares d c₀ j₀ arg3 q3 r3 ∗ shares d c₀ j₀ arg4 q4 r4 ∗ shares d c₀ j₀ arg5 q5 r5
          ∗ (∃ f, ⌜∀ r < 64, ∀ s < 64, f (ix2 r s) = (X₀).out (first i + r) s⌝ ∗ holds d c₀ j₀ (outBlock0 i arg6) f)
          ∗ (∃ f, ⌜∀ r < 64, ∀ s < 64, f (ix2 r s) = (X₁).out (first i + r) s⌝ ∗ holds d c₀ j₀ (outBlock1 i arg6) f)
          ∗ scratch d c₀ j₀ F arg7 arg8 arg9 arg10 arg11 arg12 arg13 arg14 arg15 arg16 arg17 arg18 arg19 arg20 arg21 arg22 v293_r0 v653_r1 v653_r2 v293_r3 v653_r4 v653_r5
          ∗ owing d c₀ j₀ O W) := by
  haveI : Env.On ((E₁).atOn true) := ⟨rfl⟩
  rw [cc1_join_eq_skeleton]
  dsimp only [cc1_join_skel]
  rw [k1_part19_eq_skeleton]
  dsimp only [k1_part19_skel]
  have hv31 : ∀ i : grid1.Coords, Scalar.muli (Scalar.select (Scalar.andi (Scalar.xori (Scalar.cmpi .slt (Scalar.remsi (Scalar.addi (Scalar.muli (BitVec.ofNat 32 (i 1).val) 2#32) (BitVec.ofNat 32 (i 0).val)) (Scalar.select (Scalar.cmpi .eq 2#32 0#32) 1#32 2#32)) 0#32)
      (Scalar.cmpi .slt (Scalar.select (Scalar.cmpi .eq 2#32 0#32) 1#32 2#32) 0#32)) (Scalar.cmpi .ne (Scalar.remsi (Scalar.addi (Scalar.muli (BitVec.ofNat 32 (i 1).val) 2#32) (BitVec.ofNat 32 (i 0).val)) (Scalar.select (Scalar.cmpi .eq 2#32 0#32) 1#32 2#32)) 0#32))
      (Scalar.addi (Scalar.remsi (Scalar.addi (Scalar.muli (BitVec.ofNat 32 (i 1).val) 2#32) (BitVec.ofNat 32 (i 0).val)) (Scalar.select (Scalar.cmpi .eq 2#32 0#32) 1#32 2#32)) (Scalar.select (Scalar.cmpi .eq 2#32 0#32) 1#32 2#32))
      (Scalar.remsi (Scalar.addi (Scalar.muli (BitVec.ofNat 32 (i 1).val) 2#32) (BitVec.ofNat 32 (i 0).val)) (Scalar.select (Scalar.cmpi .eq 2#32 0#32) 1#32 2#32))) 64#32
      = BitVec.ofNat 32 (64 * (i 0).val) := by decide +kernel
  rw [hv31 i]
  simp only [pure_bind]
  unfold scratch
  iintro ⟨H2, H3, H4, H5, Ho0, Ho1, ⟨⟨%f7, H7⟩, ⟨%f8, H8⟩, ⟨%f9, H9⟩, ⟨%f10, H10⟩, ⟨%f11, H11⟩, ⟨%f12, H12⟩, ⟨%f13, H13⟩, ⟨%f14, H14⟩, ⟨%f15, H15⟩,
    ⟨%f16, H16⟩, ⟨%f17, H17⟩, ⟨%f18, H18⟩, ⟨%f19, H19⟩, S20, S21, S22, R0, R1, R2, R3, R4, R5⟩, How⟩
  ihave H3' := (shares_halve arg3 q3 r3).1 $$ H3
  icases H3' with ⟨H3l, H3r⟩
  ihave HS := (show iprop(shares d c₀ j₀ arg3 q3.left r3 ∗ shares d c₀ j₀ arg4 q4 r4 ∗ shares d c₀ j₀ arg5 q5 r5 ∗ holds d c₀ j₀ arg7 f7 ∗ holds d c₀ j₀ arg8 f8
      ∗ holds d c₀ j₀ arg12 f12 ∗ holds d c₀ j₀ arg13 f13 ∗ holds d c₀ j₀ arg14 f14 ∗ holds d c₀ j₀ arg15 f15 ∗ holds d c₀ j₀ arg17 f17 ∗ holds d c₀ j₀ arg19 f19
      ∗ semVal (V d c₀ j₀, SemLoc.dma v293_r0.sem) 0 ∗ semVal (V d c₀ j₀, SemLoc.dma v653_r1.sem) 0 ∗ semVal (V d c₀ j₀, SemLoc.dma v653_r2.sem) 0 ∗ owing d c₀ j₀ O W)
      ⊢ St ((E₀).atOn false) ⟨f7, f8, f9, f10, f12, f13, f14, f15, f17, f19⟩ from by
    unfold St
    simp only [Bool.false_eq_true, if_false]
    iintro ⟨Ha3, Ha4, Ha5, Hpres, Hpres2, Hkhw, Hqrow, Hkrow, Hlsc, Hlidx, Hlcnt, Hs0, Hs1, Hs2, How⟩
    iframe) $$ [H3l H4 H5 H7 H8 H12 H13 H14 H15 H17 H19 R0 R1 R2 How]
  · iframe
  iapply (run_seq (part20_run (d := d) (q2 := q2) (q3 := q3) (q4 := q4) (q5 := q5) (r2 := r2) (r3 := r3) (r4 := r4) (r5 := r5) (O := O) (W := W)
    (v32 := k1_pay93) (fun _ => rfl) hN)) $$ [H2 H3r H9 H10 H11 S20 S21 HS]
  · isplitl [H2]; · iexact H2
    isplitl [H3r]; · iexact H3r
    isplitl [H9]; · iexists _; iexact H9
    isplitl [H10]; · iexists _; iexact H10
    isplitl [H11]; · iexists _; iexact H11
    isplitl [S20]; · iexact S20
    isplitl [S21]; · iexact S21
    iexists _; iexact HS
  iintro %_ HA
  iapply (run_seq (part21_run (d := d) (q2 := q2) (q3 := q3) (q4 := q4) (q5 := q5) (r2 := r2) (r3 := r3) (r4 := r4) (r5 := r5) (O := O) (W := W)
    (v32 := k1_pay93) (v35 := k1_pay94) (fun _ => rfl) rfl lane0_pay94)) $$ [HA Ho0 S22 H16 H18 R3 R4 R5]
  · isplitl [HA]; · iexact HA
    isplitl [Ho0]; · iexact Ho0
    isplitl [S22]; · iexact S22
    isplitl [H16 R3 R4 R5]
    · isplitl [H16]; · iexists _; iexact H16
      iframe
    iexists _; iexact H18
  iintro %_ HA
  unfold fetching spare some'
  icases HA with ⟨H2, ⟨Hkey, H3b⟩, H10, H11, S21, Hp, ⟨H15, R0, R1, R2⟩, %σ, %hz, HS⟩
  ihave HS' := (St_owing _ σ) $$ HS
  icases HS' with ⟨How, HS⟩
  iapply (run_await (src := keyBlock1 arg3) (m := arg9) (q := q3.right) (fs := r3)) $$ [Hkey How]
  · isplitl [Hkey]; · iexact Hkey
    iexact How
  iintro ⟨⟨H9, H3⟩, S20, How⟩
  ihave HS := HS $$ How
  ihave H3 := H3b $$ H3
  ihave HS := (St_enter E₁ σ _ _) $$ [HS H9 H11]
  · isplitl [HS]; · iexact HS
    isplitl [H9]; · iexact H9
    iexact H11
  iapply (run_T (Second.t3_loop (E := (E₁).atOn true) (σ := { σ with kv := (keyBlock1 arg3).view.read (Elt F) r3, qv := (queryBlock1 i arg2).view.read (Elt F) r2 })
    (X := X₁) (base := first i) rfl lane0_pay94 rfl
    (fun h hh r hr => queryBlock1_read hh hr) (fun r hr k hk => rfl) (fun h hh k hk => rfl) (fun g hg k hk => keyBlock1_read hg hk) (show Zeroed _ 64 from hz).rows)) $$ HS
  iintro %_ %σ2 %h2 HS
  iapply (run_T (Second.t14_loop (E := (E₁).atOn true) (X := X₁) (base := first i) rfl h2)) $$ HS
  iintro %_ %σ3 %h3 HS
  unfold St
  simp only [if_true]
  icases HS with ⟨H3l, H4, H5, H7, H8, ⟨H9, H11⟩, H12, H13, H14, H16, H18, H19, R3, R4, R5, How⟩
  ihave H18 := (show holds d c₀ j₀ arg18 σ3.lidx ⊢ iprop(∃ raw, ⌜arg18.view.read (Elt F) raw = σ3.lidx⌝ ∗ shares d c₀ j₀ arg18 fullShare raw) from by unfold holds shares; exact .rfl) $$ H18
  icases H18 with ⟨%raw, %hraw, H18⟩
  iapply (run_push (src := arg18) (m := outBlock1 i arg6) (sem := arg22.sem) (q := fullShare) (fs := raw) (N := N₂) rfl (n := 1) (by decide)
    (P := sent d c₀ j₀ arg17 (outBlock0 i arg6) X₀ (first i)) (Q := sent d c₀ j₀ arg18 (outBlock1 i arg6) X₁ (first i))
    (back_sent (by rw [hraw]; exact h3))) $$ [H18 Ho1 Hp]
  · isplitl [H18]; · iexact H18
    isplitl [Ho1]; · iexact Ho1
    iexact Hp
  iintro Hp
  iapply (run_drain (m := outBlock0 i arg6) (sem := arg22.sem) (N := N₂) rfl (View.amount_pos _ _ (show 0 < S64x64.numel by decide))) $$ [Hp How]
  · isplitl [Hp]; · iexact Hp
    iexact How
  iintro ⟨Hp, How⟩
  iapply (run_drained (m := outBlock1 i arg6) (sem := arg22.sem) (N := N₂) rfl (View.amount_pos _ _ (show 0 < S64x64.numel by decide))) $$ [Hp How]
  · isplitl [Hp]; · iexact Hp
    iexact How
  iintro ⟨Hout0, Hout1, S22, How⟩
  iapply run_pure
  unfold sent some'
  icases Hout0 with ⟨Hout0, H17⟩
  icases Hout1 with ⟨Hout1, H18⟩
  isplitl [H2]; · iexact H2
  isplitl [H3l H3]
  · iapply (shares_halve arg3 q3 r3).2
    isplitl [H3l]; · iexact H3l
    iexact H3
  isplitl [H4]; · iexact H4
  isplitl [H5]; · iexact H5
  isplitl [Hout0]; · iexact Hout0
  isplitl [Hout1]; · iexact Hout1
  isplitr [How]
  rotate_left
  · iexact How
  isplitl [H7]; · iexists _; iexact H7
  isplitl [H8]; · iexists _; iexact H8
  isplitl [H9]; · iexists _; iexact H9
  isplitl [H10]; · iexact H10
  isplitl [H11]; · iexists _; iexact H11
  isplitl [H12]; · iexists _; iexact H12
  isplitl [H13]; · iexists _; iexact H13
  isplitl [H14]; · iexists _; iexact H14
  isplitl [H15]; · iexact H15
  isplitl [H16]; · iexists _; iexact H16
  isplitl [H17]; · iexact H17
  isplitl [H18]; · iexact H18
  isplitl [H19]; · iexists _; iexact H19
  iframe

end

end Cert.Proof.Join

end
-- ==== Proof.Blocks.lean ====
/-
  What one tile of the SparseCore call takes and gives back: read shares of the signatures and of the two tables of
  vectors, and its two blocks of the result, which it gives back holding the candidate lists.
-/
module

public import proofs.«01_k».proof.Proof.Body

@[expose] public section

noncomputable section

namespace Cert.Proof.Join

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-- The five arrays as a tile names them. -/
abbrev Qs : Memref sig .scVector .hbm S2x10x2048 .i32 := Memref.whole main_v0_0_scv
abbrev Ks : Memref sig .scVector .hbm S2x10x2048 .i32 := Memref.whole main_v0_1_scv
abbrev Qt : Memref sig .scVector .hbm S2x2048x64 .f32 := Memref.whole main_arg0_scv
abbrev Kt : Memref sig .scVector .hbm S2x2048x64 .f32 := Memref.whole main_arg1_scv
abbrev Ou : Memref sig .scVector .hbm S2x2048x64 .i32 := Memref.whole main_v1_scv

/-- Where they lie on device `d`. -/
abbrev qsLoc (d : Dev nD) : Loc nD τ sig := (d : Thread nD τ).loc main_v0_0
abbrev ksLoc (d : Dev nD) : Loc nD τ sig := (d : Thread nD τ).loc main_v0_1
abbrev qtLoc (d : Dev nD) : Loc nD τ sig := (d : Thread nD τ).loc main_arg0
abbrev ktLoc (d : Dev nD) : Loc nD τ sig := (d : Thread nD τ).loc main_arg1
abbrev ouLoc (d : Dev nD) : Loc nD τ sig := (d : Thread nD τ).loc main_v1

/-- The tile at core `c`, subcore `i`. -/
abbrev tileAt (c : Fin 2) (i : Fin 16) : grid1.Coords := fun | 0 => c | 1 => i | ⟨_ + 2, h⟩ => absurd h (Nat.not_lt.2 (Nat.le_add_left _ _))

/-! ## The result's blocks -/

/-- Block `n` of batch `b` of the result: sixty-four queries. -/
def blkSet (b n : ℕ) : Finset S2x2048x64.Idx := Finset.univ.filter fun y => (y 0).val = b ∧ (y 1).val / 64 = n

theorem mem_blkSet {b n : ℕ} {y : S2x2048x64.Idx} : y ∈ blkSet b n ↔ (y 0).val = b ∧ (y 1).val / 64 = n := by
  unfold blkSet; rw [Finset.mem_filter]; exact ⟨fun h => h.2, fun h => ⟨Finset.mem_univ _, h⟩⟩

/-- The number of a tile's block. -/
abbrev num (i : grid1.Coords) : ℕ := 2 * (i 1).val + (i 0).val

theorem mem_blk (off : Fin 3 → ℕ) (inb : ∀ a, off a + S1x64x64.size a ≤ S2x2048x64.size a) (b n : ℕ) (h : off = ![b, 64 * n, 0]) :
    (Rect.unit (s := S2x2048x64) off S1x64x64.size inb).set = blkSet b n := by
  subst h
  ext y
  rw [Rect.mem_set_unit, mem_blkSet]
  have h2 : (y 2).val < 64 := (y 2).isLt
  constructor
  · intro h
    have h0 : b ≤ (y 0).val ∧ (y 0).val < b + 1 := h 0
    have h1 : 64 * n ≤ (y 1).val ∧ (y 1).val < 64 * n + 64 := h 1
    omega
  · rintro ⟨h0, h1⟩ a
    fin_cases a
    · show b ≤ (y 0).val ∧ (y 0).val < b + 1
      omega
    · show 64 * n ≤ (y 1).val ∧ (y 1).val < 64 * n + 64
      omega
    · show 0 ≤ (y 2).val ∧ (y 2).val < 0 + 64
      omega

theorem off23_eq (i : grid1.Coords) : k1_off23 i = ![0, 64 * num i, 0] := by
  rw [k1_off23_eq, show 128 * (i 1).val + 64 * (i 0).val = 64 * num i by show _ = 64 * (2 * (i 1).val + (i 0).val); omega]
theorem off42_eq (i : grid1.Coords) : k1_off42 i = ![1, 64 * num i, 0] := by
  rw [k1_off42_eq, show 128 * (i 1).val + 64 * (i 0).val = 64 * num i by show _ = 64 * (2 * (i 1).val + (i 0).val); omega]

theorem outBlock0_set (i : grid1.Coords) : (outBlock0 i Ou).view.set = blkSet 0 (num i) := by
  show (((View.whole main_v1_scv).slice (Rect.unit (s := S2x2048x64) (k1_off23 i) S1x64x64.size (k1_off23_inb i))).reshape _ _).set = _
  rw [View.set_reshape, View.set_slice_whole]
  exact mem_blk _ _ _ _ (off23_eq i)
theorem outBlock1_set (i : grid1.Coords) : (outBlock1 i Ou).view.set = blkSet 1 (num i) := by
  show (((View.whole main_v1_scv).slice (Rect.unit (s := S2x2048x64) (k1_off42 i) S1x64x64.size (k1_off42_inb i))).reshape _ _).set = _
  rw [View.set_reshape, View.set_slice_whole]
  exact mem_blk _ _ _ _ (off42_eq i)

/-! ## What the call computes -/

/-- The candidate lists of every query of both batches, from the signatures and the two tables. -/
def lists (QS KS : Vec F S2x10x2048 .i32) (QT KT : Vec F S2x2048x64 .f32) : Vec F S2x2048x64 .i32 :=
  fun y => (batch (y 0).val QS KS QT KT).out (y 1).val (y 2).val

variable (d : Dev nD) (i : grid1.Coords)

local notation "c₀" => (Fin.castLE hcore1 (i 0))
local notation "j₀" => (Fin.castLE hsub1 (i 1))

theorem out0_of (QS KS : Vec F S2x10x2048 .i32) (QT KT : Vec F S2x2048x64 .f32) :
    iprop(∃ f, ⌜∀ r < 64, ∀ s < 64, f (ix2 r s) = (batch 0 QS KS QT KT).out (first i + r) s⌝ ∗ holds (F := F) d c₀ j₀ (outBlock0 i Ou) f)
      ⊢ (ouLoc d ↦[blkSet 0 (num i)]{fullShare} (lists QS KS QT KT : Buf (Elt F) (ouLoc d)) : sProp 𝕄) := by
  unfold holds
  iintro ⟨%f, %hf, %raw, %hr, H⟩
  have e : ∀ y ∈ blkSet 0 (num i), raw y = lists QS KS QT KT y := by
    intro y hy
    obtain ⟨h0, h1⟩ := mem_blkSet.mp hy
    have h2 : (y 2).val < 64 := (y 2).isLt
    have hm : (y 1).val % 64 < 64 := Nat.mod_lt _ (by decide)
    have hn : num i = 2 * (i 1).val + (i 0).val := rfl
    have := hf ((y 1).val % 64) hm (y 2).val h2
    rw [← hr] at this
    have hp := read_plane (F := F) Ou (k1_off23 i) (k1_off23_inb i) (fun _ => rfl) squeezes_S1x64x64_S64x64 raw (ix2 ((y 1).val % 64) (y 2).val)
    replace hp := hp.trans (show _ = Ou.view.read (Elt F) raw (ix3 0 (64 * num i + (y 1).val % 64) (0 + (y 2).val)) by
      rw [off23_eq, ix2_val0 hm, ix2_val1 h2]; rfl)
    have hy' : y = ix3 0 (64 * num i + (y 1).val % 64) (0 + (y 2).val) := eq_ix3 y h0 (by omega) (by omega)
    refine (congrArg raw hy').trans ((hp.symm.trans this).trans ?_)
    unfold lists
    rw [h0, show first i + (y 1).val % 64 = (y 1).val by show 128 * (i 1).val + 64 * (i 0).val + _ = _; omega]
  have e' : (ouLoc d ↦[blkSet 0 (num i)]{fullShare} (raw : Buf (Elt F) (ouLoc d)) : sProp 𝕄)
      = ouLoc d ↦[blkSet 0 (num i)]{fullShare} (lists QS KS QT KT : Buf (Elt F) (ouLoc d)) := pointsTo_congr e
  rw [← e', ← outBlock0_set]
  iexact H

theorem out1_of (QS KS : Vec F S2x10x2048 .i32) (QT KT : Vec F S2x2048x64 .f32) :
    iprop(∃ f, ⌜∀ r < 64, ∀ s < 64, f (ix2 r s) = (batch 1 QS KS QT KT).out (first i + r) s⌝ ∗ holds (F := F) d c₀ j₀ (outBlock1 i Ou) f)
      ⊢ (ouLoc d ↦[blkSet 1 (num i)]{fullShare} (lists QS KS QT KT : Buf (Elt F) (ouLoc d)) : sProp 𝕄) := by
  unfold holds
  iintro ⟨%f, %hf, %raw, %hr, H⟩
  have e : ∀ y ∈ blkSet 1 (num i), raw y = lists QS KS QT KT y := by
    intro y hy
    obtain ⟨h0, h1⟩ := mem_blkSet.mp hy
    have h2 : (y 2).val < 64 := (y 2).isLt
    have hm : (y 1).val % 64 < 64 := Nat.mod_lt _ (by decide)
    have hn : num i = 2 * (i 1).val + (i 0).val := rfl
    have := hf ((y 1).val % 64) hm (y 2).val h2
    rw [← hr] at this
    have hp := read_plane (F := F) Ou (k1_off42 i) (k1_off42_inb i) (fun _ => rfl) squeezes_S1x64x64_S64x64 raw (ix2 ((y 1).val % 64) (y 2).val)
    replace hp := hp.trans (show _ = Ou.view.read (Elt F) raw (ix3 1 (64 * num i + (y 1).val % 64) (0 + (y 2).val)) by
      rw [off42_eq, ix2_val0 hm, ix2_val1 h2]; rfl)
    have hy' : y = ix3 1 (64 * num i + (y 1).val % 64) (0 + (y 2).val) := eq_ix3 y h0 (by omega) (by omega)
    refine (congrArg raw hy').trans ((hp.symm.trans this).trans ?_)
    unfold lists
    rw [h0, show first i + (y 1).val % 64 = (y 1).val by show 128 * (i 1).val + 64 * (i 0).val + _ = _; omega]
  have e' : (ouLoc d ↦[blkSet 1 (num i)]{fullShare} (raw : Buf (Elt F) (ouLoc d)) : sProp 𝕄)
      = ouLoc d ↦[blkSet 1 (num i)]{fullShare} (lists QS KS QT KT : Buf (Elt F) (ouLoc d)) := pointsTo_congr e
  rw [← e', ← outBlock1_set]
  iexact H

theorem some0_of (f : Buf (Elt F) (ouLoc d)) : (ouLoc d ↦[blkSet 0 (num i)]{fullShare} f : sProp 𝕄) ⊢ some' F d c₀ j₀ (outBlock0 i Ou) := by
  unfold some' holds
  rw [← outBlock0_set]
  iintro H
  iexists _
  iexists f
  isplitr; · ipureintro; rfl
  iexact H
theorem some1_of (f : Buf (Elt F) (ouLoc d)) : (ouLoc d ↦[blkSet 1 (num i)]{fullShare} f : sProp 𝕄) ⊢ some' F d c₀ j₀ (outBlock1 i Ou) := by
  unfold some' holds
  rw [← outBlock1_set]
  iintro H
  iexists _
  iexists f
  isplitr; · ipureintro; rfl
  iexact H

theorem shares_whole {b : Ref sig .scVector} {c : Fin τ.nSC} {j : Fin τ.nSub} (q : PosShare TreeShare) (f : Buf (Elt F) ((Memref.whole b).view.loc (V d c j))) :
    (shares d c j (Memref.whole b) q f : sProp 𝕄) = ((V d c j).loc b ↦{q} f) := by
  unfold shares
  rw [show (Memref.whole b).view.set = Finset.univ from View.set_whole b]

/-! ## A tile's scratch -/

/-- A list of places taken out of a big separating conjunction. -/
theorem take_list {I : Type} [DecidableEq I] (f : I → sProp 𝕄) : ∀ (l : List I) (s : Finset I), l.Nodup → (∀ x ∈ l, x ∈ s) →
    bigSep s f = l.foldr (fun x P => iprop(f x ∗ P)) (bigSep (s \ l.toFinset) f)
  | [], s, _, _ => by rw [List.foldr_nil, List.toFinset_nil, Finset.sdiff_empty]
  | x :: l, s, hn, hm => by
    obtain ⟨hx, hl⟩ := List.nodup_cons.mp hn
    rw [SparseCore.bigSep_erase' (hm x (List.mem_cons_self ..)), List.foldr_cons,
      take_list f l (s.erase x) hl (fun y hy => Finset.mem_erase.mpr ⟨fun e => hx (e ▸ hy), hm y (List.mem_cons_of_mem _ hy)⟩)]
    congr 2
    rw [List.toFinset_cons, Finset.erase_sdiff_comm, ← Finset.sdiff_insert]

end Cert.Proof.Join

end
-- ==== Proof.Region.lean ====
/-
  The TensorCore's kernel: it reads the queries, the keys and the two hash weight tables, and writes the query
  signatures and the key signatures, one half per batch. Its body run over whole staging buffers, and the region of
  @main that fetches the four inputs, runs it once and writes the two outputs back.
-/
module

public import proofs.«01_k».proof.Proof.Pure
public import proofs.«01_k».proof.Proof.Gen.KernelIdeal.Launch
public import Idealize.ShloMosaic.Lib.Pipeline.RegionsLoop
public import Idealize.ShloMosaic.Lib.WritesUnit

@[expose] public section

noncomputable section

namespace Cert.Proof.Join

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on the TensorCore of `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- Batch `b` of a table of vectors, as the kernel loads it. -/
def slab (b : Fin 2) (x : Vec F S2x2048x64 .f32) : Vec F S1x2048x64 .f32 := fun y => x (ix3 b.val (y 1).val (y 2).val)

/-- The projection both calls share: which hash a column of the stacked table belongs to. -/
def ones : FVec F S64x4 .f32 := k0_pay6 k0_pay2 k0_pay3 k0_pay4 k0_pay5

/-- What the kernel stores for a batch: the queries' signatures of batch 0 and 1, the keys' of batch 0 and 1. -/
def sigQ0 (w0 w1 : Vec F S32x4 .f32) (v : Vec F S1x2048x64 .f32) : IVec S1x10x2048 32 :=
  k0_pay12 (k0_pay8 w0 w1 k0_pay2 k0_pay3 k0_pay4 k0_pay5 v) (k0_pay9 w0 w1 k0_pay2 k0_pay3 k0_pay4 k0_pay5 v)
    (k0_pay10 w0 w1 k0_pay2 k0_pay3 k0_pay4 k0_pay5 v) (k0_pay11 w0 w1 k0_pay2 k0_pay3 k0_pay4 k0_pay5 v)
def sigK0 (w0 w1 : Vec F S32x4 .f32) (v : Vec F S1x2048x64 .f32) : IVec S1x10x2048 32 :=
  k0_pay16 (k0_pay14 w0 w1 ones v) (k0_pay15 w0 w1 ones v)
def sigQ1 (w0 w1 : Vec F S32x4 .f32) (v : Vec F S1x2048x64 .f32) : IVec S1x10x2048 32 :=
  k0_pay21 (k0_pay17 w0 w1 ones v) (Scalar.ofBits .f32 0x42000000#32) (k0_pay18 w0 w1 ones v) (k0_pay19 w0 w1 ones v) (k0_pay20 w0 w1 ones v)
def sigK1 (w0 w1 : Vec F S32x4 .f32) (v : Vec F S1x2048x64 .f32) : IVec S1x10x2048 32 :=
  k0_pay1 (k0_pay22 w0 w1 ones v) (Scalar.ofBits .f32 0x42000000#32) (k0_pay23 w0 w1 ones v) (k0_pay24 w0 w1 ones v) (k0_pay25 (F := F))

/-- Two halves, one per batch. -/
def halves (a b : IVec S1x10x2048 32) : Vec F S2x10x2048 .i32 := fun y => if (y 0).val = 0 then a (ix3 0 (y 1).val (y 2).val) else b (ix3 0 (y 1).val (y 2).val)

def sigQ (w0 w1 : Vec F S32x4 .f32) (x : Vec F S2x2048x64 .f32) : Vec F S2x10x2048 .i32 := halves (sigQ0 w0 w1 (slab 0 x)) (sigQ1 w0 w1 (slab 1 x))
def sigK (w0 w1 : Vec F S32x4 .f32) (x : Vec F S2x2048x64 .f32) : Vec F S2x10x2048 .i32 := halves (sigK0 w0 w1 (slab 0 x)) (sigK1 w0 w1 (slab 1 x))

/-- The six whole staging buffers. -/
abbrev M0 : Memref sig .tc .vmem S2x2048x64 .f32 := Memref.whole cc0_stg0_0
abbrev M1 : Memref sig .tc .vmem S2x2048x64 .f32 := Memref.whole cc0_stg1_0
abbrev M2 : Memref sig .tc .vmem S32x4 .f32 := Memref.whole cc0_stg2_0
abbrev M3 : Memref sig .tc .vmem S32x4 .f32 := Memref.whole cc0_stg3_0
abbrev M4 : Memref sig .tc .vmem S2x10x2048 .i32 := Memref.whole cc0_stg4_0
abbrev M5 : Memref sig .tc .vmem S2x10x2048 .i32 := Memref.whole cc0_stg5_0

/-- A load of one batch of a staged table, and of a whole weight table. -/
theorem load_slab0 (c : Dev nD) (inb) (f : Bf F c M0) :
    View.readAt (Elt F) M0.view (Rect.unit (s := S2x2048x64) ![0, 0, 0] S1x2048x64.size inb).toLoadRect f = slab 0 f := by
  funext y
  refine congrArg f (funext fun a => Fin.ext ?_)
  have h0 : (y 0).val < 1 := (y 0).isLt
  have h1 : (y 1).val < 2048 := (y 1).isLt
  have h2 : (y 2).val < 64 := (y 2).isLt
  fin_cases a
  · show 0 + 1 * (y 0).val = 0 % 2
    omega
  · show 0 + 1 * (y 1).val = (y 1).val % 2048
    omega
  · show 0 + 1 * (y 2).val = (y 2).val % 64
    omega

theorem load_slab1 (c : Dev nD) (inb) (f : Bf F c M0) :
    View.readAt (Elt F) M0.view (Rect.unit (s := S2x2048x64) ![1, 0, 0] S1x2048x64.size inb).toLoadRect f = slab 1 f := by
  funext y
  refine congrArg f (funext fun a => Fin.ext ?_)
  have h0 : (y 0).val < 1 := (y 0).isLt
  have h1 : (y 1).val < 2048 := (y 1).isLt
  have h2 : (y 2).val < 64 := (y 2).isLt
  fin_cases a
  · show 1 + 1 * (y 0).val = 1 % 2
    omega
  · show 0 + 1 * (y 1).val = (y 1).val % 2048
    omega
  · show 0 + 1 * (y 2).val = (y 2).val % 64
    omega

theorem load_table (c : Dev nD) (inb) (f : Bf F c M2) :
    View.readAt (Elt F) M2.view (Rect.unit ![0, 0] S32x4.size inb).toLoadRect f = f := by
  funext y
  refine congrArg f (funext fun a => Fin.ext ?_)
  fin_cases a
  · show 0 + 1 * (y 0).val = (y 0).val
    omega
  · show 0 + 1 * (y 1).val = (y 1).val
    omega

/-- Two stores, one per batch, leave the two halves. -/
theorem store_halves (M : Memref sig .tc .vmem S2x10x2048 .i32) (f : M.view.ty.Contents (Elt F)) (inb1 inb0) (x y : IVec S1x10x2048 32) :
    M.view.read (Elt F) (M.view.writes (Elt F) f
        [⟨Rect.unit ![1, 0, 0] S1x10x2048.size inb1, y⟩, ⟨Rect.unit ![0, 0, 0] S1x10x2048.size inb0, x⟩])
      = halves (F := F) x y := by
  funext k
  have h0 : (k 0).val < 2 := (k 0).isLt
  have h1 : (k 1).val < 10 := (k 1).isLt
  have h2 : (k 2).val < 2048 := (k 2).isLt
  unfold halves
  by_cases hk : (k 0).val = 0
  · rw [if_pos hk]
    have hb : (k 0).val < 1 := by omega
    rw [View.read_writes_cons_unit_of_not_mem (Val := Elt F) M.view f inb1 y _ k rfl (0 : Fin 3) (Or.inl hb)]
    rw [View.read_writes_cons_unit_of_mem (Val := Elt F) M.view f inb0 x [] k (ix3 (n := 1) (m := 10) (l := 2048) 0 (k 1).val (k 2).val) rfl (fun a => ?_)]
    fin_cases a
    · show (k 0).val = 0 + 0 % 1
      omega
    · show (k 1).val = 0 + (k 1).val % 10
      omega
    · show (k 2).val = 0 + (k 2).val % 2048
      omega
  · rw [if_neg hk]
    rw [View.read_writes_cons_unit_of_mem (Val := Elt F) M.view f inb1 y _ k (ix3 (n := 1) (m := 10) (l := 2048) 0 (k 1).val (k 2).val) rfl (fun a => ?_)]
    fin_cases a
    · show (k 0).val = 1 + 0 % 1
      omega
    · show (k 1).val = 0 + (k 1).val % 10
      omega
    · show (k 2).val = 0 + (k 2).val % 2048
      omega

theorem read4 (c : Dev nD) (f : Bf F c M4) : M4.view.read (Elt F) f = f := rfl
theorem read5 (c : Dev nD) (f : Bf F c M5) : M5.view.read (Elt F) f = f := rfl

theorem sig_run (c : Dev nD) (h0 : M0.IsWhole) (h1 : M1.IsWhole) (h2 : M2.IsWhole) (h3 : M3.IsWhole) (h4 : M4.IsWhole) (h5 : M5.IsWhole)
    (f0 : Bf F c M0) (f1 : Bf F c M1) (f2 : Bf F c M2) (f3 : Bf F c M3) (f4 : Bf F c M4) (f5 : Bf F c M5) (Q : PUnit → sProp 𝕄) :
    iprop(pt c M0 f0 ∗ pt c M1 f1 ∗ pt c M2 f2 ∗ pt c M3 f3 ∗ pt c M4 f4 ∗ pt c M5 f5
        ∗ (iprop(pt c M0 f0 ∗ pt c M1 f1 ∗ pt c M2 f2 ∗ pt c M3 f3 ∗ pt c M4 (sigQ (F := F) f2 f3 f0) ∗ pt c M5 (sigK (F := F) f2 f3 f1)) -∗ Q ⟨⟩))
      ⊢ wp frame (wpE (defs₀ (F := F)) 𝒱₀ (c : Thread nD τ) none) Set.univ (cc0__sig_block M0 h0 M1 h1 M2 h2 M3 h3 M4 h4 M5 h5) Q := by
  iintro ⟨H0, H1, H2, H3, H4, H5, Hk⟩
  sl_exec!
  sl_step
  have hr : sig_run.sl.r c f2 = f2 := load_table c _ f2
  have hr1 : sig_run.sl.r_1 c f3 = f3 := load_table c _ f3
  have c2 : cmpi CmpIPredicate.eq sig_run.sl.v27 sig_run.sl.v3 = k0_pay2 := rfl
  have c3 : remsi sig_run.sl.v2 sig_run.sl.v4 = k0_pay3 := rfl
  have c4 : andi sig_run.sl.v40 sig_run.sl.v23 = k0_pay4 := rfl
  have c5 : sig_run.sl.v4 = k0_pay5 := rfl
  have r2 : sig_run.sl.r_2 = ones (F := F) := by
    delta sig_run.sl.r_2 ones
    rw [c2, c3, c4, c5]
  have q0 : k0_pay12 (sig_run.sl.r_3 c f0 f2 f3) (sig_run.sl.r_4 c f0 f2 f3) (sig_run.sl.r_5 c f0 f2 f3) (sig_run.sl.r_6 c f0 f2 f3)
      = sigQ0 f2 f3 (slab 0 f0) := by
    delta sig_run.sl.r_3 sig_run.sl.r_4 sig_run.sl.r_5 sig_run.sl.r_6 sigQ0
    rw [hr, hr1, c2, c3, c4, c5, load_slab0]
  have q1 : k0_pay21 (sig_run.sl.r_9 c f0 f2 f3) sig_run.sl.cst_55 (sig_run.sl.r_10 c f0 f2 f3) (sig_run.sl.r_11 c f0 f2 f3) (sig_run.sl.r_12 c f0 f2 f3)
      = sigQ1 f2 f3 (slab 1 f0) := by
    delta sig_run.sl.r_9 sig_run.sl.r_10 sig_run.sl.r_11 sig_run.sl.r_12 sig_run.sl.cst_55 sigQ1
    rw [hr, hr1, r2, load_slab1]
  have p0 : k0_pay16 (sig_run.sl.r_7 c f1 f2 f3) (sig_run.sl.r_8 c f1 f2 f3) = sigK0 f2 f3 (slab 0 f1) := by
    delta sig_run.sl.r_7 sig_run.sl.r_8 sigK0
    rw [hr, hr1, r2]
    erw [load_slab0 c]
  have p1 : k0_pay1 (sig_run.sl.r_13 c f1 f2 f3) sig_run.sl.cst_55 (sig_run.sl.r_14 c f1 f2 f3) (sig_run.sl.r_15 c f1 f2 f3) k0_pay25
      = sigK1 f2 f3 (slab 1 f1) := by
    delta sig_run.sl.r_13 sig_run.sl.r_14 sig_run.sl.r_15 sig_run.sl.cst_55 sigK1
    rw [hr, hr1, r2]
    erw [load_slab1 c]
  have e4 : M4.view.writes (Elt F) M4.view.junk (sig_run.sl.H4_2 c f0 f2 f3) = sigQ (F := F) f2 f3 f0 := by
    delta sig_run.sl.H4_2 sigQ
    rw [q0, q1]
    exact (read4 c _).symm.trans (store_halves M4 _ _ _ _ _)
  have e5 : M5.view.writes (Elt F) M5.view.junk (sig_run.sl.H5_2 c f1 f2 f3) = sigK (F := F) f2 f3 f1 := by
    delta sig_run.sl.H5_2 sigK
    rw [p0, p1]
    exact (read5 c _).symm.trans (store_halves M5 _ _ _ _ _)
  rw [e4, e5]
  iapply Hk
  iframe H0 H1 H2 H3 H4 H5

/-! ## The proof data of the region -/

/-- The SparseCore call's configuration, and what the region's thread owes it: nothing at the pipeline's index. -/
abbrev KK : SparseCore.Cfg τ sig (Pipeline.Sig Λ₀ (Fin 1) fun p => (pcfgs (F := F) p).Adm) 1 := sc (F := F)
abbrev debts (d : Dev nD) : CellTallies nD τ sig (HIx 1) := (KK (F := F)).Otc d 0

theorem debts_none (d : Dev nD) (g : GSem nD τ sig) : debts (F := F) d g (none : HIx 1) = 0 := by
  by_contra h
  have := SparseCore.Cfg.lev_of_Otc_pos (K := KK (F := F)) (Nat.pos_of_ne_zero h)
  rw [SparseCore.Cfg.lev_none] at this
  omega

variable [∀ e, Nonempty (Elt F e)]
variable (V : (c : Dev nD) → (b : Ref sig .tc) → Buf (Elt F) ((c : Thread nD τ).loc b))

/-- The inputs' blocks as the fetch stages them. -/
abbrev stg0 (c : Dev nD) : Vec F S2x2048x64 .f32 := ((cfg0.win 0).blk t0_0).view.read (Elt F) (V c main_arg0)
abbrev stg1 (c : Dev nD) : Vec F S2x2048x64 .f32 := ((cfg0.win 1).blk t0_0).view.read (Elt F) (V c main_arg1)
abbrev stg2 (c : Dev nD) : Vec F S32x4 .f32 := ((cfg0.win 2).blk t0_0).view.read (Elt F) (V c main_arg2)
abbrev stg3 (c : Dev nD) : Vec F S32x4 .f32 := ((cfg0.win 3).blk t0_0).view.read (Elt F) (V c main_arg3)

/-- The invariant between the region's ends: the scoped buffers the pipeline does not stage. -/
abbrev Φc (c : Dev nD) : sProp 𝕄 := Pipeline.scopedRest (Ix := HIx 1) (Name := ℕ) (U := UU) (Lvl := ℕ) (Val := Elt F) spec0 c

def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => sigQ (F := F) (stg2 V c) (stg3 V c) (stg0 V c)
    | ⟨5, _⟩ => sigK (F := F) (stg2 V c) (stg3 V c) (stg1 V c)
  Φ _ := Φc c
  q _ := fullShare
  owed _ := debts (F := F) c
  recorded _ := {p | (KK (F := F)).lev ((c : Thread nD τ), p.1) p.2 ≤ 0}

theorem before0 (c : Dev nD) (d : (cfg0.win 0).block.Idx → Elt F (cfg0.win 0).elt) : (dat V c).before 0 t0_0 d = stg0 V c := by
  unfold Dat.before; rw [if_pos (by decide)]; rfl
theorem before1 (c : Dev nD) (d : (cfg0.win 1).block.Idx → Elt F (cfg0.win 1).elt) : (dat V c).before 1 t0_0 d = stg1 V c := by
  unfold Dat.before; rw [if_pos (by decide)]; rfl
theorem before2 (c : Dev nD) (d : (cfg0.win 2).block.Idx → Elt F (cfg0.win 2).elt) : (dat V c).before 2 t0_0 d = stg2 V c := by
  unfold Dat.before; rw [if_pos (by decide)]; rfl
theorem before3 (c : Dev nD) (d : (cfg0.win 3).block.Idx → Elt F (cfg0.win 3).elt) : (dat V c).before 3 t0_0 d = stg3 V c := by
  unfold Dat.before; rw [if_pos (by decide)]; rfl

theorem body_obligation (c : Dev nD) : BodyObligation (dat V c) (defs₀ (F := F)) 𝒱₀ (none : HIx 1) Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt (none : HIx 1) t0_0.succ = (dat V c).owesAt (none : HIx 1) t0_0.castSucc from rfl]
  iintro ⟨HΦ, Howes, ⟨%d0, %f0, %hf0, H0⟩, ⟨%d1, %f1, %hf1, H1⟩, ⟨%d2, %f2, %hf2, H2⟩, ⟨%d3, %f3, %hf3, H3⟩,
    ⟨%d4, %f4, -, H4⟩, ⟨%d5, %f5, -, H5⟩⟩
  rw [before0] at hf0
  rw [before1] at hf1
  rw [before2] at hf2
  rw [before3] at hf3
  subst hf0 hf1 hf2 hf3
  iapply (sig_run c (hstage0_0 0) (hstage0_1 0) (hstage0_2 0) (hstage0_3 0) (hstage0_4 0) (hstage0_5 0) _ _ _ _ f4 f5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-! ## The region -/

/-- What the region leaves in the two signature arrays. -/
def qsigOut (c : Dev nD) : Buf (Elt F) ((c : Thread nD τ).loc main_v0_0) := (dat V c).arrAt 4 cfg0.N
def ksigOut (c : Dev nD) : Buf (Elt F) ((c : Thread nD τ).loc main_v0_1) := (dat V c).arrAt 5 cfg0.N

/-- The buffers after the region. -/
def Vp (c : Dev nD) (b : Ref sig .tc) : Buf (Elt F) ((c : Thread nD τ).loc b) :=
  if h : b = main_v0_0 then h ▸ qsigOut V c else if h : b = main_v0_1 then h ▸ ksigOut V c else V c b

theorem Vp_q (c : Dev nD) : Vp V c main_v0_0 = qsigOut V c := by
  unfold Vp; rw [dif_pos rfl]
theorem Vp_k (c : Dev nD) : Vp V c main_v0_1 = ksigOut V c := by
  unfold Vp; rw [dif_neg (by decide), dif_pos rfl]
theorem Vp_ne (c : Dev nD) (b : Ref sig .tc) (h : b ≠ main_v0_0) (h' : b ≠ main_v0_1) : Vp V c b = V c b := by
  unfold Vp; rw [dif_neg h, dif_neg h']

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

/-- What the thread owes before and after the region, with its waits recorded at level 0. -/
abbrev owed0 (d : Dev nD) : sProp 𝕄 :=
  iprop(∃ W, ⌜(KK (F := F)).WBelow (d : Thread nD τ) W 0⌝ ∗ owes (d : Thread nD τ) (debts (F := F) d) W)

set_option backward.isDefEq.respectTransparency.types false in
def reg : Pipeline.RegionSeg (pcfgs (F := F)) adm (pdats V adm) (none : HIx 1) defs₀ 𝒱₀ (KK (F := F)).L (KK (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ c fun w s t => (KK (F := F)).mayWait_none _ (debts_none c)
  pre c := iprop(unscopedBufs c (V c) ∗ owed0 c)
  post c := iprop(unscopedBufs c (Vp V c) ∗ owed0 c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp V c) ((pdats V adm 0 c).arrAt · cfg0.N)
      (fun w => by
        fin_cases w
        · exact ((pdats V adm 0 c).arrAt_in 0 rfl _).trans (Vp_ne V c main_arg0 (by decide) (by decide)).symm
        · exact ((pdats V adm 0 c).arrAt_in 1 rfl _).trans (Vp_ne V c main_arg1 (by decide) (by decide)).symm
        · exact ((pdats V adm 0 c).arrAt_in 2 rfl _).trans (Vp_ne V c main_arg2 (by decide) (by decide)).symm
        · exact ((pdats V adm 0 c).arrAt_in 3 rfl _).trans (Vp_ne V c main_arg3 (by decide) (by decide)).symm
        · exact (Vp_q V c).symm
        · exact (Vp_k V c).symm)
      (fun b hb => Vp_ne V c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.le_of_eq (SparseCore.Cfg.lev_none _ _)
    iexact HO

end Cert.Proof.Join

end
-- ==== Proof.Tile.lean ====
/-
  The tile's task as the launch states it: from its scoped buffers and semaphores, its read shares and its two blocks.
-/
module

public import proofs.«01_k».proof.Proof.Blocks
public import proofs.«01_k».proof.Proof.Region

@[expose] public section

noncomputable section

namespace Cert.Proof.Join

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-- The tile's scratch buffers and its semaphores. -/
def bufList : List (Ref sig .scVector) :=
  [cc1_scratch0, cc1_scratch1, cc1_scratch2, cc1_scratch3, cc1_scratch4, cc1_scratch5, cc1_scratch6, cc1_scratch7, cc1_scratch8, cc1_scratch9,
    cc1_scratch10, cc1_scratch11, cc1_scratch12]
def semList : List (SemLoc sig) :=
  [SemLoc.dma cc1_scratch13.sem, SemLoc.dma cc1_scratch14.sem, SemLoc.dma cc1_scratch15.sem, SemLoc.dma cc1_scoped0.sem, SemLoc.dma cc1_scoped1.sem,
    SemLoc.dma cc1_scoped2.sem, SemLoc.dma cc1_scoped3.sem, SemLoc.dma cc1_scoped4.sem, SemLoc.dma cc1_scoped5.sem]

variable (F) in
/-- A buffer of the tile, at some contents. -/
abbrev anyAt (d : Dev nD) (c : Fin τ.nSC) (j : Fin τ.nSub) (b : Ref sig .scVector) : sProp 𝕄 :=
  iprop(∃ f, (d, (Proc.scVector c j).devRef b) ↦{fullShare} (f : Buf (Elt F) ((d, (Proc.scVector c j).devRef b) : Loc nD τ sig)))

theorem eq_of {P Q : sProp 𝕄} (h : P ⊢ Q) (h' : Q ⊢ P) : P = Q := BI.Entails.antisymm h h'

variable (d : Dev nD) (c : Fin τ.nSC) (j : Fin τ.nSub)

theorem some_whole (b : Ref sig .scVector) : (some' F d c j (Memref.whole b) : sProp 𝕄) = anyAt F d c j b := by
  refine eq_of ?_ ?_
  · unfold some' holds anyAt
    rw [show (Memref.whole b).view.set = Finset.univ from View.set_whole b]
    iintro ⟨%f, %raw, -, H⟩
    iexists raw; iexact H
  · unfold some' holds anyAt
    rw [show (Memref.whole b).view.set = Finset.univ from View.set_whole b]
    iintro ⟨%raw, H⟩
    iexists _; iexists raw
    isplitr; · ipureintro; rfl
    iexact H

variable (F) in
/-- The tile's scratch at its own buffers and semaphores. -/
abbrev scratchAt (d : Dev nD) (c : Fin τ.nSC) (j : Fin τ.nSub) : sProp 𝕄 :=
  scratch d c j F (Memref.whole cc1_scratch0) (Memref.whole cc1_scratch1) (Memref.whole cc1_scratch2) (Memref.whole cc1_scratch3) (Memref.whole cc1_scratch4)
    (Memref.whole cc1_scratch5) (Memref.whole cc1_scratch6) (Memref.whole cc1_scratch7) (Memref.whole cc1_scratch8) (Memref.whole cc1_scratch9)
    (Memref.whole cc1_scratch10) (Memref.whole cc1_scratch11) (Memref.whole cc1_scratch12) cc1_scratch13 cc1_scratch14 cc1_scratch15 cc1_scoped0 cc1_scoped1
    cc1_scoped2 cc1_scoped3 cc1_scoped4 cc1_scoped5

variable (F) in
/-- What of the tile's own the call does not use. -/
def restBufs (d : Dev nD) (c : Fin τ.nSC) (j : Fin τ.nSub) : sProp 𝕄 :=
  bigSep (ownRefs (τ := τ) (.scVector c j) \ (bufList.map (Proc.scVector c j).devRef).toFinset) fun b => iprop(∃ f, ((d, b) : Loc nD τ sig) ↦{fullShare} (f : Buf (Elt F) ((d, b) : Loc nD τ sig)))
variable (F) in
def restSems (d : Dev nD) (c : Fin τ.nSC) (j : Fin τ.nSub) : sProp 𝕄 :=
  bigSep (ownCells (V d c j) \ (semList.map fun s => ((V d c j, s) : GSem nD τ sig)).toFinset) fun g => semVal g 0

theorem bufList_nodup : bufList.Nodup := by decide +kernel
theorem semList_nodup : semList.Nodup := by decide +kernel

omit d in
theorem bufList_owner : ∀ b ∈ bufList, ((Proc.scVector c j).devRef b).owner = Owner.proc (Proc.scVector c j) := by
  intro b hb
  unfold bufList at hb
  simp only [List.mem_cons, List.not_mem_nil, or_false] at hb
  rcases hb with rfl | rfl | rfl | rfl | rfl | rfl | rfl | rfl | rfl | rfl | rfl | rfl | rfl <;> rfl

theorem scratchAt_eq (Z : sProp 𝕄) : (iprop(scratchAt F d c j ∗ Z) : sProp 𝕄)
    = iprop((bufList.foldr (fun b P => iprop(anyAt F d c j b ∗ P)) BI.emp) ∗ (semList.foldr (fun s P => iprop(semVal (V d c j, s) 0 ∗ P)) BI.emp) ∗ Z) := by
  unfold scratchAt scratch bufList semList
  simp only [List.foldr_cons, List.foldr_nil]
  rw [← some_whole d c j cc1_scratch0, ← some_whole d c j cc1_scratch1, ← some_whole d c j cc1_scratch2, ← some_whole d c j cc1_scratch3,
    ← some_whole d c j cc1_scratch4, ← some_whole d c j cc1_scratch5, ← some_whole d c j cc1_scratch6, ← some_whole d c j cc1_scratch7,
    ← some_whole d c j cc1_scratch8, ← some_whole d c j cc1_scratch9, ← some_whole d c j cc1_scratch10, ← some_whole d c j cc1_scratch11,
    ← some_whole d c j cc1_scratch12]
  refine eq_of ?_ ?_
  · iintro ⟨⟨H0, H1, H2, H3, H4, H5, H6, H7, H8, H9, H10, H11, H12, S0, S1, S2, S3, S4, S5, S6, S7, S8⟩, HZ⟩
    iframe
    isplitr <;> iempintro
  · iintro ⟨⟨H0, H1, H2, H3, H4, H5, H6, H7, H8, H9, H10, H11, H12, -⟩, ⟨S0, S1, S2, S3, S4, S5, S6, S7, S8, -⟩, HZ⟩
    iframe

theorem ownBufs_list : (ownBufs (V d c j) : sProp 𝕄) = bufList.foldr (fun b P => iprop(anyAt F d c j b ∗ P)) (restBufs F d c j) := by
  unfold SparseCore.Cfg.ownBufs restBufs
  refine (take_list _ (bufList.map (Proc.scVector c j).devRef) (ownRefs (τ := τ) (.scVector c j))
    (List.Nodup.map (Proc.devRef_injective _) bufList_nodup) ?_).trans (List.foldr_map ..)
  intro x hx
  obtain ⟨b, hb, rfl⟩ := List.mem_map.mp hx
  exact SparseCore.Cfg.mem_ownRefs_of_owner (p := Proc.scVector c j) (bufList_owner c j b ‹_›)

theorem ownSems_list : (ownSems0 (V d c j) : sProp 𝕄) = semList.foldr (fun s P => iprop(semVal (V d c j, s) 0 ∗ P)) (restSems F d c j) := by
  unfold SparseCore.Cfg.ownSems0 restSems
  refine (take_list _ (semList.map fun s => ((V d c j, s) : GSem nD τ sig)) (ownCells (V d c j))
    (List.Nodup.map (fun a b e => (Prod.mk.inj e).2) semList_nodup) ?_).trans (List.foldr_map ..)
  intro x hx
  obtain ⟨s, hs, rfl⟩ := List.mem_map.mp hx
  have h : ∀ s ∈ semList, s.isScoped .scVector = true := by decide
  exact mem_ownCells.mpr ⟨rfl, h s hs⟩

theorem scratch_eq : (iprop(scratchAt F d c j ∗ restBufs F d c j ∗ restSems F d c j) : sProp 𝕄) = iprop(ownBufs (V d c j) ∗ ownSems0 (V d c j)) := by
  rw [ownBufs_list, ownSems_list, scratchAt_eq]
  unfold bufList semList
  simp only [List.foldr_cons, List.foldr_nil]
  refine eq_of ?_ ?_
  · iintro ⟨⟨H0, H1, H2, H3, H4, H5, H6, H7, H8, H9, H10, H11, H12, -⟩, ⟨S0, S1, S2, S3, S4, S5, S6, S7, S8, -⟩, HB, HS⟩
    iframe
  · iintro ⟨⟨H0, H1, H2, H3, H4, H5, H6, H7, H8, H9, H10, H11, H12, HB⟩, S0, S1, S2, S3, S4, S5, S6, S7, S8, HS⟩
    iframe
    isplitr <;> iempintro

/-! ## The task -/

theorem share_q (q : PosShare TreeShare) (f : Buf (Elt F) (qsLoc d)) : (shares d c j Qs q f : sProp 𝕄) = (qsLoc d ↦{q} f) := by
  unfold shares
  rw [show (Qs).view.set = Finset.univ from View.set_whole main_v0_0_scv]
theorem share_k (q : PosShare TreeShare) (f : Buf (Elt F) (ksLoc d)) : (shares d c j Ks q f : sProp 𝕄) = (ksLoc d ↦{q} f) := by
  unfold shares
  rw [show (Ks).view.set = Finset.univ from View.set_whole main_v0_1_scv]
theorem share_qt (q : PosShare TreeShare) (f : Buf (Elt F) (qtLoc d)) : (shares d c j Qt q f : sProp 𝕄) = (qtLoc d ↦{q} f) := by
  unfold shares
  rw [show (Qt).view.set = Finset.univ from View.set_whole main_arg0_scv]
theorem share_kt (q : PosShare TreeShare) (f : Buf (Elt F) (ktLoc d)) : (shares d c j Kt q f : sProp 𝕄) = (ktLoc d ↦{q} f) := by
  unfold shares
  rw [show (Kt).view.set = Finset.univ from View.set_whole main_arg1_scv]

theorem amounts : (Memref.whole cc1_scratch3 : Memref sig .scVector .vmem S10x128 .i32).view.amount (SemLoc.dma cc1_scratch14.sem)
    = (Memref.whole cc1_scratch4 : Memref sig .scVector .vmem S10x128 .i32).view.amount (SemLoc.dma cc1_scratch14.sem) := by
  decide +kernel

theorem problem_whole (b : ℕ) (QS : Buf (Elt F) (qsLoc d)) (KS : Buf (Elt F) (ksLoc d)) (QT : Buf (Elt F) (qtLoc d)) (KT : Buf (Elt F) (ktLoc d)) :
    problem d c j b Qs Ks Qt Kt QS KS QT KT = batch b QS KS QT KT := by
  unfold problem
  rfl

theorem tile_body (i : grid1.Coords) (O : CellTallies nD τ sig (HIx 1)) (W : Waits sig (HIx 1)) (hO : ∀ g, O g none = 0) (q : PosShare TreeShare)
    (QS : Buf (Elt F) (qsLoc d)) (KS : Buf (Elt F) (ksLoc d)) (QT : Buf (Elt F) (qtLoc d)) (KT : Buf (Elt F) (ktLoc d)) (f : Buf (Elt F) (ouLoc d)) :
    iprop(levAts (KK (F := F)).L (KK (F := F)).lev
        ∗ ((qsLoc d ↦{q} QS) ∗ (ksLoc d ↦{q} KS) ∗ (qtLoc d ↦{q} QT) ∗ (ktLoc d ↦{q} KT)
          ∗ (ouLoc d ↦[blkSet 0 (num i)]{fullShare} f) ∗ (ouLoc d ↦[blkSet 1 (num i)]{fullShare} f))
        ∗ ownBufs (V d (Fin.castLE hcore1 (i 0)) (Fin.castLE hsub1 (i 1))) ∗ ownSems0 (V d (Fin.castLE hcore1 (i 0)) (Fin.castLE hsub1 (i 1)))
        ∗ owes (V d (Fin.castLE hcore1 (i 0)) (Fin.castLE hsub1 (i 1))) O W)
      ⊢ run d (Fin.castLE hcore1 (i 0)) (Fin.castLE hsub1 (i 1)) (cc1_join (F := F) i Qs (Memref.isWhole_whole _) Ks (Memref.isWhole_whole _) Qt (Memref.isWhole_whole _)
          Kt (Memref.isWhole_whole _) Ou (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          (Memref.whole cc1_scratch6) (Memref.isWhole_whole _) (Memref.whole cc1_scratch7) (Memref.isWhole_whole _) (Memref.whole cc1_scratch8) (Memref.isWhole_whole _)
          (Memref.whole cc1_scratch9) (Memref.isWhole_whole _) (Memref.whole cc1_scratch10) (Memref.isWhole_whole _) (Memref.whole cc1_scratch11) (Memref.isWhole_whole _)
          (Memref.whole cc1_scratch12) (Memref.isWhole_whole _) cc1_scratch13 cc1_scratch14 cc1_scratch15 cc1_scoped0 cc1_scoped1 cc1_scoped2 cc1_scoped3 cc1_scoped4 cc1_scoped5)
        fun _ => iprop(((qsLoc d ↦{q} QS) ∗ (ksLoc d ↦{q} KS) ∗ (qtLoc d ↦{q} QT) ∗ (ktLoc d ↦{q} KT)
          ∗ (ouLoc d ↦[blkSet 0 (num i)]{fullShare} (lists QS KS QT KT : Buf (Elt F) (ouLoc d)))
          ∗ (ouLoc d ↦[blkSet 1 (num i)]{fullShare} (lists QS KS QT KT : Buf (Elt F) (ouLoc d))))
        ∗ ownBufs (V d (Fin.castLE hcore1 (i 0)) (Fin.castLE hsub1 (i 1))) ∗ ownSems0 (V d (Fin.castLE hcore1 (i 0)) (Fin.castLE hsub1 (i 1)))
        ∗ ∃ W', ⌜∀ p ∈ W', p ∈ W ∨ p.2 = none⌝ ∗ owes (V d (Fin.castLE hcore1 (i 0)) (Fin.castLE hsub1 (i 1))) O W') := by
  have hq := share_q (F := F) d (Fin.castLE hcore1 (i 0)) (Fin.castLE hsub1 (i 1)) q QS
  have hk := share_k (F := F) d (Fin.castLE hcore1 (i 0)) (Fin.castLE hsub1 (i 1)) q KS
  have hqt := share_qt (F := F) d (Fin.castLE hcore1 (i 0)) (Fin.castLE hsub1 (i 1)) q QT
  have hkt := share_kt (F := F) d (Fin.castLE hcore1 (i 0)) (Fin.castLE hsub1 (i 1)) q KT
  rw [← hq, ← hk, ← hqt, ← hkt]
  iintro ⟨#Hlv, ⟨Hq, Hk, Hqt, Hkt, Ho0, Ho1⟩, HB, HS, HO⟩
  ihave Hs := (Entails.of_eq (scratch_eq (F := F) d (Fin.castLE hcore1 (i 0)) (Fin.castLE hsub1 (i 1))).symm) $$ [HB HS]
  · isplitl [HB] <;> iassumption
  icases Hs with ⟨Hs, Hr⟩
  ihave Ho0' := (some0_of d i f) $$ Ho0
  ihave Ho1' := (some1_of d i f) $$ Ho1
  have hj := join_run (F := F) (d := d) (i := i) (arg2 := Qs) (arg3 := Ks) (arg4 := Qt) (arg5 := Kt) (arg6 := Ou)
      (harg2 := Memref.isWhole_whole _) (harg3 := Memref.isWhole_whole _) (harg4 := Memref.isWhole_whole _) (harg5 := Memref.isWhole_whole _)
      (harg6 := Memref.isWhole_whole _)
      (arg7 := Memref.whole cc1_scratch0) (harg7 := Memref.isWhole_whole _)
      (arg8 := Memref.whole cc1_scratch1) (harg8 := Memref.isWhole_whole _)
      (arg9 := Memref.whole cc1_scratch2) (harg9 := Memref.isWhole_whole _)
      (arg10 := Memref.whole cc1_scratch3) (harg10 := Memref.isWhole_whole _)
      (arg11 := Memref.whole cc1_scratch4) (harg11 := Memref.isWhole_whole _)
      (arg12 := Memref.whole cc1_scratch5) (harg12 := Memref.isWhole_whole _)
      (arg13 := Memref.whole cc1_scratch6) (harg13 := Memref.isWhole_whole _)
      (arg14 := Memref.whole cc1_scratch7) (harg14 := Memref.isWhole_whole _)
      (arg15 := Memref.whole cc1_scratch8) (harg15 := Memref.isWhole_whole _)
      (arg16 := Memref.whole cc1_scratch9) (harg16 := Memref.isWhole_whole _)
      (arg17 := Memref.whole cc1_scratch10) (harg17 := Memref.isWhole_whole _)
      (arg18 := Memref.whole cc1_scratch11) (harg18 := Memref.isWhole_whole _)
      (arg19 := Memref.whole cc1_scratch12) (harg19 := Memref.isWhole_whole _)
      (arg20 := cc1_scratch13) (arg21 := cc1_scratch14) (arg22 := cc1_scratch15) (v293_r0 := cc1_scoped0) (v653_r1 := cc1_scoped1) (v653_r2 := cc1_scoped2)
      (v293_r3 := cc1_scoped3) (v653_r4 := cc1_scoped4) (v653_r5 := cc1_scoped5)
      (q2 := q) (q3 := q) (q4 := q) (q5 := q) (r2 := QS) (r3 := KS) (r4 := QT) (r5 := KT) (O := O) (W := W) amounts
  rw [problem_whole, problem_whole] at hj
  iapply wp_wand_r
  isplitr [Hr]
  · iapply hj
    isplitl [Hq]; · iexact Hq
    isplitl [Hk]; · iexact Hk
    isplitl [Hqt]; · iexact Hqt
    isplitl [Hkt]; · iexact Hkt
    isplitl [Ho0']; · iexact Ho0'
    isplitl [Ho1']; · iexact Ho1'
    isplitl [Hs]; · iexact Hs
    unfold owing
    isplitr
    · iapply ((KK (F := F)).mayWaits_none hO); iexact Hlv
    · iexists W; isplitr
      · ipureintro; exact fun p hp => Or.inl hp
      iexact HO
  iintro %_ ⟨Hq, Hk, Hqt, Hkt, Ho0, Ho1, Hs, How⟩
  ihave Ho0' := (out0_of d i QS KS QT KT) $$ Ho0
  ihave Ho1' := (out1_of d i QS KS QT KT) $$ Ho1
  ihave HBS := (Entails.of_eq (scratch_eq (F := F) d (Fin.castLE hcore1 (i 0)) (Fin.castLE hsub1 (i 1)))) $$ [Hs Hr]
  · isplitl [Hs] <;> iassumption
  icases HBS with ⟨HB, HS⟩
  unfold owing
  icases How with ⟨-, How⟩
  isplitl [Hq Hk Hqt Hkt Ho0' Ho1']
  · isplitl [Hq]; · iexact Hq
    isplitl [Hk]; · iexact Hk
    isplitl [Hqt]; · iexact Hqt
    isplitl [Hkt]; · iexact Hkt
    isplitl [Ho0']; · iexact Ho0'
    iexact Ho1'
  isplitl [HB]; · iexact HB
  isplitl [HS]; · iexact HS
  iexact How

end Cert.Proof.Join

end
-- ==== Proof.Launch.lean ====
/-
  The launch: the signatures' region on the TensorCore, then the SparseCore call on its thirty-blks tiles; the whole run
  leaves the arguments unchanged and the result holding the candidate lists.
-/
module

public import proofs.«01_k».proof.Proof.Tile

@[expose] public section

noncomputable section

namespace Cert.Proof.Join

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-! ## Shares and blocks -/

section Deal
variable (QS : (d : Dev nD) → Buf (Elt F) (qsLoc d)) (KS : (d : Dev nD) → Buf (Elt F) (ksLoc d))
  (QT : (d : Dev nD) → Buf (Elt F) (qtLoc d)) (KT : (d : Dev nD) → Buf (Elt F) (ktLoc d)) (OU : (d : Dev nD) → Buf (Elt F) (ouLoc d)) (d : Dev nD)

/-- Read shares `q` of the four arrays the call reads. -/
def shr (q : PosShare TreeShare) : sProp 𝕄 := iprop((qsLoc d ↦{q} QS d) ∗ (ksLoc d ↦{q} KS d) ∗ (qtLoc d ↦{q} QT d) ∗ (ktLoc d ↦{q} KT d))

theorem shr_deal (n : ℕ) (q : PosShare TreeShare) :
    (shr QS KS QT KT d q : sProp 𝕄) = bigSep Finset.univ fun i : Fin (n + 1) => shr QS KS QT KT d (dealOf q Finset.univ i) := by
  unfold shr
  rw [bigSep_sep', bigSep_sep', bigSep_sep',
    ← pointsTo_deal (Finset.univ : Finset (Fin (n + 1))) Finset.univ_nonempty q, ← pointsTo_deal (Finset.univ : Finset (Fin (n + 1))) Finset.univ_nonempty q,
    ← pointsTo_deal (Finset.univ : Finset (Fin (n + 1))) Finset.univ_nonempty q, ← pointsTo_deal (Finset.univ : Finset (Fin (n + 1))) Finset.univ_nonempty q]

/-- The blocks of one core's tiles. -/
def coreSet (c : Fin 2) : Finset S2x2048x64.Idx := Finset.univ.filter fun y => (y 1).val / 64 % 2 = c.val
theorem mem_coreSet {c : Fin 2} {y : S2x2048x64.Idx} : y ∈ coreSet c ↔ (y 1).val / 64 % 2 = c.val := by
  unfold coreSet; rw [Finset.mem_filter]; exact ⟨fun h => h.2, fun h => ⟨Finset.mem_univ _, h⟩⟩

/-- A tile's two blocks of the result. -/
def blks (n : ℕ) (f : Buf (Elt F) (ouLoc d)) : sProp 𝕄 :=
  iprop((ouLoc d ↦[blkSet 0 n]{fullShare} f) ∗ (ouLoc d ↦[blkSet 1 n]{fullShare} f))

theorem blks_union (n : ℕ) (f : Buf (Elt F) (ouLoc d)) : (blks d n f : sProp 𝕄) = (ouLoc d ↦[blkSet 0 n ∪ blkSet 1 n]{fullShare} f) := by
  have h : Disjoint (blkSet 0 n) (blkSet 1 n) := Finset.disjoint_left.mpr fun y h0 h1 => by
    have := (mem_blkSet.mp h0).1; have := (mem_blkSet.mp h1).1; omega
  exact eq_of (pointsTo_union (ℓ := ouLoc d) h).2 (pointsTo_union (ℓ := ouLoc d) h).1

theorem core_split (c : Fin 2) (f : Buf (Elt F) (ouLoc d)) :
    (ouLoc d ↦[coreSet c]{fullShare} f : sProp 𝕄) = bigSep Finset.univ fun i : Fin 16 => blks d (num (tileAt c i)) f := by
  simp only [blks_union]
  rw [← pointsTo_biUnion Finset.univ (ℓ := ouLoc d) (fun i : Fin 16 => blkSet 0 (num (tileAt c i)) ∪ blkSet 1 (num (tileAt c i)))]
  · congr 1
    ext y
    have hy0 : (y 0).val < 2 := (y 0).isLt
    have hy1 : (y 1).val < 2048 := (y 1).isLt
    rw [mem_coreSet, Finset.mem_biUnion]
    constructor
    · intro h
      refine ⟨⟨(y 1).val / 128, by omega⟩, Finset.mem_univ _, ?_⟩
      have hn : (y 1).val / 64 = 2 * ((y 1).val / 128) + c.val := by omega
      rw [Finset.mem_union, mem_blkSet, mem_blkSet]
      have : (y 0).val = 0 ∨ (y 0).val = 1 := by omega
      exact this.imp (fun e => ⟨e, hn⟩) (fun e => ⟨e, hn⟩)
    · rintro ⟨i, -, hi⟩
      rw [Finset.mem_union, mem_blkSet, mem_blkSet] at hi
      have hc := c.isLt
      have hn : (y 1).val / 64 = 2 * i.val + c.val := hi.elim (·.2) (·.2)
      omega
  · intro i _ i' _ hne
    refine Finset.disjoint_left.mpr fun y h h' => hne (Fin.ext ?_)
    rw [Finset.mem_union, mem_blkSet, mem_blkSet] at h h'
    have hn : (y 1).val / 64 = 2 * i.val + c.val := h.elim (·.2) (·.2)
    have hn' : (y 1).val / 64 = 2 * i'.val + c.val := h'.elim (·.2) (·.2)
    omega

theorem coreSet_cover : (Finset.univ : Finset (Fin 2)).biUnion coreSet = Finset.univ := by
  rw [Finset.eq_univ_iff_forall]
  intro y
  exact Finset.mem_biUnion.mpr ⟨⟨(y 1).val / 64 % 2, Nat.mod_lt _ (by decide)⟩, Finset.mem_univ _, mem_coreSet.mpr rfl⟩
theorem coreSet_disjoint : ∀ c ∈ (Finset.univ : Finset (Fin 2)), ∀ c' ∈ (Finset.univ : Finset (Fin 2)), c ≠ c' → Disjoint (coreSet c) (coreSet c') := by
  intro c _ c' _ hne
  refine Finset.disjoint_left.mpr fun y h h' => hne (Fin.ext ?_)
  rw [← mem_coreSet.mp h, ← mem_coreSet.mp h']

theorem all_split (f : Buf (Elt F) (ouLoc d)) :
    (ouLoc d ↦{fullShare} f : sProp 𝕄) = bigSep Finset.univ fun c : Fin 2 => ouLoc d ↦[coreSet c]{fullShare} f := by
  rw [← pointsTo_biUnion Finset.univ (ℓ := ouLoc d) coreSet coreSet_disjoint, coreSet_cover]

/-! ## What the handshakes carry -/

theorem nCore_zero : (KK (F := F)).nCore 0 = 2 := rfl
theorem nSub_zero : (KK (F := F)).nSub 0 = 16 := rfl

/-- A core's share, and a tile's. -/
abbrev cShare (c : Fin 2) : PosShare TreeShare := dealOf fullShare Finset.univ c
abbrev tShare (c : Fin 2) (i : Fin 16) : PosShare TreeShare := dealOf (cShare c) Finset.univ i

/-- The lists the call leaves. -/
def lst (d : Dev nD) : Buf (Elt F) (ouLoc d) := (lists (QS d) (KS d) (QT d) (KT d) : Buf (Elt F) (ouLoc d))

abbrev P : (KK (F := F)).Pay (nD := nD) (Val := Elt F) (Name := ℕ) (U := UU) where
  st := fun q d c => match q with
    | 0 => iprop(shr QS KS QT KT d (cShare (Fin.cast (nCore_zero (F := F)) c)) ∗ ouLoc d ↦[coreSet (Fin.cast (nCore_zero (F := F)) c)]{fullShare} OU d)
  dn := fun q d c => match q with
    | 0 => iprop(shr QS KS QT KT d (cShare (Fin.cast (nCore_zero (F := F)) c)) ∗ ouLoc d ↦[coreSet (Fin.cast (nCore_zero (F := F)) c)]{fullShare} lst QS KS QT KT d)
  go := fun q d c i => match q with
    | 0 => iprop(shr QS KS QT KT d (tShare (Fin.cast (nCore_zero (F := F)) c) (Fin.cast (nSub_zero (F := F)) i))
        ∗ blks d (num (tileAt (Fin.cast (nCore_zero (F := F)) c) (Fin.cast (nSub_zero (F := F)) i))) (OU d))
  td := fun q d c i => match q with
    | 0 => iprop(shr QS KS QT KT d (tShare (Fin.cast (nCore_zero (F := F)) c) (Fin.cast (nSub_zero (F := F)) i))
        ∗ blks d (num (tileAt (Fin.cast (nCore_zero (F := F)) c) (Fin.cast (nSub_zero (F := F)) i))) (lst QS KS QT KT d))
  x := fun _ _ => iprop(emp)

instance shr_storable (q : PosShare TreeShare) : BI.Storable (upEmb : UEmb _ 𝕄) (shr QS KS QT KT d q) := by unfold shr; infer_instance
instance blks_storable (n : ℕ) (f : Buf (Elt F) (ouLoc d)) : BI.Storable (upEmb : UEmb _ 𝕄) (blks d n f) := by unfold blks; infer_instance

instance P_storable : (P QS KS QT KT OU).IsStorable where
  st q d c := match q with
    | 0 => (inferInstance : BI.Storable (upEmb : UEmb _ 𝕄) iprop(shr QS KS QT KT d (cShare (Fin.cast (nCore_zero (F := F)) c)) ∗ ouLoc d ↦[coreSet (Fin.cast (nCore_zero (F := F)) c)]{fullShare} OU d))
  dn q d c := match q with
    | 0 => (inferInstance : BI.Storable (upEmb : UEmb _ 𝕄) iprop(shr QS KS QT KT d (cShare (Fin.cast (nCore_zero (F := F)) c)) ∗ ouLoc d ↦[coreSet (Fin.cast (nCore_zero (F := F)) c)]{fullShare} lst QS KS QT KT d))
  go q d c i := match q with
    | 0 => (inferInstance : BI.Storable (upEmb : UEmb _ 𝕄) iprop(shr QS KS QT KT d (tShare (Fin.cast (nCore_zero (F := F)) c) (Fin.cast (nSub_zero (F := F)) i))
        ∗ blks d (num (tileAt (Fin.cast (nCore_zero (F := F)) c) (Fin.cast (nSub_zero (F := F)) i))) (OU d)))
  td q d c i := match q with
    | 0 => (inferInstance : BI.Storable (upEmb : UEmb _ 𝕄) iprop(shr QS KS QT KT d (tShare (Fin.cast (nCore_zero (F := F)) c) (Fin.cast (nSub_zero (F := F)) i))
        ∗ blks d (num (tileAt (Fin.cast (nCore_zero (F := F)) c) (Fin.cast (nSub_zero (F := F)) i))) (lst QS KS QT KT d)))

theorem bigSep_tasks (Φ : Fin 16 → sProp 𝕄) :
    (bigSep Finset.univ fun i : Fin ((KK (F := F)).nSub 0) => Φ (Fin.cast (nSub_zero (F := F)) i)) = bigSep Finset.univ Φ :=
  bigSep_congr fun _ _ => congrArg Φ (Fin.ext rfl)
theorem bigSep_cores (Φ : Fin 2 → sProp 𝕄) :
    (bigSep Finset.univ fun i : Fin ((KK (F := F)).nCore 0) => Φ (Fin.cast (nCore_zero (F := F)) i)) = bigSep Finset.univ Φ :=
  bigSep_congr fun _ _ => congrArg Φ (Fin.ext rfl)

theorem tasks_join (c : Fin 2) (f : Buf (Elt F) (ouLoc d)) :
    (bigSep Finset.univ fun i : Fin 16 => iprop(shr QS KS QT KT d (tShare c i) ∗ blks d (num (tileAt c i)) f))
      = (iprop(shr QS KS QT KT d (cShare c) ∗ ouLoc d ↦[coreSet c]{fullShare} f) : sProp 𝕄) := by
  rw [bigSep_sep', ← core_split d c f, ← shr_deal QS KS QT KT d 15 (cShare c)]
theorem cores_join (f : Buf (Elt F) (ouLoc d)) :
    (bigSep Finset.univ fun c : Fin 2 => iprop(shr QS KS QT KT d (cShare c) ∗ ouLoc d ↦[coreSet c]{fullShare} f))
      = (iprop(shr QS KS QT KT d fullShare ∗ ouLoc d ↦{fullShare} f) : sProp 𝕄) := by
  rw [bigSep_sep', ← all_split d f, ← shr_deal QS KS QT KT d 1 fullShare]

theorem vecSplit : (KK (F := F)).VecSplit' (P QS KS QT KT OU) 0 := by
  intro d c
  have e1 := (bigSep_tasks (F := F) (fun i => iprop(shr QS KS QT KT d (tShare (Fin.cast (nCore_zero (F := F)) c) i)
      ∗ blks d (num (tileAt (Fin.cast (nCore_zero (F := F)) c) i)) (OU d)))).trans (tasks_join QS KS QT KT d _ (OU d))
  have e2 := (bigSep_tasks (F := F) (fun i => iprop(shr QS KS QT KT d (tShare (Fin.cast (nCore_zero (F := F)) c) i)
      ∗ blks d (num (tileAt (Fin.cast (nCore_zero (F := F)) c) i)) (lst QS KS QT KT d)))).trans (tasks_join QS KS QT KT d _ (lst QS KS QT KT d))
  show iprop(shr QS KS QT KT d (cShare (Fin.cast (nCore_zero (F := F)) c)) ∗ ouLoc d ↦[coreSet (Fin.cast (nCore_zero (F := F)) c)]{fullShare} OU d)
    ⊢ |={Set.univ}=> iprop((bigSep Finset.univ fun i : Fin ((KK (F := F)).nSub 0) =>
        iprop(shr QS KS QT KT d (tShare (Fin.cast (nCore_zero (F := F)) c) (Fin.cast (nSub_zero (F := F)) i))
          ∗ blks d (num (tileAt (Fin.cast (nCore_zero (F := F)) c) (Fin.cast (nSub_zero (F := F)) i))) (OU d)))
      ∗ ((bigSep Finset.univ fun i : Fin ((KK (F := F)).nSub 0) =>
        iprop(shr QS KS QT KT d (tShare (Fin.cast (nCore_zero (F := F)) c) (Fin.cast (nSub_zero (F := F)) i))
          ∗ blks d (num (tileAt (Fin.cast (nCore_zero (F := F)) c) (Fin.cast (nSub_zero (F := F)) i))) (lst QS KS QT KT d)))
        -∗ iprop(shr QS KS QT KT d (cShare (Fin.cast (nCore_zero (F := F)) c)) ∗ ouLoc d ↦[coreSet (Fin.cast (nCore_zero (F := F)) c)]{fullShare} lst QS KS QT KT d)))
  rw [e1, e2]
  iintro H; imodintro
  isplitl [H]; · iexact H
  iintro H; iexact H

/-! ## The tiles' obligation -/

abbrev ΛP : Labels := Pipeline.Sig Λ₀ (Fin 1) fun p => (pcfgs (F := F) p).Adm
abbrev DD : Defs nD τ sig (Elt F) (ΛP (F := F)) := Pipeline.defs pcfgs defs₀
abbrev 𝒱₁ : Variants := 𝒱₀.lift
abbrev v₀ : 𝒱₁.V := Sum.inl none

theorem facts : (KK (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task at a tile, from what its `go` carries to what its `taskDone` does. -/
theorem task_run (c : Fin 2) (i : Fin 16) (O : CellTallies nD τ sig (HIx 1)) (W : Waits sig (HIx 1)) (hO : ∀ g, O g none = 0) :
    iprop(levAts (KK (F := F)).L (KK (F := F)).lev ∗ emp ∗ (shr QS KS QT KT d (tShare c i) ∗ blks d (num (tileAt c i)) (OU d))
        ∗ scopedBufs (V d (Fin.castLE hcore1 c) (Fin.castLE hsub1 i)) ∗ scopedSems0 (V d (Fin.castLE hcore1 c) (Fin.castLE hsub1 i))
        ∗ owes (V d (Fin.castLE hcore1 c) (Fin.castLE hsub1 i)) O W)
      ⊢ run d (Fin.castLE hcore1 c) (Fin.castLE hsub1 i) (cc1_join (F := F) (tileAt c i) Qs (Memref.isWhole_whole _) Ks (Memref.isWhole_whole _) Qt (Memref.isWhole_whole _)
          Kt (Memref.isWhole_whole _) Ou (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          (Memref.whole cc1_scratch6) (Memref.isWhole_whole _) (Memref.whole cc1_scratch7) (Memref.isWhole_whole _) (Memref.whole cc1_scratch8) (Memref.isWhole_whole _)
          (Memref.whole cc1_scratch9) (Memref.isWhole_whole _) (Memref.whole cc1_scratch10) (Memref.isWhole_whole _) (Memref.whole cc1_scratch11) (Memref.isWhole_whole _)
          (Memref.whole cc1_scratch12) (Memref.isWhole_whole _) cc1_scratch13 cc1_scratch14 cc1_scratch15 cc1_scoped0 cc1_scoped1 cc1_scoped2 cc1_scoped3 cc1_scoped4 cc1_scoped5)
        fun _ => iprop((shr QS KS QT KT d (tShare c i) ∗ blks d (num (tileAt c i)) (lst QS KS QT KT d))
          ∗ scopedBufs (V d (Fin.castLE hcore1 c) (Fin.castLE hsub1 i)) ∗ scopedSems0 (V d (Fin.castLE hcore1 c) (Fin.castLE hsub1 i))
          ∗ ∃ W', ⌜∀ p ∈ W', p ∈ W ∨ p.2 = none⌝ ∗ owes (V d (Fin.castLE hcore1 c) (Fin.castLE hsub1 i)) O W') := by
  rw [(KK (F := F)).scopedBufs_V facts d (Fin.castLE hcore1 c) (Fin.castLE hsub1 i),
    SparseCore.Cfg.scopedSems0_V (Val := Elt F) d (Fin.castLE hcore1 c) (Fin.castLE hsub1 i)]
  unfold shr blks lst
  have hb := tile_body (F := F) d (tileAt c i) O W hO (tShare c i) (QS d) (KS d) (QT d) (KT d) (OU d)
  iintro ⟨Hl, -, ⟨⟨H1, H2, H3, H4⟩, H5, H6⟩, HB, HS, HO⟩
  iapply wp_wand_r
  isplitl [Hl H1 H2 H3 H4 H5 H6 HB HS HO]
  · iapply hb
    isplitl [Hl]; · iexact Hl
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [HB]; · iexact HB
    isplitl [HS]; · iexact HS
    iexact HO
  iintro %_ ⟨⟨H1, H2, H3, H4, H5, H6⟩, HB, HS, HO⟩
  isplitl [H1 H2 H3 H4 H5 H6]
  · isplitl [H1 H2 H3 H4]
    · isplitl [H1]; · iexact H1
      isplitl [H2]; · iexact H2
      isplitl [H3]; · iexact H3
      iexact H4
    isplitl [H5]; · iexact H5
    iexact H6
  isplitl [HB]; · iexact HB
  isplitl [HS]; · iexact HS
  iexact HO

theorem defs₀_vector (c : Fin τ.nSC) (s : Fin τ.nSub) :
    defs₀ (F := F) (.scVector c s) 1 ()
      = SparseCore.onTile hcore1 hsub1 (fun c s => cc1_join (F := F) (tileAt c s) Qs (Memref.isWhole_whole _) Ks (Memref.isWhole_whole _) Qt (Memref.isWhole_whole _)
          Kt (Memref.isWhole_whole _) Ou (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
          (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _)
          cc1_scratch13 cc1_scratch14 cc1_scratch15 cc1_scoped0 cc1_scoped1 cc1_scoped2 cc1_scoped3 cc1_scoped4 cc1_scoped5) ⟨⟩ c s := rfl

theorem tileObl : (KK (F := F)).TileObl (DD (F := F)) 𝒱₁ (P QS KS QT KT OU) v₀ 0 := by
  intro d c i O W hO _ _
  simp only [show (P QS KS QT KT OU).ox = fun _ _ => 0 from rfl, add_zero]
  change _ ⊢ wp _ _ _ (Pipeline.liftProg (defs₀ (F := F) (.scVector ((KK (F := F)).core 0 c) ((KK (F := F)).sub 0 i)) 1 ())) _
  refine BIBase.Entails.trans ?_ (Pipeline.wp_liftProg (DD (F := F)) (Pipeline.defs_kernel pcfgs defs₀) 𝒱₀ _ Set.univ none _ _)
  have hc : ((KK (F := F)).core 0 c).val < grid1.bound 0 ∧ ((KK (F := F)).sub 0 i).val < grid1.bound 1 := ⟨c.isLt, i.isLt⟩
  rw [defs₀_vector]; simp only [SparseCore.onTile, hc, and_self, ↓reduceDIte]
  exact (task_run QS KS QT KT OU d (Fin.cast (nCore_zero (F := F)) c) (Fin.cast (nSub_zero (F := F)) i) O W hO).trans
    (wp_mono frame _ _ fun _ => obl_post (q := 0))

end Deal

end Cert.Proof.Join

end
-- ==== Proof.Whole.lean ====
/-
  The run of the whole program: the region, then the call; its frame and the contents it leaves.
-/
module

public import proofs.«01_k».proof.Proof.Launch

@[expose] public section

noncomputable section

namespace Cert.Proof.Join

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

section Run
variable (m : (ℓ : Loc nD τ sig) → Buf (Elt F) ℓ) (ρ : Dev nD → PrngReg)

/-- The contents the run starts from, as the TensorCore names them. -/
abbrev Vm (c : Dev nD) (b : Ref sig .tc) : Buf (Elt F) ((c : Thread nD τ).loc b) := m ((c : Thread nD τ).loc b)

abbrev EH : Emb UH 𝕄 := embL
abbrev EP : Emb (UR sig nD τ) 𝕄 := (Emb.inl : Emb (UR sig nD τ) (UR sig nD τ × Counters)).trans embR

abbrev adm₀ : (p : Fin 1) → (pcfgs (F := F) p).Adm := fun p => (cfgs p).toPCfg_adm

def u₀ : UU := (initOf (KK (F := F)).hsCells (KK (F := F)).hsToks,
  (initOf (Pipeline.cells (nD := nD) (τ := τ) cfgs cellOf_inj) (Pipeline.launchToks (nD := nD) (τ := τ) cfgs cellOf_inj), 1))

/-- What the region's pipeline is handed at the launch. -/
def GG (F : FTy → Type) (d : Dev nD) : sProp (MT nD τ sig (HIx 1) (Elt F) ℕ UU ℕ) :=
  iprop(Pipeline.cellsGhost cfgs EP 0 d ∗ Pipeline.toksInit cfgs EP 0 d)

theorem emp_all : (bigSep Finset.univ fun thr : Thread nD τ => bigSep Finset.univ fun q : Fin 1 => (iprop(emp) : sProp 𝕄)) = iprop(emp) :=
  (bigSep_congr fun _ _ => bigSep_emp_const _).trans (bigSep_emp_const _)

theorem hu₀ (QS : (d : Dev nD) → Buf (Elt F) (qsLoc d)) (KS : (d : Dev nD) → Buf (Elt F) (ksLoc d))
    (QT : (d : Dev nD) → Buf (Elt F) (qtLoc d)) (KT : (d : Dev nD) → Buf (Elt F) (ktLoc d)) (OU : (d : Dev nD) → Buf (Elt F) (ouLoc d)) :
    (ownU (u₀ (F := F)) : sProp 𝕄)
      ⊢ |={Set.univ}=> iprop(BI.own (EH (initOf (KK (F := F)).hsCells (KK (F := F)).hsToks)) ∗ (bigSep Finset.univ (GG F))
        ∗ bigSep Finset.univ fun thr : Thread nD τ => bigSep Finset.univ fun q : Fin 1 => (P QS KS QT KT OU).x q thr) := by
  unfold u₀
  iintro Hu
  ihave H := (ownU_pair _ _) $$ Hu
  icases H with ⟨HH, HK⟩
  ihave H := (own_pair_emb embR _ _) $$ HK
  icases H with ⟨HP, -⟩
  imod (Pipeline.fund_ghost (nD := nD) (τ := τ) cfgs EP cellOf_inj) $$ HP with ⟨Hg, Ht⟩
  imodintro
  isplitl [HH]; · iexact HH
  isplitl [Hg Ht]
  · unfold GG
    rw [bigSep_sep']
    isplitl [Hg]
    · rw [show (fun c : Dev nD => bigSep Finset.univ fun p => (Pipeline.cellsGhost cfgs EP p c : sProp 𝕄)) = fun c => Pipeline.cellsGhost cfgs EP 0 c from
        funext fun c => bigSep_univ_of_subsingleton (0 : Fin 1)]
      iexact Hg
    · rw [show (fun c : Dev nD => bigSep Finset.univ fun p => (Pipeline.toksInit cfgs EP p c : sProp 𝕄)) = fun c => Pipeline.toksInit cfgs EP 0 c from
        funext fun c => bigSep_univ_of_subsingleton (0 : Fin 1)]
      iexact Ht
  iapply (Entails.of_eq (emp_all (F := F)).symm)
  iempintro

/-! ## The TensorCore's program -/

theorem unscopedBufs_eq (d : Dev nD) (W : (b : Ref sig .tc) → Buf (Elt F) ((d : Thread nD τ).loc b)) :
    (unscopedBufs d W : sProp 𝕄) = iprop((qtLoc d ↦{fullShare} W main_arg0) ∗ (ktLoc d ↦{fullShare} W main_arg1)
      ∗ ((d : Thread nD τ).loc main_arg2 ↦{fullShare} W main_arg2) ∗ ((d : Thread nD τ).loc main_arg3 ↦{fullShare} W main_arg3)
      ∗ (qsLoc d ↦{fullShare} W main_v0_0) ∗ (ksLoc d ↦{fullShare} W main_v0_1) ∗ ouLoc d ↦{fullShare} W main_v1) := by
  unfold unscopedBufs
  rw [show (Finset.univ.filter fun b : Ref sig .tc => ¬ b.isScoped) = {main_arg0, main_arg1, main_arg2, main_arg3, main_v0_0, main_v0_1, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

variable [∀ e, Nonempty (Elt F e)]

abbrev QSm (d : Dev nD) : Buf (Elt F) (qsLoc d) := qsigOut (Vm m) d
abbrev KSm (d : Dev nD) : Buf (Elt F) (ksLoc d) := ksigOut (Vm m) d
abbrev QTm (d : Dev nD) : Buf (Elt F) (qtLoc d) := m (qtLoc d)
abbrev KTm (d : Dev nD) : Buf (Elt F) (ktLoc d) := m (ktLoc d)
abbrev OUm (d : Dev nD) : Buf (Elt F) (ouLoc d) := m (ouLoc d)

abbrev Pm : (KK (F := F)).Pay (nD := nD) (Val := Elt F) (Name := ℕ) (U := UU) := P (QSm m) (KSm m) (QTm m) (KTm m) (OUm m)

/-- The result's contents. -/
abbrev outm (d : Dev nD) : Buf (Elt F) (ouLoc d) := lst (QSm m) (KSm m) (QTm m) (KTm m) d

theorem st0_eq (d : Dev nD) : (bigSep Finset.univ fun c : Fin ((KK (F := F)).nCore 0) => (Pm m).st 0 d c)
    = iprop(shr (QSm m) (KSm m) (QTm m) (KTm m) d fullShare ∗ ouLoc d ↦{fullShare} OUm m d) :=
  (bigSep_cores (F := F) (fun c => iprop(shr (QSm m) (KSm m) (QTm m) (KTm m) d (cShare c) ∗ ouLoc d ↦[coreSet c]{fullShare} OUm m d))).trans (cores_join _ _ _ _ _ _)
theorem dn0_eq (d : Dev nD) : (bigSep Finset.univ fun c : Fin ((KK (F := F)).nCore 0) => (Pm m).dn 0 d c)
    = iprop(shr (QSm m) (KSm m) (QTm m) (KTm m) d fullShare ∗ ouLoc d ↦{fullShare} outm m d) :=
  (bigSep_cores (F := F) (fun c => iprop(shr (QSm m) (KSm m) (QTm m) (KTm m) d (cShare c) ∗ ouLoc d ↦[coreSet c]{fullShare} outm m d))).trans (cores_join _ _ _ _ _ _)

/-- What the TensorCore keeps to the end: the arguments unchanged, the result at the lists. -/
abbrev FIN (d : Dev nD) : sProp 𝕄 := iprop((qtLoc d ↦{fullShare} m (qtLoc d)) ∗ (ktLoc d ↦{fullShare} m (ktLoc d))
  ∗ ((d : Thread nD τ).loc main_arg2 ↦{fullShare} m ((d : Thread nD τ).loc main_arg2)) ∗ ((d : Thread nD τ).loc main_arg3 ↦{fullShare} m ((d : Thread nD τ).loc main_arg3))
  ∗ ouLoc d ↦{fullShare} outm m d)

theorem reg_pre (d : Dev nD) : (reg (Vm m) adm₀).pre d = iprop(unscopedBufs d (Vm m d) ∗ owed0 d) := rfl
theorem reg_post (d : Dev nD) : (reg (Vm m) adm₀).post d = iprop(unscopedBufs d (Vp (Vm m) d) ∗ owed0 d) := rfl

/-- The buffers after the region. -/
theorem after_region (d : Dev nD) : (unscopedBufs d (Vp (Vm m) d) : sProp 𝕄) = iprop((qtLoc d ↦{fullShare} QTm m d) ∗ (ktLoc d ↦{fullShare} KTm m d)
      ∗ ((d : Thread nD τ).loc main_arg2 ↦{fullShare} m ((d : Thread nD τ).loc main_arg2)) ∗ ((d : Thread nD τ).loc main_arg3 ↦{fullShare} m ((d : Thread nD τ).loc main_arg3))
      ∗ (qsLoc d ↦{fullShare} QSm m d) ∗ (ksLoc d ↦{fullShare} KSm m d) ∗ ouLoc d ↦{fullShare} OUm m d) := by
  rw [unscopedBufs_eq, Vp_q, Vp_k, Vp_ne (Vm m) d main_arg0 (by decide) (by decide), Vp_ne (Vm m) d main_arg1 (by decide) (by decide),
    Vp_ne (Vm m) d main_arg2 (by decide) (by decide), Vp_ne (Vm m) d main_arg3 (by decide) (by decide), Vp_ne (Vm m) d main_v1 (by decide) (by decide)]

/-- The region's step in the whole program. -/
theorem region_wp (d : Dev nD) (Q : PUnit → sProp 𝕄) :
    iprop((iprop(boundary (d : Thread nD τ) ∗ unscopedBufs d (Vp (Vm m) d) ∗ owed0 d) -∗ Q ⟨⟩)
        ∗ boundary (d : Thread nD τ) ∗ (unscopedBufs d (Vm m d) ∗ owed0 d) ∗ levAts (KK (F := F)).L (KK (F := F)).lev ∗ GG F d)
      ⊢ wp frame (wpE ((KK (F := F)).defs (DD (F := F))) 𝒱₁ (SparseCore.T d) none) Set.univ
          (Prog.lift (.customCall (SparseCore.inner (Pipeline.entry 0)) ())) Q := by
  have h := Pipeline.RegionSeg.wp (pcfgs (F := F)) adm₀ (pdats (Vm m) adm₀) (none : HIx 1) cellOf_inj EP defs₀ 𝒱₀ (KK (F := F)).L (KK (F := F)).lev
    (reg (Vm m) adm₀) d none (fun u hu => nomatch hu) (k := fun x => .ret x) Q
  refine BIBase.Entails.trans ?_ ((h.trans ((KK (F := F)).wp_liftProg (DD (F := F)) 𝒱₁ (SparseCore.T d) Set.univ none _ Q)))
  unfold GG
  iintro ⟨Hk, Hb, Hpre, Hl, Hg, Ht⟩
  isplitl [Hk]
  · iintro ⟨Hb, Hpost⟩
    rw [wp_ret]
    imodintro
    iapply Hk
    ihave Hpost' := (Entails.of_eq (reg_post m d)) $$ Hpost
    isplitl [Hb]; · iexact Hb
    iexact Hpost'
  isplitl [Hb]; · iexact Hb
  isplitl [Hpre]; · iapply (Entails.of_eq (reg_pre m d).symm); iexact Hpre
  isplitl [Hl]; · iexact Hl
  isplitl [Hg]; · iexact Hg
  iexact Ht

theorem hmain (κ : GSem nD τ sig → ℕ) (d : Dev nD) :
    iprop((KK (F := F)).ctx EH (Pm m) κ ∗ (KK (F := F)).tcSt EH d 0 ∗ (KK (F := F)).tcRes m ρ d ∗ GG F d)
      ⊢ wp frame (wpE ((KK (F := F)).defs (DD (F := F))) 𝒱₁ (SparseCore.T d) none) Set.univ (main d)
          fun _ => iprop((KK (F := F)).tcSt EH d 1 ∗ FIN m d ∗ (KK (F := F)).tcEnd d) := by
  unfold SparseCore.Cfg.tcRes SparseCore.Cfg.tcEnd
  simp only [main, wp_bind, wp_pure]
  have hst : (KK (F := F)).tcSt EH d 0 ⊢ iprop(owed0 (F := F) d ∗ (owed0 (F := F) d -∗ (KK (F := F)).tcSt EH d 0)) := by
    unfold SparseCore.Cfg.tcSt
    iintro ⟨HO, Hr⟩
    isplitl [HO]; · iexact HO
    iintro HO
    isplitl [HO]; · iexact HO
    iexact Hr
  iintro ⟨#Hctx, Hst, ⟨Hb, Hub, Hts, -⟩, HG⟩
  ihave Hst' := hst $$ Hst
  icases Hst' with ⟨HO, Hback⟩
  ihave #Hlev := (SparseCore.Cfg.ctx_levAts κ) $$ Hctx
  iapply (region_wp m d _)
  isplitr [Hb Hub HO HG]
  rotate_left
  · isplitl [Hb]; · iexact Hb
    isplitl [Hub HO]
    · isplitl [Hub]; · iexact Hub
      iexact HO
    isplitr; · iexact Hlev
    iexact HG
  iintro ⟨Hb, Hub, HO⟩
  ihave Hub' := (Entails.of_eq (after_region m d)) $$ Hub
  icases Hub' with ⟨H0, H1, H2, H3, Hq, Hk, Ho⟩
  ihave Hst := Hback $$ HO
  iapply ((KK (F := F)).wp_run (DD (F := F)) 𝒱₁ (EH := EH) (P := Pm m) κ d 0)
  isplitr; · iexact Hctx
  isplitl [Hst]; · iexact Hst
  isplitl [H0 H1 Hq Hk Ho]
  · rw [st0_eq]
    unfold shr
    isplitr [Ho]
    · isplitl [Hq]; · iexact Hq
      isplitl [Hk]; · iexact Hk
      isplitl [H0]; · iexact H0
      iexact H1
    iexact Ho
  iintro ⟨Hst, Hdn⟩
  ihave Hdn' := (Entails.of_eq (dn0_eq m d)) $$ Hdn
  unfold shr
  icases Hdn' with ⟨⟨Hq, Hk, H0, H1⟩, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

/-! ## What the run leaves -/

def fq (d : Dev nD) (s' : Phys nD τ sig (Elt F)) : Prop :=
  s'.mem.mem (qtLoc d) = m (qtLoc d) ∧ s'.mem.mem (ktLoc d) = m (ktLoc d)
    ∧ s'.mem.mem ((d : Thread nD τ).loc main_arg2) = m ((d : Thread nD τ).loc main_arg2) ∧ s'.mem.mem ((d : Thread nD τ).loc main_arg3) = m ((d : Thread nD τ).loc main_arg3)
    ∧ s'.mem.mem (ouLoc d) = outm m d

theorem agree {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agree (F := F) s') $$ [HSI H0]
  · isplitl [H0] <;> iassumption
  icases H with ⟨%h0, HSI⟩
  ihave H := (agree (F := F) s') $$ [HSI H1]
  · isplitl [H1] <;> iassumption
  icases H with ⟨%h1, HSI⟩
  ihave H := (agree (F := F) s') $$ [HSI H2]
  · isplitl [H2] <;> iassumption
  icases H with ⟨%h2, HSI⟩
  ihave H := (agree (F := F) s') $$ [HSI H3]
  · isplitl [H3] <;> iassumption
  icases H with ⟨%h3, HSI⟩
  ihave H := (agree (F := F) s') $$ [HSI H4]
  · isplitl [H4] <;> iassumption
  icases H with ⟨%h4, -⟩
  ipureintro; exact ⟨h0, h1, h2, h3, h4⟩

def QC : PUnit × MemSt nD τ sig (Elt F) → Prop := fun r =>
  (∀ d : Dev nD, r.2.mem (qtLoc d) = m (qtLoc d) ∧ r.2.mem (ktLoc d) = m (ktLoc d)
    ∧ r.2.mem ((d : Thread nD τ).loc main_arg2) = m ((d : Thread nD τ).loc main_arg2) ∧ r.2.mem ((d : Thread nD τ).loc main_arg3) = m ((d : Thread nD τ).loc main_arg3)
    ∧ r.2.mem (ouLoc d) = outm m d) ∧ r.2.sem = fun _ => 0

/-- The whole program runs, leaves its arguments as they were, and its result holding the candidate lists. -/
theorem run_main : θ_run (Cert.KernelIdeal.defs (F := F)) (Cert.KernelIdeal.threads (F := F)) ⟨m, fun _ => 0, ρ⟩ (QC m) :=
  SparseCore.Cfg.θ_run_sc_quiescent (K := KK (F := F)) (D := DD (F := F)) (𝒱 := 𝒱₁) (EH := EH) (P := Pm m) (A := ∅) facts v₀
    (fun q hq => match q with | 0 => nomatch hq)
    (fun q _ => match q with | 0 => tileObl _ _ _ _ _)
    (fun q _ => match q with | 0 => SparseCore.Cfg.VecSplit.of_plain (vecSplit _ _ _ _ _))
    m ρ main (GG F) (FIN m) (u₀ (F := F)) (sep_elim_left.trans (hu₀ _ _ _ _ _)) (hmain m ρ) (fq m) (hfin m) (QC m) (fun _ h hz => ⟨h, hz⟩)

end Run

end Cert.Proof.Join

end
-- ==== Proof.Frames.lean ====
/-
  The frames: the program read at machine words and the program read at the reals are one text, so one run serves both.
-/
module

public import proofs.«01_k».proof.Defs
public import proofs.«01_k».proof.Proof.Gen.Kernel
public import proofs.«01_k».proof.Proof.Whole

@[expose] public section

noncomputable section

namespace Cert.Proof

open Idealize.ShloMosaic Idealize.SL.Sem

theorem kernel_defs₀ : Cert.Kernel.defs₀ (F := Bits) = Cert.KernelIdeal.defs₀ (F := Bits) := by
  funext p l
  match p, l with
  | .tc, (0 : Fin 2) => funext ⟨t, s⟩; exact rfl
  | .tc, (1 : Fin 2) => rfl
  | .scScalar c, (0 : Fin 2) => rfl
  | .scScalar c, (1 : Fin 2) => rfl
  | .scVector c s, (0 : Fin 2) => rfl
  | .scVector c s, (1 : Fin 2) => rfl

theorem kernel_defs : Cert.Kernel.defs (F := Bits) = Cert.KernelIdeal.defs (F := Bits) := by
  show Cert.Kernel.sc.defs (Pipeline.defs Cert.Kernel.pcfgs Cert.Kernel.defs₀) = Cert.KernelIdeal.sc.defs (Pipeline.defs Cert.KernelIdeal.pcfgs Cert.KernelIdeal.defs₀)
  exact congrArg (fun D => Cert.KernelIdeal.sc.defs (Pipeline.defs Cert.KernelIdeal.pcfgs D)) kernel_defs₀

/-- The program runs, leaves its arguments unchanged and every semaphore at zero. -/
theorem frame_kernel : Cert.quiescent_Kernel := by
  intro m ρ _
  rw [kernel_defs]
  exact (θ_run (Cert.KernelIdeal.defs (F := Bits)) (Cert.KernelIdeal.threads (F := Bits)) ⟨m, fun _ => 0, ρ⟩).mono
    (fun _ h => ⟨fun c => ⟨(h.1 c).1, (h.1 c).2.1, (h.1 c).2.2.1, (h.1 c).2.2.2.1⟩, h.2⟩) (Join.run_main (F := Bits) m ρ)

theorem frame_ideal : Cert.quiescent_KernelIdeal := by
  intro m ρ _
  exact (θ_run (Cert.KernelIdeal.defs (F := Ideal)) (Cert.KernelIdeal.threads (F := Ideal)) ⟨m, fun _ => 0, ρ⟩).mono
    (fun _ h => ⟨fun c => ⟨(h.1 c).1, (h.1 c).2.1, (h.1 c).2.2.1, (h.1 c).2.2.2.1⟩, h.2⟩) (Join.run_main (F := Ideal) m ρ)

end Cert.Proof

end
-- ==== Proof.Arrays.lean ====
/-
  What the TensorCore's region leaves in the two signature arrays, as a function of the four arguments.
-/
module

public import proofs.«01_k».proof.Proof.Region
public import Idealize.ShloMosaic.Lib.Pipeline.Value

@[expose] public section

noncomputable section

namespace Cert.Proof.Join

open Cert.KernelIdeal Cert.KernelIdeal.Gen

open Idealize.ShloMosaic Idealize.ShloMosaic.TcCoe
open Idealize.ShloMosaic.Pipeline (Dat Cfg Window)

variable {F : FTy → Type} [FloatOps F] [∀ e, Nonempty (Elt F e)]
variable (V : (c : Dev nD) → (b : Ref sig .tc) → Buf (Elt F) ((c : Thread nD τ).loc b))

theorem stg0_eq (c : Dev nD) : stg0 V c = V c main_arg0 := by
  funext y
  refine congrArg (V c main_arg0) (funext fun a => Fin.ext ?_)
  fin_cases a
  · show 0 * 2 + 1 * (y 0).val = (y 0).val
    omega
  · show 0 * 2048 + 1 * (y 1).val = (y 1).val
    omega
  · show 0 * 64 + 1 * (y 2).val = (y 2).val
    omega

theorem stg1_eq (c : Dev nD) : stg1 V c = V c main_arg1 := by
  funext y
  refine congrArg (V c main_arg1) (funext fun a => Fin.ext ?_)
  fin_cases a
  · show 0 * 2 + 1 * (y 0).val = (y 0).val
    omega
  · show 0 * 2048 + 1 * (y 1).val = (y 1).val
    omega
  · show 0 * 64 + 1 * (y 2).val = (y 2).val
    omega
theorem stg2_eq (c : Dev nD) : stg2 V c = V c main_arg2 := by
  funext y
  refine congrArg (V c main_arg2) (funext fun a => Fin.ext ?_)
  fin_cases a
  · show 0 * 32 + 1 * (y 0).val = (y 0).val
    omega
  · show 0 * 4 + 1 * (y 1).val = (y 1).val
    omega
theorem stg3_eq (c : Dev nD) : stg3 V c = V c main_arg3 := by
  funext y
  refine congrArg (V c main_arg3) (funext fun a => Fin.ext ?_)
  fin_cases a
  · show 0 * 32 + 1 * (y 0).val = (y 0).val
    omega
  · show 0 * 4 + 1 * (y 1).val = (y 1).val
    omega

theorem emb4 (y : S2x10x2048.Idx) : ((cfg0.win 4).blk t0_0).view.emb y = y := by
  refine funext fun a => Fin.ext ?_
  fin_cases a
  · show 0 * 2 + 1 * (y 0).val = (y 0).val
    omega
  · show 0 * 10 + 1 * (y 1).val = (y 1).val
    omega
  · show 0 * 2048 + 1 * (y 2).val = (y 2).val
    omega
theorem emb5 (y : S2x10x2048.Idx) : ((cfg0.win 5).blk t0_0).view.emb y = y := by
  refine funext fun a => Fin.ext ?_
  fin_cases a
  · show 0 * 2 + 1 * (y 0).val = (y 0).val
    omega
  · show 0 * 10 + 1 * (y 1).val = (y 1).val
    omega
  · show 0 * 2048 + 1 * (y 2).val = (y 2).val
    omega

/-- The queries' signatures. -/
theorem qsigOut_eq (c : Dev nD) : qsigOut V c = sigQ (F := F) (V c main_arg2) (V c main_arg3) (V c main_arg0) := by
  refine (dat V c).arrAt_eq_of_cover 4 _ (fun t _ => ?_) fun i => ⟨t0_0, by decide, ?_⟩
  · obtain rfl := fin_N0 t
    funext y
    show sigQ (F := F) (stg2 V c) (stg3 V c) (stg0 V c) y = sigQ (F := F) (V c main_arg2) (V c main_arg3) (V c main_arg0) (((cfg0.win 4).blk t0_0).view.emb y)
    rw [stg0_eq, stg2_eq, stg3_eq]
    exact congrArg _ (emb4 y).symm
  · have := ((cfg0.win 4).blk t0_0).view.emb_mem_set i
    rw [emb4] at this
    exact this

/-- The keys' signatures. -/
theorem ksigOut_eq (c : Dev nD) : ksigOut V c = sigK (F := F) (V c main_arg2) (V c main_arg3) (V c main_arg1) := by
  refine (dat V c).arrAt_eq_of_cover 5 _ (fun t _ => ?_) fun i => ⟨t0_0, by decide, ?_⟩
  · obtain rfl := fin_N0 t
    funext y
    show sigK (F := F) (stg2 V c) (stg3 V c) (stg1 V c) y = sigK (F := F) (V c main_arg2) (V c main_arg3) (V c main_arg1) (((cfg0.win 5).blk t0_0).view.emb y)
    rw [stg1_eq, stg2_eq, stg3_eq]
    exact congrArg _ (emb5 y).symm
  · have := ((cfg0.win 5).blk t0_0).view.emb_mem_set i
    rw [emb5] at this
    exact this

end Cert.Proof.Join

end
-- ==== Proof.Order.lean ====
/-
  At the reals the list that one query ends with is the beginning of its candidates in order: the larger score first, of
  equal scores the smaller key. What the result holds is then what a stable sort of the masked scores holds.
-/
module

public import proofs.«01_k».proof.Proof.Spec
public import Idealize.ShloMosaic.Lib.SortFacts
public import Idealize.ShloMosaic.PureOps.Ideal.Laws

@[expose] public section

noncomputable section

namespace Cert.Proof.Join

open Idealize.ShloMosaic

/-- `p` comes before `x`. -/
def Bef (p x : Cand Ideal) : Prop := x.1 < p.1 ∨ (p.1 = x.1 ∧ p.2 < x.2)

theorem before_iff (x p : Cand Ideal) : before x p = true ↔ Bef p x := by
  unfold before Bef
  have h1 : FloatOps.scalar.cmpf .ogt p.1 x.1 = BitVec.ofBool (decide (x.1 < p.1)) := rfl
  have h2 : FloatOps.scalar.cmpf .oeq p.1 x.1 = BitVec.ofBool (decide (p.1 = x.1)) := rfl
  rw [h1, h2]
  simp only [ofBool_eq_one, decide_eq_true_eq, Bool.or_eq_true, Bool.and_eq_true]

theorem Bef.irrefl (p : Cand Ideal) : ¬ Bef p p := by rintro (h | h); exact lt_irrefl _ h; exact lt_irrefl _ h.2
theorem Bef.trans {a b c : Cand Ideal} (h : Bef a b) (h' : Bef b c) : Bef a c := by
  rcases h with h | ⟨h, k⟩ <;> rcases h' with h' | ⟨h', k'⟩
  · exact .inl (h'.trans h)
  · exact .inl (h' ▸ h)
  · exact .inl (h ▸ h')
  · exact .inr ⟨h.trans h', k.trans k'⟩
theorem Bef.total {a b : Cand Ideal} (h : a.2 ≠ b.2) (hn : ¬ Bef a b) : Bef b a := by
  unfold Bef at *
  rcases lt_trichotomy a.1 b.1 with h1 | h1 | h1
  · exact .inl h1
  · refine .inr ⟨h1.symm, ?_⟩
    by_contra hc
    exact hn (.inr ⟨h1, by omega⟩)
  · exact absurd (.inl h1) hn
theorem Bef.le {a b : Cand Ideal} (h : Bef a b) : b.1 ≤ a.1 := by
  rcases h with h | h
  · exact h.le
  · exact h.1.symm.le

theorem takeWhile_all {α : Type} (f : α → Bool) (l : List α) (h : ∀ a ∈ l, f a = true) : l.takeWhile f = l := by
  induction l with
  | nil => rfl
  | cons a l ih => rw [List.takeWhile_cons_of_pos (h a List.mem_cons_self), ih fun b hb => h b (List.mem_cons_of_mem a hb)]

/-- A list with `x` put in its place. -/
def ins (x : Cand Ideal) (S : List (Cand Ideal)) : List (Cand Ideal) := S.takeWhile (before x) ++ x :: S.dropWhile (before x)

theorem insL_eq (x : Cand Ideal) (L : List (Cand Ideal)) : insL x L = (ins x L).take 64 := rfl

theorem ins_nil (x : Cand Ideal) : ins x [] = [x] := rfl
theorem ins_pos {x a : Cand Ideal} (S : List (Cand Ideal)) (h : before x a = true) : ins x (a :: S) = a :: ins x S := by
  unfold ins; rw [List.takeWhile_cons_of_pos h, List.dropWhile_cons_of_pos h]; rfl
theorem ins_neg {x a : Cand Ideal} (S : List (Cand Ideal)) (h : ¬ before x a = true) : ins x (a :: S) = x :: a :: S := by
  unfold ins; rw [List.takeWhile_cons_of_neg h, List.dropWhile_cons_of_neg h]; rfl

theorem mem_ins (x p : Cand Ideal) (S : List (Cand Ideal)) : p ∈ ins x S ↔ p = x ∨ p ∈ S := by
  induction S with
  | nil => simp [ins_nil]
  | cons a S ih =>
    by_cases h : before x a = true
    · rw [ins_pos S h, List.mem_cons, ih, List.mem_cons]; tauto
    · rw [ins_neg S h, List.mem_cons]

theorem take_ins (x : Cand Ideal) (S : List (Cand Ideal)) (n : ℕ) : (ins x (S.take n)).take n = (ins x S).take n := by
  induction S generalizing n with
  | nil => rw [List.take_nil]
  | cons a S ih =>
    cases n with
    | zero => simp
    | succ n =>
      rw [List.take_succ_cons]
      by_cases h : before x a = true
      · rw [ins_pos _ h, ins_pos _ h, List.take_succ_cons, List.take_succ_cons, ih]
      · rw [ins_neg _ h, ins_neg _ h, List.take_succ_cons, List.take_succ_cons]
        cases n with
        | zero => simp
        | succ n => rw [List.take_succ_cons, List.take_succ_cons, List.take_take, Nat.min_eq_left (by omega)]

theorem pairwise_ins (x : Cand Ideal) (S : List (Cand Ideal)) (hS : S.Pairwise Bef) (hx : ∀ p ∈ S, p.2 ≠ x.2) : (ins x S).Pairwise Bef := by
  induction S with
  | nil => rw [ins_nil]; exact List.pairwise_singleton _ _
  | cons a S ih =>
    rw [List.pairwise_cons] at hS
    by_cases h : before x a = true
    · rw [ins_pos S h, List.pairwise_cons]
      refine ⟨fun p hp => ?_, ih hS.2 fun p hp => hx p (List.mem_cons_of_mem a hp)⟩
      rcases (mem_ins x p S).1 hp with rfl | hp
      · exact (before_iff _ _).1 h
      · exact hS.1 p hp
    · rw [ins_neg S h]
      have hb : Bef x a := Bef.total (hx a List.mem_cons_self) fun hc => h ((before_iff x a).2 hc)
      refine List.pairwise_cons.2 ⟨fun p hp => ?_, List.pairwise_cons.2 hS⟩
      rcases List.mem_cons.1 hp with rfl | hp
      · exact hb
      · exact hb.trans (hS.1 p hp)

/-! ### The list after some keys -/

/-- `L` is the beginning of the candidates among the keys `C`, in order. -/
def Inv (X : Prob Ideal) (q : ℕ) (C : ℕ → Prop) (L : List (Cand Ideal)) : Prop :=
  ∃ S : List (Cand Ideal), L = S.take 64 ∧ S.Pairwise Bef ∧ ∀ p, p ∈ S ↔ p.1 = X.sc q p.2 ∧ C p.2

theorem Inv.congr {X : Prob Ideal} {q : ℕ} {C C' : ℕ → Prop} {L : List (Cand Ideal)} (h : Inv X q C L) (hC : ∀ j, C j ↔ C' j) : Inv X q C' L := by
  rw [show C' = C from funext fun j => propext (hC j).symm]; exact h

theorem Inv.nil (X : Prob Ideal) (q : ℕ) : Inv X q (fun _ => False) [] :=
  ⟨[], rfl, List.Pairwise.nil, fun p => by simp⟩

theorem Inv.step {X : Prob Ideal} {q g k : ℕ} {C : ℕ → Prop} {L : List (Cand Ideal)} (h : Inv X q C L) :
    Inv X q (fun j => C j ∨ (j = k ∧ X.mt g q k)) (X.step g q L k) := by
  unfold Prob.step
  by_cases hm : X.mt g q k
  · rw [if_pos hm]
    obtain ⟨S, rfl, hS, hmem⟩ := h
    by_cases hk : C k
    · have hc : ∀ j, C j ↔ (C j ∨ (j = k ∧ X.mt g q k)) := fun j => ⟨.inl, by rintro (h | ⟨rfl, -⟩); exact h; exact hk⟩
      split
      · exact Inv.congr ⟨S, rfl, hS, hmem⟩ hc
      · rename_i hL
        have hx : (X.sc q k, k) ∈ S := (hmem _).2 ⟨rfl, hk⟩
        rw [← List.take_append_drop 64 S, List.mem_append] at hx
        have hx : (X.sc q k, k) ∈ S.drop 64 := hx.resolve_left fun hc => hL (List.mem_map.2 ⟨_, hc, rfl⟩)
        have hlen : (S.take 64).length = 64 := by
          rw [List.length_take]
          have := List.length_pos_of_mem hx
          rw [List.length_drop] at this
          omega
        have hall : ∀ p ∈ S.take 64, before (X.sc q k, k) p = true := by
          have h2 := hS
          rw [← List.take_append_drop 64 S, List.pairwise_append] at h2
          exact fun p hp => (before_iff _ _).2 (h2.2.2 p hp _ hx)
        have hpos : pos (X.sc q k, k) (S.take 64) = 64 := by
          unfold pos
          rw [show List.takeWhile (before (X.sc q k, k)) (S.take 64) = S.take 64 from takeWhile_all _ _ hall, hlen]
        rw [insL_full (by omega) hpos]
        exact Inv.congr ⟨S, rfl, hS, hmem⟩ hc
    · have hL : k ∉ (S.take 64).map Prod.snd := fun hc => by
        obtain ⟨p, hp, rfl⟩ := List.mem_map.1 hc
        exact hk ((hmem p).1 (List.mem_of_mem_take hp)).2
      rw [if_neg hL]
      refine ⟨ins (X.sc q k, k) S, by rw [insL_eq, take_ins], pairwise_ins _ S hS fun p hp hc => ?_, fun p => ?_⟩
      · have hc : p.2 = k := hc
        exact hk (hc ▸ ((hmem p).1 hp).2)
      · rw [mem_ins, hmem]
        constructor
        · rintro (rfl | ⟨h1, h2⟩)
          · exact ⟨rfl, .inr ⟨rfl, hm⟩⟩
          · exact ⟨h1, .inl h2⟩
        · rintro ⟨h1, h2 | ⟨h2, -⟩⟩
          · exact .inr ⟨h1, h2⟩
          · refine .inl (Prod.ext ?_ h2)
            rw [h1, h2]
  · rw [if_neg hm]
    exact h.congr fun j => by tauto

theorem Inv.run {X : Prob Ideal} {q g : ℕ} {C : ℕ → Prop} {L : List (Cand Ideal)} (h : Inv X q C L) (n : ℕ) :
    Inv X q (fun j => C j ∨ (j < n ∧ X.mt g q j)) (X.run g q L n) := by
  induction n with
  | zero => exact h.congr fun j => by simp
  | succ n ih =>
    rw [Prob.run_succ]
    refine (ih.step (k := n) (g := g)).congr fun j => ?_
    constructor
    · rintro ((h | ⟨h1, h2⟩) | ⟨rfl, h2⟩)
      · exact .inl h
      · exact .inr ⟨by omega, h2⟩
      · exact .inr ⟨by omega, h2⟩
    · rintro (h | ⟨h1, h2⟩)
      · exact .inl (.inl h)
      · rcases Nat.lt_or_ge j n with h3 | h3
        · exact .inl (.inr ⟨h3, h2⟩)
        · have : j = n := by omega
          subst this
          exact .inr ⟨rfl, h2⟩

theorem Inv.both (X : Prob Ideal) (q : ℕ) : Inv X q (fun j => j < 2048 ∧ (X.mt 0 q j ∨ X.mt 1 q j)) (X.both q) :=
  (((Inv.nil X q).run (g := 0) 2048).run (g := 1) 2048).congr fun j => by tauto

/-! ### What a list in order shows above the cut -/

def shown (cut : EReal) (o : Option (Cand Ideal)) : BitVec 32 :=
  match o with
  | some p => if cut < p.1 then BitVec.ofNat 32 p.2 else 4294967295#32
  | none => 4294967295#32

theorem shown_filter (cut : EReal) (S : List (Cand Ideal)) (hS : S.Pairwise Bef) (s : ℕ) :
    shown cut S[s]? = shown cut (S.filter fun p => decide (cut < p.1))[s]? := by
  induction S generalizing s with
  | nil => rfl
  | cons a S ih =>
    rw [List.pairwise_cons] at hS
    by_cases h : cut < a.1
    · rw [List.filter_cons_of_pos (by simpa using h)]
      cases s with
      | zero => rfl
      | succ s => rw [List.getElem?_cons_succ, List.getElem?_cons_succ, ih hS.2]
    · have hall : ∀ p ∈ a :: S, ¬ cut < p.1 := fun p hp => by
        rcases List.mem_cons.1 hp with rfl | hp
        · exact h
        · exact fun hc => h (hc.trans_le (hS.1 p hp).le)
      rw [List.filter_eq_nil_iff.2 fun p hp => by simpa using hall p hp]
      cases hs : (a :: S)[s]? with
      | none => rfl
      | some p =>
        show (if cut < p.1 then _ else _) = _
        rw [if_neg (hall p (List.mem_of_getElem? hs))]
        rfl

theorem eq_of_mem {S S' : List (Cand Ideal)} (hS : S.Pairwise Bef) (hS' : S'.Pairwise Bef) (h : ∀ p, p ∈ S ↔ p ∈ S') : S = S' := by
  have hn : ∀ {T : List (Cand Ideal)}, T.Pairwise Bef → T.Nodup := fun hT => hT.imp fun {a b} hab (hc : a = b) => Bef.irrefl a (by rw [← hc] at hab; exact hab)
  exact List.Perm.eq_of_pairwise (fun a b _ _ h1 h2 => absurd (h1.trans h2) (Bef.irrefl a)) hS hS'
    ((List.perm_ext_iff_of_nodup (hn hS) (hn hS')).2 h)

theorem shown_congr (cut : EReal) (S T : List (Cand Ideal)) (hS : S.Pairwise Bef) (hT : T.Pairwise Bef)
    (h : ∀ p : Cand Ideal, cut < p.1 → (p ∈ S ↔ p ∈ T)) (s : ℕ) : shown cut S[s]? = shown cut T[s]? := by
  rw [shown_filter cut S hS, shown_filter cut T hT]
  have he : S.filter (fun p => decide (cut < p.1)) = T.filter fun p => decide (cut < p.1) :=
    eq_of_mem (hS.filter _) (hT.filter _) fun p => by
      rw [List.mem_filter, List.mem_filter]
      simp only [decide_eq_true_eq]
      exact ⟨fun hp => ⟨(h p hp.2).1 hp.1, hp.2⟩, fun hp => ⟨(h p hp.2).2 hp.1, hp.2⟩⟩
  rw [he]

/-! ### The stable sort -/

theorem stableSort_bef {n : ℕ} (f : ℕ → EReal) (l : List (Fin n)) (hl : l.Pairwise (· < ·)) :
    ((stableSort (fun a b : Fin n => Ideal.cmp .ogt (f a) (f b) == 1#1) l).map fun j : Fin _ => ((f j, j.val) : Cand Ideal)).Pairwise Bef
      ∧ ∀ j, j ∈ stableSort (fun a b : Fin n => Ideal.cmp .ogt (f a) (f b) == 1#1) l ↔ j ∈ l := by
  induction l with
  | nil => exact ⟨List.Pairwise.nil, fun j => Iff.rfl⟩
  | cons a l ih =>
    rw [List.pairwise_cons] at hl
    obtain ⟨h1, h2⟩ := ih hl.2
    unfold stableSort
    have hB : ∀ b c : Fin n, (Ideal.cmp .ogt (f b) (f c) == 1#1) = true ↔ f c < f b := fun b c => by
      rw [beq_iff_eq]
      show BitVec.ofBool (decide (f c < f b)) = 1#1 ↔ _
      rw [ofBool_eq_one, decide_eq_true_eq]
    refine ⟨?_, fun j => by rw [(perm_insertBefore _ a _).mem_iff, List.mem_cons, List.mem_cons, h2]⟩
    have hlt : ∀ b ∈ stableSort (fun a b : Fin n => Ideal.cmp .ogt (f a) (f b) == 1#1) l, a < b := fun b hb => hl.1 b ((h2 b).1 hb)
    generalize stableSort (fun a b : Fin n => Ideal.cmp .ogt (f a) (f b) == 1#1) l = m at h1 hlt
    clear h2 ih hl
    induction m with
    | nil => exact List.pairwise_singleton _ _
    | cons b m ih =>
      rw [List.map_cons, List.pairwise_cons] at h1
      have hab := hlt b List.mem_cons_self
      unfold insertBefore
      split
      · rename_i h
        rw [List.map_cons, List.pairwise_cons]
        refine ⟨fun p hp => ?_, ih h1.2 fun c hc => hlt c (List.mem_cons_of_mem b hc)⟩
        obtain ⟨c, hc, rfl⟩ := List.mem_map.1 hp
        rcases List.mem_cons.1 ((perm_insertBefore _ a m).mem_iff.1 hc) with rfl | hc
        · exact .inl ((hB _ _).1 h)
        · exact h1.1 _ (List.mem_map.2 ⟨c, hc, rfl⟩)
      · rename_i h
        have hba : Bef (f a, a.val) (f b, b.val) := by
          have h' : ¬ f a < f b := fun hc => h ((hB _ _).2 hc)
          rcases lt_trichotomy (f a) (f b) with h3 | h3 | h3
          · exact absurd h3 h'
          · exact .inr ⟨h3, hab⟩
          · exact .inl h3
        rw [List.map_cons, List.map_cons]
        refine List.pairwise_cons.2 ⟨fun p hp => ?_, List.pairwise_cons.2 h1⟩
        rcases List.mem_cons.1 hp with rfl | hp
        · exact hba
        · exact hba.trans (h1.1 p hp)

/-- The result at a slot is what the stable sort of the masked scores has there, if that is above the cut. -/
theorem out_eq (X : Prob Ideal) (q s : ℕ) (hs : s < 64) (f : ℕ → EReal)
    (hf : ∀ k < 2048, X.mt 0 q k ∨ X.mt 1 q k → f k = X.sc q k)
    (hf' : ∀ k < 2048, ¬ (X.mt 0 q k ∨ X.mt 1 q k) → ¬ Ideal.ofBits .f32 0xCCBEBC20#32 < f k) :
    X.out q s = (let j := sortedFrom (fun a b : Fin 2048 => Ideal.cmp .ogt (f a) (f b) == 1#1) ⟨s, by omega⟩
      if Ideal.ofBits .f32 0xCCBEBC20#32 < f j then BitVec.ofNat 32 j.val else 4294967295#32) := by
  generalize hcut : Ideal.ofBits .f32 0xCCBEBC20#32 = cut at *
  obtain ⟨S, hS, hp, hmem⟩ := Inv.both X q
  have hout : X.out q s = shown cut S[s]? := by
    unfold Prob.out
    rw [hS, List.getElem?_take_of_lt hs]
    cases S[s]? with
    | none => rfl
    | some p =>
      show (if FloatOps.cmpf .ogt p.1 (Scalar.ofBits .f32 0xCCBEBC20#32) = 1#1 then _ else _) = if cut < p.1 then _ else _
      have : FloatOps.cmpf .ogt p.1 (Scalar.ofBits .f32 0xCCBEBC20#32) = BitVec.ofBool (decide (Ideal.ofBits .f32 0xCCBEBC20#32 < p.1)) := rfl
      rw [this, hcut]
      simp only [ofBool_eq_one, decide_eq_true_eq]
  obtain ⟨h1, h2⟩ := stableSort_bef (n := 2048) f (List.finRange 2048) (List.pairwise_lt_finRange 2048)
  set B : Fin 2048 → Fin 2048 → Bool := fun a b => Ideal.cmp .ogt (f a) (f b) == 1#1 with hB
  have href : (let j := sortedFrom B ⟨s, by omega⟩
      if cut < f j then BitVec.ofNat 32 j.val else 4294967295#32)
      = shown cut ((stableSort B (List.finRange 2048)).map fun j : Fin _ => ((f j, j.val) : Cand Ideal))[s]? := by
    have hlen : s < (stableSort B (List.finRange 2048)).length := by
      have := length_sortPositions 2048 B
      unfold sortPositions at this
      omega
    have hj : sortedFrom B ⟨s, by omega⟩ = (stableSort B (List.finRange 2048))[s] := by
      unfold sortedFrom sortPositions
      exact List.get_eq_getElem
    rw [List.getElem?_map, List.getElem?_eq_getElem hlen]
    show (if cut < f (sortedFrom B ⟨s, _⟩).val then BitVec.ofNat 32 (sortedFrom B ⟨s, _⟩).val else 4294967295#32) = _
    rw [hj]
    generalize (stableSort B (List.finRange 2048))[s] = z
    rfl
  rw [hout, href]
  refine shown_congr cut S _ hp h1 (fun p hd => ?_) s
  rw [hmem, List.mem_map]
  constructor
  · rintro ⟨ha, hb, hc⟩
    exact ⟨⟨p.2, hb⟩, (h2 _).2 (List.mem_finRange _), Prod.ext ((hf _ hb hc).trans ha.symm) rfl⟩
  · rintro ⟨j, hj, rfl⟩
    have hc : X.mt 0 q j ∨ X.mt 1 q j := by
      by_contra hc
      exact hf' j j.isLt hc hd
    exact ⟨hf _ j.isLt hc, j.isLt, hc⟩

end Cert.Proof.Join

end
-- ==== Proof.Words.lean ====
/-
  The words both programs make of a vector: the hash of a projection, and the sixteen signs of a quarter read as a number.
-/
module

public import Idealize.ShloMosaic.Lib.Pointwise
public import Idealize.ShloMosaic.PureOps.Ideal.Laws
public import Mathlib.Algebra.BigOperators.Fin

@[expose] public section

noncomputable section

namespace Cert.Proof.Join

open Idealize.ShloMosaic

/-- A vector of a table of vectors. -/
def vecOf (x : (⟨3, ![2, 2048, 64]⟩ : Shape).Idx → EReal) (b : Fin 2) (q : Fin 2048) : Fin 64 → EReal := fun i => x (Idealize.ShloMosaic.ix3 b q i)
/-- A column of a weight table. -/
def colOf (w : (⟨2, ![32, 4]⟩ : Shape).Idx → EReal) (h : Fin 4) : Fin 32 → EReal := fun i => w (Idealize.ShloMosaic.ix2 i h)

/-- A vector's half times a column of a weight table. -/
def proj (o : Fin 2) (r : Fin 64 → EReal) (w : Fin 32 → EReal) : EReal := ∑ x : Fin 32, r ⟨32 * o.val + x.val, by omega⟩ * w x

/-- The floor of a quarter of a projection, with the remainder by thirty-two still to be made positive. -/
def hrem (p : EReal) : EReal :=
  Ideal.remf (Ideal.liftRound Int.floor (Ideal.div p (Ideal.ofBits .f32 1082130432#32))) (Ideal.ofBits .f32 1107296256#32)

/-- The remainder made positive, as a word. -/
def hfix (r : EReal) : BitVec 32 :=
  FloatOps.fptosi (F := Ideal) (φ := .f32) 32
    (Scalar.select
      (IntOp.andi (IntOp.xori (BitVec.ofBool (decide (r < 0))) (BitVec.ofBool (decide (Ideal.ofBits .f32 1107296256#32 < 0))))
        (BitVec.ofBool (decide (r ≠ 0))))
      (r + Ideal.ofBits .f32 1107296256#32) r)

/-- The hash of a projection. -/
def hword (p : EReal) : BitVec 32 := hfix (hrem p)

/-- The sixteen signs of quarter `g`, the first the lowest bit. -/
def bits (r : Fin 64 → EReal) (g : Fin 4) : ℕ := ∑ j : Fin 16, if 0 < r ⟨16 * g.val + j.val, by omega⟩ then 2 ^ j.val else 0

theorem sum_two_pow_lt (n : ℕ) (p : Fin n → Prop) [DecidablePred p] : (∑ j : Fin n, if p j then 2 ^ j.val else 0) < 2 ^ n := by
  induction n with
  | zero => simp
  | succ n ih =>
    rw [Fin.sum_univ_castSucc, pow_succ]
    have h1 := ih (fun j => p j.castSucc)
    have h2 : (if p (Fin.last n) then 2 ^ (Fin.last n).val else 0) ≤ 2 ^ n := by split <;> simp
    simp only [Fin.val_castSucc] at *
    omega

theorem bits_lt (r : Fin 64 → EReal) (g : Fin 4) : bits r g < 2 ^ 16 := sum_two_pow_lt 16 _

/-- A sum of distinct powers of two is zero or not bit by bit. -/
theorem sum_two_pow_inj (n : ℕ) (p q : Fin n → Prop) [DecidablePred p] [DecidablePred q]
    (h : (∑ j : Fin n, if p j then 2 ^ j.val else 0) = ∑ j : Fin n, if q j then 2 ^ j.val else 0) (j : Fin n) : p j ↔ q j := by
  induction n with
  | zero => exact j.elim0
  | succ n ih =>
    rw [Fin.sum_univ_castSucc, Fin.sum_univ_castSucc] at h
    have hp := sum_two_pow_lt n (fun j => p j.castSucc)
    have hq := sum_two_pow_lt n (fun j => q j.castSucc)
    simp only [Fin.val_castSucc, Fin.val_last] at h hp hq
    have hl : p (Fin.last n) ↔ q (Fin.last n) := by
      by_cases h1 : p (Fin.last n) <;> by_cases h2 : q (Fin.last n) <;> simp only [h1, h2, if_true, if_false] at h ⊢ <;> omega
    have hr : (∑ j : Fin n, if p j.castSucc then 2 ^ j.val else 0) = ∑ j : Fin n, if q j.castSucc then 2 ^ j.val else 0 := by
      by_cases h1 : p (Fin.last n)
      · simp only [h1, hl.1 h1, if_true] at h; omega
      · simp only [h1, mt hl.2 h1, if_false] at h; omega
    refine Fin.lastCases hl (fun i => ?_) j
    exact ih (fun j => p j.castSucc) (fun j => q j.castSucc) hr i

/-- A natural number below the range, truncated to a word. -/
theorem fptosi_natCast (n : ℕ) (h : n < 2 ^ 31) : (FloatOps.fptosi (F := Ideal) (φ := .f32) 32 (n : EReal) : BitVec 32) = BitVec.ofNat 32 n := by
  show BitVec.ofInt 32 (Ideal.toIntClamped (-(2 ^ (32 - 1) : ℕ)) ((2 ^ (32 - 1) : ℕ) - 1) (((n : ℝ)) : EReal)) = _
  have : Ideal.toIntClamped (-(2 ^ (32 - 1) : ℕ)) ((2 ^ (32 - 1) : ℕ) - 1) (((n : ℝ)) : EReal) = (n : ℤ) := by
    show max _ (min _ (if (0 : ℝ) ≤ (n : ℝ) then ⌊(n : ℝ)⌋ else ⌈(n : ℝ)⌉)) = _
    rw [if_pos (Nat.cast_nonneg n), Int.floor_natCast]
    have : (n : ℤ) < 2 ^ 31 := by exact_mod_cast h
    norm_num
    omega
  rw [this, BitVec.ofInt_natCast]

/-- A sum over a vector's positions that vanishes outside one quarter. -/
theorem sum_quarter (g : Fin 4) (f : Fin 64 → ℕ) (hf : ∀ x : Fin 64, x.val / 16 ≠ g.val → f x = 0) :
    ∑ x : Fin 64, f x = ∑ j : Fin 16, f ⟨16 * g.val + j.val, by omega⟩ := by
  rw [← Equiv.sum_comp (finProdFinEquiv (m := 4) (n := 16)) f, Fintype.sum_prod_type,
    Finset.sum_eq_single g]
  · refine Finset.sum_congr rfl fun j _ => congrArg f (Fin.ext ?_)
    show j.val + 16 * g.val = 16 * g.val + j.val
    omega
  · intro a _ ha
    refine Finset.sum_eq_zero fun j _ => hf _ ?_
    show (j.val + 16 * a.val) / 16 ≠ g.val
    have : a.val ≠ g.val := fun h => ha (Fin.ext h)
    omega
  · intro h; exact absurd (Finset.mem_univ g) h

end Cert.Proof.Join

end
-- ==== Proof.Sig.lean ====
/-
  The kernel's signatures at the reals: eight hashes, then the signs of two quarters in each of two words.
-/
module

public import proofs.«01_k».proof.Proof.Region
public import proofs.«01_k».proof.Proof.Words
public import Idealize.ShloMosaic.Lib.Pointwise

@[expose] public section

noncomputable section

namespace Cert.Proof.Join

open Cert.KernelIdeal Cert.KernelIdeal.Gen
open Idealize.ShloMosaic

theorem sigK0_eq {F : FTy → Type} [FloatOps F] (w0 w1 : Vec F S32x4 .f32) (v : Vec F S1x2048x64 .f32) : sigK0 w0 w1 v = sigQ0 w0 w1 v := rfl
theorem sigQ1_eq {F : FTy → Type} [FloatOps F] (w0 w1 : Vec F S32x4 .f32) (v : Vec F S1x2048x64 .f32) : sigQ1 w0 w1 v = sigQ0 w0 w1 v := rfl
theorem sigK1_eq {F : FTy → Type} [FloatOps F] (w0 w1 : Vec F S32x4 .f32) (v : Vec F S1x2048x64 .f32) : sigK1 w0 w1 v = sigQ0 w0 w1 v := rfl

/-! ### The table of powers -/

theorem table_place : ∀ (x : Fin 64) (g : Fin 4), k0_pay2 (Idealize.ShloMosaic.ix2 x g) = if x.val / 16 = g.val then 1#1 else 0#1 := by decide +kernel

def power (x : Fin 64) (g : Fin 4) : BitVec 32 :=
  IntOp.shli ArithUnit.vector (1#32)
    (Scalar.select (k0_pay4 (Idealize.ShloMosaic.ix2 x g))
      (IntOp.addi (k0_pay3 (Idealize.ShloMosaic.ix2 x g)) (k0_pay5 (Idealize.ShloMosaic.ix2 x g)))
      (k0_pay3 (Idealize.ShloMosaic.ix2 x g)))

theorem power_eq : ∀ (x : Fin 64) (g : Fin 4), (power x g).toInt = ((2 ^ (x.val % 16) : ℕ) : ℤ) := by decide +kernel

theorem table_eq (x : Fin 64) (g : Fin 4) :
    (k0_pay6 k0_pay2 k0_pay3 k0_pay4 k0_pay5 : FVec Ideal S64x4 .f32) (Idealize.ShloMosaic.ix2 x g)
      = ((if x.val / 16 = g.val then 2 ^ (x.val % 16) else 0 : ℕ) : EReal) := by
  unfold k0_pay6
  pointwise
  rw [table_place]
  by_cases h : x.val / 16 = g.val
  · rw [if_pos h, if_pos h]
    show (((power x g).toInt : ℝ) : EReal) = _
    rw [power_eq]
    norm_cast
  · rw [if_neg h, if_neg h]
    simp [Scalar.select]

theorem sign_eq (a : EReal) :
    (FloatOps.sitofp (F := Ideal) FTy.f32 (BitVec.setWidth 32 (BitVec.ofBool (decide (0 < a)))) : EReal) = ((if 0 < a then 1 else 0 : ℕ) : EReal) := by
  by_cases h : 0 < a
  · simp only [h, decide_true, if_true]
    show (((BitVec.setWidth 32 (BitVec.ofBool true)).toInt : ℝ) : EReal) = _
    rw [show (BitVec.setWidth 32 (BitVec.ofBool true)).toInt = 1 by decide]
    norm_num
  · simp only [h, decide_false, if_false]
    show (((BitVec.setWidth 32 (BitVec.ofBool false)).toInt : ℝ) : EReal) = _
    rw [show (BitVec.setWidth 32 (BitVec.ofBool false)).toInt = 0 by decide]
    norm_num

/-- A row of one batch. -/
def rowOf (v : Vec Ideal S1x2048x64 .f32) (k : Fin 2048) : Fin 64 → EReal := fun i => v (Idealize.ShloMosaic.ix3 0 k i)

theorem signs_sum (r : Fin 64 → EReal) (g : Fin 4) :
    (∑ x : Fin 64, (FloatOps.sitofp (F := Ideal) FTy.f32 (BitVec.setWidth 32 (BitVec.ofBool (decide (0 < r x)))) : EReal)
      * (k0_pay6 k0_pay2 k0_pay3 k0_pay4 k0_pay5 : FVec Ideal S64x4 .f32) (Idealize.ShloMosaic.ix2 x g)) = (bits r g : EReal) := by
  have h : ∀ x : Fin 64, (FloatOps.sitofp (F := Ideal) FTy.f32 (BitVec.setWidth 32 (BitVec.ofBool (decide (0 < r x)))) : EReal)
      * (k0_pay6 k0_pay2 k0_pay3 k0_pay4 k0_pay5 : FVec Ideal S64x4 .f32) (Idealize.ShloMosaic.ix2 x g)
      = (((if 0 < r x then 1 else 0) * (if x.val / 16 = g.val then 2 ^ (x.val % 16) else 0) : ℕ) : EReal) := fun x => by
    rw [sign_eq, table_eq]
    norm_cast
  rw [Finset.sum_congr rfl fun x _ => h x, ← Nat.cast_sum, sum_quarter g]
  · refine congrArg (Nat.cast (R := EReal)) (Finset.sum_congr rfl fun j _ => ?_)
    have h1 : (16 * g.val + j.val) / 16 = g.val := by omega
    have h2 : (16 * g.val + j.val) % 16 = j.val := by omega
    simp only [h1, h2, if_true]
    split <;> simp
  · intro x hx
    rw [if_neg hx, Nat.mul_zero]

theorem sums_hash0 (w0 w1 : Vec Ideal S32x4 .f32) (v : Vec Ideal S1x2048x64 .f32) (h : Fin 4) (k : Fin 2048) :
    k0_pay7 w0 w1 k0_pay2 k0_pay3 k0_pay4 k0_pay5 v (Idealize.ShloMosaic.ix2 ⟨h.val, by omega⟩ k) = proj 0 (rowOf v k) (colOf w0 h) := by
  unfold k0_pay7
  pointwise
  have hx : ∀ x : Fin 32, (⟨x.val, by omega⟩ : Fin 64) = ⟨32 * (0 : Fin 2).val + x.val, by simp; omega⟩ := fun x => Fin.ext (by simp)
  refine Finset.sum_congr rfl fun x _ => ?_
  rw [hx x]
  rfl

theorem sums_hash1 (w0 w1 : Vec Ideal S32x4 .f32) (v : Vec Ideal S1x2048x64 .f32) (h : Fin 4) (k : Fin 2048) :
    k0_pay7 w0 w1 k0_pay2 k0_pay3 k0_pay4 k0_pay5 v (Idealize.ShloMosaic.ix2 ⟨4 + h.val, by omega⟩ k) = proj 1 (rowOf v k) (colOf w1 h) := by
  unfold k0_pay7
  pointwise
  rfl

theorem sums_bits (w0 w1 : Vec Ideal S32x4 .f32) (v : Vec Ideal S1x2048x64 .f32) (g : Fin 4) (k : Fin 2048) :
    k0_pay7 w0 w1 k0_pay2 k0_pay3 k0_pay4 k0_pay5 v (Idealize.ShloMosaic.ix2 ⟨8 + g.val, by omega⟩ k) = (bits (rowOf v k) g : EReal) := by
  unfold k0_pay7
  pointwise
  rw [← signs_sum]
  have hg : ∀ h : 8 + g.val - 4 - 4 < 4, (⟨8 + g.val - 4 - 4, h⟩ : Fin 4) = g := fun h => Fin.ext (by show 8 + g.val - 4 - 4 = g.val; omega)
  split
  · omega
  split
  · omega
  refine Finset.sum_congr rfl fun x _ => ?_
  rw [hg]
  rfl

theorem hashes (w0 w1 : Vec Ideal S32x4 .f32) (v : Vec Ideal S1x2048x64 .f32) (h : Fin 8) (k : Fin 2048) :
    k0_pay8 w0 w1 k0_pay2 k0_pay3 k0_pay4 k0_pay5 v (Idealize.ShloMosaic.ix2 h k)
      = hword (k0_pay7 w0 w1 k0_pay2 k0_pay3 k0_pay4 k0_pay5 v (Idealize.ShloMosaic.ix2 ⟨h.val, by omega⟩ k)) := by
  unfold k0_pay8
  pointwise
  rfl

/-- The two quarters of group `g` in one word. -/
def pack (r : Fin 64 → EReal) (g : Fin 2) : BitVec 32 :=
  IntOp.ori (BitVec.ofNat 32 (bits r ⟨2 * g.val, by omega⟩)) (IntOp.shli ArithUnit.vector (BitVec.ofNat 32 (bits r ⟨2 * g.val + 1, by omega⟩)) 16#32)

theorem pack_inj (r r' : Fin 64 → EReal) (g : Fin 2) :
    pack r g = pack r' g ↔ bits r ⟨2 * g.val, by omega⟩ = bits r' ⟨2 * g.val, by omega⟩ ∧ bits r ⟨2 * g.val + 1, by omega⟩ = bits r' ⟨2 * g.val + 1, by omega⟩ := by
  have key : ∀ a b : ℕ, a < 2 ^ 16 → b < 2 ^ 16 →
      (IntOp.ori (BitVec.ofNat 32 a) (IntOp.shli ArithUnit.vector (BitVec.ofNat 32 b) 16#32)).toNat = b * 2 ^ 16 + a := fun a b ha hb => by
    have h1 : IntOp.shli ArithUnit.vector (BitVec.ofNat 32 b) 16#32 = BitVec.ofNat 32 b <<< 16 := rfl
    have h2 : ∀ x y : BitVec 32, IntOp.ori x y = x ||| y := fun _ _ => rfl
    rw [h1, h2, BitVec.toNat_or, BitVec.toNat_shiftLeft, BitVec.toNat_ofNat, BitVec.toNat_ofNat, Nat.mod_eq_of_lt (by omega), Nat.mod_eq_of_lt (by omega),
      Nat.shiftLeft_eq, Nat.mod_eq_of_lt (by omega), Nat.or_comm, ← Nat.shiftLeft_eq, ← Nat.shiftLeft_add_eq_or_of_lt ha, Nat.shiftLeft_eq]
  have e1 := key _ _ (bits_lt r ⟨2 * g.val, by omega⟩) (bits_lt r ⟨2 * g.val + 1, by omega⟩)
  have e2 := key _ _ (bits_lt r' ⟨2 * g.val, by omega⟩) (bits_lt r' ⟨2 * g.val + 1, by omega⟩)
  have b1 := bits_lt r ⟨2 * g.val, by omega⟩
  have b2 := bits_lt r' ⟨2 * g.val, by omega⟩
  unfold pack
  rw [BitVec.toNat_eq, e1, e2]
  constructor
  · intro h; omega
  · rintro ⟨h, h'⟩; rw [h, h']

theorem sig_hash0 (w0 w1 : Vec Ideal S32x4 .f32) (v : Vec Ideal S1x2048x64 .f32) (h : Fin 4) (k : Fin 2048) :
    sigQ0 w0 w1 v (Idealize.ShloMosaic.ix3 0 ⟨h.val, by omega⟩ k) = hword (proj 0 (rowOf v k) (colOf w0 h)) := by
  unfold sigQ0 k0_pay12 k0_pay11 k0_pay10 k0_pay9
  pointwise
  rw [dif_pos (by omega), hashes, sums_hash0]

theorem sig_hash1 (w0 w1 : Vec Ideal S32x4 .f32) (v : Vec Ideal S1x2048x64 .f32) (h : Fin 4) (k : Fin 2048) :
    sigQ0 w0 w1 v (Idealize.ShloMosaic.ix3 0 ⟨4 + h.val, by omega⟩ k) = hword (proj 1 (rowOf v k) (colOf w1 h)) := by
  unfold sigQ0 k0_pay12 k0_pay11 k0_pay10 k0_pay9
  pointwise
  rw [dif_pos (by omega), hashes, sums_hash1]

theorem sig_bits (w0 w1 : Vec Ideal S32x4 .f32) (v : Vec Ideal S1x2048x64 .f32) (g : Fin 2) (k : Fin 2048) :
    sigQ0 w0 w1 v (Idealize.ShloMosaic.ix3 0 ⟨8 + g.val, by omega⟩ k) = pack (rowOf v k) g := by
  have hb : ∀ g : Fin 4, (FloatOps.fptosi (F := Ideal) (φ := .f32) 32 (k0_pay7 w0 w1 k0_pay2 k0_pay3 k0_pay4 k0_pay5 v (Idealize.ShloMosaic.ix2 ⟨8 + g.val, by omega⟩ k)) : BitVec 32)
      = BitVec.ofNat 32 (bits (rowOf v k) g) := fun g => by
    rw [sums_bits, fptosi_natCast _ ((bits_lt _ _).trans (by norm_num))]
  unfold sigQ0 k0_pay12 k0_pay11 k0_pay10 k0_pay9 pack
  rw [← hb, ← hb]
  pointwise
  fin_cases g
  · rfl
  · rfl

end Cert.Proof.Join

end
-- ==== Proof.Ref.lean ====
/-
  The reference's mask and scores, read at a query and a key.
-/
module

public import proofs.«01_k».proof.Proof.Gen.ReferenceIdeal.Run
public import proofs.«01_k».proof.Proof.Words
public import Idealize.ShloMosaic.Lib.Pointwise
public import Idealize.ShloMosaic.Lib.Tactic.CleanTypes

@[expose] public section

noncomputable section

namespace Cert.Proof.Ref

open Idealize.ShloMosaic Idealize.ShloMosaic.StableHlo Cert.ReferenceIdeal Cert.ReferenceIdeal.Value
open Cert.Proof.Join (vecOf colOf proj hrem hfix hword bits fptosi_natCast sum_two_pow_inj)

/-! ### Folds -/

theorem fold_ori {n : ℕ} (s : Finset (Fin n)) (f : Fin n → BitVec 1) : s.fold IntOp.ori (0#1) f = 1#1 ↔ ∃ x ∈ s, f x = 1#1 := by
  have h : ∀ a b : BitVec 1, IntOp.ori a b = 1#1 ↔ a = 1#1 ∨ b = 1#1 := by decide
  induction s using Finset.induction_on with
  | empty => simp
  | insert a s ha ih => rw [Finset.fold_insert ha, h]; simp [ih]

theorem fold_addi {n : ℕ} (s : Finset (Fin n)) (f : Fin n → ℕ) :
    s.fold IntOp.addi (0#32) (fun x => BitVec.ofNat 32 (f x)) = BitVec.ofNat 32 (∑ x ∈ s, f x) := by
  induction s using Finset.induction_on with
  | empty => simp
  | insert a s ha ih => rw [Finset.fold_insert ha, ih, Finset.sum_insert ha, BitVec.ofNat_add]; rfl

theorem cmpi_eq_iff {w : ℕ} (a b : BitVec w) : IntOp.cmpi CmpIPredicate.eq a b = 1#1 ↔ a = b := by
  show BitVec.ofBool (a == b) = 1#1 ↔ _
  rw [show ∀ c : Bool, BitVec.ofBool c = 1#1 ↔ c = true by decide, beq_iff_eq]

theorem andi_iff : ∀ a b : BitVec 1, IntOp.andi a b = 1#1 ↔ a = 1#1 ∧ b = 1#1 := by decide
theorem ori_iff : ∀ a b : BitVec 1, IntOp.ori a b = 1#1 ↔ a = 1#1 ∨ b = 1#1 := by decide
theorem ne_xori : ∀ a b : BitVec 1, IntOp.cmpi CmpIPredicate.ne a b = IntOp.xori a b := by decide

/-- Signs read as a number: the first the lowest bit. -/
def num {n : ℕ} (f : Fin n → BitVec 1) : BitVec 32 :=
  Finset.univ.fold IntOp.addi (0#32) fun x : Fin n =>
    IntOp.muli (BitVec.setWidth 32 (f x)) (IntOp.shli ArithUnit.host (1#32) (BitVec.ofNat 32 x.val))

theorem num_eq {n : ℕ} (hn : n ≤ 16) (p : Fin n → Prop) [DecidablePred p] :
    num (fun x => BitVec.ofBool (decide (p x))) = BitVec.ofNat 32 (∑ x : Fin n, if p x then 2 ^ x.val else 0) := by
  have h1 : ∀ x : Fin 16, IntOp.muli (BitVec.setWidth 32 (BitVec.ofBool true)) (IntOp.shli ArithUnit.host (1#32) (BitVec.ofNat 32 x.val)) = BitVec.ofNat 32 (2 ^ x.val) := by
    decide +kernel
  have h0 : ∀ x : Fin 16, IntOp.muli (BitVec.setWidth 32 (BitVec.ofBool false)) (IntOp.shli ArithUnit.host (1#32) (BitVec.ofNat 32 x.val)) = BitVec.ofNat 32 0 := by
    decide +kernel
  unfold num
  rw [← fold_addi]
  congr 1
  funext x
  by_cases h : p x
  · simp only [h, decide_true, if_true]
    exact h1 ⟨x.val, by omega⟩
  · simp only [h, decide_false, if_false]
    exact h0 ⟨x.val, by omega⟩

theorem num_inj (p q : Fin 16 → Prop) [DecidablePred p] [DecidablePred q] :
    num (fun x => BitVec.ofBool (decide (p x))) = num (fun x => BitVec.ofBool (decide (q x)))
      ↔ (∑ x : Fin 16, if p x then 2 ^ x.val else 0) = ∑ x : Fin 16, if q x then 2 ^ x.val else 0 := by
  rw [num_eq le_rfl, num_eq le_rfl]
  have hp := Join.sum_two_pow_lt 16 p
  have hq := Join.sum_two_pow_lt 16 q
  constructor
  · intro h
    have h := congrArg BitVec.toNat h
    rw [BitVec.toNat_ofNat, BitVec.toNat_ofNat, Nat.mod_eq_of_lt (by omega), Nat.mod_eq_of_lt (by omega)] at h
    exact h
  · intro h; rw [h]

/-! ### One group of signs -/

/-- The reference's condition on one group, from its hashes and its signs. -/
def cond (hq hk : Fin 4 → BitVec 32) (sq sk : Fin 32 → BitVec 1) : BitVec 1 :=
  IntOp.andi
    (IntOp.andi (Finset.univ.fold IntOp.ori (0#1) fun x : Fin 4 => IntOp.cmpi CmpIPredicate.eq (hq x) (hk x))
      (IntOp.cmpi CmpIPredicate.eq (num fun x : Fin 3 => sq ⟨x.val, by omega⟩) (num fun x : Fin 3 => sk ⟨x.val, by omega⟩)))
    (IntOp.andi
      (IntOp.cmpi CmpIPredicate.eq (num fun x : Fin 16 => sq ⟨x.val, by omega⟩) (num fun x : Fin 16 => sk ⟨x.val, by omega⟩))
      (IntOp.cmpi CmpIPredicate.eq (num fun x : Fin 16 => sq ⟨16 + x.val, by omega⟩) (num fun x : Fin 16 => sk ⟨16 + x.val, by omega⟩)))

theorem cond_iff (hq hk : Fin 4 → BitVec 32) (g : Fin 2) (rq rk : Fin 64 → EReal) :
    cond hq hk (fun x => BitVec.ofBool (decide (0 < rq ⟨32 * g.val + x.val, by omega⟩))) (fun x => BitVec.ofBool (decide (0 < rk ⟨32 * g.val + x.val, by omega⟩))) = 1#1
      ↔ (∃ h : Fin 4, hq h = hk h) ∧ bits rq ⟨2 * g.val, by omega⟩ = bits rk ⟨2 * g.val, by omega⟩
        ∧ bits rq ⟨2 * g.val + 1, by omega⟩ = bits rk ⟨2 * g.val + 1, by omega⟩ := by
  have e1 : ∀ r : Fin 64 → EReal, bits r ⟨2 * g.val, by omega⟩ = ∑ x : Fin 16, if 0 < r ⟨32 * g.val + x.val, by omega⟩ then 2 ^ x.val else 0 := fun r => by
    unfold bits
    refine Finset.sum_congr rfl fun x _ => ?_
    have : (⟨16 * (2 * g.val) + x.val, by omega⟩ : Fin 64) = ⟨32 * g.val + x.val, by omega⟩ := Fin.ext (by show 16 * (2 * g.val) + x.val = 32 * g.val + x.val; omega)
    simp only [this]
  have e2 : ∀ r : Fin 64 → EReal, bits r ⟨2 * g.val + 1, by omega⟩ = ∑ x : Fin 16, if 0 < r ⟨32 * g.val + (16 + x.val), by omega⟩ then 2 ^ x.val else 0 := fun r => by
    unfold bits
    refine Finset.sum_congr rfl fun x _ => ?_
    have : (⟨16 * (2 * g.val + 1) + x.val, by omega⟩ : Fin 64) = ⟨32 * g.val + (16 + x.val), by omega⟩ :=
      Fin.ext (by show 16 * (2 * g.val + 1) + x.val = 32 * g.val + (16 + x.val); omega)
    simp only [this]
  rw [e1, e1, e2, e2]
  unfold cond
  rw [andi_iff, andi_iff, andi_iff, fold_ori, cmpi_eq_iff, cmpi_eq_iff, cmpi_eq_iff, num_inj, num_inj]
  simp only [Finset.mem_univ, true_and, cmpi_eq_iff]
  constructor
  · rintro ⟨⟨h1, -⟩, h2⟩
    exact ⟨h1, h2⟩
  · rintro ⟨h1, h2, h3⟩
    refine ⟨⟨h1, ?_⟩, h2, h3⟩
    have hb := sum_two_pow_inj 16 _ _ h2
    rw [num_eq (by omega) (fun x : Fin 3 => 0 < rq ⟨32 * g.val + x.val, by omega⟩), num_eq (by omega) (fun x : Fin 3 => 0 < rk ⟨32 * g.val + x.val, by omega⟩)]
    refine congrArg (BitVec.ofNat 32) (Finset.sum_congr rfl fun x _ => ?_)
    have := hb ⟨x.val, by omega⟩
    simp only [this]

/-! ### The reference's terms -/

variable (V0 : Valuation τ sig (Elt Ideal))

/-- The four arguments. -/
abbrev aQ : (⟨3, ![2, 2048, 64]⟩ : Shape).Idx → EReal := V0 (Proc.tc.devRef main_arg0)
abbrev aK : (⟨3, ![2, 2048, 64]⟩ : Shape).Idx → EReal := V0 (Proc.tc.devRef main_arg1)
abbrev aW0 : (⟨2, ![32, 4]⟩ : Shape).Idx → EReal := V0 (Proc.tc.devRef main_arg2)
abbrev aW1 : (⟨2, ![32, 4]⟩ : Shape).Idx → EReal := V0 (Proc.tc.devRef main_arg3)

theorem buckets : (FloatOps.sitofp (F := Ideal) FTy.f32 32#32 : EReal) = Ideal.ofBits .f32 1107296256#32 := by
  show (((32#32 : BitVec 32).toInt : ℝ) : EReal) = _
  rw [show (32#32 : BitVec 32).toInt = 32 by decide]
  simp [Ideal.ofBits, Ideal.ieee]
  rw [← EReal.coe_mul]
  norm_num

theorem proj_low (r : Fin 64 → EReal) (w : Fin 32 → EReal) : proj 0 r w = ∑ x : Fin 32, r ⟨x.val, by omega⟩ * w x := by
  unfold proj
  refine Finset.sum_congr rfl fun x _ => ?_
  rw [show (⟨32 * (0 : Fin 2).val + x.val, by simp; omega⟩ : Fin 64) = ⟨x.val, by omega⟩ from Fin.ext (by simp)]

theorem rem_q0 (b : Fin 2) (q : Fin 2048) (h : Fin 4) :
    res_main_call0_v2 V0 (ix3 b q h : S2x2048x4.Idx) = hrem (proj 0 (vecOf (aQ V0) b q) (colOf (aW0 V0) h)) := by
  unfold res_main_call0_v2 res_main_call0_v0 res_main_v1
  clean_types
  pointwise
  rw [buckets, proj_low]
  rfl

theorem rem_k0 (b : Fin 2) (q : Fin 2048) (h : Fin 4) :
    res_main_call1_v2 V0 (ix3 b q h : S2x2048x4.Idx) = hrem (proj 0 (vecOf (aK V0) b q) (colOf (aW0 V0) h)) := by
  unfold res_main_call1_v2 res_main_call1_v0 res_main_v2
  clean_types
  pointwise
  rw [buckets, proj_low]
  rfl

theorem rem_q1 (b : Fin 2) (q : Fin 2048) (h : Fin 4) :
    res_main_call2_v2 V0 (ix3 b q h : S2x2048x4.Idx) = hrem (proj 1 (vecOf (aQ V0) b q) (colOf (aW1 V0) h)) := by
  unfold res_main_call2_v2 res_main_call2_v0 res_main_v98
  clean_types
  pointwise
  rw [buckets]
  rfl

theorem rem_k1 (b : Fin 2) (q : Fin 2048) (h : Fin 4) :
    res_main_call3_v2 V0 (ix3 b q h : S2x2048x4.Idx) = hrem (proj 1 (vecOf (aK V0) b q) (colOf (aW1 V0) h)) := by
  unfold res_main_call3_v2 res_main_call3_v0 res_main_v99
  clean_types
  pointwise
  rw [buckets]
  rfl

/-- The condition that query `q` and key `k` agree in group `g`. -/
def Agree (x y : (⟨3, ![2, 2048, 64]⟩ : Shape).Idx → EReal) (w : (⟨2, ![32, 4]⟩ : Shape).Idx → EReal) (g : Fin 2) (b : Fin 2) (q k : Fin 2048) : Prop :=
  (∃ h : Fin 4, hword (proj g (vecOf x b q) (colOf w h)) = hword (proj g (vecOf y b k) (colOf w h)))
    ∧ bits (vecOf x b q) ⟨2 * g.val, by omega⟩ = bits (vecOf y b k) ⟨2 * g.val, by omega⟩
    ∧ bits (vecOf x b q) ⟨2 * g.val + 1, by omega⟩ = bits (vecOf y b k) ⟨2 * g.val + 1, by omega⟩

theorem mask0 (b : Fin 2) (q k : Fin 2048) :
    res_main_v96 V0 (ix3 b q k : S2x2048x2048.Idx) = 1#1 ↔ Agree (aQ V0) (aK V0) (aW0 V0) 0 b q k := by
  have h : res_main_v96 V0 (ix3 b q k : S2x2048x2048.Idx)
      = cond (fun h => hfix (res_main_call0_v2 V0 (ix3 b q h : S2x2048x4.Idx))) (fun h => hfix (res_main_call1_v2 V0 (ix3 b k h : S2x2048x4.Idx)))
        (fun x => BitVec.ofBool (decide (0 < (vecOf (aQ V0) b q) ⟨x.val, by omega⟩))) (fun x => BitVec.ofBool (decide (0 < (vecOf (aK V0) b k) ⟨x.val, by omega⟩))) := by
    unfold res_main_v96 res_main_call0_v0 res_main_call1_v0 res_main_v22 res_main_v24 res_main_v1 res_main_v2
    clean_types
    pointwise
    rw [buckets]
    simp only [ne_xori]
    rfl
  have hx : ∀ x : Fin 32, (⟨x.val, by omega⟩ : Fin 64) = ⟨32 * (0 : Fin 2).val + x.val, by simp; omega⟩ := fun x => Fin.ext (by simp)
  have hc := cond_iff (fun h => hword (proj 0 (vecOf (aQ V0) b q) (colOf (aW0 V0) h))) (fun h => hword (proj 0 (vecOf (aK V0) b k) (colOf (aW0 V0) h)))
    0 (vecOf (aQ V0) b q) (vecOf (aK V0) b k)
  simp only [← hx] at hc
  rw [h, funext fun h => congrArg hfix (rem_q0 V0 b q h), funext fun h => congrArg hfix (rem_k0 V0 b k h)]
  exact hc

theorem mask1 (b : Fin 2) (q k : Fin 2048) :
    res_main_v193 V0 (ix3 b q k : S2x2048x2048.Idx) = 1#1 ↔ Agree (aQ V0) (aK V0) (aW1 V0) 1 b q k := by
  have h : res_main_v193 V0 (ix3 b q k : S2x2048x2048.Idx)
      = cond (fun h => hfix (res_main_call2_v2 V0 (ix3 b q h : S2x2048x4.Idx))) (fun h => hfix (res_main_call3_v2 V0 (ix3 b k h : S2x2048x4.Idx)))
        (fun x => BitVec.ofBool (decide (0 < (vecOf (aQ V0) b q) ⟨32 + x.val, by omega⟩))) (fun x => BitVec.ofBool (decide (0 < (vecOf (aK V0) b k) ⟨32 + x.val, by omega⟩))) := by
    unfold res_main_v193 res_main_call2_v0 res_main_call3_v0 res_main_v119 res_main_v121 res_main_v98 res_main_v99
    clean_types
    pointwise
    rw [buckets]
    simp only [ne_xori]
    rfl
  have hc := cond_iff (fun h => hword (proj 1 (vecOf (aQ V0) b q) (colOf (aW1 V0) h))) (fun h => hword (proj 1 (vecOf (aK V0) b k) (colOf (aW1 V0) h)))
    1 (vecOf (aQ V0) b q) (vecOf (aK V0) b k)
  rw [h, funext fun h => congrArg hfix (rem_q1 V0 b q h), funext fun h => congrArg hfix (rem_k1 V0 b k h)]
  exact hc

/-- The masked score of a query and a key. -/
theorem masked (b : Fin 2) (q k : Fin 2048) (v : EReal)
    (hv : v = Scalar.select (IntOp.ori (IntOp.ori 0#1 (res_main_v96 V0 (ix3 b q k : S2x2048x2048.Idx))) (res_main_v193 V0 (ix3 b q k : S2x2048x2048.Idx)))
      (∑ x : Fin 64, vecOf (aQ V0) b q x * vecOf (aK V0) b k x) (Ideal.ofBits .f32 3463342888#32)) :
    res_main_v196 V0 (ix3 b q k : S2x2048x2048.Idx) = v := by
  subst hv
  unfold res_main_v196
  clean_types
  pointwise
  rfl

theorem masked_agree (b : Fin 2) (q k : Fin 2048) (h : Agree (aQ V0) (aK V0) (aW0 V0) 0 b q k ∨ Agree (aQ V0) (aK V0) (aW1 V0) 1 b q k) :
    res_main_v196 V0 (ix3 b q k : S2x2048x2048.Idx) = ∑ x : Fin 64, vecOf (aQ V0) b q x * vecOf (aK V0) b k x := by
  rw [← mask0, ← mask1] at h
  refine masked V0 b q k _ ?_
  have hm : IntOp.ori (IntOp.ori 0#1 (res_main_v96 V0 (ix3 b q k : S2x2048x2048.Idx))) (res_main_v193 V0 (ix3 b q k : S2x2048x2048.Idx)) = 1#1 := by
    rw [ori_iff, ori_iff]
    rcases h with h | h
    · exact .inl (.inr h)
    · exact .inr h
  rw [hm]
  rfl

theorem masked_not (b : Fin 2) (q k : Fin 2048) (h : ¬ (Agree (aQ V0) (aK V0) (aW0 V0) 0 b q k ∨ Agree (aQ V0) (aK V0) (aW1 V0) 1 b q k)) :
    res_main_v196 V0 (ix3 b q k : S2x2048x2048.Idx) = Ideal.ofBits .f32 3463342888#32 := by
  rw [← mask0, ← mask1] at h
  refine masked V0 b q k _ ?_
  have hm : ¬ IntOp.ori (IntOp.ori 0#1 (res_main_v96 V0 (ix3 b q k : S2x2048x2048.Idx))) (res_main_v193 V0 (ix3 b q k : S2x2048x2048.Idx)) = 1#1 := by
    rw [ori_iff, ori_iff]
    rintro ((h' | h') | h')
    · exact absurd h' (by decide)
    · exact h (.inl h')
    · exact h (.inr h')
  exact (if_neg hm).symm

end Cert.Proof.Ref

end
-- ==== Proof.Value.lean ====
/-
  The value claim: at the reals the kernel's lists are the reference's, element by element.
-/
module

public import proofs.«01_k».proof.Defs
public import proofs.«01_k».proof.Proof.Gen.KernelIdeal
public import proofs.«01_k».proof.Proof.Gen.ReferenceIdeal
public import proofs.«01_k».proof.Proof.Whole
public import proofs.«01_k».proof.Proof.Arrays
public import proofs.«01_k».proof.Proof.Order
public import proofs.«01_k».proof.Proof.Sig
public import proofs.«01_k».proof.Proof.Ref

@[expose] public section

noncomputable section

namespace Cert.Proof.Join

open Idealize.ShloMosaic Idealize.SL.Sem
open Cert.Proof.Ref (Agree)

/-! ### The kernel's side -/

/-- An index given by numbers in range. -/
theorem ix3_fin {n m l : ℕ} [NeZero n] [NeZero m] [NeZero l] (a : Fin n) (b : Fin m) (c : Fin l) :
    ix3 a.val b.val c.val = Idealize.ShloMosaic.ix3 a b c := by
  refine funext fun x => Fin.ext ?_
  fin_cases x
  · exact Nat.mod_eq_of_lt a.isLt
  · exact Nat.mod_eq_of_lt b.isLt
  · exact Nat.mod_eq_of_lt c.isLt

section Kernel
open Cert.KernelIdeal Cert.KernelIdeal.Gen

variable (w0 w1 : Vec Ideal S32x4 .f32) (x y : Vec Ideal S2x2048x64 .f32)

theorem rowOf_slab (b : Fin 2) (k : Fin 2048) : rowOf (slab b x) k = vecOf x b k := by
  funext i
  exact congrArg x (ix3_fin b k i)

theorem sigQ_at (b : Fin 2) (h : Fin 10) (k : Fin 2048) :
    sigQ w0 w1 x (ix3 b.val h.val k.val) = sigQ0 w0 w1 (slab b x) (Idealize.ShloMosaic.ix3 0 h k) := by
  rw [ix3_fin]
  unfold sigQ halves
  rw [sigQ1_eq]
  match b with
  | 0 => exact (if_pos rfl).trans (congrArg _ (ix3_fin (0 : Fin 1) h k))
  | 1 => exact (if_neg (by exact one_ne_zero)).trans (congrArg _ (ix3_fin (0 : Fin 1) h k))

theorem sigK_eq_sigQ : sigK w0 w1 x = sigQ w0 w1 x := by
  unfold sigK sigQ
  rw [sigK0_eq, sigK1_eq, sigQ1_eq]

/-- The problem of one batch. -/
def prob (b : Fin 2) : Prob Ideal := batch b.val (sigQ w0 w1 x) (sigK w0 w1 y) x y

theorem Q_hash0 (b : Fin 2) (h : Fin 4) (k : Fin 2048) : sigQ w0 w1 x (ix3 b.val (4 * 0 + h.val) k.val) = hword (proj 0 (vecOf x b k) (colOf w0 h)) := by
  have := sigQ_at w0 w1 x b ⟨h.val, by omega⟩ k
  rw [sig_hash0, rowOf_slab] at this
  rw [← this, Nat.mul_zero, Nat.zero_add]

theorem Q_hash1 (b : Fin 2) (h : Fin 4) (k : Fin 2048) : sigQ w0 w1 x (ix3 b.val (4 * 1 + h.val) k.val) = hword (proj 1 (vecOf x b k) (colOf w1 h)) := by
  have := sigQ_at w0 w1 x b ⟨4 + h.val, by omega⟩ k
  rw [sig_hash1, rowOf_slab] at this
  rw [← this]

theorem Q_bits (b : Fin 2) (g : Fin 2) (k : Fin 2048) : sigQ w0 w1 x (ix3 b.val (8 + g.val) k.val) = pack (vecOf x b k) g := by
  have := sigQ_at w0 w1 x b ⟨8 + g.val, by omega⟩ k
  rw [sig_bits, rowOf_slab] at this
  rw [← this]

theorem four (P : Fin 4 → Prop) : (((P 0 ∨ P 1) ∨ P 2) ∨ P 3) ↔ ∃ h, P h := by
  constructor
  · rintro (((h | h) | h) | h)
    · exact ⟨0, h⟩
    · exact ⟨1, h⟩
    · exact ⟨2, h⟩
    · exact ⟨3, h⟩
  · rintro ⟨h, hp⟩
    fin_cases h
    · exact .inl (.inl (.inl hp))
    · exact .inl (.inl (.inr hp))
    · exact .inl (.inr hp)
    · exact .inr hp

theorem mt0_iff (b : Fin 2) (q k : Fin 2048) : (prob w0 w1 x y b).mt 0 q.val k.val ↔ Agree x y w0 0 b q k := by
  unfold Prob.mt prob batch Agree
  rw [sigK_eq_sigQ]
  have hb := Q_bits w0 w1
  have hh := Q_hash0 w0 w1
  have e := four fun h : Fin 4 => sigQ w0 w1 y (ix3 b.val (4 * 0 + h.val) k.val) = sigQ w0 w1 x (ix3 b.val (4 * 0 + h.val) q.val)
  refine (and_congr Iff.rfl e).trans ?_
  simp only [hh]
  have h0 := (hb y b 0 k)
  have h1 := (hb x b 0 q)
  refine (and_congr (Eq.congr h0 h1) Iff.rfl).trans ?_
  rw [pack_inj]
  constructor
  · rintro ⟨⟨h1, h2⟩, h, h3⟩; exact ⟨⟨h, h3.symm⟩, h1.symm, h2.symm⟩
  · rintro ⟨⟨h, h3⟩, h1, h2⟩; exact ⟨⟨h1.symm, h2.symm⟩, h, h3.symm⟩

theorem mt1_iff (b : Fin 2) (q k : Fin 2048) : (prob w0 w1 x y b).mt 1 q.val k.val ↔ Agree x y w1 1 b q k := by
  unfold Prob.mt prob batch Agree
  rw [sigK_eq_sigQ]
  have hb := Q_bits w0 w1
  have hh := Q_hash1 w0 w1
  have e := four fun h : Fin 4 => sigQ w0 w1 y (ix3 b.val (4 * 1 + h.val) k.val) = sigQ w0 w1 x (ix3 b.val (4 * 1 + h.val) q.val)
  refine (and_congr Iff.rfl e).trans ?_
  simp only [hh]
  have h0 := (hb y b 1 k)
  have h1 := (hb x b 1 q)
  refine (and_congr (Eq.congr h0 h1) Iff.rfl).trans ?_
  rw [pack_inj]
  constructor
  · rintro ⟨⟨h1, h2⟩, h, h3⟩; exact ⟨⟨h, h3.symm⟩, h1.symm, h2.symm⟩
  · rintro ⟨⟨h, h3⟩, h1, h2⟩; exact ⟨⟨h1.symm, h2.symm⟩, h, h3.symm⟩

theorem lsum_eq (p : ℕ → EReal) (o : ℕ) : lsum (F := Ideal) p o = ∑ i ∈ Finset.range 16, p (o + i) := by
  have ha : ∀ a b : EReal, Scalar.addf (F := Ideal) (φ := .f32) a b = a + b := fun _ _ => rfl
  unfold lsum
  simp only [List.foldl_cons, List.foldl_nil, ha, Finset.sum_range_succ, Finset.sum_range_zero, zero_add]

theorem dot_eq (p : ℕ → EReal) : dot (F := Ideal) p = ∑ i : Fin 64, p i.val := by
  have ha : ∀ a b : EReal, Scalar.addf (F := Ideal) (φ := .f32) a b = a + b := fun _ _ => rfl
  have hz : (Scalar.ofBits (F := Ideal) .f32 0x00000000#32 : EReal) = 0 := Ideal.ofBits_zero_f32
  unfold dot
  rw [hz]
  simp only [ha, lsum_eq, zero_add]
  rw [← Finset.sum_range, show (64 : ℕ) = 16 + 16 + 16 + 16 from rfl, Finset.sum_range_add, Finset.sum_range_add, Finset.sum_range_add]

theorem sc_eq (b : Fin 2) (q k : Fin 2048) : (prob w0 w1 x y b).sc q.val k.val = ∑ i : Fin 64, vecOf x b q i * vecOf y b k i := by
  show dot (F := Ideal) (fun l => FloatOps.mulf (x (ix3 b.val q.val l)) (y (ix3 b.val k.val l))) = _
  rw [dot_eq]
  refine Finset.sum_congr rfl fun i _ => ?_
  rw [ix3_fin, ix3_fin]
  rfl

end Kernel

/-! ### The reference's side -/

section Reference
open Cert.ReferenceIdeal

theorem topK_at (x : S2x2048x2048.Idx → EReal) (h) (b : Fin 2) (q : Fin 2048) (s : Fin 64) (f : ℕ → EReal)
    (hf : ∀ k : Fin 2048, f k.val = x (Idealize.ShloMosaic.ix3 b q k)) :
    (Host.topK S2x2048x64 2 (FloatOps.cmpfTotal (F := Ideal) (φ := .f32) .gt) x h).1 (Idealize.ShloMosaic.ix3 b q s)
        = f (sortedFrom (fun a c : Fin 2048 => Ideal.cmp .ogt (f a) (f c) == 1#1) ⟨s.val, by omega⟩).val
      ∧ (Host.topK S2x2048x64 2 (FloatOps.cmpfTotal (F := Ideal) (φ := .f32) .gt) x h).2 (Idealize.ShloMosaic.ix3 b q s)
        = BitVec.ofNat 32 (sortedFrom (fun a c : Fin 2048 => Ideal.cmp .ogt (f a) (f c) == 1#1) ⟨s.val, by omega⟩).val := by
  have hal : ∀ (j : S2x2048x2048.Idx) (k : Fin 2048), j 0 = b → j 1 = q → j.along (2 : Fin 3) k = Idealize.ShloMosaic.ix3 b q k := by
    intro j k h0 h1
    funext a
    fin_cases a
    · exact h0
    · exact h1
    · rfl
  have key : ∀ J : S2x2048x2048.Idx, J 0 = b → J 1 = q → J 2 = (⟨s.val, by omega⟩ : Fin 2048) →
      x (J.along (2 : Fin 3) (sortedFrom (fun a c : Fin 2048 => Ideal.cmp .ogt (x (J.along (2 : Fin 3) a)) (x (J.along (2 : Fin 3) c)) == 1#1) (J 2)))
          = f (sortedFrom (fun a c : Fin 2048 => Ideal.cmp .ogt (f a) (f c) == 1#1) ⟨s.val, by omega⟩).val
        ∧ BitVec.ofNat 32 (J.along (2 : Fin 3) (sortedFrom (fun a c : Fin 2048 => Ideal.cmp .ogt (x (J.along (2 : Fin 3) a)) (x (J.along (2 : Fin 3) c)) == 1#1) (J 2)) (2 : Fin 3)).val
          = BitVec.ofNat 32 (sortedFrom (fun a c : Fin 2048 => Ideal.cmp .ogt (f a) (f c) == 1#1) ⟨s.val, by omega⟩).val := by
    intro J h0 h1 h2
    have hx : ∀ k : Fin 2048, x (J.along (2 : Fin 3) k) = f k.val := fun k => by rw [hal J k h0 h1, hf]
    have hl : (fun a c : Fin 2048 => Ideal.cmp .ogt (x (J.along (2 : Fin 3) a)) (x (J.along (2 : Fin 3) c)) == 1#1) = fun a c : Fin 2048 => Ideal.cmp .ogt (f a) (f c) == 1#1 := by
      funext a c
      rw [hx, hx]
    have fin : ∀ p : Fin 2048, x (J.along (2 : Fin 3) p) = f p.val ∧ BitVec.ofNat 32 (J.along (2 : Fin 3) p (2 : Fin 3)).val = BitVec.ofNat 32 p.val := fun p =>
      ⟨hx p, congrArg (fun j : S2x2048x2048.Idx => BitVec.ofNat 32 (j (2 : Fin 3)).val) (hal J p h0 h1)⟩
    rw [hl, h2]
    exact fin (sortedFrom (fun a c : Fin 2048 => Ideal.cmp .ogt (f a) (f c) == 1#1) ⟨s.val, by omega⟩)
  exact key (fun a => ⟨0 + (Idealize.ShloMosaic.ix3 b q s (a.cast h.1.symm)).val, Nat.lt_of_lt_of_le (Nat.add_lt_add_left ((Idealize.ShloMosaic.ix3 b q s) _).isLt _) (h.2 a)⟩)
    (Fin.ext (Nat.zero_add _)) (Fin.ext (Nat.zero_add _)) (Fin.ext (Nat.zero_add _))

/-- The reference's result from its masked scores. -/
abbrev chosen (x : S2x2048x2048.Idx → EReal) (h : S2x2048x2048.Slices (fun _ => 0) S2x2048x64) : S2x2048x64.Idx → BitVec 32 :=
  select (cmpf (F := Ideal) (φ := .f32) .ogt ((Host.topK S2x2048x64 2 (FloatOps.cmpfTotal (F := Ideal) (φ := .f32) .gt) x h).1) (broadcastInDim S2x2048x64 ![] Gen.bcast_S_S2x2048x64 (constant (F := Ideal) S_ .f32 0xCCBEBC20#32)))
    ((Host.topK S2x2048x64 2 (FloatOps.cmpfTotal (F := Ideal) (φ := .f32) .gt) x h).2) (broadcastInDim S2x2048x64 ![] Gen.bcast_S_S2x2048x64 (id (constantI S_ 32 4294967295#32)))

theorem chosen_at (x : S2x2048x2048.Idx → EReal) (h) (b : Fin 2) (q : Fin 2048) (s : Fin 64) (f : ℕ → EReal)
    (hf : ∀ k : Fin 2048, f k.val = x (Idealize.ShloMosaic.ix3 b q k)) :
    chosen x h (Idealize.ShloMosaic.ix3 b q s)
      = (let j := sortedFrom (fun a c : Fin 2048 => Ideal.cmp .ogt (f a) (f c) == 1#1) ⟨s.val, by omega⟩
        if Ideal.ofBits .f32 0xCCBEBC20#32 < f j then BitVec.ofNat 32 j.val else 4294967295#32) := by
  obtain ⟨h1, h2⟩ := topK_at x h b q s f hf
  generalize sortedFrom (fun a c : Fin 2048 => Ideal.cmp .ogt (f a) (f c) == 1#1) ⟨s.val, by omega⟩ = j at h1 h2 ⊢
  show Scalar.select (Ideal.cmp .ogt ((Host.topK S2x2048x64 2 (FloatOps.cmpfTotal (F := Ideal) (φ := .f32) .gt) x h).1 (Idealize.ShloMosaic.ix3 b q s)) (Ideal.ofBits .f32 0xCCBEBC20#32))
    ((Host.topK S2x2048x64 2 (FloatOps.cmpfTotal (F := Ideal) (φ := .f32) .gt) x h).2 (Idealize.ShloMosaic.ix3 b q s)) 4294967295#32 = _
  rw [h1, h2]
  have hc : Ideal.cmp .ogt (f j.val) (Ideal.ofBits .f32 0xCCBEBC20#32) = 1#1 ↔ Ideal.ofBits .f32 0xCCBEBC20#32 < f j.val := by
    simp only [Ideal.cmp]
    rw [(show ∀ c : Bool, BitVec.ofBool c = 1#1 ↔ c = true by decide)]
    exact decide_eq_true_iff
  show (if Ideal.cmp .ogt (f j.val) (Ideal.ofBits .f32 0xCCBEBC20#32) = 1#1 then _ else _) = _
  exact if_congr hc rfl rfl

end Reference

theorem low_lt : ¬ Ideal.ofBits .f32 0xCCBEBC20#32 < Ideal.ofBits .f32 3463342888#32 := by
  simp [Ideal.ofBits, Ideal.ieee]
  norm_num
  exact_mod_cast (by norm_num : (12500000 : ℝ) * 2 ^ 3 ≤ 15625000 * 2 ^ 6)

theorem lists_eq (w0 w1 : (⟨2, ![32, 4]⟩ : Shape).Idx → EReal) (x y : (⟨3, ![2, 2048, 64]⟩ : Shape).Idx → EReal)
    (z : (⟨3, ![2, 2048, 2048]⟩ : Shape).Idx → EReal) (h)
    (hz : ∀ (b : Fin 2) (q k : Fin 2048), Agree x y w0 0 b q k ∨ Agree x y w1 1 b q k →
      z (Idealize.ShloMosaic.ix3 b q k) = ∑ i : Fin 64, vecOf x b q i * vecOf y b k i)
    (hz' : ∀ (b : Fin 2) (q k : Fin 2048), ¬ (Agree x y w0 0 b q k ∨ Agree x y w1 1 b q k) →
      z (Idealize.ShloMosaic.ix3 b q k) = Ideal.ofBits .f32 3463342888#32) :
    chosen z h = lists (F := Ideal) (sigQ w0 w1 x) (sigK w0 w1 y) x y := by
  funext t
  obtain ⟨b, q, s, rfl⟩ : ∃ (b : Fin 2) (q : Fin 2048) (s : Fin 64), t = Idealize.ShloMosaic.ix3 b q s :=
    ⟨t 0, t 1, t 2, by funext a; fin_cases a <;> rfl⟩
  let f : ℕ → EReal := fun k => if hk : k < 2048 then z (Idealize.ShloMosaic.ix3 b q ⟨k, hk⟩) else 0
  have hf : ∀ k : Fin 2048, f k.val = z (Idealize.ShloMosaic.ix3 b q k) := fun k => dif_pos k.isLt
  rw [chosen_at z h b q s f hf]
  refine (out_eq (prob w0 w1 x y b) q.val s.val s.isLt f ?_ ?_).symm
  · intro k hk hm
    have e := hf ⟨k, hk⟩
    have e0 := mt0_iff w0 w1 x y b q ⟨k, hk⟩
    have e1 := mt1_iff w0 w1 x y b q ⟨k, hk⟩
    exact (e.trans (hz b q ⟨k, hk⟩ (hm.imp e0.1 e1.1))).trans (sc_eq w0 w1 x y b q ⟨k, hk⟩).symm
  · intro k hk hm
    have e := hf ⟨k, hk⟩
    have e0 := mt0_iff w0 w1 x y b q ⟨k, hk⟩
    have e1 := mt1_iff w0 w1 x y b q ⟨k, hk⟩
    rw [e.trans (hz' b q ⟨k, hk⟩ (fun h => hm (h.imp e0.2 e1.2)))]
    exact low_lt

theorem lists_congr {w0 w0' w1 w1' : (⟨2, ![32, 4]⟩ : Shape).Idx → EReal} {x x' y y' : (⟨3, ![2, 2048, 64]⟩ : Shape).Idx → EReal}
    (hx : x = x') (hy : y = y') (h0 : w0 = w0') (h1 : w1 = w1') :
    lists (F := Ideal) (sigQ w0 w1 x) (sigK w0 w1 y) x y = lists (F := Ideal) (sigQ w0' w1' x') (sigK w0' w1' y') x' y' := by
  subst hx hy h0 h1
  rfl

theorem outm_eq (m : (ℓ : Loc Cert.KernelIdeal.nD Cert.KernelIdeal.τ Cert.KernelIdeal.sig) → Buf (Elt Ideal) ℓ) (d : Dev Cert.KernelIdeal.nD) :
    outm m d = lists (F := Ideal) (sigQ (Vm m d Cert.KernelIdeal.main_arg2) (Vm m d Cert.KernelIdeal.main_arg3) (Vm m d Cert.KernelIdeal.main_arg0))
      (sigK (Vm m d Cert.KernelIdeal.main_arg2) (Vm m d Cert.KernelIdeal.main_arg3) (Vm m d Cert.KernelIdeal.main_arg1)) (Vm m d Cert.KernelIdeal.main_arg0) (Vm m d Cert.KernelIdeal.main_arg1) := by
  show lists (qsigOut (Vm m) d) (ksigOut (Vm m) d) (QTm m d) (KTm m d) = _
  rw [qsigOut_eq, ksigOut_eq]

end Cert.Proof.Join

namespace Cert.Proof

open Idealize.ShloMosaic Idealize.SL.Sem

/-- At the reals the kernel and the reference leave the same lists. -/
theorem algebraic : Cert.algebraic_KernelIdeal_ReferenceIdeal := by
  intro m g m' g' _ hin
  refine ⟨fun c => Join.outm m c, ?_, ?_⟩
  · exact (θ_run (Cert.KernelIdeal.defs (F := Ideal)) (Cert.KernelIdeal.threads (F := Ideal)) ⟨m, fun _ => 0, g⟩).mono
      (fun _ h c => ⟨(h.1 c).2.2.2.2, (h.1 c).1, (h.1 c).2.1, (h.1 c).2.2.1, (h.1 c).2.2.2.1⟩) (Join.run_main (F := Ideal) m g)
  · refine (θ_run (Cert.ReferenceIdeal.defs (F := Ideal)) (onTc (τ := Cert.ReferenceIdeal.τ) (Cert.ReferenceIdeal.main (F := Ideal))) ⟨m', fun _ => 0, g'⟩).mono
      (fun r h c => ⟨(h c).1.trans ?_, (h c).2.1, (h c).2.2.1, (h c).2.2.2.1, (h c).2.2.2.2⟩)
      (Cert.ReferenceIdeal.Value.run (F := Ideal) m' g')
    refine (Join.lists_eq (Ref.aW0 (StableHlo.launchContents m' c)) (Ref.aW1 (StableHlo.launchContents m' c)) (Ref.aQ (StableHlo.launchContents m' c)) (Ref.aK (StableHlo.launchContents m' c))
      (Cert.ReferenceIdeal.Value.res_main_v196 (StableHlo.launchContents m' c)) _ (Ref.masked_agree _) (Ref.masked_not _)).trans ?_
    obtain ⟨h0, h1, h2, h3⟩ := hin c
    exact (Join.lists_congr h0 h1 h2 h3).trans (Join.outm_eq m c).symm

end Cert.Proof

end
-- ==== Proof.lean ====
/-
  The proof of `Cert.Claim`: the frames of the program read at machine words and at the reals are in Proof/Frames.lean;
  the reference is a program of host operations, and its run is the generated one; that the two leave the same lists is in
  Proof/Value.lean.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- The reference leaves its arguments unchanged; it has no semaphore. -/
theorem frame_reference : Cert.quiescent_ReferenceIdeal := by
  intro m ρ _
  exact (θ_run (Cert.ReferenceIdeal.defs (F := Ideal)) (onTc (τ := Cert.ReferenceIdeal.τ) (Cert.ReferenceIdeal.main (F := Ideal))) ⟨m, fun _ => 0, ρ⟩).mono
    (fun r h => ⟨fun c => ⟨(h c).2.1, (h c).2.2.1, (h c).2.2.2.1, (h c).2.2.2.2⟩,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, algebraic⟩

end Cert.Proof

end
